-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v49_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_v68) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v24) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v71) = v0 c
          ∧ r.2.mem ((c.tc : Thread Cert.Reference6Ideal.nD Cert.Reference6Ideal.τ).loc Cert.Reference6Ideal.main_v48_5) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v66) = v0 c
          ∧ r.2.mem ((c.tc : Thread Cert.Reference7Ideal.nD Cert.Reference7Ideal.τ).loc Cert.Reference7Ideal.main_v68) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v51) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S65536x8192 : Shape := ⟨2, ![65536, 8192]⟩
abbrev S2x1024 : Shape := ⟨2, ![2, 1024]⟩
abbrev S1x128 : Shape := ⟨2, ![1, 128]⟩
abbrev S_ : Shape := ⟨0, ![]⟩
abbrev S16x8x128x128 : Shape := ⟨4, ![16, 8, 128, 128]⟩
abbrev S65536x1024 : Shape := ⟨2, ![65536, 1024]⟩
abbrev S256x1024 : Shape := ⟨2, ![256, 1024]⟩
abbrev S1x8x128x128 : Shape := ⟨4, ![1, 8, 128, 128]⟩
abbrev S8x128x128 : Shape := ⟨3, ![8, 128, 128]⟩
abbrev S256x256 : Shape := ⟨2, ![256, 256]⟩
abbrev S128x256 : Shape := ⟨2, ![128, 256]⟩
abbrev S1024 : Shape := ⟨1, ![1024]⟩
abbrev S1x1024 : Shape := ⟨2, ![1, 1024]⟩
abbrev S1x1x128x128 : Shape := ⟨4, ![1, 1, 128, 128]⟩
abbrev S128x128 : Shape := ⟨2, ![128, 128]⟩
abbrev S1x128x128 : Shape := ⟨3, ![1, 128, 128]⟩
abbrev S32x1024 : Shape := ⟨2, ![32, 1024]⟩
abbrev S256x128 : Shape := ⟨2, ![256, 128]⟩
abbrev S32x128 : Shape := ⟨2, ![32, 128]⟩
abbrev S256 : Shape := ⟨1, ![256]⟩
abbrev S256x1 : Shape := ⟨2, ![256, 1]⟩

abbrev nBuf : Space → Nat
  | .hbm => 7
  | .vmem => 17
  | .smem => 0
  | _ => 0

abbrev bufTy : (tb : Table) → Fin (tcTables nBuf tb) → BufTy
  | .hbm, ⟨0, _⟩ => ⟨S65536x8192, .f32⟩
  | .hbm, ⟨1, _⟩ => ⟨S2x1024, .f32⟩
  | .hbm, ⟨2, _⟩ => ⟨S1x128, .f32⟩
  | .hbm, ⟨3, _⟩ => ⟨S_, .f32⟩
  | .hbm, ⟨4, _⟩ => ⟨S16x8x128x128, .f32⟩
  | .hbm, ⟨5, _⟩ => ⟨S65536x1024, .f32⟩
  | .hbm, ⟨6, _⟩ => ⟨S16x8x128x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S2x1024, .f32⟩
  | .local _ .vmem, ⟨9, _⟩ => ⟨S1x128, .f32⟩
  | .local _ .vmem, ⟨10, _⟩ => ⟨S1x8x128x128, .f32⟩
  | .local _ .vmem, ⟨11, _⟩ => ⟨S1x8x128x128, .f32⟩
  | .local _ .vmem, ⟨12, _⟩ => ⟨S256x1024, .f32⟩
  | .local _ .vmem, ⟨13, _⟩ => ⟨S256x1024, .f32⟩
  | .local _ .vmem, ⟨14, _⟩ => ⟨S1x8x128x128, .f32⟩
  | .local _ .vmem, ⟨15, _⟩ => ⟨S1x8x128x128, .f32⟩
  | .local _ .vmem, ⟨16, _⟩ => ⟨S8x128x128, .f32⟩
  | _, _ => ⟨S65536x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![16, 1, 16], ![false, false, false]⟩

def k0_cond2 (i : grid0.Coords) : BitVec 1 :=
  let arg2 : BitVec 32 := BitVec.ofNat 32 (i 2).val
  let c15_i32 : BitVec 32 := 15#32
  let v1302 : BitVec 1 := Scalar.cmpi .eq arg2 c15_i32
  let v1303 : BitVec 32 := Scalar.extui v1302
  let c0_i32_369 : BitVec 32 := 0#32
  let v1304 : BitVec 1 := Scalar.cmpi .ne v1303 c0_i32_369
  v1304

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c3_i32 : BitVec 32 := 3#32
  let v2 : BitVec 32 := Scalar.addi c3_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S65536x8192 : Shape := ⟨2, ![65536, 8192]⟩
abbrev S2x1024 : Shape := ⟨2, ![2, 1024]⟩
abbrev S1x128 : Shape := ⟨2, ![1, 128]⟩
abbrev S65536x1024 : Shape := ⟨2, ![65536, 1024]⟩
abbrev S16x4096x1024 : Shape := ⟨3, ![16, 4096, 1024]⟩
abbrev S_ : Shape := ⟨0, ![]⟩
abbrev S1024 : Shape := ⟨1, ![1024]⟩
abbrev S1x1024 : Shape := ⟨2, ![1, 1024]⟩
abbrev S1x1x1024 : Shape := ⟨3, ![1, 1, 1024]⟩
abbrev S16x8x128x128 : Shape := ⟨4, ![16, 8, 128, 128]⟩
abbrev S16x4096x8x128 : Shape := ⟨4, ![16, 4096, 8, 128]⟩
abbrev S16x128x32x8x128 : Shape := ⟨5, ![16, 128, 32, 8, 128]⟩
abbrev S128x16x8x32x128 : Shape := ⟨5, ![128, 16, 8, 32, 128]⟩
abbrev S32x32 : Shape := ⟨2, ![32, 32]⟩
abbrev S1x16x8x32x128 : Shape := ⟨5, ![1, 16, 8, 32, 128]⟩
abbrev S16x8x32x128 : Shape := ⟨4, ![16, 8, 32, 128]⟩
abbrev S16x8x1x128 : Shape := ⟨4, ![16, 8, 1, 128]⟩
abbrev S16x8x32x32 : Shape := ⟨4, ![16, 8, 32, 32]⟩
abbrev S16x8x128 : Shape := ⟨3, ![16, 8, 128]⟩
abbrev S16x8x128x1 : Shape := ⟨4, ![16, 8, 128, 1]⟩
abbrev S16x4096x8 : Shape := ⟨3, ![16, 4096, 8]⟩
abbrev S16x4096x8x1 : Shape := ⟨4, ![16, 4096, 8, 1]⟩
abbrev S128 : Shape := ⟨1, ![128]⟩
abbrev S1x1x1x128 : Shape := ⟨4, ![1, 1, 1, 128]⟩

abbrev nBuf : Space → Nat
  | .hbm => 179
  | .vmem => 0
  | .smem => 0
  | _ => 0

abbrev hbmTy0_0 (i : Nat) : BufTy := match i % 128 with
  | 0 => ⟨S65536x8192, .f32⟩
  | 1 => ⟨S2x1024, .f32⟩
  | 2 => ⟨S1x128, .f32⟩
  | 3 => ⟨S65536x1024, .f32⟩
  | 4 => ⟨S16x4096x1024, .f32⟩
  | 5 => ⟨S65536x1024, .f32⟩
  | 6 => ⟨S16x4096x1024, .f32⟩
  | 7 => ⟨S65536x1024, .f32⟩
  | 8 => ⟨S16x4096x1024, .f32⟩
  | 9 => ⟨S_, .f32⟩
  | 10 => ⟨S1024, .f32⟩
  | 11 => ⟨S_, .f32⟩
  | 12 => ⟨S1024, .f32⟩
  | 13 => ⟨S1024, .f32⟩
  | 14 => ⟨S1x1024, .f32⟩
  | 15 => ⟨S2x1024, .f32⟩
  | 16 => ⟨S2x1024, .f32⟩
  | 17 => ⟨S2x1024, .f32⟩
  | 18 => ⟨S_, .f32⟩
  | 19 => ⟨S1024, .f32⟩
  | 20 => ⟨S1x1024, .f32⟩
  | 21 => ⟨S2x1024, .f32⟩
  | 22 => ⟨S2x1024, .f32⟩
  | 23 => ⟨S_, .f32⟩
  | 24 => ⟨S_, .f32⟩
  | 25 => ⟨S2x1024, .f32⟩
  | 26 => ⟨S1x1024, .f32⟩
  | 27 => ⟨S1024, .f32⟩
  | 28 => ⟨S_, .f32⟩
  | 29 => ⟨S1024, .f32⟩
  | 30 => ⟨S1024, .f32⟩
  | 31 => ⟨S16x4096x1024, .f32⟩
  | 32 => ⟨S16x4096x1024, .f32⟩
  | 33 => ⟨S_, .f32⟩
  | 34 => ⟨S16x4096x1024, .f32⟩
  | 35 => ⟨S16x4096x1024, .f32⟩
  | 36 => ⟨S_, .f32⟩
  | 37 => ⟨S16x4096x1024, .f32⟩
  | 38 => ⟨S16x4096x1024, .f32⟩
  | 39 => ⟨S1x1x1024, .f32⟩
  | 40 => ⟨S16x4096x1024, .f32⟩
  | 41 => ⟨S16x4096x1024, .f32⟩
  | 42 => ⟨S1x1x1024, .f32⟩
  | 43 => ⟨S16x4096x1024, .f32⟩
  | 44 => ⟨S16x4096x1024, .f32⟩
  | 45 => ⟨S16x4096x1024, .f32⟩
  | 46 => ⟨S_, .f32⟩
  | 47 => ⟨S16x8x128x128, .f32⟩
  | 48 => ⟨S16x4096x1024, .f32⟩
  | 49 => ⟨S16x4096x1024, .f32⟩
  | 50 => ⟨S_, .f32⟩
  | 51 => ⟨S16x4096x1024, .f32⟩
  | 52 => ⟨S16x4096x1024, .f32⟩
  | 53 => ⟨S_, .f32⟩
  | 54 => ⟨S16x4096x1024, .f32⟩
  | 55 => ⟨S16x4096x1024, .f32⟩
  | 56 => ⟨S16x4096x1024, .f32⟩
  | 57 => ⟨S16x4096x8x128, .f32⟩
  | 58 => ⟨S16x4096x8x128, .f32⟩
  | 59 => ⟨S16x4096x8x128, .f32⟩
  | 60 => ⟨S16x128x32x8x128, .f32⟩
  | 61 => ⟨S128x16x8x32x128, .f32⟩
  | 62 => ⟨S16x128x32x8x128, .f32⟩
  | 63 => ⟨S128x16x8x32x128, .f32⟩
  | 64 => ⟨S16x128x32x8x128, .f32⟩
  | 65 => ⟨S128x16x8x32x128, .f32⟩
  | 66 => ⟨S_, .i1⟩
  | 67 => ⟨S32x32, .i1⟩
  | 68 => ⟨S32x32, .i32⟩
  | 69 => ⟨S_, .i32⟩
  | 70 => ⟨S32x32, .i32⟩
  | 71 => ⟨S32x32, .i32⟩
  | 72 => ⟨S32x32, .i32⟩
  | 73 => ⟨S32x32, .i1⟩
  | 74 => ⟨S_, .i1⟩
  | 75 => ⟨S32x32, .i1⟩
  | 76 => ⟨S32x32, .i1⟩
  | 77 => ⟨S_, .f32⟩
  | 78 => ⟨S128x16x8x32x128, .f32⟩
  | 79 => ⟨S_, .i32⟩
  | 80 => ⟨S128x16x8x32x128, .f32⟩
  | 81 => ⟨S128x16x8x32x128, .f32⟩
  | 82 => ⟨S128x16x8x32x128, .f32⟩
  | 83 => ⟨S32x32, .i1⟩
  | 84 => ⟨S_, .i32⟩
  | 85 => ⟨S16x8x128x128, .f32⟩
  | 86 => ⟨S128x16x8x32x128, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S1x16x8x32x128, .f32⟩
  | 94 => ⟨S16x8x32x128, .f32⟩
  | 95 => ⟨S_, .i32⟩
  | 96 => ⟨S_, .i32⟩
  | 97 => ⟨S_, .i32⟩
  | 98 => ⟨S_, .i32⟩
  | 99 => ⟨S1x16x8x32x128, .f32⟩
  | 100 => ⟨S16x8x32x128, .f32⟩
  | 101 => ⟨S_, .i32⟩
  | 102 => ⟨S_, .i32⟩
  | 103 => ⟨S_, .i32⟩
  | 104 => ⟨S_, .i32⟩
  | 105 => ⟨S1x16x8x32x128, .f32⟩
  | 106 => ⟨S16x8x32x128, .f32⟩
  | 107 => ⟨S_, .f32⟩
  | 108 => ⟨S_, .f32⟩
  | 109 => ⟨S16x8x32x128, .f32⟩
  | 110 => ⟨S16x8x1x128, .f32⟩
  | 111 => ⟨S16x8x32x128, .f32⟩
  | 112 => ⟨S16x8x32x128, .f32⟩
  | 113 => ⟨S16x8x32x128, .f32⟩
  | 114 => ⟨S16x8x32x128, .f32⟩
  | 115 => ⟨S16x8x32x128, .f32⟩
  | 116 => ⟨S16x8x32x128, .f32⟩
  | 117 => ⟨S16x8x32x128, .f32⟩
  | 118 => ⟨S16x8x32x128, .f32⟩
  | 119 => ⟨S16x8x32x128, .f32⟩
  | 120 => ⟨S16x8x32x128, .f32⟩
  | 121 => ⟨S16x8x32x128, .f32⟩
  | 122 => ⟨S16x8x32x32, .f32⟩
  | 123 => ⟨S_, .f32⟩
  | 124 => ⟨S_, .f32⟩
  | 125 => ⟨S16x8x32x32, .i1⟩
  | 126 => ⟨S16x8x32x32, .f32⟩
  | 127 => ⟨S16x8x32x32, .f32⟩
  | _ => ⟨S65536x8192, .f32⟩

abbrev hbmTy0_1 (i : Nat) : BufTy := match i % 128 with
  | 0 => ⟨S16x8x32x128, .f32⟩
  | 1 => ⟨S16x8x32x128, .f32⟩
  | 2 => ⟨S16x8x32x128, .f32⟩
  | 3 => ⟨S16x8x1x128, .f32⟩
  | 4 => ⟨S16x8x128, .f32⟩
  | 5 => ⟨S16x8x128x1, .f32⟩
  | 6 => ⟨S16x8x128x128, .f32⟩
  | 7 => ⟨S16x8x128x128, .f32⟩
  | 8 => ⟨S16x8x128x128, .f32⟩
  | 9 => ⟨S16x8x128x128, .f32⟩
  | 10 => ⟨S1x16x8x32x128, .f32⟩
  | 11 => ⟨S_, .i32⟩
  | 12 => ⟨S_, .i32⟩
  | 13 => ⟨S_, .i32⟩
  | 14 => ⟨S_, .i32⟩
  | 15 => ⟨S128x16x8x32x128, .f32⟩
  | 16 => ⟨S_, .i32⟩
  | 17 => ⟨S_, .i32⟩
  | 18 => ⟨S16x128x32x8x128, .f32⟩
  | 19 => ⟨S16x4096x8x128, .f32⟩
  | 20 => ⟨S16x4096x8x128, .f32⟩
  | 21 => ⟨S_, .f32⟩
  | 22 => ⟨S16x4096x8, .f32⟩
  | 23 => ⟨S16x4096x8x1, .f32⟩
  | 24 => ⟨S_, .f32⟩
  | 25 => ⟨S16x4096x8x1, .f32⟩
  | 26 => ⟨S16x4096x8x1, .f32⟩
  | 27 => ⟨S_, .f32⟩
  | 28 => ⟨S16x4096x8x1, .f32⟩
  | 29 => ⟨S16x4096x8x1, .f32⟩
  | 30 => ⟨S16x4096x8x1, .f32⟩
  | 31 => ⟨S16x4096x8x128, .f32⟩
  | 32 => ⟨S16x4096x8x128, .f32⟩
  | 33 => ⟨S128, .f32⟩
  | 34 => ⟨S1x1x1x128, .f32⟩
  | 35 => ⟨S16x4096x8x128, .f32⟩
  | 36 => ⟨S16x4096x8x128, .f32⟩
  | 37 => ⟨S65536x1024, .f32⟩
  | 38 => ⟨S16x4096x1024, .f32⟩
  | 39 => ⟨S16x4096x1024, .f32⟩
  | 40 => ⟨S16x4096x1024, .f32⟩
  | 41 => ⟨S16x4096x1024, .f32⟩
  | 42 => ⟨S_, .f32⟩
  | 43 => ⟨S16x4096x1024, .f32⟩
  | 44 => ⟨S16x4096x1024, .f32⟩
  | 45 => ⟨S_, .f32⟩
  | 46 => ⟨S16x4096x1024, .f32⟩
  | 47 => ⟨S16x4096x1024, .f32⟩
  | 48 => ⟨S16x4096x1024, .f32⟩
  | 49 => ⟨S16x4096x1024, .f32⟩
  | 50 => ⟨S65536x1024, .f32⟩
  | _ => ⟨S65536x8192, .f32⟩

abbrev hbmTy (i : Nat) : BufTy := match i / 128 with
  | 0 => hbmTy0_0 i
  | 1 => hbmTy0_1 i
  | _ => ⟨S65536x8192, .f32⟩

abbrev bufTy : (tb : Table) → Fin (tcTables nBuf tb) → BufTy
  | .hbm, ⟨i, _⟩ => hbmTy i
  | _, _ => ⟨S65536x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_call0_cst : Ref sig .tc := ⟨.hbm, 23, rfl⟩
abbrev main_call0_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c : Ref sig .tc := ⟨.hbm, 66, rfl⟩
abbrev main_v46 : Ref sig .tc := ⟨.hbm, 67, rfl⟩
abbrev main_call2_v0 : Ref sig .tc := ⟨.hbm, 68, rfl⟩
abbrev main_call2_c : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_0 : Ref sig .tc := ⟨.hbm, 74, rfl⟩
abbrev main_call2_v5 : Ref sig .tc := ⟨.hbm, 75, rfl⟩
abbrev main_v47 : Ref sig .tc := ⟨.hbm, 76, rfl⟩
abbrev main_cst_6 : Ref sig .tc := ⟨.hbm, 77, rfl⟩
abbrev main_v48 : Ref sig .tc := ⟨.hbm, 78, rfl⟩
abbrev main_c_7 : Ref sig .tc := ⟨.hbm, 79, rfl⟩
abbrev main_v49_0 : Ref sig .tc := ⟨.hbm, 80, rfl⟩
abbrev main_v49_1 : Ref sig .tc := ⟨.hbm, 81, rfl⟩
abbrev main_v49_2 : Ref sig .tc := ⟨.hbm, 82, rfl⟩
abbrev main_v49_3 : Ref sig .tc := ⟨.hbm, 83, rfl⟩
abbrev main_v49_4 : Ref sig .tc := ⟨.hbm, 84, rfl⟩
abbrev main_v49_5 : Ref sig .tc := ⟨.hbm, 85, rfl⟩
abbrev main_v49_6 : Ref sig .tc := ⟨.hbm, 86, rfl⟩
abbrev main_while0c_c_17 : Ref sig .tc := ⟨.hbm, 87, rfl⟩
abbrev main_while0c_v72 : Ref sig .tc := ⟨.hbm, 88, rfl⟩
abbrev main_while0b_call3_c : Ref sig .tc := ⟨.hbm, 89, rfl⟩
abbrev main_while0b_call3_c_0 : Ref sig .tc := ⟨.hbm, 90, rfl⟩
abbrev main_while0b_call3_c_1 : Ref sig .tc := ⟨.hbm, 91, rfl⟩
abbrev main_while0b_call3_c_2 : Ref sig .tc := ⟨.hbm, 92, rfl⟩
abbrev main_while0b_call3_v0 : Ref sig .tc := ⟨.hbm, 93, rfl⟩
abbrev main_while0b_v72 : Ref sig .tc := ⟨.hbm, 94, rfl⟩
abbrev main_while0b_call4_c : Ref sig .tc := ⟨.hbm, 95, rfl⟩
abbrev main_while0b_call4_c_0 : Ref sig .tc := ⟨.hbm, 96, rfl⟩
abbrev main_while0b_call4_c_1 : Ref sig .tc := ⟨.hbm, 97, rfl⟩
abbrev main_while0b_call4_c_2 : Ref sig .tc := ⟨.hbm, 98, rfl⟩
abbrev main_while0b_call4_v0 : Ref sig .tc := ⟨.hbm, 99, rfl⟩
abbrev main_while0b_v73 : Ref sig .tc := ⟨.hbm, 100, rfl⟩
abbrev main_while0b_call5_c : Ref sig .tc := ⟨.hbm, 101, rfl⟩
abbrev main_while0b_call5_c_0 : Ref sig .tc := ⟨.hbm, 102, rfl⟩
abbrev main_while0b_call5_c_1 : Ref sig .tc := ⟨.hbm, 103, rfl⟩
abbrev main_while0b_call5_c_2 : Ref sig .tc := ⟨.hbm, 104, rfl⟩
abbrev main_while0b_call5_v0 : Ref sig .tc := ⟨.hbm, 105, rfl⟩
abbrev main_while0b_v74 : Ref sig .tc := ⟨.hbm, 106, rfl⟩
abbrev main_while0b_call6_call0_cst : Ref sig .tc := ⟨.hbm, 107, rfl⟩
abbrev main_while0b_call6_call0_v0 : Ref sig .tc := ⟨.hbm, 108, rfl⟩
abbrev main_while0b_v75 : Ref sig .tc := ⟨.hbm, 109, rfl⟩
abbrev main_while0b_v76 : Ref sig .tc := ⟨.hbm, 110, rfl⟩
abbrev main_while0b_v77 : Ref sig .tc := ⟨.hbm, 111, rfl⟩
abbrev main_while0b_v78 : Ref sig .tc := ⟨.hbm, 112, rfl⟩
abbrev main_while0b_v79 : Ref sig .tc := ⟨.hbm, 113, rfl⟩
abbrev main_while0b_v80 : Ref sig .tc := ⟨.hbm, 114, rfl⟩
abbrev main_while0b_v81 : Ref sig .tc := ⟨.hbm, 115, rfl⟩
abbrev main_while0b_v82 : Ref sig .tc := ⟨.hbm, 116, rfl⟩
abbrev main_while0b_v83 : Ref sig .tc := ⟨.hbm, 117, rfl⟩
abbrev main_while0b_v84 : Ref sig .tc := ⟨.hbm, 118, rfl⟩
abbrev main_while0b_v85 : Ref sig .tc := ⟨.hbm, 119, rfl⟩
abbrev main_while0b_v86 : Ref sig .tc := ⟨.hbm, 120, rfl⟩
abbrev main_while0b_v87 : Ref sig .tc := ⟨.hbm, 121, rfl⟩
abbrev main_while0b_v88 : Ref sig .tc := ⟨.hbm, 122, rfl⟩
abbrev main_while0b_cst_17 : Ref sig .tc := ⟨.hbm, 123, rfl⟩
abbrev main_while0b_call7_v0 : Ref sig .tc := ⟨.hbm, 124, rfl⟩
abbrev main_while0b_call7_v1 : Ref sig .tc := ⟨.hbm, 125, rfl⟩
abbrev main_while0b_call7_v2 : Ref sig .tc := ⟨.hbm, 126, rfl⟩
abbrev main_while0b_v89 : Ref sig .tc := ⟨.hbm, 127, rfl⟩
abbrev main_while0b_v90 : Ref sig .tc := ⟨.hbm, 128, rfl⟩
abbrev main_while0b_v91 : Ref sig .tc := ⟨.hbm, 129, rfl⟩
abbrev main_while0b_v92 : Ref sig .tc := ⟨.hbm, 130, rfl⟩
abbrev main_while0b_v93 : Ref sig .tc := ⟨.hbm, 131, rfl⟩
abbrev main_while0b_v94 : Ref sig .tc := ⟨.hbm, 132, rfl⟩
abbrev main_while0b_v95 : Ref sig .tc := ⟨.hbm, 133, rfl⟩
abbrev main_while0b_v96 : Ref sig .tc := ⟨.hbm, 134, rfl⟩
abbrev main_while0b_v97 : Ref sig .tc := ⟨.hbm, 135, rfl⟩
abbrev main_while0b_v98 : Ref sig .tc := ⟨.hbm, 136, rfl⟩
abbrev main_while0b_v99 : Ref sig .tc := ⟨.hbm, 137, rfl⟩
abbrev main_while0b_call8_v0 : Ref sig .tc := ⟨.hbm, 138, rfl⟩
abbrev main_while0b_call8_c : Ref sig .tc := ⟨.hbm, 139, rfl⟩
abbrev main_while0b_call8_c_0 : Ref sig .tc := ⟨.hbm, 140, rfl⟩
abbrev main_while0b_call8_c_1 : Ref sig .tc := ⟨.hbm, 141, rfl⟩
abbrev main_while0b_call8_c_2 : Ref sig .tc := ⟨.hbm, 142, rfl⟩
abbrev main_while0b_v100 : Ref sig .tc := ⟨.hbm, 143, rfl⟩
abbrev main_while0b_c_18 : Ref sig .tc := ⟨.hbm, 144, rfl⟩
abbrev main_while0b_v101 : Ref sig .tc := ⟨.hbm, 145, rfl⟩
abbrev main_v50 : Ref sig .tc := ⟨.hbm, 146, rfl⟩
abbrev main_v51 : Ref sig .tc := ⟨.hbm, 147, rfl⟩
abbrev main_v52 : Ref sig .tc := ⟨.hbm, 148, rfl⟩
abbrev main_cst_8 : Ref sig .tc := ⟨.hbm, 149, rfl⟩
abbrev main_v53 : Ref sig .tc := ⟨.hbm, 150, rfl⟩
abbrev main_v54 : Ref sig .tc := ⟨.hbm, 151, rfl⟩
abbrev main_cst_9 : Ref sig .tc := ⟨.hbm, 152, rfl⟩
abbrev main_v55 : Ref sig .tc := ⟨.hbm, 153, rfl⟩
abbrev main_v56 : Ref sig .tc := ⟨.hbm, 154, rfl⟩
abbrev main_cst_10 : Ref sig .tc := ⟨.hbm, 155, rfl⟩
abbrev main_v57 : Ref sig .tc := ⟨.hbm, 156, rfl⟩
abbrev main_v58 : Ref sig .tc := ⟨.hbm, 157, rfl⟩
abbrev main_v59 : Ref sig .tc := ⟨.hbm, 158, rfl⟩
abbrev main_v60 : Ref sig .tc := ⟨.hbm, 159, rfl⟩
abbrev main_v61 : Ref sig .tc := ⟨.hbm, 160, rfl⟩
abbrev main_v62 : Ref sig .tc := ⟨.hbm, 161, rfl⟩
abbrev main_v63 : Ref sig .tc := ⟨.hbm, 162, rfl⟩
abbrev main_v64 : Ref sig .tc := ⟨.hbm, 163, rfl⟩
abbrev main_v65 : Ref sig .tc := ⟨.hbm, 164, rfl⟩
abbrev main_v66 : Ref sig .tc := ⟨.hbm, 165, rfl⟩
abbrev main_v67 : Ref sig .tc := ⟨.hbm, 166, rfl⟩
abbrev main_v68 : Ref sig .tc := ⟨.hbm, 167, rfl⟩
abbrev main_call9_v0 : Ref sig .tc := ⟨.hbm, 168, rfl⟩
abbrev main_call9_v1 : Ref sig .tc := ⟨.hbm, 169, rfl⟩
abbrev main_call9_cst : Ref sig .tc := ⟨.hbm, 170, rfl⟩
abbrev main_call9_v2 : Ref sig .tc := ⟨.hbm, 171, rfl⟩
abbrev main_call9_v3 : Ref sig .tc := ⟨.hbm, 172, rfl⟩
abbrev main_call9_cst_0 : Ref sig .tc := ⟨.hbm, 173, rfl⟩
abbrev main_call9_v4 : Ref sig .tc := ⟨.hbm, 174, rfl⟩
abbrev main_call9_v5 : Ref sig .tc := ⟨.hbm, 175, rfl⟩
abbrev main_v69 : Ref sig .tc := ⟨.hbm, 176, rfl⟩
abbrev main_v70 : Ref sig .tc := ⟨.hbm, 177, rfl⟩
abbrev main_v71 : Ref sig .tc := ⟨.hbm, 178, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S16x4096x1024 : Shape := ⟨3, ![16, 4096, 1024]⟩
abbrev S16x6144 : Shape := ⟨2, ![16, 6144]⟩
abbrev S1024x8004 : Shape := ⟨2, ![1024, 8004]⟩
abbrev S1024x324 : Shape := ⟨2, ![1024, 324]⟩
abbrev S_ : Shape := ⟨0, ![]⟩
abbrev S1024x188 : Shape := ⟨2, ![1024, 188]⟩
abbrev S1024x5632 : Shape := ⟨2, ![1024, 5632]⟩
abbrev S1024x2048 : Shape := ⟨2, ![1024, 2048]⟩
abbrev S1024x8192 : Shape := ⟨2, ![1024, 8192]⟩
abbrev S16x1x6144 : Shape := ⟨3, ![16, 1, 6144]⟩
abbrev S65536x1024 : Shape := ⟨2, ![65536, 1024]⟩
abbrev S65536x8192 : Shape := ⟨2, ![65536, 8192]⟩
abbrev S131072x128 : Shape := ⟨2, ![131072, 128]⟩
abbrev S256x1024 : Shape := ⟨2, ![256, 1024]⟩
abbrev S1x1x1024 : Shape := ⟨3, ![1, 1, 1024]⟩
abbrev S256x8192 : Shape := ⟨2, ![256, 8192]⟩
abbrev S512x128 : Shape := ⟨2, ![512, 128]⟩
abbrev S1x1024 : Shape := ⟨2, ![1, 1024]⟩
abbrev S1024x1024 : Shape := ⟨2, ![1024, 1024]⟩
abbrev S256x128 : Shape := ⟨2, ![256, 128]⟩

abbrev nBuf : Space → Nat
  | .hbm => 15
  | .vmem => 13
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S1024x8004, .f32⟩
  | .hbm, ⟨3, _⟩ => ⟨S1024x324, .f32⟩
  | .hbm, ⟨4, _⟩ => ⟨S_, .f32⟩
  | .hbm, ⟨5, _⟩ => ⟨S1024x188, .f32⟩
  | .hbm, ⟨6, _⟩ => ⟨S1024x5632, .f32⟩
  | .hbm, ⟨7, _⟩ => ⟨S1024x2048, .f32⟩
  | .hbm, ⟨8, _⟩ => ⟨S1024x8192, .f32⟩
  | .hbm, ⟨9, _⟩ => ⟨S1024x8192, .bf16⟩
  | .hbm, ⟨10, _⟩ => ⟨S16x1x6144, .f32⟩
  | .hbm, ⟨11, _⟩ => ⟨S65536x1024, .f32⟩
  | .hbm, ⟨12, _⟩ => ⟨S65536x8192, .f32⟩
  | .hbm, ⟨13, _⟩ => ⟨S131072x128, .f32⟩
  | .hbm, ⟨14, _⟩ => ⟨S131072x128, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x8192, .bf16⟩
  | .local _ .vmem, ⟨7, _⟩ => ⟨S256x8192, .f32⟩
  | .local _ .vmem, ⟨8, _⟩ => ⟨S256x8192, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c1_i32_5 : BitVec 32 := 1#32
  let c0_i32_6 : BitVec 32 := 0#32
  ![v17.toNat, c0_i32_4.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16x4096x1024 : Shape := ⟨3, ![16, 4096, 1024]⟩
abbrev S16x6144 : Shape := ⟨2, ![16, 6144]⟩
abbrev S1024x8004 : Shape := ⟨2, ![1024, 8004]⟩
abbrev S16x1x6144 : Shape := ⟨3, ![16, 1, 6144]⟩
abbrev S16x1x1024 : Shape := ⟨3, ![16, 1, 1024]⟩
abbrev S_ : Shape := ⟨0, ![]⟩
abbrev S16x4096x8004 : Shape := ⟨3, ![16, 4096, 8004]⟩
abbrev S16x4096x256 : Shape := ⟨3, ![16, 4096, 256]⟩
abbrev S16x4096x2x128 : Shape := ⟨4, ![16, 4096, 2, 128]⟩
abbrev S16x4096x5956 : Shape := ⟨3, ![16, 4096, 5956]⟩
abbrev S16x4096x188 : Shape := ⟨3, ![16, 4096, 188]⟩
abbrev S16x4096x2048 : Shape := ⟨3, ![16, 4096, 2048]⟩
abbrev S16x4096x8192 : Shape := ⟨3, ![16, 4096, 8192]⟩
abbrev S65536x8192 : Shape := ⟨2, ![65536, 8192]⟩
abbrev S131072x128 : Shape := ⟨2, ![131072, 128]⟩

abbrev nBuf : Space → Nat
  | .hbm => 30
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S1024x8004, .f32⟩
  | .hbm, ⟨3, _⟩ => ⟨S16x1x6144, .f32⟩
  | .hbm, ⟨4, _⟩ => ⟨S16x1x1024, .f32⟩
  | .hbm, ⟨5, _⟩ => ⟨S16x1x1024, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S_, .f32⟩
  | .hbm, ⟨11, _⟩ => ⟨S16x1x1024, .f32⟩
  | .hbm, ⟨12, _⟩ => ⟨S16x1x1024, .f32⟩
  | .hbm, ⟨13, _⟩ => ⟨S16x4096x1024, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S16x4096x8004, .f32⟩
  | .hbm, ⟨18, _⟩ => ⟨S16x4096x256, .f32⟩
  | .hbm, ⟨19, _⟩ => ⟨S16x4096x2x128, .f32⟩
  | .hbm, ⟨20, _⟩ => ⟨S16x4096x256, .f32⟩
  | .hbm, ⟨21, _⟩ => ⟨S16x4096x2x128, .f32⟩
  | .hbm, ⟨22, _⟩ => ⟨S16x4096x5956, .f32⟩
  | .hbm, ⟨23, _⟩ => ⟨S_, .f32⟩
  | .hbm, ⟨24, _⟩ => ⟨S16x4096x188, .f32⟩
  | .hbm, ⟨25, _⟩ => ⟨S16x4096x2048, .f32⟩
  | .hbm, ⟨26, _⟩ => ⟨S16x4096x8192, .f32⟩
  | .hbm, ⟨27, _⟩ => ⟨S65536x8192, .f32⟩
  | .hbm, ⟨28, _⟩ => ⟨S131072x128, .f32⟩
  | .hbm, ⟨29, _⟩ => ⟨S131072x128, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Kernel3.lean ====
abbrev S65536x1024 : Shape := ⟨2, ![65536, 1024]⟩
abbrev S65536x8192 : Shape := ⟨2, ![65536, 8192]⟩
abbrev S16x4096x1024 : Shape := ⟨3, ![16, 4096, 1024]⟩
abbrev S16x6144 : Shape := ⟨2, ![16, 6144]⟩
abbrev S1024x1024 : Shape := ⟨2, ![1024, 1024]⟩
abbrev S1x1024 : Shape := ⟨2, ![1, 1024]⟩
abbrev S16x1x6144 : Shape := ⟨3, ![16, 1, 6144]⟩
abbrev S256x1024 : Shape := ⟨2, ![256, 1024]⟩
abbrev S256x2048 : Shape := ⟨2, ![256, 2048]⟩
abbrev S1x1x1024 : Shape := ⟨3, ![1, 1, 1024]⟩
abbrev S256 : Shape := ⟨1, ![256]⟩
abbrev S256x1 : Shape := ⟨2, ![256, 1]⟩

abbrev nBuf : Space → Nat
  | .hbm => 13
  | .vmem => 21
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x8192, .f32⟩
  | .hbm, ⟨3, _⟩ => ⟨S16x4096x1024, .f32⟩
  | .hbm, ⟨4, _⟩ => ⟨S16x6144, .f32⟩
  | .hbm, ⟨5, _⟩ => ⟨S1024x1024, .f32⟩
  | .hbm, ⟨6, _⟩ => ⟨S1x1024, .f32⟩
  | .hbm, ⟨7, _⟩ => ⟨S1x1024, .f32⟩
  | .hbm, ⟨8, _⟩ => ⟨S16x1x6144, .f32⟩
  | .hbm, ⟨9, _⟩ => ⟨S65536x1024, .f32⟩
  | .hbm, ⟨10, _⟩ => ⟨S1024x1024, .bf16⟩
  | .hbm, ⟨11, _⟩ => ⟨S65536x1024, .f32⟩
  | .hbm, ⟨12, _⟩ => ⟨S65536x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c2_i32 : BitVec 32 := 2#32
  let c0_i32_5 : BitVec 32 := 0#32
  ![v17.toNat, c0_i32_4.toNat, c2_i32.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_6 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S65536x1024 : Shape := ⟨2, ![65536, 1024]⟩
abbrev S65536x8192 : Shape := ⟨2, ![65536, 8192]⟩
abbrev S16x4096x1024 : Shape := ⟨3, ![16, 4096, 1024]⟩
abbrev S16x6144 : Shape := ⟨2, ![16, 6144]⟩
abbrev S1024x1024 : Shape := ⟨2, ![1024, 1024]⟩
abbrev S1x1024 : Shape := ⟨2, ![1, 1024]⟩
abbrev S16x1x6144 : Shape := ⟨3, ![16, 1, 6144]⟩
abbrev S16x1x1024 : Shape := ⟨3, ![16, 1, 1024]⟩
abbrev S_ : Shape := ⟨0, ![]⟩
abbrev S1024 : Shape := ⟨1, ![1024]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x8192, .f32⟩
  | .hbm, ⟨3, _⟩ => ⟨S16x4096x1024, .f32⟩
  | .hbm, ⟨4, _⟩ => ⟨S16x6144, .f32⟩
  | .hbm, ⟨5, _⟩ => ⟨S1024x1024, .f32⟩
  | .hbm, ⟨6, _⟩ => ⟨S1x1024, .f32⟩
  | .hbm, ⟨7, _⟩ => ⟨S1x1024, .f32⟩
  | .hbm, ⟨8, _⟩ => ⟨S16x4096x1024, .f32⟩
  | .hbm, ⟨9, _⟩ => ⟨S16x4096x1024, .f32⟩
  | .hbm, ⟨10, _⟩ => ⟨S65536x1024, .f32⟩
  | .hbm, ⟨11, _⟩ => ⟨S16x4096x1024, .f32⟩
  | .hbm, ⟨12, _⟩ => ⟨S65536x1024, .f32⟩
  | .hbm, ⟨13, _⟩ => ⟨S16x4096x1024, .f32⟩
  | .hbm, ⟨14, _⟩ => ⟨S16x1x6144, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S16x1x1024, .f32⟩
  | .hbm, ⟨21, _⟩ => ⟨S16x4096x1024, .f32⟩
  | .hbm, ⟨22, _⟩ => ⟨S16x4096x1024, .f32⟩
  | .hbm, ⟨23, _⟩ => ⟨S_, .f32⟩
  | .hbm, ⟨24, _⟩ => ⟨S16x4096x1024, .f32⟩
  | .hbm, ⟨25, _⟩ => ⟨S16x4096x1024, .f32⟩
  | .hbm, ⟨26, _⟩ => ⟨S_, .f32⟩
  | .hbm, ⟨27, _⟩ => ⟨S16x4096x1024, .f32⟩
  | .hbm, ⟨28, _⟩ => ⟨S16x4096x1024, .f32⟩
  | .hbm, ⟨29, _⟩ => ⟨S16x4096x1024, .f32⟩
  | .hbm, ⟨30, _⟩ => ⟨S16x4096x1024, .f32⟩
  | .hbm, ⟨31, _⟩ => ⟨S16x4096x1024, .f32⟩
  | .hbm, ⟨32, _⟩ => ⟨S_, .f32⟩
  | .hbm, ⟨33, _⟩ => ⟨S16x4096x1024, .f32⟩
  | .hbm, ⟨34, _⟩ => ⟨S16x4096x1024, .f32⟩
  | .hbm, ⟨35, _⟩ => ⟨S_, .f32⟩
  | .hbm, ⟨36, _⟩ => ⟨S16x4096x1024, .f32⟩
  | .hbm, ⟨37, _⟩ => ⟨S16x4096x1024, .f32⟩
  | .hbm, ⟨38, _⟩ => ⟨S16x4096x1024, .f32⟩
  | .hbm, ⟨39, _⟩ => ⟨S16x4096x1024, .f32⟩
  | .hbm, ⟨40, _⟩ => ⟨S_, .f32⟩
  | .hbm, ⟨41, _⟩ => ⟨S16x4096x1024, .f32⟩
  | .hbm, ⟨42, _⟩ => ⟨S16x4096x1024, .f32⟩
  | .hbm, ⟨43, _⟩ => ⟨S16x4096x1024, .f32⟩
  | .hbm, ⟨44, _⟩ => ⟨S16x4096x1024, .f32⟩
  | .hbm, ⟨45, _⟩ => ⟨S16x4096x1024, .f32⟩
  | .hbm, ⟨46, _⟩ => ⟨S16x4096x1024, .f32⟩
  | .hbm, ⟨47, _⟩ => ⟨S1024, .f32⟩
  | .hbm, ⟨48, _⟩ => ⟨S1024, .f32⟩
  | .hbm, ⟨49, _⟩ => ⟨S_, .f32⟩
  | .hbm, ⟨50, _⟩ => ⟨S16x4096, .f32⟩
  | .hbm, ⟨51, _⟩ => ⟨S16x4096x1, .f32⟩
  | .hbm, ⟨52, _⟩ => ⟨S_, .f32⟩
  | .hbm, ⟨53, _⟩ => ⟨S16x4096x1, .f32⟩
  | .hbm, ⟨54, _⟩ => ⟨S16x4096x1, .f32⟩
  | .hbm, ⟨55, _⟩ => ⟨S16x4096x1024, .f32⟩
  | .hbm, ⟨56, _⟩ => ⟨S16x4096x1024, .f32⟩
  | .hbm, ⟨57, _⟩ => ⟨S16x4096x1024, .f32⟩
  | .hbm, ⟨58, _⟩ => ⟨S_, .f32⟩
  | .hbm, ⟨59, _⟩ => ⟨S16x4096, .f32⟩
  | .hbm, ⟨60, _⟩ => ⟨S16x4096x1, .f32⟩
  | .hbm, ⟨61, _⟩ => ⟨S_, .f32⟩
  | .hbm, ⟨62, _⟩ => ⟨S16x4096x1, .f32⟩
  | .hbm, ⟨63, _⟩ => ⟨S16x4096x1, .f32⟩
  | .hbm, ⟨64, _⟩ => ⟨S16x4096x1024, .f32⟩
  | .hbm, ⟨65, _⟩ => ⟨S16x4096x1024, .f32⟩
  | .hbm, ⟨66, _⟩ => ⟨S_, .f32⟩
  | .hbm, ⟨67, _⟩ => ⟨S16x4096x1, .f32⟩
  | .hbm, ⟨68, _⟩ => ⟨S16x4096x1, .f32⟩
  | .hbm, ⟨69, _⟩ => ⟨S16x4096x1, .f32⟩
  | .hbm, ⟨70, _⟩ => ⟨S16x4096x1024, .f32⟩
  | .hbm, ⟨71, _⟩ => ⟨S16x4096x1024, .f32⟩
  | .hbm, ⟨72, _⟩ => ⟨S1x1x1024, .f32⟩
  | .hbm, ⟨73, _⟩ => ⟨S16x4096x1024, .f32⟩
  | .hbm, ⟨74, _⟩ => ⟨S16x4096x1024, .f32⟩
  | .hbm, ⟨75, _⟩ => ⟨S1x1x1024, .f32⟩
  | .hbm, ⟨76, _⟩ => ⟨S16x4096x1024, .f32⟩
  | .hbm, ⟨77, _⟩ => ⟨S16x4096x1024, .f32⟩
  | .hbm, ⟨78, _⟩ => ⟨S_, .f32⟩
  | .hbm, ⟨79, _⟩ => ⟨S16x1x1024, .f32⟩
  | .hbm, ⟨80, _⟩ => ⟨S16x1x1024, .f32⟩
  | .hbm, ⟨81, _⟩ => ⟨S16x4096x1024, .f32⟩
  | .hbm, ⟨82, _⟩ => ⟨S16x4096x1024, .f32⟩
  | .hbm, ⟨83, _⟩ => ⟨S16x4096x1024, .f32⟩
  | .hbm, ⟨84, _⟩ => ⟨S16x4096x1024, .f32⟩
  | .hbm, ⟨85, _⟩ => ⟨S65536x1024, .f32⟩
  | .hbm, ⟨86, _⟩ => ⟨S65536x1024, .f32⟩
  | .hbm, ⟨87, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Kernel4.lean ====
abbrev S16x1024 : Shape := ⟨2, ![16, 1024]⟩
abbrev S128x1024 : Shape := ⟨2, ![128, 1024]⟩
abbrev S1024x6144 : Shape := ⟨2, ![1024, 6144]⟩
abbrev S1x6144 : Shape := ⟨2, ![1, 6144]⟩
abbrev S144x1024 : Shape := ⟨2, ![144, 1024]⟩
abbrev S144x6144 : Shape := ⟨2, ![144, 6144]⟩
abbrev S1024x1536 : Shape := ⟨2, ![1024, 1536]⟩
abbrev S1x1536 : Shape := ⟨2, ![1, 1536]⟩
abbrev S144x1536 : Shape := ⟨2, ![144, 1536]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S128x1024, .f32⟩
  | .hbm, ⟨2, _⟩ => ⟨S1024x6144, .f32⟩
  | .hbm, ⟨3, _⟩ => ⟨S1x6144, .f32⟩
  | .hbm, ⟨4, _⟩ => ⟨S144x1024, .f32⟩
  | .hbm, ⟨5, _⟩ => ⟨S1024x6144, .bf16⟩
  | .hbm, ⟨6, _⟩ => ⟨S144x6144, .f32⟩
  | .local _ .vmem, ⟨0, _⟩ => ⟨S144x1024, .f32⟩
  | .local _ .vmem, ⟨1, _⟩ => ⟨S1024x1536, .bf16⟩
  | .local _ .vmem, ⟨2, _⟩ => ⟨S1024x1536, .bf16⟩
  | .local _ .vmem, ⟨3, _⟩ => ⟨S1x1536, .f32⟩
  | .local _ .vmem, ⟨4, _⟩ => ⟨S1x1536, .f32⟩
  | .local _ .vmem, ⟨5, _⟩ => ⟨S144x1536, .f32⟩
  | .local _ .vmem, ⟨6, _⟩ => ⟨S144x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S144x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16x1024 : Shape := ⟨2, ![16, 1024]⟩
abbrev S128x1024 : Shape := ⟨2, ![128, 1024]⟩
abbrev S1024x6144 : Shape := ⟨2, ![1024, 6144]⟩
abbrev S1x6144 : Shape := ⟨2, ![1, 6144]⟩
abbrev S_ : Shape := ⟨0, ![]⟩
abbrev S16x6144 : Shape := ⟨2, ![16, 6144]⟩
abbrev S6144 : Shape := ⟨1, ![6144]⟩
abbrev S128x6144 : Shape := ⟨2, ![128, 6144]⟩
abbrev S144x6144 : Shape := ⟨2, ![144, 6144]⟩

abbrev nBuf : Space → Nat
  | .hbm => 33
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S128x1024, .f32⟩
  | .hbm, ⟨2, _⟩ => ⟨S1024x6144, .f32⟩
  | .hbm, ⟨3, _⟩ => ⟨S1x6144, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x6144, .f32⟩
  | .hbm, ⟨14, _⟩ => ⟨S6144, .f32⟩
  | .hbm, ⟨15, _⟩ => ⟨S1x6144, .f32⟩
  | .hbm, ⟨16, _⟩ => ⟨S16x6144, .f32⟩
  | .hbm, ⟨17, _⟩ => ⟨S16x6144, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S128x6144, .f32⟩
  | .hbm, ⟨28, _⟩ => ⟨S6144, .f32⟩
  | .hbm, ⟨29, _⟩ => ⟨S1x6144, .f32⟩
  | .hbm, ⟨30, _⟩ => ⟨S128x6144, .f32⟩
  | .hbm, ⟨31, _⟩ => ⟨S128x6144, .f32⟩
  | .hbm, ⟨32, _⟩ => ⟨S144x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Kernel5.lean ====
abbrev S128x4x1024 : Shape := ⟨3, ![128, 4, 1024]⟩
abbrev S128x6144 : Shape := ⟨2, ![128, 6144]⟩
abbrev S1024x8004 : Shape := ⟨2, ![1024, 8004]⟩
abbrev S1024x324 : Shape := ⟨2, ![1024, 324]⟩
abbrev S_ : Shape := ⟨0, ![]⟩
abbrev S1024x188 : Shape := ⟨2, ![1024, 188]⟩
abbrev S1024x5632 : Shape := ⟨2, ![1024, 5632]⟩
abbrev S1024x2048 : Shape := ⟨2, ![1024, 2048]⟩
abbrev S1024x8192 : Shape := ⟨2, ![1024, 8192]⟩
abbrev S128x4x6144 : Shape := ⟨3, ![128, 4, 6144]⟩
abbrev S512x6144 : Shape := ⟨2, ![512, 6144]⟩
abbrev S512x1024 : Shape := ⟨2, ![512, 1024]⟩
abbrev S512x8192 : Shape := ⟨2, ![512, 8192]⟩
abbrev S1024x128 : Shape := ⟨2, ![1024, 128]⟩
abbrev S256x1024 : Shape := ⟨2, ![256, 1024]⟩
abbrev S256x8192 : Shape := ⟨2, ![256, 8192]⟩
abbrev S512x128 : Shape := ⟨2, ![512, 128]⟩
abbrev S1024x1024 : Shape := ⟨2, ![1024, 1024]⟩
abbrev S256x128 : Shape := ⟨2, ![256, 128]⟩

abbrev nBuf : Space → Nat
  | .hbm => 16
  | .vmem => 13
  | .smem => 0
  | _ => 0

abbrev bufTy : (tb : Table) → Fin (tcTables nBuf tb) → BufTy
  | .hbm, ⟨0, _⟩ => ⟨S128x4x1024, .f32⟩
  | .hbm, ⟨1, _⟩ => ⟨S128x6144, .f32⟩
  | .hbm, ⟨2, _⟩ => ⟨S1024x8004, .f32⟩
  | .hbm, ⟨3, _⟩ => ⟨S1024x324, .f32⟩
  | .hbm, ⟨4, _⟩ => ⟨S_, .f32⟩
  | .hbm, ⟨5, _⟩ => ⟨S1024x188, .f32⟩
  | .hbm, ⟨6, _⟩ => ⟨S1024x5632, .f32⟩
  | .hbm, ⟨7, _⟩ => ⟨S1024x2048, .f32⟩
  | .hbm, ⟨8, _⟩ => ⟨S1024x8192, .f32⟩
  | .hbm, ⟨9, _⟩ => ⟨S1024x8192, .bf16⟩
  | .hbm, ⟨10, _⟩ => ⟨S128x4x6144, .f32⟩
  | .hbm, ⟨11, _⟩ => ⟨S512x6144, .f32⟩
  | .hbm, ⟨12, _⟩ => ⟨S512x1024, .f32⟩
  | .hbm, ⟨13, _⟩ => ⟨S512x8192, .f32⟩
  | .hbm, ⟨14, _⟩ => ⟨S1024x128, .f32⟩
  | .hbm, ⟨15, _⟩ => ⟨S1024x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x8192, .bf16⟩
  | .local _ .vmem, ⟨7, _⟩ => ⟨S256x8192, .f32⟩
  | .local _ .vmem, ⟨8, _⟩ => ⟨S256x8192, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S128x4x1024 : Shape := ⟨3, ![128, 4, 1024]⟩
abbrev S128x6144 : Shape := ⟨2, ![128, 6144]⟩
abbrev S1024x8004 : Shape := ⟨2, ![1024, 8004]⟩
abbrev S128x1x6144 : Shape := ⟨3, ![128, 1, 6144]⟩
abbrev S128x1x1024 : Shape := ⟨3, ![128, 1, 1024]⟩
abbrev S_ : Shape := ⟨0, ![]⟩
abbrev S128x4x8004 : Shape := ⟨3, ![128, 4, 8004]⟩
abbrev S128x4x256 : Shape := ⟨3, ![128, 4, 256]⟩
abbrev S128x4x2x128 : Shape := ⟨4, ![128, 4, 2, 128]⟩
abbrev S128x4x5956 : Shape := ⟨3, ![128, 4, 5956]⟩
abbrev S128x4x188 : Shape := ⟨3, ![128, 4, 188]⟩
abbrev S128x4x2048 : Shape := ⟨3, ![128, 4, 2048]⟩
abbrev S128x4x8192 : Shape := ⟨3, ![128, 4, 8192]⟩
abbrev S512x8192 : Shape := ⟨2, ![512, 8192]⟩
abbrev S1024x128 : Shape := ⟨2, ![1024, 128]⟩

abbrev nBuf : Space → Nat
  | .hbm => 30
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x6144, .f32⟩
  | .hbm, ⟨2, _⟩ => ⟨S1024x8004, .f32⟩
  | .hbm, ⟨3, _⟩ => ⟨S128x1x6144, .f32⟩
  | .hbm, ⟨4, _⟩ => ⟨S128x1x1024, .f32⟩
  | .hbm, ⟨5, _⟩ => ⟨S128x1x1024, .f32⟩
  | .hbm, ⟨6, _⟩ => ⟨S128x1x1024, .f32⟩
  | .hbm, ⟨7, _⟩ => ⟨S128x1x1024, .f32⟩
  | .hbm, ⟨8, _⟩ => ⟨S128x1x1024, .f32⟩
  | .hbm, ⟨9, _⟩ => ⟨S128x1x1024, .f32⟩
  | .hbm, ⟨10, _⟩ => ⟨S_, .f32⟩
  | .hbm, ⟨11, _⟩ => ⟨S128x1x1024, .f32⟩
  | .hbm, ⟨12, _⟩ => ⟨S128x1x1024, .f32⟩
  | .hbm, ⟨13, _⟩ => ⟨S128x4x1024, .f32⟩
  | .hbm, ⟨14, _⟩ => ⟨S128x4x1024, .f32⟩
  | .hbm, ⟨15, _⟩ => ⟨S128x4x1024, .f32⟩
  | .hbm, ⟨16, _⟩ => ⟨S128x4x1024, .f32⟩
  | .hbm, ⟨17, _⟩ => ⟨S128x4x8004, .f32⟩
  | .hbm, ⟨18, _⟩ => ⟨S128x4x256, .f32⟩
  | .hbm, ⟨19, _⟩ => ⟨S128x4x2x128, .f32⟩
  | .hbm, ⟨20, _⟩ => ⟨S128x4x256, .f32⟩
  | .hbm, ⟨21, _⟩ => ⟨S128x4x2x128, .f32⟩
  | .hbm, ⟨22, _⟩ => ⟨S128x4x5956, .f32⟩
  | .hbm, ⟨23, _⟩ => ⟨S_, .f32⟩
  | .hbm, ⟨24, _⟩ => ⟨S128x4x188, .f32⟩
  | .hbm, ⟨25, _⟩ => ⟨S128x4x2048, .f32⟩
  | .hbm, ⟨26, _⟩ => ⟨S128x4x8192, .f32⟩
  | .hbm, ⟨27, _⟩ => ⟨S512x8192, .f32⟩
  | .hbm, ⟨28, _⟩ => ⟨S1024x128, .f32⟩
  | .hbm, ⟨29, _⟩ => ⟨S1024x128, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Kernel6.lean ====
abbrev S512x8192 : Shape := ⟨2, ![512, 8192]⟩
abbrev S128x8x128x128 : Shape := ⟨4, ![128, 8, 128, 128]⟩
abbrev S2x1024 : Shape := ⟨2, ![2, 1024]⟩
abbrev S1x128 : Shape := ⟨2, ![1, 128]⟩
abbrev S128x4x8192 : Shape := ⟨3, ![128, 4, 8192]⟩
abbrev S_ : Shape := ⟨0, ![]⟩
abbrev S128x8x8192 : Shape := ⟨3, ![128, 8, 8192]⟩
abbrev S1024x8192 : Shape := ⟨2, ![1024, 8192]⟩
abbrev S1024x1024 : Shape := ⟨2, ![1024, 1024]⟩
abbrev S8x1024 : Shape := ⟨2, ![8, 1024]⟩
abbrev S1x8x128x128 : Shape := ⟨4, ![1, 8, 128, 128]⟩
abbrev S8x128x128 : Shape := ⟨3, ![8, 128, 128]⟩
abbrev S8x8 : Shape := ⟨2, ![8, 8]⟩
abbrev S1024 : Shape := ⟨1, ![1024]⟩
abbrev S1x1024 : Shape := ⟨2, ![1, 1024]⟩
abbrev S1x1x128x128 : Shape := ⟨4, ![1, 1, 128, 128]⟩
abbrev S128x128 : Shape := ⟨2, ![128, 128]⟩
abbrev S1x128x128 : Shape := ⟨3, ![1, 128, 128]⟩
abbrev S120x1024 : Shape := ⟨2, ![120, 1024]⟩
abbrev S128x1024 : Shape := ⟨2, ![128, 1024]⟩
abbrev S8x128 : Shape := ⟨2, ![8, 128]⟩
abbrev S8 : Shape := ⟨1, ![8]⟩
abbrev S8x1 : Shape := ⟨2, ![8, 1]⟩

abbrev nBuf : Space → Nat
  | .hbm => 11
  | .vmem => 17
  | .smem => 0
  | _ => 0

abbrev bufTy : (tb : Table) → Fin (tcTables nBuf tb) → BufTy
  | .hbm, ⟨0, _⟩ => ⟨S512x8192, .f32⟩
  | .hbm, ⟨1, _⟩ => ⟨S128x8x128x128, .f32⟩
  | .hbm, ⟨2, _⟩ => ⟨S2x1024, .f32⟩
  | .hbm, ⟨3, _⟩ => ⟨S1x128, .f32⟩
  | .hbm, ⟨4, _⟩ => ⟨S128x4x8192, .f32⟩
  | .hbm, ⟨5, _⟩ => ⟨S_, .i32⟩
  | .hbm, ⟨6, _⟩ => ⟨S_, .f32⟩
  | .hbm, ⟨7, _⟩ => ⟨S128x8x8192, .f32⟩
  | .hbm, ⟨8, _⟩ => ⟨S1024x8192, .f32⟩
  | .hbm, ⟨9, _⟩ => ⟨S1024x1024, .f32⟩
  | .hbm, ⟨10, _⟩ => ⟨S128x8x128x128, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S2x1024, .f32⟩
  | .local _ .vmem, ⟨9, _⟩ => ⟨S1x128, .f32⟩
  | .local _ .vmem, ⟨10, _⟩ => ⟨S1x8x128x128, .f32⟩
  | .local _ .vmem, ⟨11, _⟩ => ⟨S1x8x128x128, .f32⟩
  | .local _ .vmem, ⟨12, _⟩ => ⟨S8x1024, .f32⟩
  | .local _ .vmem, ⟨13, _⟩ => ⟨S8x1024, .f32⟩
  | .local _ .vmem, ⟨14, _⟩ => ⟨S1x8x128x128, .f32⟩
  | .local _ .vmem, ⟨15, _⟩ => ⟨S1x8x128x128, .f32⟩
  | .local _ .vmem, ⟨16, _⟩ => ⟨S8x128x128, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![128, 1, 1], ![false, false, false]⟩

def k0_cond2 (i : grid0.Coords) : BitVec 1 :=
  let arg2 : BitVec 32 := BitVec.ofNat 32 (i 2).val
  let c0_i32_137 : BitVec 32 := 0#32
  let v411 : BitVec 1 := Scalar.cmpi .eq arg2 c0_i32_137
  let v412 : BitVec 32 := Scalar.extui v411
  let c0_i32_138 : BitVec 32 := 0#32
  let v413 : BitVec 1 := Scalar.cmpi .ne v412 c0_i32_138
  v413

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c1_i32_0 : BitVec 32 := 1#32
  let v2 : BitVec 32 := Scalar.addi c1_i32_0 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c3_i32 : BitVec 32 := 3#32
  let v2 : BitVec 32 := Scalar.addi c3_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference6Ideal.lean ====
abbrev S512x8192 : Shape := ⟨2, ![512, 8192]⟩
abbrev S128x8x128x128 : Shape := ⟨4, ![128, 8, 128, 128]⟩
abbrev S2x1024 : Shape := ⟨2, ![2, 1024]⟩
abbrev S1x128 : Shape := ⟨2, ![1, 128]⟩
abbrev S512x1024 : Shape := ⟨2, ![512, 1024]⟩
abbrev S128x4x1024 : Shape := ⟨3, ![128, 4, 1024]⟩
abbrev S_ : Shape := ⟨0, ![]⟩
abbrev S1024 : Shape := ⟨1, ![1024]⟩
abbrev S1x1024 : Shape := ⟨2, ![1, 1024]⟩
abbrev S1x1x1024 : Shape := ⟨3, ![1, 1, 1024]⟩
abbrev S128x4x8x128 : Shape := ⟨4, ![128, 4, 8, 128]⟩
abbrev S128x1x4x8x128 : Shape := ⟨5, ![128, 1, 4, 8, 128]⟩
abbrev S1x128x8x4x128 : Shape := ⟨5, ![1, 128, 8, 4, 128]⟩
abbrev S4x4 : Shape := ⟨2, ![4, 4]⟩
abbrev S128x8x4x128 : Shape := ⟨4, ![128, 8, 4, 128]⟩
abbrev S128x8x1x128 : Shape := ⟨4, ![128, 8, 1, 128]⟩
abbrev S128x8x4x4 : Shape := ⟨4, ![128, 8, 4, 4]⟩
abbrev S128x8x128 : Shape := ⟨3, ![128, 8, 128]⟩
abbrev S128x8x128x1 : Shape := ⟨4, ![128, 8, 128, 1]⟩
abbrev S128x4x8 : Shape := ⟨3, ![128, 4, 8]⟩
abbrev S128x4x8x1 : Shape := ⟨4, ![128, 4, 8, 1]⟩
abbrev S128 : Shape := ⟨1, ![128]⟩
abbrev S1x1x1x128 : Shape := ⟨4, ![1, 1, 1, 128]⟩
abbrev S128x8x1024 : Shape := ⟨3, ![128, 8, 1024]⟩
abbrev S1024x1024 : Shape := ⟨2, ![1024, 1024]⟩

abbrev nBuf : Space → Nat
  | .hbm => 181
  | .vmem => 0
  | .smem => 0
  | _ => 0

abbrev hbmTy0_0 (i : Nat) : BufTy := match i % 128 with
  | 0 => ⟨S512x8192, .f32⟩
  | 1 => ⟨S128x8x128x128, .f32⟩
  | 2 => ⟨S2x1024, .f32⟩
  | 3 => ⟨S1x128, .f32⟩
  | 4 => ⟨S512x1024, .f32⟩
  | 5 => ⟨S128x4x1024, .f32⟩
  | 6 => ⟨S512x1024, .f32⟩
  | 7 => ⟨S128x4x1024, .f32⟩
  | 8 => ⟨S512x1024, .f32⟩
  | 9 => ⟨S128x4x1024, .f32⟩
  | 10 => ⟨S_, .f32⟩
  | 11 => ⟨S1024, .f32⟩
  | 12 => ⟨S_, .f32⟩
  | 13 => ⟨S1024, .f32⟩
  | 14 => ⟨S1024, .f32⟩
  | 15 => ⟨S1x1024, .f32⟩
  | 16 => ⟨S2x1024, .f32⟩
  | 17 => ⟨S2x1024, .f32⟩
  | 18 => ⟨S2x1024, .f32⟩
  | 19 => ⟨S_, .f32⟩
  | 20 => ⟨S1024, .f32⟩
  | 21 => ⟨S1x1024, .f32⟩
  | 22 => ⟨S2x1024, .f32⟩
  | 23 => ⟨S2x1024, .f32⟩
  | 24 => ⟨S_, .f32⟩
  | 25 => ⟨S_, .f32⟩
  | 26 => ⟨S2x1024, .f32⟩
  | 27 => ⟨S1x1024, .f32⟩
  | 28 => ⟨S1024, .f32⟩
  | 29 => ⟨S_, .f32⟩
  | 30 => ⟨S1024, .f32⟩
  | 31 => ⟨S1024, .f32⟩
  | 32 => ⟨S128x4x1024, .f32⟩
  | 33 => ⟨S128x4x1024, .f32⟩
  | 34 => ⟨S_, .f32⟩
  | 35 => ⟨S128x4x1024, .f32⟩
  | 36 => ⟨S128x4x1024, .f32⟩
  | 37 => ⟨S_, .f32⟩
  | 38 => ⟨S128x4x1024, .f32⟩
  | 39 => ⟨S128x4x1024, .f32⟩
  | 40 => ⟨S1x1x1024, .f32⟩
  | 41 => ⟨S128x4x1024, .f32⟩
  | 42 => ⟨S128x4x1024, .f32⟩
  | 43 => ⟨S1x1x1024, .f32⟩
  | 44 => ⟨S128x4x1024, .f32⟩
  | 45 => ⟨S128x4x1024, .f32⟩
  | 46 => ⟨S128x4x1024, .f32⟩
  | 47 => ⟨S128x4x1024, .f32⟩
  | 48 => ⟨S128x4x1024, .f32⟩
  | 49 => ⟨S_, .f32⟩
  | 50 => ⟨S128x4x1024, .f32⟩
  | 51 => ⟨S128x4x1024, .f32⟩
  | 52 => ⟨S_, .f32⟩
  | 53 => ⟨S128x4x1024, .f32⟩
  | 54 => ⟨S128x4x1024, .f32⟩
  | 55 => ⟨S128x4x1024, .f32⟩
  | 56 => ⟨S128x4x8x128, .f32⟩
  | 57 => ⟨S128x4x8x128, .f32⟩
  | 58 => ⟨S128x4x8x128, .f32⟩
  | 59 => ⟨S128x1x4x8x128, .f32⟩
  | 60 => ⟨S1x128x8x4x128, .f32⟩
  | 61 => ⟨S128x1x4x8x128, .f32⟩
  | 62 => ⟨S1x128x8x4x128, .f32⟩
  | 63 => ⟨S128x1x4x8x128, .f32⟩
  | 64 => ⟨S1x128x8x4x128, .f32⟩
  | 65 => ⟨S_, .i1⟩
  | 66 => ⟨S4x4, .i1⟩
  | 67 => ⟨S4x4, .i32⟩
  | 68 => ⟨S_, .i32⟩
  | 69 => ⟨S4x4, .i32⟩
  | 70 => ⟨S4x4, .i32⟩
  | 71 => ⟨S4x4, .i32⟩
  | 72 => ⟨S4x4, .i1⟩
  | 73 => ⟨S_, .i1⟩
  | 74 => ⟨S4x4, .i1⟩
  | 75 => ⟨S4x4, .i1⟩
  | 76 => ⟨S_, .f32⟩
  | 77 => ⟨S1x128x8x4x128, .f32⟩
  | 78 => ⟨S_, .i32⟩
  | 79 => ⟨S1x128x8x4x128, .f32⟩
  | 80 => ⟨S1x128x8x4x128, .f32⟩
  | 81 => ⟨S1x128x8x4x128, .f32⟩
  | 82 => ⟨S4x4, .i1⟩
  | 83 => ⟨S_, .i32⟩
  | 84 => ⟨S128x8x128x128, .f32⟩
  | 85 => ⟨S1x128x8x4x128, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S1x128x8x4x128, .f32⟩
  | 93 => ⟨S128x8x4x128, .f32⟩
  | 94 => ⟨S_, .i32⟩
  | 95 => ⟨S_, .i32⟩
  | 96 => ⟨S_, .i32⟩
  | 97 => ⟨S_, .i32⟩
  | 98 => ⟨S1x128x8x4x128, .f32⟩
  | 99 => ⟨S128x8x4x128, .f32⟩
  | 100 => ⟨S_, .i32⟩
  | 101 => ⟨S_, .i32⟩
  | 102 => ⟨S_, .i32⟩
  | 103 => ⟨S_, .i32⟩
  | 104 => ⟨S1x128x8x4x128, .f32⟩
  | 105 => ⟨S128x8x4x128, .f32⟩
  | 106 => ⟨S_, .f32⟩
  | 107 => ⟨S_, .f32⟩
  | 108 => ⟨S128x8x4x128, .f32⟩
  | 109 => ⟨S128x8x1x128, .f32⟩
  | 110 => ⟨S128x8x4x128, .f32⟩
  | 111 => ⟨S128x8x4x128, .f32⟩
  | 112 => ⟨S128x8x4x128, .f32⟩
  | 113 => ⟨S128x8x4x128, .f32⟩
  | 114 => ⟨S128x8x4x128, .f32⟩
  | 115 => ⟨S128x8x4x128, .f32⟩
  | 116 => ⟨S128x8x4x128, .f32⟩
  | 117 => ⟨S128x8x4x128, .f32⟩
  | 118 => ⟨S128x8x4x128, .f32⟩
  | 119 => ⟨S128x8x4x128, .f32⟩
  | 120 => ⟨S128x8x4x128, .f32⟩
  | 121 => ⟨S128x8x4x4, .f32⟩
  | 122 => ⟨S_, .f32⟩
  | 123 => ⟨S_, .f32⟩
  | 124 => ⟨S128x8x4x4, .i1⟩
  | 125 => ⟨S128x8x4x4, .f32⟩
  | 126 => ⟨S128x8x4x4, .f32⟩
  | 127 => ⟨S128x8x4x128, .f32⟩
  | _ => ⟨S512x8192, .f32⟩

abbrev hbmTy0_1 (i : Nat) : BufTy := match i % 128 with
  | 0 => ⟨S128x8x4x128, .f32⟩
  | 1 => ⟨S128x8x4x128, .f32⟩
  | 2 => ⟨S128x8x1x128, .f32⟩
  | 3 => ⟨S128x8x128, .f32⟩
  | 4 => ⟨S128x8x128x1, .f32⟩
  | 5 => ⟨S128x8x128x128, .f32⟩
  | 6 => ⟨S128x8x128x128, .f32⟩
  | 7 => ⟨S128x8x128x128, .f32⟩
  | 8 => ⟨S128x8x128x128, .f32⟩
  | 9 => ⟨S1x128x8x4x128, .f32⟩
  | 10 => ⟨S_, .i32⟩
  | 11 => ⟨S_, .i32⟩
  | 12 => ⟨S_, .i32⟩
  | 13 => ⟨S_, .i32⟩
  | 14 => ⟨S1x128x8x4x128, .f32⟩
  | 15 => ⟨S_, .i32⟩
  | 16 => ⟨S_, .i32⟩
  | 17 => ⟨S128x1x4x8x128, .f32⟩
  | 18 => ⟨S128x4x8x128, .f32⟩
  | 19 => ⟨S128x4x8x128, .f32⟩
  | 20 => ⟨S_, .f32⟩
  | 21 => ⟨S128x4x8, .f32⟩
  | 22 => ⟨S128x4x8x1, .f32⟩
  | 23 => ⟨S_, .f32⟩
  | 24 => ⟨S128x4x8x1, .f32⟩
  | 25 => ⟨S128x4x8x1, .f32⟩
  | 26 => ⟨S_, .f32⟩
  | 27 => ⟨S128x4x8x1, .f32⟩
  | 28 => ⟨S128x4x8x1, .f32⟩
  | 29 => ⟨S128x4x8x1, .f32⟩
  | 30 => ⟨S128x4x8x128, .f32⟩
  | 31 => ⟨S128x4x8x128, .f32⟩
  | 32 => ⟨S128, .f32⟩
  | 33 => ⟨S1x1x1x128, .f32⟩
  | 34 => ⟨S128x4x8x128, .f32⟩
  | 35 => ⟨S128x4x8x128, .f32⟩
  | 36 => ⟨S512x1024, .f32⟩
  | 37 => ⟨S128x4x1024, .f32⟩
  | 38 => ⟨S128x4x1024, .f32⟩
  | 39 => ⟨S128x4x1024, .f32⟩
  | 40 => ⟨S128x4x1024, .f32⟩
  | 41 => ⟨S_, .f32⟩
  | 42 => ⟨S128x4x1024, .f32⟩
  | 43 => ⟨S128x4x1024, .f32⟩
  | 44 => ⟨S_, .f32⟩
  | 45 => ⟨S128x4x1024, .f32⟩
  | 46 => ⟨S128x4x1024, .f32⟩
  | 47 => ⟨S128x4x1024, .f32⟩
  | 48 => ⟨S128x4x1024, .f32⟩
  | 49 => ⟨S_, .i32⟩
  | 50 => ⟨S_, .f32⟩
  | 51 => ⟨S128x8x1024, .f32⟩
  | 52 => ⟨S1024x1024, .f32⟩
  | _ => ⟨S512x8192, .f32⟩

abbrev hbmTy (i : Nat) : BufTy := match i / 128 with
  | 0 => hbmTy0_0 i
  | 1 => hbmTy0_1 i
  | _ => ⟨S512x8192, .f32⟩

abbrev bufTy : (tb : Table) → Fin (tcTables nBuf tb) → BufTy
  | .hbm, ⟨i, _⟩ => hbmTy i
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_call0_cst : Ref sig .tc := ⟨.hbm, 24, rfl⟩
abbrev main_call0_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c : Ref sig .tc := ⟨.hbm, 65, rfl⟩
abbrev main_v45 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_0 : Ref sig .tc := ⟨.hbm, 73, rfl⟩
abbrev main_call2_v5 : Ref sig .tc := ⟨.hbm, 74, rfl⟩
abbrev main_v46 : Ref sig .tc := ⟨.hbm, 75, rfl⟩
abbrev main_cst_5 : Ref sig .tc := ⟨.hbm, 76, rfl⟩
abbrev main_v47 : Ref sig .tc := ⟨.hbm, 77, rfl⟩
abbrev main_c_6 : Ref sig .tc := ⟨.hbm, 78, rfl⟩
abbrev main_v48_0 : Ref sig .tc := ⟨.hbm, 79, rfl⟩
abbrev main_v48_1 : Ref sig .tc := ⟨.hbm, 80, rfl⟩
abbrev main_v48_2 : Ref sig .tc := ⟨.hbm, 81, rfl⟩
abbrev main_v48_3 : Ref sig .tc := ⟨.hbm, 82, rfl⟩
abbrev main_v48_4 : Ref sig .tc := ⟨.hbm, 83, rfl⟩
abbrev main_v48_5 : Ref sig .tc := ⟨.hbm, 84, rfl⟩
abbrev main_v48_6 : Ref sig .tc := ⟨.hbm, 85, rfl⟩
abbrev main_while0c_c_17 : Ref sig .tc := ⟨.hbm, 86, rfl⟩
abbrev main_while0c_v72 : Ref sig .tc := ⟨.hbm, 87, rfl⟩
abbrev main_while0b_call3_c : Ref sig .tc := ⟨.hbm, 88, rfl⟩
abbrev main_while0b_call3_c_0 : Ref sig .tc := ⟨.hbm, 89, rfl⟩
abbrev main_while0b_call3_c_1 : Ref sig .tc := ⟨.hbm, 90, rfl⟩
abbrev main_while0b_call3_c_2 : Ref sig .tc := ⟨.hbm, 91, rfl⟩
abbrev main_while0b_call3_v0 : Ref sig .tc := ⟨.hbm, 92, rfl⟩
abbrev main_while0b_v72 : Ref sig .tc := ⟨.hbm, 93, rfl⟩
abbrev main_while0b_call4_c : Ref sig .tc := ⟨.hbm, 94, rfl⟩
abbrev main_while0b_call4_c_0 : Ref sig .tc := ⟨.hbm, 95, rfl⟩
abbrev main_while0b_call4_c_1 : Ref sig .tc := ⟨.hbm, 96, rfl⟩
abbrev main_while0b_call4_c_2 : Ref sig .tc := ⟨.hbm, 97, rfl⟩
abbrev main_while0b_call4_v0 : Ref sig .tc := ⟨.hbm, 98, rfl⟩
abbrev main_while0b_v73 : Ref sig .tc := ⟨.hbm, 99, rfl⟩
abbrev main_while0b_call5_c : Ref sig .tc := ⟨.hbm, 100, rfl⟩
abbrev main_while0b_call5_c_0 : Ref sig .tc := ⟨.hbm, 101, rfl⟩
abbrev main_while0b_call5_c_1 : Ref sig .tc := ⟨.hbm, 102, rfl⟩
abbrev main_while0b_call5_c_2 : Ref sig .tc := ⟨.hbm, 103, rfl⟩
abbrev main_while0b_call5_v0 : Ref sig .tc := ⟨.hbm, 104, rfl⟩
abbrev main_while0b_v74 : Ref sig .tc := ⟨.hbm, 105, rfl⟩
abbrev main_while0b_call6_call0_cst : Ref sig .tc := ⟨.hbm, 106, rfl⟩
abbrev main_while0b_call6_call0_v0 : Ref sig .tc := ⟨.hbm, 107, rfl⟩
abbrev main_while0b_v75 : Ref sig .tc := ⟨.hbm, 108, rfl⟩
abbrev main_while0b_v76 : Ref sig .tc := ⟨.hbm, 109, rfl⟩
abbrev main_while0b_v77 : Ref sig .tc := ⟨.hbm, 110, rfl⟩
abbrev main_while0b_v78 : Ref sig .tc := ⟨.hbm, 111, rfl⟩
abbrev main_while0b_v79 : Ref sig .tc := ⟨.hbm, 112, rfl⟩
abbrev main_while0b_v80 : Ref sig .tc := ⟨.hbm, 113, rfl⟩
abbrev main_while0b_v81 : Ref sig .tc := ⟨.hbm, 114, rfl⟩
abbrev main_while0b_v82 : Ref sig .tc := ⟨.hbm, 115, rfl⟩
abbrev main_while0b_v83 : Ref sig .tc := ⟨.hbm, 116, rfl⟩
abbrev main_while0b_v84 : Ref sig .tc := ⟨.hbm, 117, rfl⟩
abbrev main_while0b_v85 : Ref sig .tc := ⟨.hbm, 118, rfl⟩
abbrev main_while0b_v86 : Ref sig .tc := ⟨.hbm, 119, rfl⟩
abbrev main_while0b_v87 : Ref sig .tc := ⟨.hbm, 120, rfl⟩
abbrev main_while0b_v88 : Ref sig .tc := ⟨.hbm, 121, rfl⟩
abbrev main_while0b_cst_17 : Ref sig .tc := ⟨.hbm, 122, rfl⟩
abbrev main_while0b_call7_v0 : Ref sig .tc := ⟨.hbm, 123, rfl⟩
abbrev main_while0b_call7_v1 : Ref sig .tc := ⟨.hbm, 124, rfl⟩
abbrev main_while0b_call7_v2 : Ref sig .tc := ⟨.hbm, 125, rfl⟩
abbrev main_while0b_v89 : Ref sig .tc := ⟨.hbm, 126, rfl⟩
abbrev main_while0b_v90 : Ref sig .tc := ⟨.hbm, 127, rfl⟩
abbrev main_while0b_v91 : Ref sig .tc := ⟨.hbm, 128, rfl⟩
abbrev main_while0b_v92 : Ref sig .tc := ⟨.hbm, 129, rfl⟩
abbrev main_while0b_v93 : Ref sig .tc := ⟨.hbm, 130, rfl⟩
abbrev main_while0b_v94 : Ref sig .tc := ⟨.hbm, 131, rfl⟩
abbrev main_while0b_v95 : Ref sig .tc := ⟨.hbm, 132, rfl⟩
abbrev main_while0b_v96 : Ref sig .tc := ⟨.hbm, 133, rfl⟩
abbrev main_while0b_v97 : Ref sig .tc := ⟨.hbm, 134, rfl⟩
abbrev main_while0b_v98 : Ref sig .tc := ⟨.hbm, 135, rfl⟩
abbrev main_while0b_v99 : Ref sig .tc := ⟨.hbm, 136, rfl⟩
abbrev main_while0b_call8_v0 : Ref sig .tc := ⟨.hbm, 137, rfl⟩
abbrev main_while0b_call8_c : Ref sig .tc := ⟨.hbm, 138, rfl⟩
abbrev main_while0b_call8_c_0 : Ref sig .tc := ⟨.hbm, 139, rfl⟩
abbrev main_while0b_call8_c_1 : Ref sig .tc := ⟨.hbm, 140, rfl⟩
abbrev main_while0b_call8_c_2 : Ref sig .tc := ⟨.hbm, 141, rfl⟩
abbrev main_while0b_v100 : Ref sig .tc := ⟨.hbm, 142, rfl⟩
abbrev main_while0b_c_18 : Ref sig .tc := ⟨.hbm, 143, rfl⟩
abbrev main_while0b_v101 : Ref sig .tc := ⟨.hbm, 144, rfl⟩
abbrev main_v49 : Ref sig .tc := ⟨.hbm, 145, rfl⟩
abbrev main_v50 : Ref sig .tc := ⟨.hbm, 146, rfl⟩
abbrev main_v51 : Ref sig .tc := ⟨.hbm, 147, rfl⟩
abbrev main_cst_7 : Ref sig .tc := ⟨.hbm, 148, rfl⟩
abbrev main_v52 : Ref sig .tc := ⟨.hbm, 149, rfl⟩
abbrev main_v53 : Ref sig .tc := ⟨.hbm, 150, rfl⟩
abbrev main_cst_8 : Ref sig .tc := ⟨.hbm, 151, rfl⟩
abbrev main_v54 : Ref sig .tc := ⟨.hbm, 152, rfl⟩
abbrev main_v55 : Ref sig .tc := ⟨.hbm, 153, rfl⟩
abbrev main_cst_9 : Ref sig .tc := ⟨.hbm, 154, rfl⟩
abbrev main_v56 : Ref sig .tc := ⟨.hbm, 155, rfl⟩
abbrev main_v57 : Ref sig .tc := ⟨.hbm, 156, rfl⟩
abbrev main_v58 : Ref sig .tc := ⟨.hbm, 157, rfl⟩
abbrev main_v59 : Ref sig .tc := ⟨.hbm, 158, rfl⟩
abbrev main_v60 : Ref sig .tc := ⟨.hbm, 159, rfl⟩
abbrev main_v61 : Ref sig .tc := ⟨.hbm, 160, rfl⟩
abbrev main_v62 : Ref sig .tc := ⟨.hbm, 161, rfl⟩
abbrev main_v63 : Ref sig .tc := ⟨.hbm, 162, rfl⟩
abbrev main_v64 : Ref sig .tc := ⟨.hbm, 163, rfl⟩
abbrev main_v65 : Ref sig .tc := ⟨.hbm, 164, rfl⟩
abbrev main_v66 : Ref sig .tc := ⟨.hbm, 165, rfl⟩
abbrev main_v67 : Ref sig .tc := ⟨.hbm, 166, rfl⟩
abbrev main_call9_v0 : Ref sig .tc := ⟨.hbm, 167, rfl⟩
abbrev main_call9_v1 : Ref sig .tc := ⟨.hbm, 168, rfl⟩
abbrev main_call9_cst : Ref sig .tc := ⟨.hbm, 169, rfl⟩
abbrev main_call9_v2 : Ref sig .tc := ⟨.hbm, 170, rfl⟩
abbrev main_call9_v3 : Ref sig .tc := ⟨.hbm, 171, rfl⟩
abbrev main_call9_cst_0 : Ref sig .tc := ⟨.hbm, 172, rfl⟩
abbrev main_call9_v4 : Ref sig .tc := ⟨.hbm, 173, rfl⟩
abbrev main_call9_v5 : Ref sig .tc := ⟨.hbm, 174, rfl⟩
abbrev main_v68 : Ref sig .tc := ⟨.hbm, 175, rfl⟩
abbrev main_v69 : Ref sig .tc := ⟨.hbm, 176, rfl⟩
abbrev main_c_10 : Ref sig .tc := ⟨.hbm, 177, rfl⟩
abbrev main_call10_v0 : Ref sig .tc := ⟨.hbm, 178, rfl⟩
abbrev main_v70 : Ref sig .tc := ⟨.hbm, 179, rfl⟩
abbrev main_v71 : Ref sig .tc := ⟨.hbm, 180, rfl⟩

abbrev nD : Nat := 1
abbrev τ : Topo := Topo.v7x

variable {F : FTy → Type} [FloatOps F]

abbrev main_while0_count : Scf.Loop 32 := ⟨0#32, 1#32, 1#32⟩
-- ==== Kernel7.lean ====
abbrev S512x1024 : Shape := ⟨2, ![512, 1024]⟩
abbrev S512x8192 : Shape := ⟨2, ![512, 8192]⟩
abbrev S128x4x1024 : Shape := ⟨3, ![128, 4, 1024]⟩
abbrev S128x6144 : Shape := ⟨2, ![128, 6144]⟩
abbrev S1024x1024 : Shape := ⟨2, ![1024, 1024]⟩
abbrev S1x1024 : Shape := ⟨2, ![1, 1024]⟩
abbrev S128x4x6144 : Shape := ⟨3, ![128, 4, 6144]⟩
abbrev S512x6144 : Shape := ⟨2, ![512, 6144]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x8192, .f32⟩
  | .hbm, ⟨3, _⟩ => ⟨S128x4x1024, .f32⟩
  | .hbm, ⟨4, _⟩ => ⟨S128x6144, .f32⟩
  | .hbm, ⟨5, _⟩ => ⟨S1024x1024, .f32⟩
  | .hbm, ⟨6, _⟩ => ⟨S1x1024, .f32⟩
  | .hbm, ⟨7, _⟩ => ⟨S1x1024, .f32⟩
  | .hbm, ⟨8, _⟩ => ⟨S128x4x6144, .f32⟩
  | .hbm, ⟨9, _⟩ => ⟨S512x6144, .f32⟩
  | .hbm, ⟨10, _⟩ => ⟨S512x1024, .f32⟩
  | .hbm, ⟨11, _⟩ => ⟨S1024x1024, .bf16⟩
  | .hbm, ⟨12, _⟩ => ⟨S512x1024, .f32⟩
  | .hbm, ⟨13, _⟩ => ⟨S512x1024, .bf16⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference7Ideal.lean ====
abbrev S512x1024 : Shape := ⟨2, ![512, 1024]⟩
abbrev S512x8192 : Shape := ⟨2, ![512, 8192]⟩
abbrev S128x4x1024 : Shape := ⟨3, ![128, 4, 1024]⟩
abbrev S128x6144 : Shape := ⟨2, ![128, 6144]⟩
abbrev S1024x1024 : Shape := ⟨2, ![1024, 1024]⟩
abbrev S1x1024 : Shape := ⟨2, ![1, 1024]⟩
abbrev S128x1x6144 : Shape := ⟨3, ![128, 1, 6144]⟩
abbrev S128x1x1024 : Shape := ⟨3, ![128, 1, 1024]⟩
abbrev S_ : Shape := ⟨0, ![]⟩
abbrev S1024 : Shape := ⟨1, ![1024]⟩
abbrev S128x4 : Shape := ⟨2, ![128, 4]⟩
abbrev S128x4x1 : Shape := ⟨3, ![128, 4, 1]⟩
abbrev S1x1x1024 : Shape := ⟨3, ![1, 1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x8192, .f32⟩
  | .hbm, ⟨3, _⟩ => ⟨S128x4x1024, .f32⟩
  | .hbm, ⟨4, _⟩ => ⟨S128x6144, .f32⟩
  | .hbm, ⟨5, _⟩ => ⟨S1024x1024, .f32⟩
  | .hbm, ⟨6, _⟩ => ⟨S1x1024, .f32⟩
  | .hbm, ⟨7, _⟩ => ⟨S1x1024, .f32⟩
  | .hbm, ⟨8, _⟩ => ⟨S128x4x1024, .f32⟩
  | .hbm, ⟨9, _⟩ => ⟨S128x4x1024, .f32⟩
  | .hbm, ⟨10, _⟩ => ⟨S512x1024, .f32⟩
  | .hbm, ⟨11, _⟩ => ⟨S128x4x1024, .f32⟩
  | .hbm, ⟨12, _⟩ => ⟨S512x1024, .f32⟩
  | .hbm, ⟨13, _⟩ => ⟨S128x4x1024, .f32⟩
  | .hbm, ⟨14, _⟩ => ⟨S128x1x6144, .f32⟩
  | .hbm, ⟨15, _⟩ => ⟨S128x1x1024, .f32⟩
  | .hbm, ⟨16, _⟩ => ⟨S128x1x1024, .f32⟩
  | .hbm, ⟨17, _⟩ => ⟨S128x1x1024, .f32⟩
  | .hbm, ⟨18, _⟩ => ⟨S128x1x1024, .f32⟩
  | .hbm, ⟨19, _⟩ => ⟨S128x1x1024, .f32⟩
  | .hbm, ⟨20, _⟩ => ⟨S128x1x1024, .f32⟩
  | .hbm, ⟨21, _⟩ => ⟨S128x4x1024, .f32⟩
  | .hbm, ⟨22, _⟩ => ⟨S128x4x1024, .f32⟩
  | .hbm, ⟨23, _⟩ => ⟨S_, .f32⟩
  | .hbm, ⟨24, _⟩ => ⟨S128x4x1024, .f32⟩
  | .hbm, ⟨25, _⟩ => ⟨S128x4x1024, .f32⟩
  | .hbm, ⟨26, _⟩ => ⟨S_, .f32⟩
  | .hbm, ⟨27, _⟩ => ⟨S128x4x1024, .f32⟩
  | .hbm, ⟨28, _⟩ => ⟨S128x4x1024, .f32⟩
  | .hbm, ⟨29, _⟩ => ⟨S128x4x1024, .f32⟩
  | .hbm, ⟨30, _⟩ => ⟨S128x4x1024, .f32⟩
  | .hbm, ⟨31, _⟩ => ⟨S128x4x1024, .f32⟩
  | .hbm, ⟨32, _⟩ => ⟨S_, .f32⟩
  | .hbm, ⟨33, _⟩ => ⟨S128x4x1024, .f32⟩
  | .hbm, ⟨34, _⟩ => ⟨S128x4x1024, .f32⟩
  | .hbm, ⟨35, _⟩ => ⟨S_, .f32⟩
  | .hbm, ⟨36, _⟩ => ⟨S128x4x1024, .f32⟩
  | .hbm, ⟨37, _⟩ => ⟨S128x4x1024, .f32⟩
  | .hbm, ⟨38, _⟩ => ⟨S128x4x1024, .f32⟩
  | .hbm, ⟨39, _⟩ => ⟨S128x4x1024, .f32⟩
  | .hbm, ⟨40, _⟩ => ⟨S_, .f32⟩
  | .hbm, ⟨41, _⟩ => ⟨S128x4x1024, .f32⟩
  | .hbm, ⟨42, _⟩ => ⟨S128x4x1024, .f32⟩
  | .hbm, ⟨43, _⟩ => ⟨S128x4x1024, .f32⟩
  | .hbm, ⟨44, _⟩ => ⟨S128x4x1024, .f32⟩
  | .hbm, ⟨45, _⟩ => ⟨S128x4x1024, .f32⟩
  | .hbm, ⟨46, _⟩ => ⟨S128x4x1024, .f32⟩
  | .hbm, ⟨47, _⟩ => ⟨S1024, .f32⟩
  | .hbm, ⟨48, _⟩ => ⟨S1024, .f32⟩
  | .hbm, ⟨49, _⟩ => ⟨S_, .f32⟩
  | .hbm, ⟨50, _⟩ => ⟨S128x4, .f32⟩
  | .hbm, ⟨51, _⟩ => ⟨S128x4x1, .f32⟩
  | .hbm, ⟨52, _⟩ => ⟨S_, .f32⟩
  | .hbm, ⟨53, _⟩ => ⟨S128x4x1, .f32⟩
  | .hbm, ⟨54, _⟩ => ⟨S128x4x1, .f32⟩
  | .hbm, ⟨55, _⟩ => ⟨S128x4x1024, .f32⟩
  | .hbm, ⟨56, _⟩ => ⟨S128x4x1024, .f32⟩
  | .hbm, ⟨57, _⟩ => ⟨S128x4x1024, .f32⟩
  | .hbm, ⟨58, _⟩ => ⟨S_, .f32⟩
  | .hbm, ⟨59, _⟩ => ⟨S128x4, .f32⟩
  | .hbm, ⟨60, _⟩ => ⟨S128x4x1, .f32⟩
  | .hbm, ⟨61, _⟩ => ⟨S_, .f32⟩
  | .hbm, ⟨62, _⟩ => ⟨S128x4x1, .f32⟩
  | .hbm, ⟨63, _⟩ => ⟨S128x4x1, .f32⟩
  | .hbm, ⟨64, _⟩ => ⟨S128x4x1024, .f32⟩
  | .hbm, ⟨65, _⟩ => ⟨S128x4x1024, .f32⟩
  | .hbm, ⟨66, _⟩ => ⟨S_, .f32⟩
  | .hbm, ⟨67, _⟩ => ⟨S128x4x1, .f32⟩
  | .hbm, ⟨68, _⟩ => ⟨S128x4x1, .f32⟩
  | .hbm, ⟨69, _⟩ => ⟨S128x4x1, .f32⟩
  | .hbm, ⟨70, _⟩ => ⟨S128x4x1024, .f32⟩
  | .hbm, ⟨71, _⟩ => ⟨S128x4x1024, .f32⟩
  | .hbm, ⟨72, _⟩ => ⟨S1x1x1024, .f32⟩
  | .hbm, ⟨73, _⟩ => ⟨S128x4x1024, .f32⟩
  | .hbm, ⟨74, _⟩ => ⟨S128x4x1024, .f32⟩
  | .hbm, ⟨75, _⟩ => ⟨S1x1x1024, .f32⟩
  | .hbm, ⟨76, _⟩ => ⟨S128x4x1024, .f32⟩
  | .hbm, ⟨77, _⟩ => ⟨S128x4x1024, .f32⟩
  | .hbm, ⟨78, _⟩ => ⟨S_, .f32⟩
  | .hbm, ⟨79, _⟩ => ⟨S128x1x1024, .f32⟩
  | .hbm, ⟨80, _⟩ => ⟨S128x1x1024, .f32⟩
  | .hbm, ⟨81, _⟩ => ⟨S128x4x1024, .f32⟩
  | .hbm, ⟨82, _⟩ => ⟨S128x4x1024, .f32⟩
  | .hbm, ⟨83, _⟩ => ⟨S128x4x1024, .f32⟩
  | .hbm, ⟨84, _⟩ => ⟨S128x4x1024, .f32⟩
  | .hbm, ⟨85, _⟩ => ⟨S512x1024, .f32⟩
  | .hbm, ⟨86, _⟩ => ⟨S512x1024, .f32⟩
  | .hbm, ⟨87, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Kernel8.lean ====
abbrev S32x8 : Shape := ⟨2, ![32, 8]⟩
abbrev S2x8x128 : Shape := ⟨3, ![2, 8, 128]⟩
abbrev S8x2x8x128 : Shape := ⟨4, ![8, 2, 8, 128]⟩
abbrev S1x8x128 : Shape := ⟨3, ![1, 8, 128]⟩
abbrev S1x1x8x128 : Shape := ⟨4, ![1, 1, 8, 128]⟩
abbrev S8x128 : Shape := ⟨2, ![8, 128]⟩
abbrev S1x1 : Shape := ⟨2, ![1, 1]⟩

abbrev nBuf : Space → Nat
  | .hbm => 3
  | .vmem => 4
  | .smem => 1
  | _ => 0

abbrev bufTy : (tb : Table) → Fin (tcTables nBuf tb) → BufTy
  | .hbm, ⟨0, _⟩ => ⟨S32x8, .f32⟩
  | .hbm, ⟨1, _⟩ => ⟨S2x8x128, .i32⟩
  | .hbm, ⟨2, _⟩ => ⟨S8x2x8x128, .f32⟩
  | .local _ .vmem, ⟨0, _⟩ => ⟨S1x8x128, .i32⟩
  | .local _ .vmem, ⟨1, _⟩ => ⟨S1x8x128, .i32⟩
  | .local _ .vmem, ⟨2, _⟩ => ⟨S1x1x8x128, .f32⟩
  | .local _ .vmem, ⟨3, _⟩ => ⟨S1x1x8x128, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let c0_2 : Index := 0#32
  let arg0 : BitVec 32 := BitVec.ofNat 32 (i 0).val
  let v5 : Index := Scalar.indexCast arg0
  ![0, v5.toNat]
def k0_off2 (i : grid0.Coords) : Fin 2 → Nat :=
  let c1 : Index := 1#32
  let arg0 : BitVec 32 := BitVec.ofNat 32 (i 0).val
  let v11 : Index := Scalar.indexCast arg0
  ![1, v11.toNat]
def k0_off3 (i : grid0.Coords) : Fin 2 → Nat :=
  let c2 : Index := 2#32
  let arg0 : BitVec 32 := BitVec.ofNat 32 (i 0).val
  let v17 : Index := Scalar.indexCast arg0
  ![2, v17.toNat]
def k0_off4 (i : grid0.Coords) : Fin 2 → Nat :=
  let c3 : Index := 3#32
  let arg0 : BitVec 32 := BitVec.ofNat 32 (i 0).val
  let v23 : Index := Scalar.indexCast arg0
  ![3, v23.toNat]
def k0_off5 (i : grid0.Coords) : Fin 2 → Nat :=
  let c4 : Index := 4#32
  let arg0 : BitVec 32 := BitVec.ofNat 32 (i 0).val
  let v29 : Index := Scalar.indexCast arg0
  ![4, v29.toNat]
def k0_off6 (i : grid0.Coords) : Fin 2 → Nat :=
  let c5 : Index := 5#32
  let arg0 : BitVec 32 := BitVec.ofNat 32 (i 0).val
  let v35 : Index := Scalar.indexCast arg0
  ![5, v35.toNat]
def k0_off7 (i : grid0.Coords) : Fin 2 → Nat :=
  let c6 : Index := 6#32
  let arg0 : BitVec 32 := BitVec.ofNat 32 (i 0).val
  let v41 : Index := Scalar.indexCast arg0
  ![6, v41.toNat]
def k0_off8 (i : grid0.Coords) : Fin 2 → Nat :=
  let c7 : Index := 7#32
  let arg0 : BitVec 32 := BitVec.ofNat 32 (i 0).val
  let v47 : Index := Scalar.indexCast arg0
  ![7, v47.toNat]
def k0_off9 (i : grid0.Coords) : Fin 2 → Nat :=
  let c8 : Index := 8#32
  let arg0 : BitVec 32 := BitVec.ofNat 32 (i 0).val
  let v53 : Index := Scalar.indexCast arg0
  ![8, v53.toNat]
def k0_off10 (i : grid0.Coords) : Fin 2 → Nat :=
  let c9 : Index := 9#32
  let arg0 : BitVec 32 := BitVec.ofNat 32 (i 0).val
  let v59 : Index := Scalar.indexCast arg0
  ![9, v59.toNat]
def k0_off11 (i : grid0.Coords) : Fin 2 → Nat :=
  let c10 : Index := 10#32
  let arg0 : BitVec 32 := BitVec.ofNat 32 (i 0).val
  let v65 : Index := Scalar.indexCast arg0
  ![10, v65.toNat]
def k0_off12 (i : grid0.Coords) : Fin 2 → Nat :=
  let c11 : Index := 11#32
  let arg0 : BitVec 32 := BitVec.ofNat 32 (i 0).val
  let v71 : Index := Scalar.indexCast arg0
  ![11, v71.toNat]
def k0_off13 (i : grid0.Coords) : Fin 2 → Nat :=
  let c12 : Index := 12#32
  let arg0 : BitVec 32 := BitVec.ofNat 32 (i 0).val
  let v77 : Index := Scalar.indexCast arg0
  ![12, v77.toNat]
def k0_off14 (i : grid0.Coords) : Fin 2 → Nat :=
  let c13 : Index := 13#32
  let arg0 : BitVec 32 := BitVec.ofNat 32 (i 0).val
  let v83 : Index := Scalar.indexCast arg0
  ![13, v83.toNat]
def k0_off15 (i : grid0.Coords) : Fin 2 → Nat :=
  let c14 : Index := 14#32
  let arg0 : BitVec 32 := BitVec.ofNat 32 (i 0).val
  let v89 : Index := Scalar.indexCast arg0
  ![14, v89.toNat]
def k0_off16 (i : grid0.Coords) : Fin 2 → Nat :=
  let c15 : Index := 15#32
  let arg0 : BitVec 32 := BitVec.ofNat 32 (i 0).val
  let v95 : Index := Scalar.indexCast arg0
  ![15, v95.toNat]
def k0_off17 (i : grid0.Coords) : Fin 2 → Nat :=
  let c16 : Index := 16#32
  let arg0 : BitVec 32 := BitVec.ofNat 32 (i 0).val
  let v101 : Index := Scalar.indexCast arg0
  ![16, v101.toNat]
def k0_off18 (i : grid0.Coords) : Fin 2 → Nat :=
  let c17 : Index := 17#32
  let arg0 : BitVec 32 := BitVec.ofNat 32 (i 0).val
  let v107 : Index := Scalar.indexCast arg0
  ![17, v107.toNat]
def k0_off19 (i : grid0.Coords) : Fin 2 → Nat :=
  let c18 : Index := 18#32
  let arg0 : BitVec 32 := BitVec.ofNat 32 (i 0).val
  let v113 : Index := Scalar.indexCast arg0
  ![18, v113.toNat]
def k0_off20 (i : grid0.Coords) : Fin 2 → Nat :=
  let c19 : Index := 19#32
  let arg0 : BitVec 32 := BitVec.ofNat 32 (i 0).val
  let v119 : Index := Scalar.indexCast arg0
  ![19, v119.toNat]
def k0_off21 (i : grid0.Coords) : Fin 2 → Nat :=
  let c20 : Index := 20#32
  let arg0 : BitVec 32 := BitVec.ofNat 32 (i 0).val
  let v125 : Index := Scalar.indexCast arg0
  ![20, v125.toNat]
def k0_off22 (i : grid0.Coords) : Fin 2 → Nat :=
  let c21 : Index := 21#32
  let arg0 : BitVec 32 := BitVec.ofNat 32 (i 0).val
  let v131 : Index := Scalar.indexCast arg0
  ![21, v131.toNat]
def k0_off23 (i : grid0.Coords) : Fin 2 → Nat :=
  let c22 : Index := 22#32
  let arg0 : BitVec 32 := BitVec.ofNat 32 (i 0).val
  let v137 : Index := Scalar.indexCast arg0
  ![22, v137.toNat]
def k0_off24 (i : grid0.Coords) : Fin 2 → Nat :=
  let c23 : Index := 23#32
  let arg0 : BitVec 32 := BitVec.ofNat 32 (i 0).val
  let v143 : Index := Scalar.indexCast arg0
  ![23, v143.toNat]
def k0_off25 (i : grid0.Coords) : Fin 2 → Nat :=
  let c24 : Index := 24#32
  let arg0 : BitVec 32 := BitVec.ofNat 32 (i 0).val
  let v149 : Index := Scalar.indexCast arg0
  ![24, v149.toNat]
def k0_off26 (i : grid0.Coords) : Fin 2 → Nat :=
  let c25 : Index := 25#32
  let arg0 : BitVec 32 := BitVec.ofNat 32 (i 0).val
  let v155 : Index := Scalar.indexCast arg0
  ![25, v155.toNat]
def k0_off27 (i : grid0.Coords) : Fin 2 → Nat :=
  let c26 : Index := 26#32
  let arg0 : BitVec 32 := BitVec.ofNat 32 (i 0).val
  let v161 : Index := Scalar.indexCast arg0
  ![26, v161.toNat]
def k0_off28 (i : grid0.Coords) : Fin 2 → Nat :=
  let c27 : Index := 27#32
  let arg0 : BitVec 32 := BitVec.ofNat 32 (i 0).val
  let v167 : Index := Scalar.indexCast arg0
  ![27, v167.toNat]
def k0_off29 (i : grid0.Coords) : Fin 2 → Nat :=
  let c28 : Index := 28#32
  let arg0 : BitVec 32 := BitVec.ofNat 32 (i 0).val
  let v173 : Index := Scalar.indexCast arg0
  ![28, v173.toNat]
def k0_off30 (i : grid0.Coords) : Fin 2 → Nat :=
  let c29 : Index := 29#32
  let arg0 : BitVec 32 := BitVec.ofNat 32 (i 0).val
  let v179 : Index := Scalar.indexCast arg0
  ![29, v179.toNat]
def k0_off31 (i : grid0.Coords) : Fin 2 → Nat :=
  let c30 : Index := 30#32
  let arg0 : BitVec 32 := BitVec.ofNat 32 (i 0).val
  let v185 : Index := Scalar.indexCast arg0
  ![30, v185.toNat]
def k0_off32 (i : grid0.Coords) : Fin 2 → Nat :=
  let c31 : Index := 31#32
  let arg0 : BitVec 32 := BitVec.ofNat 32 (i 0).val
  let v191 : Index := Scalar.indexCast arg0
  ![31, v191.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S32x8 : Shape := ⟨2, ![32, 8]⟩
abbrev S8 : Shape := ⟨1, ![8]⟩
abbrev S8x1 : Shape := ⟨2, ![8, 1]⟩
abbrev S128 : Shape := ⟨1, ![128]⟩
abbrev S1x128 : Shape := ⟨2, ![1, 128]⟩
abbrev S_ : Shape := ⟨0, ![]⟩
abbrev S8x128 : Shape := ⟨2, ![8, 128]⟩
abbrev S1x8x128 : Shape := ⟨3, ![1, 8, 128]⟩
abbrev S2x8x128 : Shape := ⟨3, ![2, 8, 128]⟩
abbrev S2x8x128x1 : Shape := ⟨4, ![2, 8, 128, 1]⟩
abbrev S2x8x128x8 : Shape := ⟨4, ![2, 8, 128, 8]⟩
abbrev S1x8 : Shape := ⟨2, ![1, 8]⟩
abbrev S1x1x1x8 : Shape := ⟨4, ![1, 1, 1, 8]⟩
abbrev S8x2x8x128 : Shape := ⟨4, ![8, 2, 8, 128]⟩

abbrev nBuf : Space → Nat
  | .hbm => 66
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S8, .i32⟩
  | .hbm, ⟨2, _⟩ => ⟨S8x1, .i32⟩
  | .hbm, ⟨3, _⟩ => ⟨S128, .i32⟩
  | .hbm, ⟨4, _⟩ => ⟨S1x128, .i32⟩
  | .hbm, ⟨5, _⟩ => ⟨S_, .i32⟩
  | .hbm, ⟨6, _⟩ => ⟨S8x1, .i32⟩
  | .hbm, ⟨7, _⟩ => ⟨S8x1, .i32⟩
  | .hbm, ⟨8, _⟩ => ⟨S8x128, .i32⟩
  | .hbm, ⟨9, _⟩ => ⟨S8x128, .i32⟩
  | .hbm, ⟨10, _⟩ => ⟨S8x128, .i32⟩
  | .hbm, ⟨11, _⟩ => ⟨S_, .i32⟩
  | .hbm, ⟨12, _⟩ => ⟨S8x128, .i32⟩
  | .hbm, ⟨13, _⟩ => ⟨S8x128, .i32⟩
  | .hbm, ⟨14, _⟩ => ⟨S8x128, .i32⟩
  | .hbm, ⟨15, _⟩ => ⟨S8x128, .i32⟩
  | .hbm, ⟨16, _⟩ => ⟨S8x128, .i32⟩
  | .hbm, ⟨17, _⟩ => ⟨S_, .i32⟩
  | .hbm, ⟨18, _⟩ => ⟨S8x128, .i32⟩
  | .hbm, ⟨19, _⟩ => ⟨S8x128, .i32⟩
  | .hbm, ⟨20, _⟩ => ⟨S1x8x128, .i32⟩
  | .hbm, ⟨21, _⟩ => ⟨S1x8x128, .i32⟩
  | .hbm, ⟨22, _⟩ => ⟨S2x8x128, .i32⟩
  | .hbm, ⟨23, _⟩ => ⟨S_, .i32⟩
  | .hbm, ⟨24, _⟩ => ⟨S2x8x128, .i32⟩
  | .hbm, ⟨25, _⟩ => ⟨S2x8x128, .i32⟩
  | .hbm, ⟨26, _⟩ => ⟨S2x8x128, .f32⟩
  | .hbm, ⟨27, _⟩ => ⟨S_, .f32⟩
  | .hbm, ⟨28, _⟩ => ⟨S2x8x128, .f32⟩
  | .hbm, ⟨29, _⟩ => ⟨S2x8x128, .f32⟩
  | .hbm, ⟨30, _⟩ => ⟨S2x8x128, .f32⟩
  | .hbm, ⟨31, _⟩ => ⟨S_, .f32⟩
  | .hbm, ⟨32, _⟩ => ⟨S2x8x128, .f32⟩
  | .hbm, ⟨33, _⟩ => ⟨S2x8x128, .f32⟩
  | .hbm, ⟨34, _⟩ => ⟨S_, .f32⟩
  | .hbm, ⟨35, _⟩ => ⟨S2x8x128, .f32⟩
  | .hbm, ⟨36, _⟩ => ⟨S2x8x128, .f32⟩
  | .hbm, ⟨37, _⟩ => ⟨S2x8x128, .i32⟩
  | .hbm, ⟨38, _⟩ => ⟨S_, .i32⟩
  | .hbm, ⟨39, _⟩ => ⟨S2x8x128, .i32⟩
  | .hbm, ⟨40, _⟩ => ⟨S2x8x128, .i32⟩
  | .hbm, ⟨41, _⟩ => ⟨S_, .i32⟩
  | .hbm, ⟨42, _⟩ => ⟨S2x8x128, .i32⟩
  | .hbm, ⟨43, _⟩ => ⟨S2x8x128, .i32⟩
  | .hbm, ⟨44, _⟩ => ⟨S_, .i32⟩
  | .hbm, ⟨45, _⟩ => ⟨S2x8x128, .i32⟩
  | .hbm, ⟨46, _⟩ => ⟨S2x8x128, .i1⟩
  | .hbm, ⟨47, _⟩ => ⟨S2x8x128, .i32⟩
  | .hbm, ⟨48, _⟩ => ⟨S_, .i32⟩
  | .hbm, ⟨49, _⟩ => ⟨S2x8x128, .i32⟩
  | .hbm, ⟨50, _⟩ => ⟨S2x8x128, .i1⟩
  | .hbm, ⟨51, _⟩ => ⟨S_, .i32⟩
  | .hbm, ⟨52, _⟩ => ⟨S2x8x128, .i32⟩
  | .hbm, ⟨53, _⟩ => ⟨S2x8x128, .i32⟩
  | .hbm, ⟨54, _⟩ => ⟨S2x8x128, .i32⟩
  | .hbm, ⟨55, _⟩ => ⟨S2x8x128x1, .i32⟩
  | .hbm, ⟨56, _⟩ => ⟨S2x8x128x8, .f32⟩
  | .hbm, ⟨57, _⟩ => ⟨S1x8, .f32⟩
  | .hbm, ⟨58, _⟩ => ⟨S8, .f32⟩
  | .hbm, ⟨59, _⟩ => ⟨S1x1x1x8, .f32⟩
  | .hbm, ⟨60, _⟩ => ⟨S2x8x128x8, .f32⟩
  | .hbm, ⟨61, _⟩ => ⟨S2x8x128x8, .f32⟩
  | .hbm, ⟨62, _⟩ => ⟨S_, .f32⟩
  | .hbm, ⟨63, _⟩ => ⟨S2x8x128x8, .f32⟩
  | .hbm, ⟨64, _⟩ => ⟨S2x8x128x8, .f32⟩
  | .hbm, ⟨65, _⟩ => ⟨S8x2x8x128, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_5 : Ref sig .tc := ⟨.hbm, 38, rfl⟩
abbrev main_v30 : Ref sig .tc := ⟨.hbm, 39, rfl⟩
abbrev main_v31 : Ref sig .tc := ⟨.hbm, 40, rfl⟩
abbrev main_c_6 : Ref sig .tc := ⟨.hbm, 41, rfl⟩
abbrev main_v32 : Ref sig .tc := ⟨.hbm, 42, rfl⟩
abbrev main_v33 : Ref sig .tc := ⟨.hbm, 43, rfl⟩
abbrev main_c_7 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_8 : Ref sig .tc := ⟨.hbm, 48, rfl⟩
abbrev main_v37 : Ref sig .tc := ⟨.hbm, 49, rfl⟩
abbrev main_v38 : Ref sig .tc := ⟨.hbm, 50, rfl⟩
abbrev main_c_9 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_10 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Proof.Voc.lean ====
/-
  The kernel's block of 256 rows as one vocabulary, per head and per chunk.

  The generated payloads spell each of the eight heads and eight chunks out separately. Here every one of them is one
  function of the head `hh` and the chunk `j`: the masked scores times the values (`intra`), the carried state after
  `n` chunks (`stAt`), the part of the output the state gives (`inter`), the normalized and gated head (`oHead`).
-/
module

public import proofs.«01_k».proof.Proof.Gen.KernelIdeal.Value
public import Idealize.ShloMosaic.Lib.Pointwise

@[expose] public section

noncomputable section

namespace Cert.Hgrn

open Idealize.ShloMosaic Cert.KernelIdeal Cert.KernelIdeal.Gen

variable {F : FTy → Type} [FloatOps F]

theorem sl256 : ∀ hh : Fin 8, S256x1024.Slices ![0, 128 * hh.val] S256x128 := by decide
theorem sl32 : ∀ j hh : Fin 8, S256x1024.Slices ![32 * j.val, 128 * hh.val] S32x128 := by decide
theorem sl1 : ∀ j hh : Fin 8, S256x1024.Slices ![32 * j.val, 128 * hh.val] S1x128 := by decide

/-- Head `hh`'s 128 columns of a block. -/
def cols {α : Type} (hh : Fin 8) (x : S256x1024.Idx → α) : S256x128.Idx → α :=
  extractStridedSlice S256x128 ![0, 128 * hh.val] x (sl256 hh)

/-- The masked scores of head `hh` times its values. -/
def intra (hh : Fin 8) (QE KE V : FVec F S256x1024 .bf16) : FVec F S256x128 .f32 :=
  matmul dot_S256x256_S256x128_S256x128_1_0_0_1_n_n none
    (truncf .bf16 (select k0_pay13
      (matmul dot_S256x128_S256x128_S256x256_1_1_0_0_n_n none (cols hh QE) (cols hh KE)
        (constant S256x256 .f32 0x00000000#32))
      (broadcast S256x256 (Scalar.ofBits .f32 0x00000000#32))) bitsLt_bf16_f32)
    (cols hh V) (constant S256x128 .f32 0x00000000#32)

/-- One chunk's step of the transposed state. -/
def stStep (hh j : Fin 8) (TOT : FVec F S256x1024 .f32) (KD : FVec F S256x1024 .bf16) (V : FVec F S256x1024 .f32)
    (ST : FVec F S128x128 .f32) : FVec F S128x128 .f32 :=
  addf
    (mulf ST (broadcastTo S128x128
      (exp (extractStridedSlice S1x128 ![32 * j.val, 128 * hh.val] TOT (sl1 j hh))) broadcasts_S1x128_S128x128))
    (matmul dot_S128x256_S256x128_S128x128_1_0_0_1_n_n none
      (truncf .bf16 (select (cmpi .eq k0_pay14 (broadcast S128x256 (BitVec.ofNat 32 j.val)))
        (transpose S128x256 [1, 0] (cols hh V) transposes_S256x128_p1_0_S128x256)
        (broadcast S128x256 (Scalar.ofBits .f32 0x00000000#32))) bitsLt_bf16_f32)
      (cols hh KD) (constant S128x128 .f32 0x00000000#32))

/-- The transposed state after `n` chunks. -/
def stAt (hh : Fin 8) (TOT : FVec F S256x1024 .f32) (KD : FVec F S256x1024 .bf16) (V : FVec F S256x1024 .f32)
    (ST : FVec F S128x128 .f32) : ℕ → FVec F S128x128 .f32
  | 0 => ST
  | n + 1 => stStep hh (Fin.ofNat 8 n) TOT KD V (stAt hh TOT KD V ST n)

/-- What the state adds to chunk `j`'s rows of the output. -/
def inter (hh j : Fin 8) (QE : FVec F S256x1024 .bf16) (ST : FVec F S128x128 .f32) : FVec F S32x128 .f32 :=
  matmul dot_S32x128_S128x128_S32x128_1_1_0_0_n_n none
    (extractStridedSlice S32x128 ![32 * j.val, 128 * hh.val] QE (sl32 j hh))
    (truncf .bf16 ST bitsLt_bf16_f32) (constant S32x128 .f32 0x00000000#32)

/-- Head `hh` before its norm. -/
def raw (hh : Fin 8) (QE KE : FVec F S256x1024 .bf16) (TOT : FVec F S256x1024 .f32) (KD : FVec F S256x1024 .bf16)
    (V : FVec F S256x1024 .f32) (ST : FVec F S128x128 .f32) : FVec F S256x128 .f32 :=
  addf (intra hh QE KE (k0_pay25 V))
    (concatenate S256x128 0 [⟨S32x128, inter hh 0 QE (stAt hh TOT KD V ST 0)⟩,
      ⟨S32x128, inter hh 1 QE (stAt hh TOT KD V ST 1)⟩, ⟨S32x128, inter hh 2 QE (stAt hh TOT KD V ST 2)⟩,
      ⟨S32x128, inter hh 3 QE (stAt hh TOT KD V ST 3)⟩, ⟨S32x128, inter hh 4 QE (stAt hh TOT KD V ST 4)⟩,
      ⟨S32x128, inter hh 5 QE (stAt hh TOT KD V ST 5)⟩, ⟨S32x128, inter hh 6 QE (stAt hh TOT KD V ST 6)⟩,
      ⟨S32x128, inter hh 7 QE (stAt hh TOT KD V ST 7)⟩]
      concatenates_S32x128_S32x128_S32x128_S32x128_S32x128_S32x128_S32x128_S32x128_S256x128_d0)

/-- A head normalized by its root mean square, scaled and gated. -/
def normGate (hh : Fin 8) (o : FVec F S256x128 .f32) (gn : Vec F S1x128 .f32) (g : Vec F S256x1024 .f32) :
    FVec F S256x128 .f32 :=
  mulf (mulf (mulf o (broadcastTo S256x128
      (rsqrt (addf (divf (shapeCast S256x1
          (multiReduction .add [1] S256 (mulf o o) 0x00000000#32 reduces_S256x128_S256 (.inl rfl) rfl)
          shapeCasts_S256_S256x1)
        (broadcast S256x1 (Scalar.ofBits .f32 0x43000000#32)))
        (broadcast S256x1 (Scalar.ofBits .f32 0x358637BD#32)))) broadcasts_S256x1_S256x128))
      (broadcastTo S256x128 gn broadcasts_S1x128_S256x128))
    (cols hh (k0_pay222 g))

/-- The stored columns of head `hh`, of the block's inputs and the state it meets. -/
def oHead (hh : Fin 8) (q f v g : Vec F S256x1024 .f32) (lb : Vec F S2x1024 .f32) (gn : Vec F S1x128 .f32)
    (ST : FVec F S128x128 .f32) : FVec F S256x128 .f32 :=
  normGate hh (raw hh (k0_pay23 (k0_pay21 lb f) q) (k0_pay24 (k0_pay20 lb f) (k0_pay21 lb f))
    (k0_pay22 (k0_pay21 lb f)) (k0_pay26 (k0_pay20 lb f) (k0_pay21 lb f)) v ST) gn g

/-- Head `hh`'s transposed state after the block. -/
def sHead (hh : Fin 8) (f v : Vec F S256x1024 .f32) (lb : Vec F S2x1024 .f32)
    (ST : FVec F S128x128 .f32) : FVec F S128x128 .f32 :=
  stAt hh (k0_pay22 (k0_pay21 lb f)) (k0_pay26 (k0_pay20 lb f) (k0_pay21 lb f)) v ST 8

/-- The carried transposed state of head `hh`. -/
def slab (hh : Fin 8) (s : Vec F S8x128x128 .f32) : FVec F S128x128 .f32 :=
  fun y => s (ix3 hh (y 0) (y 1))

/-- The kernel's output block as one function of the block's inputs and the eight states. -/
def OB (q f v g : Vec F S256x1024 .f32) (lb : Vec F S2x1024 .f32) (gn : Vec F S1x128 .f32)
    (ST : Fin 8 → FVec F S128x128 .f32) : Vec F S256x1024 .f32 := fun y =>
  oHead ⟨(y 1).val / 128, by have h : (y 1).val < 1024 := (y 1).isLt; omega⟩ q f v g lb gn
    (ST ⟨(y 1).val / 128, by have h : (y 1).val < 1024 := (y 1).isLt; omega⟩)
    (ix2 (y 0) ⟨(y 1).val % 128, Nat.mod_lt _ (by decide)⟩)

/-- The carried states after the block. -/
def SB (f v : Vec F S256x1024 .f32) (lb : Vec F S2x1024 .f32)
    (ST : Fin 8 → FVec F S128x128 .f32) : Vec F S8x128x128 .f32 := fun y =>
  sHead (y 0) f v lb (ST (y 0)) (ix2 (y 1) (y 2))

end Cert.Hgrn

end
-- ==== Proof.Block.lean ====
/-
  What one grid point of the kernel leaves behind, in every case of the point (first block of a sequence, middle,
  last): the output block is `OB` of the point's inputs and the states it meets, the scratch is `SB` of them, and the
  last block of a sequence stores the states transposed back.
-/
module

public import proofs.«01_k».proof.Proof.Voc

@[expose] public section

set_option maxRecDepth 16384
set_option maxHeartbeats 2000000

noncomputable section

open Idealize.ShloMosaic Cert.KernelIdeal.Gen Cert.KernelIdeal Idealize.ShloMosaic.Tactic

namespace Cert.Hgrn

variable {F : FTy → Type} [FloatOps F]

theorem ld256 (x : Vec F S256x1024 .f32) : View.ld x (Rect.unit ![0, 0] ![256, 1024] inb_S256x1024_S256x1024_0_0) = x :=
  View.ld_unit_zero (S := S256x1024) (funext fun a => by fin_cases a <;> rfl) _ x
theorem ld2 (x : Vec F S2x1024 .f32) : View.ld x (Rect.unit ![0, 0] ![2, 1024] inb_S2x1024_S2x1024_0_0) = x :=
  View.ld_unit_zero (S := S2x1024) (funext fun a => by fin_cases a <;> rfl) _ x
theorem ld1 (x : Vec F S1x128 .f32) : View.ld x (Rect.unit ![0, 0] ![1, 128] inb_S1x128_S1x128_0_0) = x :=
  View.ld_unit_zero (S := S1x128) (funext fun a => by fin_cases a <;> rfl) _ x

theorem dropUnit (v : Vec F S1x128x128 .f32) :
    shapeCast S128x128 v shapeCasts_S1x128x128_S128x128 = fun y => v (ix3 0 (y 0) (y 1)) := by
  funext y
  idx_vars y
  pointwise []
theorem slab_ld (hh : Fin 8) (h : ∀ a : Fin 3, (![hh.val, 0, 0] : Fin 3 → ℕ) a + S1x128x128.size a ≤ S8x128x128.size a)
    (xs : Vec F S8x128x128 .f32) :
    shapeCast S128x128 (View.ld xs (Rect.unit (s := S8x128x128) ![hh.val, 0, 0] S1x128x128.size h))
      shapeCasts_S1x128x128_S128x128 = slab hh xs := by
  rw [dropUnit]
  funext y
  refine congrArg xs (funext fun a => Fin.ext ?_)
  refine (Rect.emb_apply _ _ a).trans ?_
  match a with
  | 0 => exact rfl
  | 1 => exact (Nat.zero_add _).trans (Nat.one_mul _)
  | 2 => exact (Nat.zero_add _).trans (Nat.one_mul _)
theorem embCols (hh : Fin 8) (h : ∀ a : Fin 2, (![0, 128 * hh.val] : Fin 2 → ℕ) a + S256x128.size a ≤ S256x1024.size a) (x : S256x128.Idx) :
  (((Rect.unit (s := S256x1024) ![0, 128 * hh.val] S256x128.size h).emb x) 0) = x 0 ∧
  (((Rect.unit (s := S256x1024) ![0, 128 * hh.val] S256x128.size h).emb x) 1).val = 128 * hh.val + (x 1).val :=
 ⟨Fin.ext ((Rect.emb_apply _ _ 0).trans ((Nat.zero_add _).trans (Nat.one_mul _))),
  (Rect.emb_apply _ _ 1).trans (congrArg (128 * hh.val + ·) (Nat.one_mul _))⟩
theorem OB_head (hh : Fin 8) (q f v g : Vec F S256x1024 .f32) (lb : Vec F S2x1024 .f32) (gn : Vec F S1x128 .f32)
    (ST : Fin 8 → FVec F S128x128 .f32)
    (h : ∀ a : Fin 2, (![0, 128 * hh.val] : Fin 2 → ℕ) a + S256x128.size a ≤ S256x1024.size a) (x : S256x128.Idx) :
    oHead hh q f v g lb gn (ST hh) x
      = OB q f v g lb gn ST ((Rect.unit (s := S256x1024) ![0, 128 * hh.val] S256x128.size h).emb x) := by
  have hx : (x 1).val < 128 := (x 1).isLt
  obtain ⟨e0, e⟩ := embCols hh h x
  generalize (Rect.unit (s := S256x1024) ![0, 128 * hh.val] S256x128.size h).emb x = y at e0 e
  unfold OB
  have eh : (⟨(y 1).val / 128, by rw [e]; omega⟩ : Fin 8) = hh :=
    Fin.ext (by show (y 1).val / 128 = _; rw [e]; omega)
  rw [eh]
  congr 1
  rw [eq_ix2 x]
  refine congrArg₂ ix2 e0.symm (Fin.ext ?_)
  show (x 1).val = (y 1).val % 128
  rw [e]; omega

theorem addUnit (v : FVec F S128x128 .f32) :
    shapeCast S1x128x128 v shapeCasts_S128x128_S1x128x128 = fun y => v (ix2 (y 1) (y 2)) := by
  funext y
  idx_vars y
  pointwise []
theorem SB_head (hh : Fin 8) (f v : Vec F S256x1024 .f32) (lb : Vec F S2x1024 .f32) (ST : Fin 8 → FVec F S128x128 .f32)
    (h : ∀ a : Fin 3, (![hh.val, 0, 0] : Fin 3 → ℕ) a + S1x128x128.size a ≤ S8x128x128.size a) (x : S1x128x128.Idx) :
    shapeCast S1x128x128 (sHead hh f v lb (ST hh)) shapeCasts_S128x128_S1x128x128 x
      = SB f v lb ST ((Rect.unit (s := S8x128x128) ![hh.val, 0, 0] S1x128x128.size h).emb x) := by
  rw [addUnit]
  have e0 : ((Rect.unit (s := S8x128x128) ![hh.val, 0, 0] S1x128x128.size h).emb x) 0 = hh :=
    Fin.ext ((Rect.emb_apply _ _ 0).trans (by
      have : (x 0).val < 1 := (x 0).isLt
      show hh.val + 1 * (x 0).val = hh.val
      omega))
  have e1 : ((Rect.unit (s := S8x128x128) ![hh.val, 0, 0] S1x128x128.size h).emb x) 1 = x 1 :=
    Fin.ext ((Rect.emb_apply _ _ 1).trans ((Nat.zero_add _).trans (Nat.one_mul _)))
  have e2 : ((Rect.unit (s := S8x128x128) ![hh.val, 0, 0] S1x128x128.size h).emb x) 2 = x 2 :=
    Fin.ext ((Rect.emb_apply _ _ 2).trans ((Nat.zero_add _).trans (Nat.one_mul _)))
  generalize (Rect.unit (s := S8x128x128) ![hh.val, 0, 0] S1x128x128.size h).emb x = y at e0 e1 e2
  unfold SB
  rw [e0, e1, e2]

theorem canon_prefix {Val : EltTy → Type} [∀ e, Nonempty (Val e)] {S : Shape} {e : EltTy} (G : S.Idx → Val e)
    (M : List (View.Piece Val S e)) :
    ∀ (L : List (View.Piece Val S e)) (_ : ∀ p ∈ L, ∀ x : p.1.shape.Idx, p.2 x = G (p.1.emb x)) (y : S.Idx)
      (_ : ∃ p ∈ L, y ∈ p.1.set), View.canon (L ++ M) y = G y
  | [], _, _, hy => by obtain ⟨p, hp, _⟩ := hy; exact absurd hp List.not_mem_nil
  | p :: L, hL, y, hy => by
    rw [List.cons_append]
    by_cases hm : y ∈ p.1.set
    · obtain ⟨x, rfl⟩ := p.1.exists_idx_of_mem hm
      rw [show p.1.idx x = p.1.emb x from rfl, View.canon_cons_emb]
      exact hL p List.mem_cons_self x
    · rw [View.canon_cons_of_not_mem p _ hm]
      refine canon_prefix G M L (fun q hq => hL q (List.mem_cons_of_mem _ hq)) y ?_
      obtain ⟨q, hq, hqy⟩ := hy
      rcases List.mem_cons.mp hq with rfl | hq
      · exact absurd hqy hm
      · exact ⟨q, hq, hqy⟩

theorem readPieces {Val : EltTy → Type} [∀ e, Nonempty (Val e)] {sig : RefSig} {κ : Kind} {sp : Space} {s : Shape}
    {e : EltTy} (v : View sig κ sp s e) (G : s.Idx → Val e) (L : List (View.Piece Val s e))
    (hL : ∀ p ∈ L, ∀ x : p.1.shape.Idx, p.2 x = G (p.1.emb x)) (r : Rect s) (hr : ∃ p ∈ L, p.1 = r) :
    v.readCov L r.toLoadRect = View.ld G r := by
  obtain ⟨p, hp, rfl⟩ := hr
  have hc : ∀ j : p.1.shape.Idx, ∃ q ∈ L, p.1.idx j ∈ q.1.set := fun j => ⟨p, hp, p.1.idx_mem j⟩
  refine (View.readCov_eq_canon v L _ hc).trans (funext fun j => ?_)
  exact View.canon_apply_of_pieces G L hL _ (hc j)

/-- Stored states: each head's state transposed back. -/
def outT (s : Vec F S8x128x128 .f32) : Vec F S1x8x128x128 .f32 := fun y => s (ix3 (y 1) (y 3) (y 2))
/-- The states a sequence starts from, transposed. -/
def startT (s : Vec F S1x8x128x128 .f32) : Vec F S8x128x128 .f32 := fun y => s (ix4 0 (y 0) (y 2) (y 1))

theorem turnIn (v : Vec F S1x1x128x128 .f32) :
    shapeCast S1x128x128 (transpose S128x128 [1, 0] (shapeCast S128x128 v shapeCasts_S1x1x128x128_S128x128)
      transposes_S128x128_p1_0_S128x128) shapeCasts_S128x128_S1x128x128 = fun y => v (ix4 0 0 (y 2) (y 1)) := by
  funext y
  idx_vars y
  pointwise []
theorem turnOut (v : Vec F S1x128x128 .f32) :
    shapeCast S1x1x128x128 (transpose S128x128 [1, 0] (shapeCast S128x128 v shapeCasts_S1x128x128_S128x128)
      transposes_S128x128_p1_0_S128x128) shapeCasts_S128x128_S1x1x128x128 = fun y => v (ix3 0 (y 3) (y 2)) := by
  funext y
  idx_vars y
  pointwise []

theorem embSlab (hh : Fin 8)
    (h : ∀ a : Fin 3, (![hh.val, 0, 0] : Fin 3 → ℕ) a + S1x128x128.size a ≤ S8x128x128.size a) (x : S1x128x128.Idx) :
    ((Rect.unit (s := S8x128x128) ![hh.val, 0, 0] S1x128x128.size h).emb x) = ix3 hh (x 1) (x 2) := by
  refine funext fun a => Fin.ext ((Rect.emb_apply _ _ a).trans ?_)
  match a with
  | 0 =>
    have : (x 0).val < 1 := (x 0).isLt
    show hh.val + 1 * (x 0).val = hh.val
    omega
  | 1 => exact (Nat.zero_add _).trans (Nat.one_mul _)
  | 2 => exact (Nat.zero_add _).trans (Nat.one_mul _)
theorem embState (hh : Fin 8) (h : ∀ a : Fin 4, (![0, hh.val, 0, 0] : Fin 4 → ℕ) a + S1x1x128x128.size a ≤ S1x8x128x128.size a) (x : S1x1x128x128.Idx) :
    ((Rect.unit (s := S1x8x128x128) ![0, hh.val, 0, 0] S1x1x128x128.size h).emb x) = ix4 0 hh (x 2) (x 3) := by
  refine funext fun a => Fin.ext ((Rect.emb_apply _ _ a).trans ?_)
  match a with
  | 0 =>
    have : (x 0).val < 1 := (x 0).isLt
    show 0 + 1 * (x 0).val = 0
    omega
  | 1 =>
    have : (x 1).val < 1 := (x 1).isLt
    show hh.val + 1 * (x 1).val = hh.val
    omega
  | 2 => exact (Nat.zero_add _).trans (Nat.one_mul _)
  | 3 => exact (Nat.zero_add _).trans (Nat.one_mul _)

/-- Head `hh`'s starting state as it is put into the scratch. -/
def initP (hh : Fin 8) (h : ∀ a : Fin 4, (![0, hh.val, 0, 0] : Fin 4 → ℕ) a + S1x1x128x128.size a ≤ S1x8x128x128.size a) (x6 : Vec F S1x8x128x128 .f32) : Vec F S1x128x128 .f32 :=
  shapeCast S1x128x128 (transpose S128x128 [1, 0] (shapeCast S128x128
    (View.ld x6 (Rect.unit (s := S1x8x128x128) ![0, hh.val, 0, 0] S1x1x128x128.size h)) shapeCasts_S1x1x128x128_S128x128)
      transposes_S128x128_p1_0_S128x128) shapeCasts_S128x128_S1x128x128
theorem initP_eq (hh : Fin 8) (h : ∀ a : Fin 4, (![0, hh.val, 0, 0] : Fin 4 → ℕ) a + S1x1x128x128.size a ≤ S1x8x128x128.size a) (x6 : Vec F S1x8x128x128 .f32)
    (h' : ∀ a : Fin 3, (![hh.val, 0, 0] : Fin 3 → ℕ) a + S1x128x128.size a ≤ S8x128x128.size a) (x : S1x128x128.Idx) :
    initP hh h x6 x = startT x6 ((Rect.unit (s := S8x128x128) ![hh.val, 0, 0] S1x128x128.size h').emb x) := by
  unfold initP
  rw [turnIn, embSlab]
  exact congrArg x6 (embState hh h _)

/-- What the scratch holds after the starting states are stored. -/
def initL (x6 : Vec F S1x8x128x128 .f32) : List (View.Piece (Elt F) S8x128x128 .f32) :=
  [⟨Rect.unit (s := S8x128x128) ![7, 0, 0] S1x128x128.size inb_S8x128x128_S1x128x128_7_0_0, initP 7 inb_S1x8x128x128_S1x1x128x128_0_7_0_0 x6⟩,
    ⟨Rect.unit (s := S8x128x128) ![6, 0, 0] S1x128x128.size inb_S8x128x128_S1x128x128_6_0_0, initP 6 inb_S1x8x128x128_S1x1x128x128_0_6_0_0 x6⟩,
    ⟨Rect.unit (s := S8x128x128) ![5, 0, 0] S1x128x128.size inb_S8x128x128_S1x128x128_5_0_0, initP 5 inb_S1x8x128x128_S1x1x128x128_0_5_0_0 x6⟩,
    ⟨Rect.unit (s := S8x128x128) ![4, 0, 0] S1x128x128.size inb_S8x128x128_S1x128x128_4_0_0, initP 4 inb_S1x8x128x128_S1x1x128x128_0_4_0_0 x6⟩,
    ⟨Rect.unit (s := S8x128x128) ![3, 0, 0] S1x128x128.size inb_S8x128x128_S1x128x128_3_0_0, initP 3 inb_S1x8x128x128_S1x1x128x128_0_3_0_0 x6⟩,
    ⟨Rect.unit (s := S8x128x128) ![2, 0, 0] S1x128x128.size inb_S8x128x128_S1x128x128_2_0_0, initP 2 inb_S1x8x128x128_S1x1x128x128_0_2_0_0 x6⟩,
    ⟨Rect.unit (s := S8x128x128) ![1, 0, 0] S1x128x128.size inb_S8x128x128_S1x128x128_1_0_0, initP 1 inb_S1x8x128x128_S1x1x128x128_0_1_0_0 x6⟩,
    ⟨Rect.unit (s := S8x128x128) ![0, 0, 0] S1x128x128.size inb_S8x128x128_S1x128x128_0_0_0, initP 0 inb_S1x8x128x128_S1x1x128x128_0_0_0_0 x6⟩]
/-- What the scratch holds after a block. -/
def lastL (x1 x2 : Vec F S256x1024 .f32) (x4 : Vec F S2x1024 .f32) (ST : Fin 8 → FVec F S128x128 .f32) :
    List (View.Piece (Elt F) S8x128x128 .f32) :=
  [⟨Rect.unit (s := S8x128x128) ![7, 0, 0] S1x128x128.size inb_S8x128x128_S1x128x128_7_0_0, shapeCast S1x128x128 (sHead 7 x1 x2 x4 (ST 7)) shapeCasts_S128x128_S1x128x128⟩,
    ⟨Rect.unit (s := S8x128x128) ![6, 0, 0] S1x128x128.size inb_S8x128x128_S1x128x128_6_0_0, shapeCast S1x128x128 (sHead 6 x1 x2 x4 (ST 6)) shapeCasts_S128x128_S1x128x128⟩,
    ⟨Rect.unit (s := S8x128x128) ![5, 0, 0] S1x128x128.size inb_S8x128x128_S1x128x128_5_0_0, shapeCast S1x128x128 (sHead 5 x1 x2 x4 (ST 5)) shapeCasts_S128x128_S1x128x128⟩,
    ⟨Rect.unit (s := S8x128x128) ![4, 0, 0] S1x128x128.size inb_S8x128x128_S1x128x128_4_0_0, shapeCast S1x128x128 (sHead 4 x1 x2 x4 (ST 4)) shapeCasts_S128x128_S1x128x128⟩,
    ⟨Rect.unit (s := S8x128x128) ![3, 0, 0] S1x128x128.size inb_S8x128x128_S1x128x128_3_0_0, shapeCast S1x128x128 (sHead 3 x1 x2 x4 (ST 3)) shapeCasts_S128x128_S1x128x128⟩,
    ⟨Rect.unit (s := S8x128x128) ![2, 0, 0] S1x128x128.size inb_S8x128x128_S1x128x128_2_0_0, shapeCast S1x128x128 (sHead 2 x1 x2 x4 (ST 2)) shapeCasts_S128x128_S1x128x128⟩,
    ⟨Rect.unit (s := S8x128x128) ![1, 0, 0] S1x128x128.size inb_S8x128x128_S1x128x128_1_0_0, shapeCast S1x128x128 (sHead 1 x1 x2 x4 (ST 1)) shapeCasts_S128x128_S1x128x128⟩,
    ⟨Rect.unit (s := S8x128x128) ![0, 0, 0] S1x128x128.size inb_S8x128x128_S1x128x128_0_0_0, shapeCast S1x128x128 (sHead 0 x1 x2 x4 (ST 0)) shapeCasts_S128x128_S1x128x128⟩]
theorem initL_read {sig : RefSig} {κ : Kind} {sp : Space} (v : View sig κ sp S8x128x128 .f32)
    (x6 : Vec F S1x8x128x128 .f32) (r : Rect S8x128x128) (hr : ∃ p ∈ initL x6, p.1 = r) :
    v.readCov (initL x6) r.toLoadRect = View.ld (startT x6) r := by
  refine readPieces v _ _ ?_ r hr
  simp only [initL, List.forall_mem_cons]
  exact ⟨initP_eq 7 _ x6 _, initP_eq 6 _ x6 _, initP_eq 5 _ x6 _, initP_eq 4 _ x6 _, initP_eq 3 _ x6 _, initP_eq 2 _ x6 _, initP_eq 1 _ x6 _, initP_eq 0 _ x6 _, fun _ h => absurd h List.not_mem_nil⟩
theorem lastL_read {sig : RefSig} {κ : Kind} {sp : Space} (v : View sig κ sp S8x128x128 .f32)
    (x1 x2 : Vec F S256x1024 .f32) (x4 : Vec F S2x1024 .f32) (ST : Fin 8 → FVec F S128x128 .f32)
    (r : Rect S8x128x128) (hr : ∃ p ∈ lastL x1 x2 x4 ST, p.1 = r) :
    v.readCov (lastL x1 x2 x4 ST) r.toLoadRect = View.ld (SB x1 x2 x4 ST) r := by
  refine readPieces v _ _ ?_ r hr
  simp only [lastL, List.forall_mem_cons]
  exact ⟨SB_head 7 x1 x2 x4 ST _, SB_head 6 x1 x2 x4 ST _, SB_head 5 x1 x2 x4 ST _, SB_head 4 x1 x2 x4 ST _, SB_head 3 x1 x2 x4 ST _, SB_head 2 x1 x2 x4 ST _, SB_head 1 x1 x2 x4 ST _, SB_head 0 x1 x2 x4 ST _, fun _ h => absurd h List.not_mem_nil⟩
theorem initL_mem (hh : Fin 8) (h : ∀ a : Fin 3, (![hh.val, 0, 0] : Fin 3 → ℕ) a + S1x128x128.size a ≤ S8x128x128.size a) (x6 : Vec F S1x8x128x128 .f32) :
    ∃ p ∈ initL x6, p.1 = Rect.unit (s := S8x128x128) ![hh.val, 0, 0] S1x128x128.size h :=
  match hh with
  | 0 => ⟨_, List.mem_cons_of_mem _ (List.mem_cons_of_mem _ (List.mem_cons_of_mem _ (List.mem_cons_of_mem _ (List.mem_cons_of_mem _ (List.mem_cons_of_mem _ (List.mem_cons_of_mem _ List.mem_cons_self)))))), rfl⟩
  | 1 => ⟨_, List.mem_cons_of_mem _ (List.mem_cons_of_mem _ (List.mem_cons_of_mem _ (List.mem_cons_of_mem _ (List.mem_cons_of_mem _ (List.mem_cons_of_mem _ List.mem_cons_self))))), rfl⟩
  | 2 => ⟨_, List.mem_cons_of_mem _ (List.mem_cons_of_mem _ (List.mem_cons_of_mem _ (List.mem_cons_of_mem _ (List.mem_cons_of_mem _ List.mem_cons_self)))), rfl⟩
  | 3 => ⟨_, List.mem_cons_of_mem _ (List.mem_cons_of_mem _ (List.mem_cons_of_mem _ (List.mem_cons_of_mem _ List.mem_cons_self))), rfl⟩
  | 4 => ⟨_, List.mem_cons_of_mem _ (List.mem_cons_of_mem _ (List.mem_cons_of_mem _ List.mem_cons_self)), rfl⟩
  | 5 => ⟨_, List.mem_cons_of_mem _ (List.mem_cons_of_mem _ List.mem_cons_self), rfl⟩
  | 6 => ⟨_, List.mem_cons_of_mem _ List.mem_cons_self, rfl⟩
  | 7 => ⟨_, List.mem_cons_self, rfl⟩
theorem lastL_mem (hh : Fin 8) (h : ∀ a : Fin 3, (![hh.val, 0, 0] : Fin 3 → ℕ) a + S1x128x128.size a ≤ S8x128x128.size a) (x1 x2 : Vec F S256x1024 .f32) (x4 : Vec F S2x1024 .f32)
    (ST : Fin 8 → FVec F S128x128 .f32) :
    ∃ p ∈ lastL x1 x2 x4 ST, p.1 = Rect.unit (s := S8x128x128) ![hh.val, 0, 0] S1x128x128.size h :=
  match hh with
  | 0 => ⟨_, List.mem_cons_of_mem _ (List.mem_cons_of_mem _ (List.mem_cons_of_mem _ (List.mem_cons_of_mem _ (List.mem_cons_of_mem _ (List.mem_cons_of_mem _ (List.mem_cons_of_mem _ List.mem_cons_self)))))), rfl⟩
  | 1 => ⟨_, List.mem_cons_of_mem _ (List.mem_cons_of_mem _ (List.mem_cons_of_mem _ (List.mem_cons_of_mem _ (List.mem_cons_of_mem _ (List.mem_cons_of_mem _ List.mem_cons_self))))), rfl⟩
  | 2 => ⟨_, List.mem_cons_of_mem _ (List.mem_cons_of_mem _ (List.mem_cons_of_mem _ (List.mem_cons_of_mem _ (List.mem_cons_of_mem _ List.mem_cons_self)))), rfl⟩
  | 3 => ⟨_, List.mem_cons_of_mem _ (List.mem_cons_of_mem _ (List.mem_cons_of_mem _ (List.mem_cons_of_mem _ List.mem_cons_self))), rfl⟩
  | 4 => ⟨_, List.mem_cons_of_mem _ (List.mem_cons_of_mem _ (List.mem_cons_of_mem _ List.mem_cons_self)), rfl⟩
  | 5 => ⟨_, List.mem_cons_of_mem _ (List.mem_cons_of_mem _ List.mem_cons_self), rfl⟩
  | 6 => ⟨_, List.mem_cons_of_mem _ List.mem_cons_self, rfl⟩
  | 7 => ⟨_, List.mem_cons_self, rfl⟩
theorem start_read (hh : Fin 8) (h : ∀ a : Fin 3, (![hh.val, 0, 0] : Fin 3 → ℕ) a + S1x128x128.size a ≤ S8x128x128.size a) {sig : RefSig} {κ : Kind} {sp : Space}
    (v : View sig κ sp S8x128x128 .f32) (x6 : Vec F S1x8x128x128 .f32) :
    shapeCast S128x128 (v.readCov (initL x6)
      (Rect.unit (s := S8x128x128) ![hh.val, 0, 0] S1x128x128.size h).toLoadRect) shapeCasts_S1x128x128_S128x128
      = slab hh (startT x6) := by
  rw [initL_read v x6 _ (initL_mem hh h x6)]
  exact slab_ld hh h _
theorem out8_head (hh : Fin 8) (h : ∀ a : Fin 4, (![0, hh.val, 0, 0] : Fin 4 → ℕ) a + S1x1x128x128.size a ≤ S1x8x128x128.size a)
    (h' : ∀ a : Fin 3, (![hh.val, 0, 0] : Fin 3 → ℕ) a + S1x128x128.size a ≤ S8x128x128.size a)
    (s : Vec F S8x128x128 .f32) (x : S1x1x128x128.Idx) :
    shapeCast S1x1x128x128 (transpose S128x128 [1, 0] (shapeCast S128x128
        (View.ld s (Rect.unit (s := S8x128x128) ![hh.val, 0, 0] S1x128x128.size h')) shapeCasts_S1x128x128_S128x128)
      transposes_S128x128_p1_0_S128x128) shapeCasts_S128x128_S1x1x128x128 x
      = outT s ((Rect.unit (s := S1x8x128x128) ![0, hh.val, 0, 0] S1x1x128x128.size h).emb x) := by
  rw [turnOut, embState]
  exact congrArg s (embSlab hh h' _)
theorem out8_read (hh : Fin 8) (h : ∀ a : Fin 4, (![0, hh.val, 0, 0] : Fin 4 → ℕ) a + S1x1x128x128.size a ≤ S1x8x128x128.size a) (h' : ∀ a : Fin 3, (![hh.val, 0, 0] : Fin 3 → ℕ) a + S1x128x128.size a ≤ S8x128x128.size a) {sig : RefSig} {κ : Kind} {sp : Space}
    (v : View sig κ sp S8x128x128 .f32) (x1 x2 : Vec F S256x1024 .f32) (x4 : Vec F S2x1024 .f32)
    (ST : Fin 8 → FVec F S128x128 .f32) (x : S1x1x128x128.Idx) :
    shapeCast S1x1x128x128 (transpose S128x128 [1, 0] (shapeCast S128x128
        (v.readCov (lastL x1 x2 x4 ST) (Rect.unit (s := S8x128x128) ![hh.val, 0, 0] S1x128x128.size h').toLoadRect)
        shapeCasts_S1x128x128_S128x128)
      transposes_S128x128_p1_0_S128x128) shapeCasts_S128x128_S1x1x128x128 x
      = outT (SB x1 x2 x4 ST) ((Rect.unit (s := S1x8x128x128) ![0, hh.val, 0, 0] S1x1x128x128.size h).emb x) := by
  rw [lastL_read v x1 x2 x4 ST _ (lastL_mem hh h' x1 x2 x4 ST)]
  exact out8_head hh h h' _ x
theorem lastL_cover (x1 x2 : Vec F S256x1024 .f32) (x4 : Vec F S2x1024 .f32) (ST : Fin 8 → FVec F S128x128 .f32)
    (y : S8x128x128.Idx) : ∃ p ∈ lastL x1 x2 x4 ST, y ∈ p.1.set := by
  have h : ∀ hh : Fin 8, ∀ a : Fin 3, (![hh.val, 0, 0] : Fin 3 → ℕ) a + S1x128x128.size a ≤ S8x128x128.size a := by decide
  obtain ⟨p, hp, e⟩ := lastL_mem (y 0) (h (y 0)) x1 x2 x4 ST
  refine ⟨p, hp, ?_⟩
  rw [e]
  have e' := (Rect.unit (s := S8x128x128) ![(y 0).val, 0, 0] S1x128x128.size (h (y 0))).idx_mem (ix3 0 (y 1) (y 2))
  have e'' := embSlab (y 0) (h (y 0)) (ix3 0 (y 1) (y 2))
  exact Eq.mp (congrArg (fun z => z ∈ (Rect.unit (s := S8x128x128) ![(y 0).val, 0, 0] S1x128x128.size (h (y 0))).set)
    (e''.trans (eq_ix3 y).symm)) e'
section Run
variable (c : Dev nD) (i : grid0.Coords)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S2x1024 .f32) (harg7 : arg7.IsWhole)
  (arg8 : Memref sig .tc .vmem S1x128 .f32) (harg8 : arg8.IsWhole)
  (arg9 : Memref sig .tc .vmem S1x8x128x128 .f32) (harg9 : arg9.IsWhole)
  (arg10 : Memref sig .tc .vmem S256x1024 .f32) (harg10 : arg10.IsWhole)
  (arg11 : Memref sig .tc .vmem S1x8x128x128 .f32) (harg11 : arg11.IsWhole)
  (arg12 : Memref sig .tc .vmem S8x128x128 .f32) (harg12 : arg12.IsWhole)
  (x0 x1 x2 x3 : Vec F S256x1024 .f32) (x4 : Vec F S2x1024 .f32) (x5 : Vec F S1x128 .f32)
  (x6 : Vec F S1x8x128x128 .f32)

theorem out7_A (hc0 : cond0_0 i) (hc1 : ¬cond0_1 i) :
    out0_A_7 c i arg3 harg3 arg4 harg4 arg5 harg5 arg6 harg6 arg7 harg7 arg8 harg8 arg9 harg9 arg10 harg10 arg11 harg11 arg12 harg12 hc0 hc1 x0 x1 x2 x3 x4 x5 x6 = OB x0 x1 x2 x3 x4 x5 (fun hh => slab hh (startT x6)) := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 hc0 hc1 x0 x1 x2 x3 x4 x5 x6)]
  funext y
  refine View.canon_apply_of_pieces (OB x0 x1 x2 x3 x4 x5 (fun hh => slab hh (startT x6))) _ ?_ y (cover0_A_7 c i arg3 harg3 arg4 harg4 arg5 harg5 arg6 harg6 arg7 harg7 arg8 harg8 arg9 harg9 arg10 harg10 arg11 harg11 arg12 harg12 hc0 hc1 x0 x1 x2 x3 x4 x5 x6 y)
  unfold kernelRun0_A
  dsimp only
  sl_unfold_words
  simp only [View.readAt_eq_ld, harg3.read_unread, harg4.read_unread, harg5.read_unread, harg6.read_unread, harg7.read_unread, harg8.read_unread, harg9.read_unread, harg12.read_unread, ld256, ld2, ld1]
  simp only [List.forall_mem_cons]
  refine ⟨fun x => (congrFun (?_ : _ = oHead 7 x0 x1 x2 x3 x4 x5 (slab 7 (startT x6))) x).trans (OB_head 7 x0 x1 x2 x3 x4 x5 (fun hh => slab hh (startT x6)) _ x),
    fun x => (congrFun (?_ : _ = oHead 6 x0 x1 x2 x3 x4 x5 (slab 6 (startT x6))) x).trans (OB_head 6 x0 x1 x2 x3 x4 x5 (fun hh => slab hh (startT x6)) _ x),
    fun x => (congrFun (?_ : _ = oHead 5 x0 x1 x2 x3 x4 x5 (slab 5 (startT x6))) x).trans (OB_head 5 x0 x1 x2 x3 x4 x5 (fun hh => slab hh (startT x6)) _ x),
    fun x => (congrFun (?_ : _ = oHead 4 x0 x1 x2 x3 x4 x5 (slab 4 (startT x6))) x).trans (OB_head 4 x0 x1 x2 x3 x4 x5 (fun hh => slab hh (startT x6)) _ x),
    fun x => (congrFun (?_ : _ = oHead 3 x0 x1 x2 x3 x4 x5 (slab 3 (startT x6))) x).trans (OB_head 3 x0 x1 x2 x3 x4 x5 (fun hh => slab hh (startT x6)) _ x),
    fun x => (congrFun (?_ : _ = oHead 2 x0 x1 x2 x3 x4 x5 (slab 2 (startT x6))) x).trans (OB_head 2 x0 x1 x2 x3 x4 x5 (fun hh => slab hh (startT x6)) _ x),
    fun x => (congrFun (?_ : _ = oHead 1 x0 x1 x2 x3 x4 x5 (slab 1 (startT x6))) x).trans (OB_head 1 x0 x1 x2 x3 x4 x5 (fun hh => slab hh (startT x6)) _ x),
    fun x => (congrFun (?_ : _ = oHead 0 x0 x1 x2 x3 x4 x5 (slab 0 (startT x6))) x).trans (OB_head 0 x0 x1 x2 x3 x4 x5 (fun hh => slab hh (startT x6)) _ x),
    fun _ h => absurd h List.not_mem_nil⟩
  · rw [← start_read 7 inb_S8x128x128_S1x128x128_7_0_0 arg12.view x6]; rfl
  · rw [← start_read 6 inb_S8x128x128_S1x128x128_6_0_0 arg12.view x6]; rfl
  · rw [← start_read 5 inb_S8x128x128_S1x128x128_5_0_0 arg12.view x6]; rfl
  · rw [← start_read 4 inb_S8x128x128_S1x128x128_4_0_0 arg12.view x6]; rfl
  · rw [← start_read 3 inb_S8x128x128_S1x128x128_3_0_0 arg12.view x6]; rfl
  · rw [← start_read 2 inb_S8x128x128_S1x128x128_2_0_0 arg12.view x6]; rfl
  · rw [← start_read 1 inb_S8x128x128_S1x128x128_1_0_0 arg12.view x6]; rfl
  · rw [← start_read 0 inb_S8x128x128_S1x128x128_0_0_0 arg12.view x6]; rfl

theorem out7_C (hc0 : ¬cond0_0 i) (hc1 : cond0_1 i) (xs0 : Vec F S8x128x128 .f32) :
    out0_C_7 c i arg3 harg3 arg4 harg4 arg5 harg5 arg6 harg6 arg7 harg7 arg8 harg8 arg9 harg9 arg10 harg10 arg11 harg11 arg12 harg12 hc0 hc1 x0 x1 x2 x3 x4 x5 x6 xs0 = OB x0 x1 x2 x3 x4 x5 (fun hh => slab hh xs0) := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 hc0 hc1 x0 x1 x2 x3 x4 x5 x6 xs0)]
  funext y
  refine View.canon_apply_of_pieces (OB x0 x1 x2 x3 x4 x5 (fun hh => slab hh xs0)) _ ?_ y (cover0_C_7 c i arg3 harg3 arg4 harg4 arg5 harg5 arg6 harg6 arg7 harg7 arg8 harg8 arg9 harg9 arg10 harg10 arg11 harg11 arg12 harg12 hc0 hc1 x0 x1 x2 x3 x4 x5 x6 xs0 y)
  unfold kernelRun0_C
  dsimp only
  sl_unfold_words
  simp only [View.readAt_eq_ld, harg3.read_unread, harg4.read_unread, harg5.read_unread, harg6.read_unread, harg7.read_unread, harg8.read_unread, harg9.read_unread, harg12.read_unread, ld256, ld2, ld1]
  simp only [List.forall_mem_cons]
  refine ⟨fun x => (congrFun (?_ : _ = oHead 7 x0 x1 x2 x3 x4 x5 (slab 7 xs0)) x).trans (OB_head 7 x0 x1 x2 x3 x4 x5 (fun hh => slab hh xs0) _ x),
    fun x => (congrFun (?_ : _ = oHead 6 x0 x1 x2 x3 x4 x5 (slab 6 xs0)) x).trans (OB_head 6 x0 x1 x2 x3 x4 x5 (fun hh => slab hh xs0) _ x),
    fun x => (congrFun (?_ : _ = oHead 5 x0 x1 x2 x3 x4 x5 (slab 5 xs0)) x).trans (OB_head 5 x0 x1 x2 x3 x4 x5 (fun hh => slab hh xs0) _ x),
    fun x => (congrFun (?_ : _ = oHead 4 x0 x1 x2 x3 x4 x5 (slab 4 xs0)) x).trans (OB_head 4 x0 x1 x2 x3 x4 x5 (fun hh => slab hh xs0) _ x),
    fun x => (congrFun (?_ : _ = oHead 3 x0 x1 x2 x3 x4 x5 (slab 3 xs0)) x).trans (OB_head 3 x0 x1 x2 x3 x4 x5 (fun hh => slab hh xs0) _ x),
    fun x => (congrFun (?_ : _ = oHead 2 x0 x1 x2 x3 x4 x5 (slab 2 xs0)) x).trans (OB_head 2 x0 x1 x2 x3 x4 x5 (fun hh => slab hh xs0) _ x),
    fun x => (congrFun (?_ : _ = oHead 1 x0 x1 x2 x3 x4 x5 (slab 1 xs0)) x).trans (OB_head 1 x0 x1 x2 x3 x4 x5 (fun hh => slab hh xs0) _ x),
    fun x => (congrFun (?_ : _ = oHead 0 x0 x1 x2 x3 x4 x5 (slab 0 xs0)) x).trans (OB_head 0 x0 x1 x2 x3 x4 x5 (fun hh => slab hh xs0) _ x),
    fun _ h => absurd h List.not_mem_nil⟩
  · rw [← slab_ld 7 inb_S8x128x128_S1x128x128_7_0_0]; rfl
  · rw [← slab_ld 6 inb_S8x128x128_S1x128x128_6_0_0]; rfl
  · rw [← slab_ld 5 inb_S8x128x128_S1x128x128_5_0_0]; rfl
  · rw [← slab_ld 4 inb_S8x128x128_S1x128x128_4_0_0]; rfl
  · rw [← slab_ld 3 inb_S8x128x128_S1x128x128_3_0_0]; rfl
  · rw [← slab_ld 2 inb_S8x128x128_S1x128x128_2_0_0]; rfl
  · rw [← slab_ld 1 inb_S8x128x128_S1x128x128_1_0_0]; rfl
  · rw [← slab_ld 0 inb_S8x128x128_S1x128x128_0_0_0]; rfl

theorem sout_C (hc0 : ¬cond0_0 i) (hc1 : cond0_1 i) (xs0 : Vec F S8x128x128 .f32) :
    sout0_C_0 c i arg3 harg3 arg4 harg4 arg5 harg5 arg6 harg6 arg7 harg7 arg8 harg8 arg9 harg9 arg10 harg10 arg11 harg11 arg12 harg12 hc0 hc1 x0 x1 x2 x3 x4 x5 x6 xs0 = SB x1 x2 x4 (fun hh => slab hh xs0) := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 hc0 hc1 x0 x1 x2 x3 x4 x5 x6 xs0)]
  funext y
  refine View.canon_apply_of_pieces (SB x1 x2 x4 (fun hh => slab hh xs0)) _ ?_ y (scover0_C_0 c i arg3 harg3 arg4 harg4 arg5 harg5 arg6 harg6 arg7 harg7 arg8 harg8 arg9 harg9 arg10 harg10 arg11 harg11 arg12 harg12 hc0 hc1 x0 x1 x2 x3 x4 x5 x6 xs0 y)
  unfold kernelRun0_C
  dsimp only
  sl_unfold_words
  simp only [View.readAt_eq_ld, harg3.read_unread, harg4.read_unread, harg5.read_unread, harg6.read_unread, harg7.read_unread, harg8.read_unread, harg9.read_unread, harg12.read_unread, ld256, ld2, ld1]
  simp only [List.forall_mem_cons]
  refine ⟨fun x => (congrFun (?_ : _ = shapeCast S1x128x128 (sHead 7 x1 x2 x4 (slab 7 xs0)) shapeCasts_S128x128_S1x128x128) x).trans (SB_head 7 x1 x2 x4 (fun hh => slab hh xs0) _ x),
    fun x => (congrFun (?_ : _ = shapeCast S1x128x128 (sHead 6 x1 x2 x4 (slab 6 xs0)) shapeCasts_S128x128_S1x128x128) x).trans (SB_head 6 x1 x2 x4 (fun hh => slab hh xs0) _ x),
    fun x => (congrFun (?_ : _ = shapeCast S1x128x128 (sHead 5 x1 x2 x4 (slab 5 xs0)) shapeCasts_S128x128_S1x128x128) x).trans (SB_head 5 x1 x2 x4 (fun hh => slab hh xs0) _ x),
    fun x => (congrFun (?_ : _ = shapeCast S1x128x128 (sHead 4 x1 x2 x4 (slab 4 xs0)) shapeCasts_S128x128_S1x128x128) x).trans (SB_head 4 x1 x2 x4 (fun hh => slab hh xs0) _ x),
    fun x => (congrFun (?_ : _ = shapeCast S1x128x128 (sHead 3 x1 x2 x4 (slab 3 xs0)) shapeCasts_S128x128_S1x128x128) x).trans (SB_head 3 x1 x2 x4 (fun hh => slab hh xs0) _ x),
    fun x => (congrFun (?_ : _ = shapeCast S1x128x128 (sHead 2 x1 x2 x4 (slab 2 xs0)) shapeCasts_S128x128_S1x128x128) x).trans (SB_head 2 x1 x2 x4 (fun hh => slab hh xs0) _ x),
    fun x => (congrFun (?_ : _ = shapeCast S1x128x128 (sHead 1 x1 x2 x4 (slab 1 xs0)) shapeCasts_S128x128_S1x128x128) x).trans (SB_head 1 x1 x2 x4 (fun hh => slab hh xs0) _ x),
    fun x => (congrFun (?_ : _ = shapeCast S1x128x128 (sHead 0 x1 x2 x4 (slab 0 xs0)) shapeCasts_S128x128_S1x128x128) x).trans (SB_head 0 x1 x2 x4 (fun hh => slab hh xs0) _ x),
    fun _ h => absurd h List.not_mem_nil⟩
  · rw [← slab_ld 7 inb_S8x128x128_S1x128x128_7_0_0]; rfl
  · rw [← slab_ld 6 inb_S8x128x128_S1x128x128_6_0_0]; rfl
  · rw [← slab_ld 5 inb_S8x128x128_S1x128x128_5_0_0]; rfl
  · rw [← slab_ld 4 inb_S8x128x128_S1x128x128_4_0_0]; rfl
  · rw [← slab_ld 3 inb_S8x128x128_S1x128x128_3_0_0]; rfl
  · rw [← slab_ld 2 inb_S8x128x128_S1x128x128_2_0_0]; rfl
  · rw [← slab_ld 1 inb_S8x128x128_S1x128x128_1_0_0]; rfl
  · rw [← slab_ld 0 inb_S8x128x128_S1x128x128_0_0_0]; rfl

theorem out8_C (hc0 : ¬cond0_0 i) (hc1 : cond0_1 i) (xs0 : Vec F S8x128x128 .f32) :
    out0_C_8 c i arg3 harg3 arg4 harg4 arg5 harg5 arg6 harg6 arg7 harg7 arg8 harg8 arg9 harg9 arg10 harg10 arg11 harg11 arg12 harg12 hc0 hc1 x0 x1 x2 x3 x4 x5 x6 xs0 = outT (SB x1 x2 x4 (fun hh => slab hh xs0)) := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 hc0 hc1 x0 x1 x2 x3 x4 x5 x6 xs0)]
  funext y
  refine View.canon_apply_of_pieces (outT (SB x1 x2 x4 (fun hh => slab hh xs0))) _ ?_ y (cover0_C_8 c i arg3 harg3 arg4 harg4 arg5 harg5 arg6 harg6 arg7 harg7 arg8 harg8 arg9 harg9 arg10 harg10 arg11 harg11 arg12 harg12 hc0 hc1 x0 x1 x2 x3 x4 x5 x6 xs0 y)
  unfold kernelRun0_C
  dsimp only
  sl_unfold_words
  simp only [View.readAt_eq_ld, harg3.read_unread, harg4.read_unread, harg5.read_unread, harg6.read_unread, harg7.read_unread, harg8.read_unread, harg9.read_unread, harg12.read_unread, ld256, ld2, ld1]
  simp only [List.forall_mem_cons]
  refine ⟨fun x => (congrFun (?_ : _ = shapeCast S1x1x128x128 (transpose S128x128 [1, 0] (shapeCast S128x128 (arg12.view.readCov (lastL x1 x2 x4 (fun hh => slab hh xs0)) (Rect.unit (s := S8x128x128) ![7, 0, 0] S1x128x128.size inb_S8x128x128_S1x128x128_7_0_0).toLoadRect) shapeCasts_S1x128x128_S128x128) transposes_S128x128_p1_0_S128x128) shapeCasts_S128x128_S1x1x128x128) x).trans (out8_read 7 _ _ arg12.view x1 x2 x4 (fun hh => slab hh xs0) x),
    fun x => (congrFun (?_ : _ = shapeCast S1x1x128x128 (transpose S128x128 [1, 0] (shapeCast S128x128 (arg12.view.readCov (lastL x1 x2 x4 (fun hh => slab hh xs0)) (Rect.unit (s := S8x128x128) ![6, 0, 0] S1x128x128.size inb_S8x128x128_S1x128x128_6_0_0).toLoadRect) shapeCasts_S1x128x128_S128x128) transposes_S128x128_p1_0_S128x128) shapeCasts_S128x128_S1x1x128x128) x).trans (out8_read 6 _ _ arg12.view x1 x2 x4 (fun hh => slab hh xs0) x),
    fun x => (congrFun (?_ : _ = shapeCast S1x1x128x128 (transpose S128x128 [1, 0] (shapeCast S128x128 (arg12.view.readCov (lastL x1 x2 x4 (fun hh => slab hh xs0)) (Rect.unit (s := S8x128x128) ![5, 0, 0] S1x128x128.size inb_S8x128x128_S1x128x128_5_0_0).toLoadRect) shapeCasts_S1x128x128_S128x128) transposes_S128x128_p1_0_S128x128) shapeCasts_S128x128_S1x1x128x128) x).trans (out8_read 5 _ _ arg12.view x1 x2 x4 (fun hh => slab hh xs0) x),
    fun x => (congrFun (?_ : _ = shapeCast S1x1x128x128 (transpose S128x128 [1, 0] (shapeCast S128x128 (arg12.view.readCov (lastL x1 x2 x4 (fun hh => slab hh xs0)) (Rect.unit (s := S8x128x128) ![4, 0, 0] S1x128x128.size inb_S8x128x128_S1x128x128_4_0_0).toLoadRect) shapeCasts_S1x128x128_S128x128) transposes_S128x128_p1_0_S128x128) shapeCasts_S128x128_S1x1x128x128) x).trans (out8_read 4 _ _ arg12.view x1 x2 x4 (fun hh => slab hh xs0) x),
    fun x => (congrFun (?_ : _ = shapeCast S1x1x128x128 (transpose S128x128 [1, 0] (shapeCast S128x128 (arg12.view.readCov (lastL x1 x2 x4 (fun hh => slab hh xs0)) (Rect.unit (s := S8x128x128) ![3, 0, 0] S1x128x128.size inb_S8x128x128_S1x128x128_3_0_0).toLoadRect) shapeCasts_S1x128x128_S128x128) transposes_S128x128_p1_0_S128x128) shapeCasts_S128x128_S1x1x128x128) x).trans (out8_read 3 _ _ arg12.view x1 x2 x4 (fun hh => slab hh xs0) x),
    fun x => (congrFun (?_ : _ = shapeCast S1x1x128x128 (transpose S128x128 [1, 0] (shapeCast S128x128 (arg12.view.readCov (lastL x1 x2 x4 (fun hh => slab hh xs0)) (Rect.unit (s := S8x128x128) ![2, 0, 0] S1x128x128.size inb_S8x128x128_S1x128x128_2_0_0).toLoadRect) shapeCasts_S1x128x128_S128x128) transposes_S128x128_p1_0_S128x128) shapeCasts_S128x128_S1x1x128x128) x).trans (out8_read 2 _ _ arg12.view x1 x2 x4 (fun hh => slab hh xs0) x),
    fun x => (congrFun (?_ : _ = shapeCast S1x1x128x128 (transpose S128x128 [1, 0] (shapeCast S128x128 (arg12.view.readCov (lastL x1 x2 x4 (fun hh => slab hh xs0)) (Rect.unit (s := S8x128x128) ![1, 0, 0] S1x128x128.size inb_S8x128x128_S1x128x128_1_0_0).toLoadRect) shapeCasts_S1x128x128_S128x128) transposes_S128x128_p1_0_S128x128) shapeCasts_S128x128_S1x1x128x128) x).trans (out8_read 1 _ _ arg12.view x1 x2 x4 (fun hh => slab hh xs0) x),
    fun x => (congrFun (?_ : _ = shapeCast S1x1x128x128 (transpose S128x128 [1, 0] (shapeCast S128x128 (arg12.view.readCov (lastL x1 x2 x4 (fun hh => slab hh xs0)) (Rect.unit (s := S8x128x128) ![0, 0, 0] S1x128x128.size inb_S8x128x128_S1x128x128_0_0_0).toLoadRect) shapeCasts_S1x128x128_S128x128) transposes_S128x128_p1_0_S128x128) shapeCasts_S128x128_S1x1x128x128) x).trans (out8_read 0 _ _ arg12.view x1 x2 x4 (fun hh => slab hh xs0) x),
    fun _ h => absurd h List.not_mem_nil⟩
  · simp only [lastL, ← slab_ld 0 inb_S8x128x128_S1x128x128_0_0_0, ← slab_ld 1 inb_S8x128x128_S1x128x128_1_0_0, ← slab_ld 2 inb_S8x128x128_S1x128x128_2_0_0, ← slab_ld 3 inb_S8x128x128_S1x128x128_3_0_0, ← slab_ld 4 inb_S8x128x128_S1x128x128_4_0_0, ← slab_ld 5 inb_S8x128x128_S1x128x128_5_0_0, ← slab_ld 6 inb_S8x128x128_S1x128x128_6_0_0, ← slab_ld 7 inb_S8x128x128_S1x128x128_7_0_0]; rfl
  · simp only [lastL, ← slab_ld 0 inb_S8x128x128_S1x128x128_0_0_0, ← slab_ld 1 inb_S8x128x128_S1x128x128_1_0_0, ← slab_ld 2 inb_S8x128x128_S1x128x128_2_0_0, ← slab_ld 3 inb_S8x128x128_S1x128x128_3_0_0, ← slab_ld 4 inb_S8x128x128_S1x128x128_4_0_0, ← slab_ld 5 inb_S8x128x128_S1x128x128_5_0_0, ← slab_ld 6 inb_S8x128x128_S1x128x128_6_0_0, ← slab_ld 7 inb_S8x128x128_S1x128x128_7_0_0]; rfl
  · simp only [lastL, ← slab_ld 0 inb_S8x128x128_S1x128x128_0_0_0, ← slab_ld 1 inb_S8x128x128_S1x128x128_1_0_0, ← slab_ld 2 inb_S8x128x128_S1x128x128_2_0_0, ← slab_ld 3 inb_S8x128x128_S1x128x128_3_0_0, ← slab_ld 4 inb_S8x128x128_S1x128x128_4_0_0, ← slab_ld 5 inb_S8x128x128_S1x128x128_5_0_0, ← slab_ld 6 inb_S8x128x128_S1x128x128_6_0_0, ← slab_ld 7 inb_S8x128x128_S1x128x128_7_0_0]; rfl
  · simp only [lastL, ← slab_ld 0 inb_S8x128x128_S1x128x128_0_0_0, ← slab_ld 1 inb_S8x128x128_S1x128x128_1_0_0, ← slab_ld 2 inb_S8x128x128_S1x128x128_2_0_0, ← slab_ld 3 inb_S8x128x128_S1x128x128_3_0_0, ← slab_ld 4 inb_S8x128x128_S1x128x128_4_0_0, ← slab_ld 5 inb_S8x128x128_S1x128x128_5_0_0, ← slab_ld 6 inb_S8x128x128_S1x128x128_6_0_0, ← slab_ld 7 inb_S8x128x128_S1x128x128_7_0_0]; rfl
  · simp only [lastL, ← slab_ld 0 inb_S8x128x128_S1x128x128_0_0_0, ← slab_ld 1 inb_S8x128x128_S1x128x128_1_0_0, ← slab_ld 2 inb_S8x128x128_S1x128x128_2_0_0, ← slab_ld 3 inb_S8x128x128_S1x128x128_3_0_0, ← slab_ld 4 inb_S8x128x128_S1x128x128_4_0_0, ← slab_ld 5 inb_S8x128x128_S1x128x128_5_0_0, ← slab_ld 6 inb_S8x128x128_S1x128x128_6_0_0, ← slab_ld 7 inb_S8x128x128_S1x128x128_7_0_0]; rfl
  · simp only [lastL, ← slab_ld 0 inb_S8x128x128_S1x128x128_0_0_0, ← slab_ld 1 inb_S8x128x128_S1x128x128_1_0_0, ← slab_ld 2 inb_S8x128x128_S1x128x128_2_0_0, ← slab_ld 3 inb_S8x128x128_S1x128x128_3_0_0, ← slab_ld 4 inb_S8x128x128_S1x128x128_4_0_0, ← slab_ld 5 inb_S8x128x128_S1x128x128_5_0_0, ← slab_ld 6 inb_S8x128x128_S1x128x128_6_0_0, ← slab_ld 7 inb_S8x128x128_S1x128x128_7_0_0]; rfl
  · simp only [lastL, ← slab_ld 0 inb_S8x128x128_S1x128x128_0_0_0, ← slab_ld 1 inb_S8x128x128_S1x128x128_1_0_0, ← slab_ld 2 inb_S8x128x128_S1x128x128_2_0_0, ← slab_ld 3 inb_S8x128x128_S1x128x128_3_0_0, ← slab_ld 4 inb_S8x128x128_S1x128x128_4_0_0, ← slab_ld 5 inb_S8x128x128_S1x128x128_5_0_0, ← slab_ld 6 inb_S8x128x128_S1x128x128_6_0_0, ← slab_ld 7 inb_S8x128x128_S1x128x128_7_0_0]; rfl
  · simp only [lastL, ← slab_ld 0 inb_S8x128x128_S1x128x128_0_0_0, ← slab_ld 1 inb_S8x128x128_S1x128x128_1_0_0, ← slab_ld 2 inb_S8x128x128_S1x128x128_2_0_0, ← slab_ld 3 inb_S8x128x128_S1x128x128_3_0_0, ← slab_ld 4 inb_S8x128x128_S1x128x128_4_0_0, ← slab_ld 5 inb_S8x128x128_S1x128x128_5_0_0, ← slab_ld 6 inb_S8x128x128_S1x128x128_6_0_0, ← slab_ld 7 inb_S8x128x128_S1x128x128_7_0_0]; rfl

theorem out7_B (hc0 : ¬cond0_0 i) (hc1 : ¬cond0_1 i) (xs0 : Vec F S8x128x128 .f32) :
    out0_B_7 c i arg3 harg3 arg4 harg4 arg5 harg5 arg6 harg6 arg7 harg7 arg8 harg8 arg9 harg9 arg10 harg10 arg11 harg11 arg12 harg12 hc0 hc1 x0 x1 x2 x3 x4 x5 x6 xs0 = OB x0 x1 x2 x3 x4 x5 (fun hh => slab hh xs0) := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc0 hc1 x0 x1 x2 x3 x4 x5 x6 xs0)]
  funext y
  refine View.canon_apply_of_pieces (OB x0 x1 x2 x3 x4 x5 (fun hh => slab hh xs0)) _ ?_ y (cover0_B_7 c i arg3 harg3 arg4 harg4 arg5 harg5 arg6 harg6 arg7 harg7 arg8 harg8 arg9 harg9 arg10 harg10 arg11 harg11 arg12 harg12 hc0 hc1 x0 x1 x2 x3 x4 x5 x6 xs0 y)
  unfold kernelRun0_B
  dsimp only
  sl_unfold_words
  simp only [View.readAt_eq_ld, harg3.read_unread, harg4.read_unread, harg5.read_unread, harg6.read_unread, harg7.read_unread, harg8.read_unread, harg9.read_unread, harg12.read_unread, ld256, ld2, ld1]
  simp only [List.forall_mem_cons]
  refine ⟨fun x => (congrFun (?_ : _ = oHead 7 x0 x1 x2 x3 x4 x5 (slab 7 xs0)) x).trans (OB_head 7 x0 x1 x2 x3 x4 x5 (fun hh => slab hh xs0) _ x),
    fun x => (congrFun (?_ : _ = oHead 6 x0 x1 x2 x3 x4 x5 (slab 6 xs0)) x).trans (OB_head 6 x0 x1 x2 x3 x4 x5 (fun hh => slab hh xs0) _ x),
    fun x => (congrFun (?_ : _ = oHead 5 x0 x1 x2 x3 x4 x5 (slab 5 xs0)) x).trans (OB_head 5 x0 x1 x2 x3 x4 x5 (fun hh => slab hh xs0) _ x),
    fun x => (congrFun (?_ : _ = oHead 4 x0 x1 x2 x3 x4 x5 (slab 4 xs0)) x).trans (OB_head 4 x0 x1 x2 x3 x4 x5 (fun hh => slab hh xs0) _ x),
    fun x => (congrFun (?_ : _ = oHead 3 x0 x1 x2 x3 x4 x5 (slab 3 xs0)) x).trans (OB_head 3 x0 x1 x2 x3 x4 x5 (fun hh => slab hh xs0) _ x),
    fun x => (congrFun (?_ : _ = oHead 2 x0 x1 x2 x3 x4 x5 (slab 2 xs0)) x).trans (OB_head 2 x0 x1 x2 x3 x4 x5 (fun hh => slab hh xs0) _ x),
    fun x => (congrFun (?_ : _ = oHead 1 x0 x1 x2 x3 x4 x5 (slab 1 xs0)) x).trans (OB_head 1 x0 x1 x2 x3 x4 x5 (fun hh => slab hh xs0) _ x),
    fun x => (congrFun (?_ : _ = oHead 0 x0 x1 x2 x3 x4 x5 (slab 0 xs0)) x).trans (OB_head 0 x0 x1 x2 x3 x4 x5 (fun hh => slab hh xs0) _ x),
    fun _ h => absurd h List.not_mem_nil⟩
  · rw [← slab_ld 7 inb_S8x128x128_S1x128x128_7_0_0]; rfl
  · rw [← slab_ld 6 inb_S8x128x128_S1x128x128_6_0_0]; rfl
  · rw [← slab_ld 5 inb_S8x128x128_S1x128x128_5_0_0]; rfl
  · rw [← slab_ld 4 inb_S8x128x128_S1x128x128_4_0_0]; rfl
  · rw [← slab_ld 3 inb_S8x128x128_S1x128x128_3_0_0]; rfl
  · rw [← slab_ld 2 inb_S8x128x128_S1x128x128_2_0_0]; rfl
  · rw [← slab_ld 1 inb_S8x128x128_S1x128x128_1_0_0]; rfl
  · rw [← slab_ld 0 inb_S8x128x128_S1x128x128_0_0_0]; rfl

theorem sout_B (hc0 : ¬cond0_0 i) (hc1 : ¬cond0_1 i) (xs0 : Vec F S8x128x128 .f32) :
    sout0_B_0 c i arg3 harg3 arg4 harg4 arg5 harg5 arg6 harg6 arg7 harg7 arg8 harg8 arg9 harg9 arg10 harg10 arg11 harg11 arg12 harg12 hc0 hc1 x0 x1 x2 x3 x4 x5 x6 xs0 = SB x1 x2 x4 (fun hh => slab hh xs0) := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 x6 xs0)]
  funext y
  refine View.canon_apply_of_pieces (SB x1 x2 x4 (fun hh => slab hh xs0)) _ ?_ y (scover0_B_0 c i arg3 harg3 arg4 harg4 arg5 harg5 arg6 harg6 arg7 harg7 arg8 harg8 arg9 harg9 arg10 harg10 arg11 harg11 arg12 harg12 hc0 hc1 x0 x1 x2 x3 x4 x5 x6 xs0 y)
  unfold kernelRun0_B
  dsimp only
  sl_unfold_words
  simp only [View.readAt_eq_ld, harg3.read_unread, harg4.read_unread, harg5.read_unread, harg6.read_unread, harg7.read_unread, harg8.read_unread, harg9.read_unread, harg12.read_unread, ld256, ld2, ld1]
  simp only [List.forall_mem_cons]
  refine ⟨fun x => (congrFun (?_ : _ = shapeCast S1x128x128 (sHead 7 x1 x2 x4 (slab 7 xs0)) shapeCasts_S128x128_S1x128x128) x).trans (SB_head 7 x1 x2 x4 (fun hh => slab hh xs0) _ x),
    fun x => (congrFun (?_ : _ = shapeCast S1x128x128 (sHead 6 x1 x2 x4 (slab 6 xs0)) shapeCasts_S128x128_S1x128x128) x).trans (SB_head 6 x1 x2 x4 (fun hh => slab hh xs0) _ x),
    fun x => (congrFun (?_ : _ = shapeCast S1x128x128 (sHead 5 x1 x2 x4 (slab 5 xs0)) shapeCasts_S128x128_S1x128x128) x).trans (SB_head 5 x1 x2 x4 (fun hh => slab hh xs0) _ x),
    fun x => (congrFun (?_ : _ = shapeCast S1x128x128 (sHead 4 x1 x2 x4 (slab 4 xs0)) shapeCasts_S128x128_S1x128x128) x).trans (SB_head 4 x1 x2 x4 (fun hh => slab hh xs0) _ x),
    fun x => (congrFun (?_ : _ = shapeCast S1x128x128 (sHead 3 x1 x2 x4 (slab 3 xs0)) shapeCasts_S128x128_S1x128x128) x).trans (SB_head 3 x1 x2 x4 (fun hh => slab hh xs0) _ x),
    fun x => (congrFun (?_ : _ = shapeCast S1x128x128 (sHead 2 x1 x2 x4 (slab 2 xs0)) shapeCasts_S128x128_S1x128x128) x).trans (SB_head 2 x1 x2 x4 (fun hh => slab hh xs0) _ x),
    fun x => (congrFun (?_ : _ = shapeCast S1x128x128 (sHead 1 x1 x2 x4 (slab 1 xs0)) shapeCasts_S128x128_S1x128x128) x).trans (SB_head 1 x1 x2 x4 (fun hh => slab hh xs0) _ x),
    fun x => (congrFun (?_ : _ = shapeCast S1x128x128 (sHead 0 x1 x2 x4 (slab 0 xs0)) shapeCasts_S128x128_S1x128x128) x).trans (SB_head 0 x1 x2 x4 (fun hh => slab hh xs0) _ x),
    fun _ h => absurd h List.not_mem_nil⟩
  · rw [← slab_ld 7 inb_S8x128x128_S1x128x128_7_0_0]; rfl
  · rw [← slab_ld 6 inb_S8x128x128_S1x128x128_6_0_0]; rfl
  · rw [← slab_ld 5 inb_S8x128x128_S1x128x128_5_0_0]; rfl
  · rw [← slab_ld 4 inb_S8x128x128_S1x128x128_4_0_0]; rfl
  · rw [← slab_ld 3 inb_S8x128x128_S1x128x128_3_0_0]; rfl
  · rw [← slab_ld 2 inb_S8x128x128_S1x128x128_2_0_0]; rfl
  · rw [← slab_ld 1 inb_S8x128x128_S1x128x128_1_0_0]; rfl
  · rw [← slab_ld 0 inb_S8x128x128_S1x128x128_0_0_0]; rfl

theorem sout_A (hc0 : cond0_0 i) (hc1 : ¬cond0_1 i) :
    sout0_A_0 c i arg3 harg3 arg4 harg4 arg5 harg5 arg6 harg6 arg7 harg7 arg8 harg8 arg9 harg9 arg10 harg10 arg11 harg11 arg12 harg12 hc0 hc1 x0 x1 x2 x3 x4 x5 x6 = SB x1 x2 x4 (fun hh => slab hh (startT x6)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6)]
  funext y
  refine (congrFun (congrArg View.canon (?_ : _ = lastL x1 x2 x4 (fun hh => slab hh (startT x6)) ++ initL x6)) y).trans ?_
  · unfold kernelRun0_A
    dsimp only
    sl_unfold_words
    simp only [View.readAt_eq_ld, harg3.read_unread, harg4.read_unread, harg5.read_unread, harg6.read_unread, harg7.read_unread, harg8.read_unread, harg9.read_unread, harg12.read_unread, ld256, ld2, ld1]
    unfold lastL
    simp only [← start_read 0 inb_S8x128x128_S1x128x128_0_0_0 arg12.view x6, ← start_read 1 inb_S8x128x128_S1x128x128_1_0_0 arg12.view x6, ← start_read 2 inb_S8x128x128_S1x128x128_2_0_0 arg12.view x6, ← start_read 3 inb_S8x128x128_S1x128x128_3_0_0 arg12.view x6, ← start_read 4 inb_S8x128x128_S1x128x128_4_0_0 arg12.view x6, ← start_read 5 inb_S8x128x128_S1x128x128_5_0_0 arg12.view x6, ← start_read 6 inb_S8x128x128_S1x128x128_6_0_0 arg12.view x6, ← start_read 7 inb_S8x128x128_S1x128x128_7_0_0 arg12.view x6]
    rfl
  · refine canon_prefix _ _ _ ?_ y (lastL_cover x1 x2 x4 _ y)
    simp only [lastL, List.forall_mem_cons]
    exact ⟨SB_head 7 x1 x2 x4 (fun hh => slab hh (startT x6)) _, SB_head 6 x1 x2 x4 (fun hh => slab hh (startT x6)) _, SB_head 5 x1 x2 x4 (fun hh => slab hh (startT x6)) _, SB_head 4 x1 x2 x4 (fun hh => slab hh (startT x6)) _, SB_head 3 x1 x2 x4 (fun hh => slab hh (startT x6)) _, SB_head 2 x1 x2 x4 (fun hh => slab hh (startT x6)) _, SB_head 1 x1 x2 x4 (fun hh => slab hh (startT x6)) _, SB_head 0 x1 x2 x4 (fun hh => slab hh (startT x6)) _, fun _ h => absurd h List.not_mem_nil⟩
end Run
end Cert.Hgrn
end
-- ==== Proof.Head.lean ====
/-
  One head of the kernel's block, chunk by chunk: the products the kernel forms, as sums over a chunk's rows.
-/
module
public import proofs.«01_k».proof.Proof.Voc
@[expose] public section
noncomputable section
open Idealize.ShloMosaic Cert.KernelIdeal.Gen Cert.KernelIdeal Idealize.ShloMosaic.Tactic
set_option maxRecDepth 16384
set_option maxHeartbeats 1000000
namespace Cert.Hgrn

/-- A chunk's rows of one head: 32 rows of 128 values. -/
abbrev Rows := Fin 32 → Fin 128 → EReal
/-- A head's state. -/
abbrev St := Fin 128 → Fin 128 → EReal

/-- Sum of the log gates of a chunk up to row `r`. -/
def cumR (f : Rows) (r : Fin 32) (d : Fin 128) : EReal := ∑ s : Fin 32, if s ≤ r then Ideal.log (f s d) else 0
/-- Queries scaled by the decay from the chunk's start. -/
def qeR (q f : Rows) : Rows := fun r d => q r d * Ideal.logistic (q r d) * Ideal.exp (cumR f r d)
/-- Keys scaled back to the chunk's start. -/
def keR (f : Rows) : Rows := fun r d => (1 - f r d) * Ideal.exp (0 - cumR f r d)
/-- Keys scaled to the chunk's end. -/
def kdR (f : Rows) : Rows := fun r d => (1 - f r d) * Ideal.exp (cumR f 31 d - cumR f r d)
/-- A chunk's output: the masked scores times the values, and the part the state gives. -/
def outR (q f v : Rows) (S : St) : Rows := fun r e =>
  (∑ s : Fin 32, if s ≤ r then (∑ d, qeR q f r d * keR f s d) * v s e else 0) + ∑ d, qeR q f r d * S d e
/-- The state after a chunk. -/
def stR (f v : Rows) (S : St) : St := fun d e => S d e * Ideal.exp (cumR f 31 d) + ∑ s, v s e * kdR f s d

/-- Chunk `j` of head `hh` in a block of 256 rows. -/
def rowsOf (x : S256x1024.Idx → EReal) (j hh : Fin 8) : Rows := fun r d =>
  x (ix2 ⟨32 * j.val + r.val, by omega⟩ ⟨128 * hh.val + d.val, by omega⟩)

theorem sumChunk (j : Fin 8) (G : Fin 256 → EReal) (h : ∀ s : Fin 256, s.val / 32 ≠ j.val → G s = 0) :
    ∑ s, G s = ∑ s : Fin 32, G ⟨32 * j.val + s.val, by omega⟩ := by
  refine (Finset.sum_of_injOn (fun s : Fin 32 => (⟨32 * j.val + s.val, by omega⟩ : Fin 256)) ?_ ?_ ?_ ?_).symm
  · intro a _ b _ hab
    have := congrArg Fin.val hab
    exact Fin.ext (by simpa using this)
  · intro a _; exact Finset.mem_coe.mpr (Finset.mem_univ _)
  · intro s _ hs
    refine h s fun e => hs ⟨⟨s.val % 32, Nat.mod_lt _ (by decide)⟩, Finset.mem_coe.mpr (Finset.mem_univ _), Fin.ext ?_⟩
    show 32 * j.val + s.val % 32 = s.val
    omega
  · intro a _; rfl

theorem shr5 : ∀ a : Fin 256, IntOp.shrsi ArithUnit.vector (BitVec.ofNat 32 a.val) 5#32 = BitVec.ofNat 32 (a.val / 32) := by
  decide
theorem cols_apply (hh : Fin 8) (x : S256x1024.Idx → EReal) (r : Fin 256) (d : Fin 128) :
    cols hh x (ix2 r d) = x (ix2 r ⟨128 * hh.val + d.val, by omega⟩) := by
  unfold cols
  pointwise []
theorem pay13_apply (r s : Fin 256) :
    k0_pay13 (ix2 r s) = BitVec.ofBool (decide (r.val / 32 = s.val / 32 ∧ s.val ≤ r.val)) := by
  unfold k0_pay13
  pointwise []
  rw [shr5, shr5, WordCmp.cmpi_eq_ofNat (by omega) (by omega), WordCmp.cmpi_sle_ofNat (by omega) (by omega)]
  by_cases h1 : r.val / 32 = s.val / 32 <;> by_cases h2 : s.val ≤ r.val <;> simp [h1, h2, IntOp.andi]
theorem pay14_apply (r : Fin 128) (s : Fin 256) : k0_pay14 (ix2 r s) = BitVec.ofNat 32 (s.val / 32) := by
  unfold k0_pay14
  pointwise []
  exact shr5 s
theorem sel_ofBool (p : Prop) [Decidable p] (a b : EReal) :
    Scalar.select (BitVec.ofBool (decide p)) a b = if p then a else b := by
  by_cases h : p <;> simp [h, Scalar.select]

theorem stStep_apply (hh j : Fin 8) (TOT : FVec Ideal S256x1024 .f32) (KD : FVec Ideal S256x1024 .bf16)
    (V : FVec Ideal S256x1024 .f32) (ST : FVec Ideal S128x128 .f32) (e d : Fin 128) :
    stStep hh j TOT KD V ST (ix2 e d) = ST (ix2 e d) * Ideal.exp (rowsOf TOT j hh 0 d)
      + ∑ s : Fin 32, rowsOf V j hh s e * rowsOf KD j hh s d := by
  unfold stStep
  pointwise []
  refine congrArg₂ (· + ·) rfl ?_
  rw [sumChunk j]
  · refine Finset.sum_congr rfl fun s _ => ?_
    rw [pay14_apply, WordCmp.cmpi_eq_ofNat (by omega) (by omega), sel_ofBool, if_pos (by show (32 * j.val + s.val) / 32 = j.val; omega),
      cols_apply, cols_apply]
    rfl
  · intro s hs
    rw [pay14_apply, WordCmp.cmpi_eq_ofNat (by omega) (by omega), sel_ofBool, if_neg hs]

theorem inter_apply (hh j : Fin 8) (QE : FVec Ideal S256x1024 .bf16) (ST : FVec Ideal S128x128 .f32)
   (r : Fin 32) (e : Fin 128) : inter hh j QE ST (ix2 r e) = ∑ d, rowsOf QE j hh r d * ST (ix2 e d) := by
  unfold inter
  pointwise []
  rfl
theorem intra_apply (hh j : Fin 8) (QE KE V : FVec Ideal S256x1024 .bf16)
   (r : Fin 32) (e : Fin 128) : intra hh QE KE V (ix2 ⟨32 * j.val + r.val, by omega⟩ e)
    = ∑ s : Fin 32, if s ≤ r then (∑ d, rowsOf QE j hh r d * rowsOf KE j hh s d) * rowsOf V j hh s e else 0 := by
  unfold intra
  pointwise []
  rw [sumChunk j]
  · refine Finset.sum_congr rfl fun s _ => ?_
    rw [pay13_apply, sel_ofBool]
    refine if_congr ?_ ?_ rfl
    · show _ ∧ _ ↔ s.val ≤ r.val
      dsimp only
      omega
    · simp only [cols_apply]; rfl
  · intro s hs
    rw [pay13_apply, sel_ofBool, if_neg]
    rintro ⟨h, _⟩
    apply hs
    dsimp only at h
    omega
theorem pay26_apply (k c : FVec Ideal S256x1024 .f32)
   (r : Fin 256) (e : Fin 1024) : k0_pay26 k c (ix2 r e) = k (ix2 r e) * Ideal.exp (k0_pay22 c (ix2 r e) - c (ix2 r e)) := by
  unfold k0_pay26
  pointwise []
theorem pay24_apply (k c : FVec Ideal S256x1024 .f32)
   (r : Fin 256) (e : Fin 1024) : k0_pay24 k c (ix2 r e) = k (ix2 r e) * Ideal.exp (0 - c (ix2 r e)) := by
  unfold k0_pay24
  pointwise []
theorem pay23_apply (c q : FVec Ideal S256x1024 .f32)
   (r : Fin 256) (e : Fin 1024) : k0_pay23 c q (ix2 r e)
    = q (ix2 r e) * Ideal.logistic (q (ix2 r e)) * Ideal.exp (c (ix2 r e)) := by
  unfold k0_pay23
  pointwise []
theorem pay22_apply (c : FVec Ideal S256x1024 .f32) (j : Fin 8) (r : Fin 32) (e : Fin 1024) :
    k0_pay22 c (ix2 ⟨32 * j.val + r.val, by omega⟩ e) = c (ix2 ⟨32 * j.val + 31, by omega⟩ e) := by
  unfold k0_pay22
  fin_cases j
  all_goals pointwise []
  all_goals
    repeat first | rw [dif_pos (by omega)] | rw [dif_neg (by omega)]
theorem pay21_apply (lb : Vec Ideal S2x1024 .f32) (f : Vec Ideal S256x1024 .f32) (j hh : Fin 8)
   (r : Fin 32) (d : Fin 128) : rowsOf (k0_pay21 lb f) j hh r d = cumR (rowsOf (k0_pay19 lb f) j hh) r d := by
  unfold rowsOf k0_pay21
  pointwise []
  rw [sumChunk j]
  · refine Finset.sum_congr rfl fun s _ => ?_
    rw [pay13_apply, sel_ofBool]
    refine if_congr ?_ rfl rfl
    show _ ∧ _ ↔ s.val ≤ r.val
    dsimp only
    omega
  · intro s hs
    rw [pay13_apply, sel_ofBool, if_neg]
    rintro ⟨h, _⟩
    apply hs
    dsimp only at h
    omega
theorem pay20_apply (lb : Vec Ideal S2x1024 .f32) (f : Vec Ideal S256x1024 .f32)
   (r : Fin 256) (e : Fin 1024) : k0_pay20 lb f (ix2 r e) = 1 - k0_pay19 lb f (ix2 r e) := by
  unfold k0_pay20
  pointwise []
/-- Row 0 of the softmax over the two rows of the bound's parameter. -/
def lowR (lb : S2x1024.Idx → EReal) (e : Fin 1024) : EReal :=
  Ideal.div (Ideal.exp (lb (ix2 0 e) - Finset.fold max (Ideal.ofBits .f32 0xFF800000#32) (fun x => lb (ix2 x e)) Finset.univ))
    (∑ x, Ideal.exp (lb (ix2 x e) - Finset.fold max (Ideal.ofBits .f32 0xFF800000#32) (fun x => lb (ix2 x e)) Finset.univ))
/-- The forget gate, bounded below by `L`. -/
def gateR (L x : EReal) : EReal := L + (1 - L) * Ideal.logistic x
/-- A head's row normalized by its root mean square, scaled and gated. -/
def normR (o : Fin 128 → EReal) (gn g : EReal) (e : Fin 128) : EReal :=
  o e * Ideal.rsqrt (Ideal.div (∑ x, o x * o x) (Ideal.ofBits .f32 0x43000000#32) + Ideal.ofBits .f32 0x358637BD#32)
    * gn * (g * Ideal.logistic g)

theorem pay19_apply (lb : Vec Ideal S2x1024 .f32) (f : Vec Ideal S256x1024 .f32)
    (r : Fin 256) (e : Fin 1024) : k0_pay19 lb f (ix2 r e) = gateR (lowR lb e) (f (ix2 r e)) := by
  unfold k0_pay19 gateR lowR
  pointwise []
theorem normGate_apply (hh : Fin 8) (o : FVec Ideal S256x128 .f32) (gn : Vec Ideal S1x128 .f32)
    (g : Vec Ideal S256x1024 .f32) (r : Fin 256) (e : Fin 128) : normGate hh o gn g (ix2 r e)
      = normR (fun x => o (ix2 r x)) (gn (ix2 0 e)) (g (ix2 r ⟨128 * hh.val + e.val, by omega⟩)) e := by
  unfold normGate k0_pay222 normR
  pointwise [cols_apply]
theorem raw_apply (hh j : Fin 8) (QE KE : FVec Ideal S256x1024 .bf16) (TOT : FVec Ideal S256x1024 .f32) (KD : FVec Ideal S256x1024 .bf16)
    (V : FVec Ideal S256x1024 .f32) (ST : FVec Ideal S128x128 .f32)
   (r : Fin 32) (e : Fin 128) : raw hh QE KE TOT KD V ST (ix2 ⟨32 * j.val + r.val, by omega⟩ e) =
    intra hh QE KE (k0_pay25 V) (ix2 ⟨32 * j.val + r.val, by omega⟩ e) + inter hh j QE (stAt hh TOT KD V ST j.val) (ix2 r e) := by
  unfold raw
  fin_cases j
  all_goals pointwise []
  all_goals
    refine congrArg₂ (· + ·) rfl ?_
    repeat first | rw [dif_pos (by omega)] | rw [dif_neg (by omega)]
    refine congrArg (fun i => inter hh _ QE _ (ix2 i e)) (Fin.ext ?_)
    dsimp only
    omega

/-- The gates of chunk `j` of head `hh` in a block. -/
def gateRows (lb : S2x1024.Idx → EReal) (f : S256x1024.Idx → EReal) (j hh : Fin 8) : Rows := fun r d =>
  gateR (lowR lb ⟨128 * hh.val + d.val, by omega⟩) (rowsOf f j hh r d)
theorem rows_pay19 (lb : Vec Ideal S2x1024 .f32) (f : Vec Ideal S256x1024 .f32) (j hh : Fin 8) :
    rowsOf (k0_pay19 lb f) j hh = gateRows lb f j hh := by
  funext r d
  exact pay19_apply lb f _ _
theorem rows_qe (q : Vec Ideal S256x1024 .f32) (lb : Vec Ideal S2x1024 .f32) (f : Vec Ideal S256x1024 .f32) (j hh : Fin 8) :
    rowsOf (k0_pay23 (k0_pay21 lb f) q) j hh = qeR (rowsOf q j hh) (gateRows lb f j hh) := by
  funext r d
  rw [← rows_pay19]
  unfold qeR
  rw [← pay21_apply]
  exact pay23_apply _ _ _ _
theorem rows_ke (lb : Vec Ideal S2x1024 .f32) (f : Vec Ideal S256x1024 .f32) (j hh : Fin 8) :
    rowsOf (k0_pay24 (k0_pay20 lb f) (k0_pay21 lb f)) j hh = keR (gateRows lb f j hh) := by
  funext r d
  rw [← rows_pay19]
  unfold keR
  rw [← pay21_apply]
  exact (pay24_apply _ _ _ _).trans (by rw [pay20_apply]; rfl)
theorem rows_tot (lb : Vec Ideal S2x1024 .f32) (f : Vec Ideal S256x1024 .f32) (j hh : Fin 8) (r : Fin 32) (d : Fin 128) :
    rowsOf (k0_pay22 (k0_pay21 lb f)) j hh r d = cumR (gateRows lb f j hh) 31 d := by
  rw [← rows_pay19, ← pay21_apply]
  exact pay22_apply _ _ _ _
theorem rows_kd (lb : Vec Ideal S2x1024 .f32) (f : Vec Ideal S256x1024 .f32) (j hh : Fin 8) :
    rowsOf (k0_pay26 (k0_pay20 lb f) (k0_pay21 lb f)) j hh = kdR (gateRows lb f j hh) := by
  funext r d
  refine (pay26_apply _ _ _ _).trans ?_
  rw [pay20_apply]
  have e := rows_tot lb f j hh r d
  have e2 := pay21_apply lb f j hh r d
  rw [rows_pay19] at e2
  have e3 := congrFun (congrFun (rows_pay19 lb f j hh) r) d
  unfold rowsOf at e e2 e3
  rw [e, e2, e3]
  rfl

/-- The transposed state of a head is the state. -/
def Turned (ST : FVec Ideal S128x128 .f32) (S : St) : Prop := ∀ e d, ST (ix2 e d) = S d e

/-- The state of a block's head after `n` of its chunks. -/
def stR_at (lb : S2x1024.Idx → EReal) (f v : S256x1024.Idx → EReal) (hh : Fin 8) (S : St) : ℕ → St
  | 0 => S
  | n + 1 => stR (gateRows lb f (Fin.ofNat 8 n) hh) (rowsOf v (Fin.ofNat 8 n) hh) (stR_at lb f v hh S n)

theorem stAt_turned (hh : Fin 8) (f v : Vec Ideal S256x1024 .f32) (lb : Vec Ideal S2x1024 .f32)
    (ST : FVec Ideal S128x128 .f32) (S : St) (h : Turned ST S) (n : ℕ) :
    Turned (stAt hh (k0_pay22 (k0_pay21 lb f)) (k0_pay26 (k0_pay20 lb f) (k0_pay21 lb f)) v ST n)
      (stR_at lb f v hh S n) := by
  induction n with
  | zero => exact h
  | succ n ih =>
    intro e d
    unfold stAt
    rw [stStep_apply, ih e d, rows_tot, rows_kd]
    rfl

theorem oHead_apply (hh j : Fin 8) (q f v g : Vec Ideal S256x1024 .f32) (lb : Vec Ideal S2x1024 .f32)
    (gn : Vec Ideal S1x128 .f32) (ST : FVec Ideal S128x128 .f32) (S : St) (h : Turned ST S) (r : Fin 32) (e : Fin 128) :
    oHead hh q f v g lb gn ST (ix2 ⟨32 * j.val + r.val, by omega⟩ e)
      = normR (outR (rowsOf q j hh) (gateRows lb f j hh) (rowsOf v j hh) (stR_at lb f v hh S j.val) r)
          (gn (ix2 0 e)) (rowsOf g j hh r e) e := by
  unfold oHead
  rw [normGate_apply]
  refine congrArg (fun o => normR o _ _ e) (funext fun x => ?_)
  rw [raw_apply, intra_apply, inter_apply, rows_qe, rows_ke]
  unfold outR
  refine congrArg₂ (· + ·) rfl (Finset.sum_congr rfl fun d _ => ?_)
  rw [stAt_turned hh f v lb ST S h j.val x d]

theorem sHead_turned (hh : Fin 8) (f v : Vec Ideal S256x1024 .f32) (lb : Vec Ideal S2x1024 .f32)
    (ST : FVec Ideal S128x128 .f32) (S : St) (h : Turned ST S) :
    Turned (sHead hh f v lb ST) (stR_at lb f v hh S 8) := stAt_turned hh f v lb ST S h 8
end Cert.Hgrn
end
-- ==== Proof.Spec.lean ====
/-
  The recurrence entry by entry, as functions of the projected activations, the lower-bound table and the norm's weights.
-/
module
public import proofs.«01_k».proof.Proof.Head
public import Idealize.ShloMosaic.Lib.Pointwise
@[expose] public section
noncomputable section
open Idealize.ShloMosaic Cert.KernelIdeal Idealize.ShloMosaic.Tactic
set_option maxRecDepth 16384
namespace Cert.Hgrn

/-- Window `w` of the projected activations: chunk `n` of sequence `b`, head `hh`. -/
def zRows (z : S65536x8192.Idx → EReal) (w : Fin 4) (b : Fin 16) (n : Fin 128) (hh : Fin 8) : Rows := fun r d =>
  z (ix2 ⟨4096 * b.val + 32 * n.val + r.val, by omega⟩ ⟨1024 * w.val + 128 * hh.val + d.val, by omega⟩)
/-- The gates of a chunk. -/
def fRows (z : S65536x8192.Idx → EReal) (lb : S2x1024.Idx → EReal) (b : Fin 16) (n : Fin 128) (hh : Fin 8) : Rows :=
  fun r d => gateR (lowR lb ⟨128 * hh.val + d.val, by omega⟩) (zRows z 1 b n hh r d)
/-- The state after `n` chunks. -/
def SS (z : S65536x8192.Idx → EReal) (lb : S2x1024.Idx → EReal) (b : Fin 16) (hh : Fin 8) : ℕ → St
  | 0 => fun _ _ => 0
  | n + 1 => stR (fRows z lb b (Fin.ofNat 128 n) hh) (zRows z 2 b (Fin.ofNat 128 n) hh) (SS z lb b hh n)
/-- The output row, before its norm. -/
def rawRow (z : S65536x8192.Idx → EReal) (lb : S2x1024.Idx → EReal) (b : Fin 16) (n : Fin 128) (hh : Fin 8) : Rows :=
  outR (zRows z 0 b n hh) (fRows z lb b n hh) (zRows z 2 b n hh) (SS z lb b hh n.val)
/-- The output row. -/
def outRow (z : S65536x8192.Idx → EReal) (lb : S2x1024.Idx → EReal) (gn : S1x128.Idx → EReal)
    (b : Fin 16) (n : Fin 128) (hh : Fin 8) : Rows := fun r e =>
  normR (rawRow z lb b n hh r) (gn (ix2 0 e)) (zRows z 3 b n hh r e) e

/-- The place of an output row's entry: chunk `n` of sequence `b`, head `hh`. -/
def place (b : Fin 16) (n : Fin 128) (hh : Fin 8) (r : Fin 32) (e : Fin 128) : S65536x1024.Idx :=
  ix2 ⟨4096 * b.val + 32 * n.val + r.val, by omega⟩ ⟨128 * hh.val + e.val, by omega⟩
/-- Every entry has such a place. -/
theorem place_all (i : S65536x1024.Idx) : ∃ b n hh r e, i = place b n hh r e := by
  idx_vars i
  refine ⟨⟨i0.val / 4096, by omega⟩, ⟨i0.val % 4096 / 32, by omega⟩, ⟨i1.val / 128, by omega⟩, ⟨i0.val % 32, by omega⟩,
    ⟨i1.val % 128, by omega⟩, ?_⟩
  refine congrArg₂ ix2 (Fin.ext ?_) (Fin.ext ?_)
  · show i0.val = 4096 * (i0.val / 4096) + 32 * (i0.val % 4096 / 32) + i0.val % 32; omega
  · show i1.val = 128 * (i1.val / 128) + i1.val % 128; omega

end Cert.Hgrn
end
-- ==== Proof.Points.lean ====
/-
  What the kernel's grid leaves in its two result arrays: block by block along a sequence, then entry by entry.
-/
module
public import proofs.«01_k».proof.Proof.Block
public import proofs.«01_k».proof.Proof.Spec
public import Idealize.ShloMosaic.Lib.Pipeline.ValueKit
public import proofs.«01_k».proof.Proof.Gen.KernelIdeal.Value
@[expose] public section
noncomputable section
open Idealize.ShloMosaic Idealize.ShloMosaic.TcCoe Idealize.SL.Sem Cert.KernelIdeal.Gen Cert.KernelIdeal Idealize.ShloMosaic.Tactic
set_option maxRecDepth 16384
set_option maxHeartbeats 1000000
namespace Cert.Hgrn

variable (m : (ℓ : Loc nD τ sig) → Buf (Elt Ideal) ℓ)

theorem idx : ∀ t : Fin cfg0.N, win0_0.index t = ![t.val, 0] ∧ win0_1.index t = ![t.val, 1] ∧ win0_2.index t = ![t.val, 2]
    ∧ win0_3.index t = ![t.val, 3] ∧ win0_4.index t = ![0, 0] ∧ win0_5.index t = ![0, 0] ∧ win0_6.index t = ![t.val / 16, 0, 0, 0] := by
  decide +kernel
theorem hN (t : Fin cfg0.N) : t.val < 256 := lt_of_lt_of_eq t.isLt N_0

theorem blk0 (c : Dev nD) (t : Fin cfg0.N) (r : Fin 256) (d : Fin 1024) :
    iblk m c 0 t (ix2 r d) = m ((c : Thread nD τ).loc main_arg0)
      (ix2 ⟨256 * t.val + r.val, by have := hN t; omega⟩ ⟨d.val, by omega⟩) := by
  blk_ext [iblk, V, idx t]
theorem blk1 (c : Dev nD) (t : Fin cfg0.N) (r : Fin 256) (d : Fin 1024) :
    iblk m c 1 t (ix2 r d) = m ((c : Thread nD τ).loc main_arg0)
      (ix2 ⟨256 * t.val + r.val, by have := hN t; omega⟩ ⟨1024 + d.val, by omega⟩) := by
  blk_ext [iblk, V, idx t]
theorem blk2 (c : Dev nD) (t : Fin cfg0.N) (r : Fin 256) (d : Fin 1024) :
    iblk m c 2 t (ix2 r d) = m ((c : Thread nD τ).loc main_arg0)
      (ix2 ⟨256 * t.val + r.val, by have := hN t; omega⟩ ⟨2048 + d.val, by omega⟩) := by
  blk_ext [iblk, V, idx t]
theorem blk3 (c : Dev nD) (t : Fin cfg0.N) (r : Fin 256) (d : Fin 1024) :
    iblk m c 3 t (ix2 r d) = m ((c : Thread nD τ).loc main_arg0)
      (ix2 ⟨256 * t.val + r.val, by have := hN t; omega⟩ ⟨3072 + d.val, by omega⟩) := by
  blk_ext [iblk, V, idx t]
theorem blk4 (c : Dev nD) (t : Fin cfg0.N) : iblk m c 4 t = m ((c : Thread nD τ).loc main_arg1) := by
  blk_ext! [iblk, V, idx t]
theorem blk5 (c : Dev nD) (t : Fin cfg0.N) : iblk m c 5 t = m ((c : Thread nD τ).loc main_arg2) := by
  blk_ext! [iblk, V, idx t]
theorem blk6 (c : Dev nD) (t : Fin cfg0.N) (a : Fin 1) (b : Fin 8) (r : Fin 128) (d : Fin 128) :
    iblk m c 6 t (ix4 a b r d) = (0 : EReal) := by
  unfold iblk
  entry_read
  blk_simp []
  exact Ideal.ofBits_zero_f32

/-- The projected activations a device starts from. -/
def zOf (c : Dev nD) : S65536x8192.Idx → EReal := m ((c : Thread nD τ).loc main_arg0)
/-- The lower-bound table a device starts from. -/
def lbOf (c : Dev nD) : S2x1024.Idx → EReal := m ((c : Thread nD τ).loc main_arg1)
/-- The norm's weights a device starts from. -/
def gnOf (c : Dev nD) : S1x128.Idx → EReal := m ((c : Thread nD τ).loc main_arg2)

/-- The grid point of sequence `b`'s block `u`. -/
def point (b u : Fin 16) : Fin cfg0.N := ⟨16 * b.val + u.val, lt_of_lt_of_eq (b := 256) (by omega) N_0.symm⟩
/-- Chunk `j` of block `u`. -/
def chunkOf (u : Fin 16) (j : Fin 8) : Fin 128 := ⟨8 * u.val + j.val, by omega⟩

theorem rows0 (c : Dev nD) (b u : Fin 16) (j hh : Fin 8) :
    rowsOf (iblk m c 0 (point b u)) j hh = zRows (zOf m c) 0 b (chunkOf u j) hh := by
  funext r d
  refine (blk0 m c (point b u) _ _).trans (congrArg (zOf m c) (congrArg₂ ix2 (Fin.ext ?_) (Fin.ext ?_)))
  · show 256 * (16 * b.val + u.val) + (32 * j.val + r.val) = 4096 * b.val + 32 * (8 * u.val + j.val) + r.val; omega
  · show 128 * hh.val + d.val = 1024 * 0 + 128 * hh.val + d.val; omega
theorem rows1 (c : Dev nD) (b u : Fin 16) (j hh : Fin 8) :
    rowsOf (iblk m c 1 (point b u)) j hh = zRows (zOf m c) 1 b (chunkOf u j) hh := by
  funext r d
  refine (blk1 m c (point b u) _ _).trans (congrArg (zOf m c) (congrArg₂ ix2 (Fin.ext ?_) (Fin.ext ?_)))
  · show 256 * (16 * b.val + u.val) + (32 * j.val + r.val) = 4096 * b.val + 32 * (8 * u.val + j.val) + r.val; omega
  · show 1024 + (128 * hh.val + d.val) = 1024 * 1 + 128 * hh.val + d.val; omega
theorem rows2 (c : Dev nD) (b u : Fin 16) (j hh : Fin 8) :
    rowsOf (iblk m c 2 (point b u)) j hh = zRows (zOf m c) 2 b (chunkOf u j) hh := by
  funext r d
  refine (blk2 m c (point b u) _ _).trans (congrArg (zOf m c) (congrArg₂ ix2 (Fin.ext ?_) (Fin.ext ?_)))
  · show 256 * (16 * b.val + u.val) + (32 * j.val + r.val) = 4096 * b.val + 32 * (8 * u.val + j.val) + r.val; omega
  · show 2048 + (128 * hh.val + d.val) = 1024 * 2 + 128 * hh.val + d.val; omega
theorem rows3 (c : Dev nD) (b u : Fin 16) (j hh : Fin 8) :
    rowsOf (iblk m c 3 (point b u)) j hh = zRows (zOf m c) 3 b (chunkOf u j) hh := by
  funext r d
  refine (blk3 m c (point b u) _ _).trans (congrArg (zOf m c) (congrArg₂ ix2 (Fin.ext ?_) (Fin.ext ?_)))
  · show 256 * (16 * b.val + u.val) + (32 * j.val + r.val) = 4096 * b.val + 32 * (8 * u.val + j.val) + r.val; omega
  · show 3072 + (128 * hh.val + d.val) = 1024 * 3 + 128 * hh.val + d.val; omega
theorem gates (c : Dev nD) (b u : Fin 16) (j hh : Fin 8) :
    gateRows (iblk m c 4 (point b u)) (iblk m c 1 (point b u)) j hh = fRows (zOf m c) (lbOf m c) b (chunkOf u j) hh := by
  funext r d
  unfold gateRows fRows
  rw [rows1, blk4]
  rfl

/-- A block's states, chunk by chunk, are the sequence's. -/
theorem states (c : Dev nD) (b u : Fin 16) (hh : Fin 8) (n : ℕ) (hn : n ≤ 8) :
    stR_at (iblk m c 4 (point b u)) (iblk m c 1 (point b u)) (iblk m c 2 (point b u)) hh
      (SS (zOf m c) (lbOf m c) b hh (8 * u.val)) n = SS (zOf m c) (lbOf m c) b hh (8 * u.val + n) := by
  induction n with
  | zero => rfl
  | succ n ih =>
    have e : chunkOf u (Fin.ofNat 8 n) = Fin.ofNat 128 (8 * u.val + n) := by
      apply Fin.ext
      show 8 * u.val + n % 8 = (8 * u.val + n) % 128
      omega
    show stR (gateRows _ _ (Fin.ofNat 8 n) hh) (rowsOf _ (Fin.ofNat 8 n) hh) (stR_at _ _ _ hh _ n) = stR _ _ (SS _ _ b hh (8 * u.val + n))
    rw [ih (by omega), gates, rows2, e]
    rfl

/-- What a block's body leaves, from transposed starting states equal to the sequence's. -/
theorem out_eq (c : Dev nD) (b u : Fin 16) (ST : Fin 8 → FVec Ideal S128x128 .f32)
    (h : ∀ hh, Turned (ST hh) (SS (zOf m c) (lbOf m c) b hh (8 * u.val))) (j hh : Fin 8) (r : Fin 32) (e : Fin 128) :
    OB (iblk m c 0 (point b u)) (iblk m c 1 (point b u)) (iblk m c 2 (point b u)) (iblk m c 3 (point b u)) (iblk m c 4 (point b u)) (iblk m c 5 (point b u)) ST
      (ix2 ⟨32 * j.val + r.val, by omega⟩ ⟨128 * hh.val + e.val, by omega⟩)
      = outRow (zOf m c) (lbOf m c) (gnOf m c) b (chunkOf u j) hh r e := by
  have e1 : (⟨(128 * hh.val + e.val) / 128, by omega⟩ : Fin 8) = hh := Fin.ext (by show (128 * hh.val + e.val) / 128 = hh.val; omega)
  have e2 : (⟨(128 * hh.val + e.val) % 128, Nat.mod_lt _ (by decide)⟩ : Fin 128) = e := Fin.ext (by show (128 * hh.val + e.val) % 128 = e.val; omega)
  show oHead (⟨(128 * hh.val + e.val) / 128, _⟩ : Fin 8) _ _ _ _ _ _ (ST ⟨(128 * hh.val + e.val) / 128, _⟩)
    (ix2 (⟨32 * j.val + r.val, _⟩ : Fin 256) (⟨(128 * hh.val + e.val) % 128, _⟩ : Fin 128)) = _
  rw [e1, e2, oHead_apply hh j _ _ _ _ _ _ (ST hh) _ (h hh), rows0, gates, rows2, rows3, states m c b u hh j.val (by omega), blk5]
  rfl
theorem st_eq (c : Dev nD) (b u : Fin 16) (ST : Fin 8 → FVec Ideal S128x128 .f32)
    (h : ∀ hh, Turned (ST hh) (SS (zOf m c) (lbOf m c) b hh (8 * u.val))) (hh : Fin 8) (e d : Fin 128) :
    SB (iblk m c 1 (point b u)) (iblk m c 2 (point b u)) (iblk m c 4 (point b u)) ST (ix3 hh e d)
      = SS (zOf m c) (lbOf m c) b hh (8 * u.val + 8) d e := by
  rw [← states m c b u hh 8 (le_refl 8)]
  exact sHead_turned hh _ _ _ (ST hh) _ (h hh) e d

theorem start_turned (c : Dev nD) (b : Fin 16) (hh : Fin 8) :
    Turned (slab hh (startT (iblk m c 6 (point b 0)))) (SS (zOf m c) (lbOf m c) b hh 0) := fun e d => by
  show startT (iblk m c 6 (point b 0)) (ix3 hh e d) = 0
  exact blk6 m c (point b 0) 0 hh d e

/-- The carried states after block `u` of sequence `b`. -/
theorem carried (c : Dev nD) (b : Fin 16) (n : ℕ) (hn : n < 16) (hh : Fin 8) :
    Turned (slab hh (outsAt0 m c (point b ⟨n, hn⟩).val (point b ⟨n, hn⟩).isLt).2.2) (SS (zOf m c) (lbOf m c) b hh (8 * n + 8)) := by
  induction n generalizing hh with
  | zero =>
    rw [outsAt0_A m c (point b ⟨0, hn⟩) (by show (16 * b.val + 0) % 16 = 0; omega) (by show ¬ (16 * b.val + 0) % 16 = 15; omega)]
    intro e d
    dsimp only
    rw [sout_A]
    exact st_eq m c b ⟨0, hn⟩ _ (start_turned m c b) hh e d
  | succ n ih =>
    intro e d
    have hp : ∀ hh, Turned (slab hh (outsAt0 m c ((point b ⟨n + 1, hn⟩).val - 1)
        (Nat.lt_of_le_of_lt (Nat.sub_le _ _) (point b ⟨n + 1, hn⟩).isLt)).2.2) (SS (zOf m c) (lbOf m c) b hh (8 * (n + 1))) := fun hh =>
      ih (by omega) hh
    by_cases h15 : n + 1 = 15
    · rw [outsAt0_C m c (point b ⟨n + 1, hn⟩) (by show ¬ (16 * b.val + (n + 1)) % 16 = 0; omega) (by show (16 * b.val + (n + 1)) % 16 = 15; omega)]
      dsimp only
      rw [sout_C]
      exact st_eq m c b ⟨n + 1, hn⟩ _ hp hh e d
    · rw [outsAt0_B m c (point b ⟨n + 1, hn⟩) (by show ¬ (16 * b.val + (n + 1)) % 16 = 0; omega) (by show ¬ (16 * b.val + (n + 1)) % 16 = 15; omega)]
      dsimp only
      rw [sout_B]
      exact st_eq m c b ⟨n + 1, hn⟩ _ hp hh e d

/-- The output block of a point. -/
theorem block_out (c : Dev nD) (b u : Fin 16) (j hh : Fin 8) (r : Fin 32) (e : Fin 128) :
    (outsAt0 m c (point b u).val (point b u).isLt).1 (ix2 ⟨32 * j.val + r.val, by omega⟩ ⟨128 * hh.val + e.val, by omega⟩)
      = outRow (zOf m c) (lbOf m c) (gnOf m c) b (chunkOf u j) hh r e := by
  obtain ⟨n, hn⟩ := u
  cases n with
  | zero =>
    rw [outsAt0_A m c (point b ⟨0, hn⟩) (by show (16 * b.val + 0) % 16 = 0; omega) (by show ¬ (16 * b.val + 0) % 16 = 15; omega)]
    dsimp only
    rw [out7_A]
    exact out_eq m c b ⟨0, hn⟩ _ (start_turned m c b) j hh r e
  | succ n =>
    have hp : ∀ hh, Turned (slab hh (outsAt0 m c ((point b ⟨n + 1, hn⟩).val - 1)
        (Nat.lt_of_le_of_lt (Nat.sub_le _ _) (point b ⟨n + 1, hn⟩).isLt)).2.2) (SS (zOf m c) (lbOf m c) b hh (8 * (n + 1))) := fun hh =>
      carried m c b n (by omega) hh
    by_cases h15 : n + 1 = 15
    · rw [outsAt0_C m c (point b ⟨n + 1, hn⟩) (by show ¬ (16 * b.val + (n + 1)) % 16 = 0; omega) (by show (16 * b.val + (n + 1)) % 16 = 15; omega)]
      dsimp only
      rw [out7_C]
      exact out_eq m c b ⟨n + 1, hn⟩ _ hp j hh r e
    · rw [outsAt0_B m c (point b ⟨n + 1, hn⟩) (by show ¬ (16 * b.val + (n + 1)) % 16 = 0; omega) (by show ¬ (16 * b.val + (n + 1)) % 16 = 15; omega)]
      dsimp only
      rw [out7_B]
      exact out_eq m c b ⟨n + 1, hn⟩ _ hp j hh r e

/-- The state written back at a sequence's last block. -/
theorem block_state (c : Dev nD) (b : Fin 16) (hh : Fin 8) (d e : Fin 128) :
    (outsAt0 m c (point b 15).val (point b 15).isLt).2.1 (ix4 0 hh d e) = SS (zOf m c) (lbOf m c) b hh 128 d e := by
  have hp : ∀ hh, Turned (slab hh (outsAt0 m c ((point b 15).val - 1)
      (Nat.lt_of_le_of_lt (Nat.sub_le _ _) (point b 15).isLt)).2.2) (SS (zOf m c) (lbOf m c) b hh (8 * 15)) := fun hh =>
    carried m c b 14 (by omega) hh
  rw [outsAt0_C m c (point b 15) (by show ¬ (16 * b.val + 15) % 16 = 0; omega) (by show (16 * b.val + 15) % 16 = 15; omega)]
  dsimp only
  rw [out8_C]
  exact st_eq m c b 15 _ hp hh e d

theorem outs_congr (c : Dev nD) (k k' : ℕ) (h : k < cfg0.N) (h' : k' < cfg0.N) (e : k = k') :
    outsAt0 m c k h = outsAt0 m c k' h' := by subst e; rfl

/-- The kernel's first result at an entry. -/
theorem G7_at (c : Dev nD) (b : Fin 16) (n : Fin 128) (hh : Fin 8) (r : Fin 32) (e : Fin 128) :
    Value.G7 m c (place b n hh r e) = outRow (zOf m c) (lbOf m c) (gnOf m c) b n hh r e := by
  have hn := n.isLt
  have hr := r.isLt
  have hb := b.isLt
  have he := e.isLt
  have hhh := hh.isLt
  have hp : Value.pt7Of (place b n hh r e) = (point b ⟨n.val / 8, by omega⟩).val := by
    show 1 * ((4096 * b.val + 32 * n.val + r.val) / 256 - 0) + 1 * ((128 * hh.val + e.val) / 1024 - 0) = 16 * b.val + n.val / 8
    omega
  have hc : chunkOf ⟨n.val / 8, by omega⟩ ⟨n.val % 8, by omega⟩ = n := Fin.ext (by show 8 * (n.val / 8) + n.val % 8 = n.val; omega)
  have hl : Value.loc7Of (place b n hh r e) = ix2 ⟨32 * (⟨n.val % 8, by omega⟩ : Fin 8).val + r.val, by show 32 * (n.val % 8) + r.val < 256; omega⟩ ⟨128 * hh.val + e.val, by omega⟩ := by
    rw [eq_ix2 (Value.loc7Of _)]
    refine congrArg₂ ix2 (Fin.ext ?_) (Fin.ext ?_)
    · show (4096 * b.val + 32 * n.val + r.val) % 256 = 32 * (n.val % 8) + r.val; omega
    · show (128 * hh.val + e.val) % 1024 = 128 * hh.val + e.val; omega
  unfold Value.G7
  rw [dif_pos (by rw [hp]; exact (point b _).isLt), ← Value.outsAt0_sweep m c _ (by rw [hp]; exact (point b _).isLt),
    outs_congr m c _ _ _ (point b ⟨n.val / 8, by omega⟩).isLt hp, hl, block_out m c b ⟨n.val / 8, by omega⟩ ⟨n.val % 8, by omega⟩ hh r e, hc]

/-- The kernel's second result at an entry. -/
theorem G8_at (c : Dev nD) (b : Fin 16) (hh : Fin 8) (d e : Fin 128) :
    Value.G8 m c (ix4 b hh d e) = SS (zOf m c) (lbOf m c) b hh 128 d e := by
  have hb := b.isLt
  have hhh := hh.isLt
  have hd := d.isLt
  have he := e.isLt
  have hp : Value.pt8Of (ix4 b hh d e) = (point b 15).val := by
    show 16 * (1 * (b.val / 1 - 0) + 1 * (hh.val / 8 - 0) + 1 * (d.val / 128 - 0) + 1 * (e.val / 128 - 0)) + 15 = 16 * b.val + 15
    omega
  have hl : Value.loc8Of (ix4 b hh d e) = ix4 0 hh d e := by
    rw [eq_ix4 (Value.loc8Of _)]
    have h0 : (⟨b.val % 1, Nat.mod_lt _ (by decide)⟩ : Fin 1) = 0 := Fin.ext (by show b.val % 1 = 0; omega)
    have h1 : (⟨hh.val % 8, Nat.mod_lt _ (by decide)⟩ : Fin 8) = hh := Fin.ext (Nat.mod_eq_of_lt hhh)
    have h2 : (⟨d.val % 128, Nat.mod_lt _ (by decide)⟩ : Fin 128) = d := Fin.ext (Nat.mod_eq_of_lt hd)
    have h3 : (⟨e.val % 128, Nat.mod_lt _ (by decide)⟩ : Fin 128) = e := Fin.ext (Nat.mod_eq_of_lt he)
    show ix4 (⟨b.val % 1, _⟩ : Fin 1) (⟨hh.val % 8, _⟩ : Fin 8) (⟨d.val % 128, _⟩ : Fin 128) (⟨e.val % 128, _⟩ : Fin 128) = _
    rw [h0, h1, h2, h3]
  unfold Value.G8
  rw [dif_pos (by rw [hp]; exact (point b _).isLt), ← Value.outsAt0_sweep m c _ (by rw [hp]; exact (point b _).isLt),
    outs_congr m c _ _ _ (point b 15).isLt hp, hl, block_state m c b hh d e]

end Cert.Hgrn
end
-- ==== Proof.ProjRun.lean ====
/-
  The run of the input projection's call, over any float values.  Each step holds one block of 256 rows of `x`, the
  rows of shift and scale of its batch entry, and the whole packed weight; it writes the 256 rows of `z`, eight blocks
  of columns one after the other, and the rows of `k` and `v`, the even rows from the first head and the odd rows from
  the second.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the call finds -/

/-- The arrays as the call finds them: after the packing of the weight and the reshapes. -/
abbrev found (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the call. -/
theorem upto (vs : Variants) : Pipeline.HMain (Ix := Unit) (Name := ℕ) (U := UR sig nD τ) (Lvl := ℕ) cfgs 0 defs₀ vs m
    (main (F := F)) (found m) :=
  Pipeline.hmain_prefix cfgs 0 defs₀ vs m main hostOps0 hostOps0_sub hostOps0_fresh main_chain

/-- Nothing before the call writes an array that is none of the intermediate arrays. -/
theorem found_of (c : Dev nD) (b : Ref sig .tc) (h0 : b ≠ main_v0) (h1 : b ≠ main_v1) (h2 : b ≠ main_v2)
    (h3 : b ≠ main_v3) (h4 : b ≠ main_v4) (h5 : b ≠ main_v5) (h6 : b ≠ main_v6) (h7 : b ≠ main_v7)
    (hc : b ≠ main_cst) :
    found m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (by assumption)))

theorem found_x (c : Dev nD) : found m c main_arg0 = m ((c : Thread nD τ).loc main_arg0) := by
  apply found_of <;> decide
theorem found_mod (c : Dev nD) : found m c main_arg1 = m ((c : Thread nD τ).loc main_arg1) := by
  apply found_of <;> decide
theorem found_w (c : Dev nD) : found m c main_arg2 = m ((c : Thread nD τ).loc main_arg2) := by
  apply found_of <;> decide

/-- The block a window shows at a step, of its array as the call finds it. -/
def seen (c : Dev nD) (w : Fin cfg0.W) (t : Fin cfg0.N) :
    ((cfg0.win w).xblock (cfg0.grid.coords t)).Idx → Elt F (cfg0.win w).elt :=
  ((cfg0.win w).blk t).view.read (Elt F) (found m c (Pipeline.arrRef spec0 w))

/-! ## What a step writes -/

/-- The whole block of `x`, and the whole row of shift or scale. -/
abbrev rX : Rect S256x1024 := Rect.unit (s := S256x1024) ![0, 0] S256x1024.size inb_S256x1024_S256x1024_0_0
abbrev rM : Rect S1x1x1024 := Rect.unit (s := S1x1x1024) ![0, 0, 0] S1x1x1024.size inb_S1x1x1024_S1x1x1024_0_0_0

/-- The eight blocks of columns of the weight (`rW`) and of `z` (`rZ`). -/
abbrev rW0 : Rect S1024x8192 := Rect.unit (s := S1024x8192) ![0, 0] S1024x1024.size inb_S1024x8192_S1024x1024_0_0
abbrev rZ0 : Rect S256x8192 := Rect.unit (s := S256x8192) ![0, 0] S256x1024.size inb_S256x8192_S256x1024_0_0
abbrev rW1 : Rect S1024x8192 := Rect.unit (s := S1024x8192) ![0, 1024] S1024x1024.size inb_S1024x8192_S1024x1024_0_1024
abbrev rZ1 : Rect S256x8192 := Rect.unit (s := S256x8192) ![0, 1024] S256x1024.size inb_S256x8192_S256x1024_0_1024
abbrev rW2 : Rect S1024x8192 := Rect.unit (s := S1024x8192) ![0, 2048] S1024x1024.size inb_S1024x8192_S1024x1024_0_2048
abbrev rZ2 : Rect S256x8192 := Rect.unit (s := S256x8192) ![0, 2048] S256x1024.size inb_S256x8192_S256x1024_0_2048
abbrev rW3 : Rect S1024x8192 := Rect.unit (s := S1024x8192) ![0, 3072] S1024x1024.size inb_S1024x8192_S1024x1024_0_3072
abbrev rZ3 : Rect S256x8192 := Rect.unit (s := S256x8192) ![0, 3072] S256x1024.size inb_S256x8192_S256x1024_0_3072
abbrev rW4 : Rect S1024x8192 := Rect.unit (s := S1024x8192) ![0, 4096] S1024x1024.size inb_S1024x8192_S1024x1024_0_4096
abbrev rZ4 : Rect S256x8192 := Rect.unit (s := S256x8192) ![0, 4096] S256x1024.size inb_S256x8192_S256x1024_0_4096
abbrev rW5 : Rect S1024x8192 := Rect.unit (s := S1024x8192) ![0, 5120] S1024x1024.size inb_S1024x8192_S1024x1024_0_5120
abbrev rZ5 : Rect S256x8192 := Rect.unit (s := S256x8192) ![0, 5120] S256x1024.size inb_S256x8192_S256x1024_0_5120
abbrev rW6 : Rect S1024x8192 := Rect.unit (s := S1024x8192) ![0, 6144] S1024x1024.size inb_S1024x8192_S1024x1024_0_6144
abbrev rZ6 : Rect S256x8192 := Rect.unit (s := S256x8192) ![0, 6144] S256x1024.size inb_S256x8192_S256x1024_0_6144
abbrev rW7 : Rect S1024x8192 := Rect.unit (s := S1024x8192) ![0, 7168] S1024x1024.size inb_S1024x8192_S1024x1024_0_7168
abbrev rZ7 : Rect S256x8192 := Rect.unit (s := S256x8192) ![0, 7168] S256x1024.size inb_S256x8192_S256x1024_0_7168
/-- The even and the odd rows of a block of `k` or `v`. -/
abbrev rEven : Rect S512x128 :=
  ⟨(⟨![0, 0], S256x128.size, ![2, 1], inb_S512x128_S256x128_0_0_s_2_1⟩ : LoadRect S512x128), spos_2_1⟩
abbrev rOdd : Rect S512x128 :=
  ⟨(⟨![1, 0], S256x128.size, ![2, 1], inb_S512x128_S256x128_1_0_s_2_1⟩ : LoadRect S512x128), spos_2_1⟩

/-- The scaled and shifted rows of `x`. -/
def rowsH (x0 : Vec F S256x1024 .f32) (x1 x2 : Vec F S1x1x1024 .f32) : FVec F S256x1024 .bf16 :=
  k0_pay1 (View.ld x0 rX) (View.ld x2 rM) (View.ld x1 rM)

/-- What a step leaves in the rows of `z`. -/
def outZ (x0 : Vec F S256x1024 .f32) (x1 x2 : Vec F S1x1x1024 .f32) (x3 : Vec F S1024x8192 .bf16) : Vec F S256x8192 .f32 :=
  View.canon [⟨rZ7, k0_pay6 (rowsH x0 x1 x2) (View.ld x3 rW7)⟩,
    ⟨rZ6, k0_pay6 (rowsH x0 x1 x2) (View.ld x3 rW6)⟩,
    ⟨rZ5, k0_pay6 (rowsH x0 x1 x2) (View.ld x3 rW5)⟩,
    ⟨rZ4, k0_pay6 (rowsH x0 x1 x2) (View.ld x3 rW4)⟩,
    ⟨rZ3, k0_pay6 (rowsH x0 x1 x2) (View.ld x3 rW3)⟩,
    ⟨rZ2, k0_pay6 (rowsH x0 x1 x2) (View.ld x3 rW2)⟩,
    ⟨rZ1, k0_pay6 (rowsH x0 x1 x2) (View.ld x3 rW1)⟩,
    ⟨rZ0, k0_pay6 (rowsH x0 x1 x2) (View.ld x3 rW0)⟩]

/-- What a step leaves in the rows of `k`. -/
def outK (x0 : Vec F S256x1024 .f32) (x1 x2 : Vec F S1x1x1024 .f32) (x3 : Vec F S1024x8192 .bf16) : Vec F S512x128 .f32 :=
  View.canon [⟨rOdd, k0_pay10 (rowsH x0 x1 x2) (View.ld x3 rW5)⟩, ⟨rEven, k0_pay8 (rowsH x0 x1 x2) (View.ld x3 rW5)⟩]

/-- What a step leaves in the rows of `v`. -/
def outV (x0 : Vec F S256x1024 .f32) (x1 x2 : Vec F S1x1x1024 .f32) (x3 : Vec F S1024x8192 .bf16) : Vec F S512x128 .f32 :=
  View.canon [⟨rOdd, k0_pay11 (rowsH x0 x1 x2) (View.ld x3 rW5)⟩, ⟨rEven, k0_pay9 (rowsH x0 x1 x2) (View.ld x3 rW5)⟩]

/-- The eight blocks of columns cover `z`. -/
theorem coverZ (p0 p1 p2 p3 p4 p5 p6 p7 : Vec F S256x1024 .f32) (y : S256x8192.Idx) :
    ∃ pc ∈ ([⟨rZ7, p0⟩, ⟨rZ6, p1⟩, ⟨rZ5, p2⟩, ⟨rZ4, p3⟩, ⟨rZ3, p4⟩, ⟨rZ2, p5⟩, ⟨rZ1, p6⟩, ⟨rZ0, p7⟩] : List (View.Piece (Elt F) S256x8192 .f32)), y ∈ pc.1.set :=
  View.cover_of_tiled [⟨rZ7, p0⟩, ⟨rZ6, p1⟩, ⟨rZ5, p2⟩, ⟨rZ4, p3⟩, ⟨rZ3, p4⟩, ⟨rZ2, p5⟩, ⟨rZ1, p6⟩, ⟨rZ0, p7⟩] S256x1024.size (by rfl) y

/-- A row is even or odd. -/
theorem mem_rEven (y : S512x128.Idx) (h : (y 0).val % 2 = 0) : y ∈ rEven.set := by
  refine rEven.mem_set.mpr fun a => ?_
  match a with
  | ⟨0, _⟩ => exact ⟨(y 0).val / 2, by have := (y 0).isLt; show (y 0).val / 2 < 256; have : (y 0).val < 512 := this; omega,
      by show (y 0).val = 0 + 2 * ((y 0).val / 2); omega⟩
  | ⟨1, _⟩ => exact ⟨(y 1).val, (y 1).isLt, by show (y 1).val = 0 + 1 * (y 1).val; omega⟩

theorem mem_rOdd (y : S512x128.Idx) (h : (y 0).val % 2 = 1) : y ∈ rOdd.set := by
  refine rOdd.mem_set.mpr fun a => ?_
  match a with
  | ⟨0, _⟩ => exact ⟨(y 0).val / 2, by have := (y 0).isLt; show (y 0).val / 2 < 256; have : (y 0).val < 512 := this; omega,
      by show (y 0).val = 1 + 2 * ((y 0).val / 2); omega⟩
  | ⟨1, _⟩ => exact ⟨(y 1).val, (y 1).isLt, by show (y 1).val = 0 + 1 * (y 1).val; omega⟩

/-- The even and the odd rows cover `k`, and `v`. -/
theorem coverK (p q : Vec F S256x128 .f32) (y : S512x128.Idx) :
    ∃ pc ∈ ([⟨rOdd, p⟩, ⟨rEven, q⟩] : List (View.Piece (Elt F) S512x128 .f32)), y ∈ pc.1.set := by
  rcases Nat.mod_two_eq_zero_or_one (y 0).val with h | h
  · exact ⟨_, List.mem_cons_of_mem _ List.mem_cons_self, mem_rEven y h⟩
  · exact ⟨_, List.mem_cons_self, mem_rOdd y h⟩

/-! ## One step -/

set_option maxHeartbeats 1000000 in
/-- One step: holding the blocks it reads, it leaves them as they were and writes `outZ`, `outK` and `outV`. -/
theorem step_triple (c : Dev nD) (E : Set ℕ) (i : grid0.Coords)
    (arg1 : Memref sig .tc .vmem S256x1024 .f32) (harg1 : arg1.IsWhole)
    (arg2 : Memref sig .tc .vmem S1x1x1024 .f32) (harg2 : arg2.IsWhole)
    (arg3 : Memref sig .tc .vmem S1x1x1024 .f32) (harg3 : arg3.IsWhole)
    (arg4 : Memref sig .tc .vmem S1024x8192 .bf16) (harg4 : arg4.IsWhole)
    (arg5 : Memref sig .tc .vmem S256x8192 .f32) (harg5 : arg5.IsWhole)
    (arg6 : Memref sig .tc .vmem S512x128 .f32) (harg6 : arg6.IsWhole)
    (arg7 : Memref sig .tc .vmem S512x128 .f32) (harg7 : arg7.IsWhole)
    (x0 : Vec F S256x1024 .f32) (x1 : Vec F S1x1x1024 .f32) (x2 : Vec F S1x1x1024 .f32) (x3 : Vec F S1024x8192 .bf16)
    (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare (outZ x0 x1 x2 x3) ∗ owns (c : Thread nD τ) arg6 fullShare (outK x0 x1 x2 x3) ∗ owns (c : Thread nD τ) arg7 fullShare (outV x0 x1 x2 x3)) -∗ K ⟨⟩))
      ⊢ wp frame (wpE (defs₀ (F := F)) Variants.none c none) E (cc0_inproj i arg1 harg1 arg2 harg2 arg3 harg3 arg4 harg4 arg5 harg5 arg6 harg6 arg7 harg7) K := by
  simp only [cc0_inproj_eq_skeleton]; unfold cc0_inproj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact (View.read_writes_eq_canon _ _ _ (coverZ _ _ _ _ _ _ _ _)).trans rfl
  isplitl [H5]
  · iexists _; isplitr
    swap; · iexact H5
    ipureintro
    exact (View.read_writes_eq_canon _ _ _ (coverK _ _)).trans rfl
  iexists _; isplitr
  swap; · iexact H6
  ipureintro
  exact (View.read_writes_eq_canon _ _ _ (coverK _ _)).trans rfl

/-! ## The pipeline -/

/-- What the pipeline holds: the arrays as found; after a step the blocks read in place and the blocks written at
    `outZ`, `outK`, `outV` of them. -/
def held (_ : Fin 1) (c : Dev nD) : Dat τ (Elt F) Unit ℕ (UR sig nD τ) ℕ cfg0 c where
  A w := found m c (Pipeline.arrRef spec0 w)
  after w t := match w with
    | ⟨0, _⟩ => seen m c 0 t
    | ⟨1, _⟩ => seen m c 1 t
    | ⟨2, _⟩ => seen m c 2 t
    | ⟨3, _⟩ => seen m c 3 t
    | ⟨4, _⟩ => outZ (seen m c 0 t) (seen m c 1 t) (seen m c 2 t) (seen m c 3 t)
    | ⟨5, _⟩ => outK (seen m c 0 t) (seen m c 1 t) (seen m c 2 t) (seen m c 3 t)
    | ⟨6, _⟩ => outV (seen m c 0 t) (seen m c 1 t) (seen m c 2 t) (seen m c 3 t)
  Φ _ := Pipeline.ΦA spec0 c
  q w := Pipeline.shareOf spec0 w
  owed _ := 0

theorem held_A (c : Dev nD) (w : Fin cfg0.W) : (held m 0 c).A w = found m c (Pipeline.arrRef spec0 w) := by
  dsimp only [held]

theorem left_0 (c : Dev nD) (t : Fin cfg0.N) : (held m 0 c).after 0 t = seen m c 0 t := by dsimp only [held]
theorem left_1 (c : Dev nD) (t : Fin cfg0.N) : (held m 0 c).after 1 t = seen m c 1 t := by dsimp only [held]
theorem left_2 (c : Dev nD) (t : Fin cfg0.N) : (held m 0 c).after 2 t = seen m c 2 t := by dsimp only [held]
theorem left_3 (c : Dev nD) (t : Fin cfg0.N) : (held m 0 c).after 3 t = seen m c 3 t := by dsimp only [held]
theorem left_4 (c : Dev nD) (t : Fin cfg0.N) :
    (held m 0 c).after 4 t = outZ (seen m c 0 t) (seen m c 1 t) (seen m c 2 t) (seen m c 3 t) := by
  dsimp only [held]
theorem left_5 (c : Dev nD) (t : Fin cfg0.N) :
    (held m 0 c).after 5 t = outK (seen m c 0 t) (seen m c 1 t) (seen m c 2 t) (seen m c 3 t) := by
  dsimp only [held]
theorem left_6 (c : Dev nD) (t : Fin cfg0.N) :
    (held m 0 c).after 6 t = outV (seen m c 0 t) (seen m c 1 t) (seen m c 2 t) (seen m c 3 t) := by
  dsimp only [held]

/-- At every step a window that is read shows its block, fetched at that step or before. -/
theorem shows_0 (c : Dev nD) (t : Fin cfg0.N) (d) : (held m 0 c).before 0 t d = seen m c 0 t :=
  ((held m 0 c).before_in_eq_fetched 0 rfl (fun _ => rfl) (fun _ _ _ => rfl)
      (fun t => by rw [left_0]; unfold Dat.blockOf seen; rw [held_A]; try rfl) t d).trans
    (by unfold Dat.fetched Dat.blockOf seen; rw [held_A]; try rfl)
theorem shows_1 (c : Dev nD) (t : Fin cfg0.N) (d) : (held m 0 c).before 1 t d = seen m c 1 t :=
  ((held m 0 c).before_in_eq_fetched 1 rfl (fun _ => rfl) (fun _ _ _ => rfl)
      (fun t => by rw [left_1]; unfold Dat.blockOf seen; rw [held_A]; try rfl) t d).trans
    (by unfold Dat.fetched Dat.blockOf seen; rw [held_A]; try rfl)
theorem shows_2 (c : Dev nD) (t : Fin cfg0.N) (d) : (held m 0 c).before 2 t d = seen m c 2 t :=
  ((held m 0 c).before_in_eq_fetched 2 rfl (fun _ => rfl) (fun _ _ _ => rfl)
      (fun t => by rw [left_2]; unfold Dat.blockOf seen; rw [held_A]; try rfl) t d).trans
    (by unfold Dat.fetched Dat.blockOf seen; rw [held_A]; try rfl)
theorem shows_3 (c : Dev nD) (t : Fin cfg0.N) (d) : (held m 0 c).before 3 t d = seen m c 3 t :=
  ((held m 0 c).before_in_eq_fetched 3 rfl (fun _ => rfl) (fun _ _ _ => rfl)
      (fun t => by rw [left_3]; unfold Dat.blockOf seen; rw [held_A]; try rfl) t d).trans
    (by unfold Dat.fetched Dat.blockOf seen; rw [held_A]; try rfl)

/-- What a step starts from and what it leaves. -/
def stepPre (c : Dev nD) (t : Fin cfg0.N) : sProp (MT nD τ sig Unit (Elt F) ℕ (UR sig nD τ) ℕ) :=
  iprop((held m 0 c).Φ t.castSucc ∗ (held m 0 c).owesAt () t.castSucc
    ∗ (∃ d, owns (c : Thread nD τ) (st0_0 t) fullShare ((held m 0 c).before 0 t d))
    ∗ (∃ d, owns (c : Thread nD τ) (st0_1 t) fullShare ((held m 0 c).before 1 t d))
    ∗ (∃ d, owns (c : Thread nD τ) (st0_2 t) fullShare ((held m 0 c).before 2 t d))
    ∗ (∃ d, owns (c : Thread nD τ) (st0_3 t) fullShare ((held m 0 c).before 3 t d))
    ∗ (∃ d, owns (c : Thread nD τ) (st0_4 t) fullShare ((held m 0 c).before 4 t d))
    ∗ (∃ d, owns (c : Thread nD τ) (st0_5 t) fullShare ((held m 0 c).before 5 t d))
    ∗ (∃ d, owns (c : Thread nD τ) (st0_6 t) fullShare ((held m 0 c).before 6 t d)))

def stepPost (c : Dev nD) (t : Fin cfg0.N) : sProp (MT nD τ sig Unit (Elt F) ℕ (UR sig nD τ) ℕ) :=
  iprop((held m 0 c).Φ t.succ ∗ (held m 0 c).owesAt () t.succ
    ∗ owns (c : Thread nD τ) (st0_0 t) fullShare ((held m 0 c).after 0 t)
    ∗ owns (c : Thread nD τ) (st0_1 t) fullShare ((held m 0 c).after 1 t)
    ∗ owns (c : Thread nD τ) (st0_2 t) fullShare ((held m 0 c).after 2 t)
    ∗ owns (c : Thread nD τ) (st0_3 t) fullShare ((held m 0 c).after 3 t)
    ∗ owns (c : Thread nD τ) (st0_4 t) fullShare ((held m 0 c).after 4 t)
    ∗ owns (c : Thread nD τ) (st0_5 t) fullShare ((held m 0 c).after 5 t)
    ∗ owns (c : Thread nD τ) (st0_6 t) fullShare ((held m 0 c).after 6 t))

/-- Every step goes from the one to the other. -/
theorem step_at (c : Dev nD) (t : Fin cfg0.N) :
    stepPre m c t ⊢ wp frame (wpE (defs₀ (F := F)) Variants.none c none) Set.univ (bodyAt0 t) (fun _ => stepPost m c t) := by
  unfold stepPre stepPost bodyAt0
  simp only [shows_0, shows_1, shows_2, shows_3]
  rw [show (held m 0 c).Φ t.succ = (held m 0 c).Φ t.castSucc from rfl,
    show (held m 0 c).owesAt () t.succ = (held m 0 c).owesAt () t.castSucc from rfl,
    left_0, left_1, left_2, left_3, left_4, left_5, left_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (step_triple c Set.univ (grid0.coords t) _ _ _ _ _ _ _ _ _ _ _ _ _ _ (seen m c 0 t) (seen m c 1 t) (seen m c 2 t) (seen m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_row (t : Fin cfg0.N) :
    defs₀ (F := F) .tc cfg0.body (cfg0.bodyArgs t (cfg0.slots t)) = bodyAt0 t := by
  unfold defs₀; rw [Defs.onTc_tc]

theorem steps (c : Dev nD) : BodyObligation (held (F := F) m 0 c) (defs₀ (F := F)) Variants.none () Set.univ := fun t => by
  rw [bigSep_W0, bigSep_W0, body_row]
  exact triple_restated (step_at m c t) rfl .rfl fun _ => .rfl

set_option backward.isDefEq.respectTransparency.types false in
set_option maxHeartbeats 800000 in
/-- The run: it ends with every array of the call at what the steps write, every other array as found, and every
    counter at zero. -/
theorem run_all : θ_run defs (onTc (τ := τ) (main (F := F))) (s₀ m ρ)
    (fun r => (Pipeline.FramePost cfgs (held m) 0 (found m)) r ∧ r.2.sem = fun _ => 0) :=
  Pipeline.θ_run_frame_shared (Q' := _) cfgs (held m) (0 : Fin 1) launch₀0 defs₀ Variants.none m ρ main
    (hbody := fun c => (steps m c).loose) (hq := fun _ _ _ => rfl)
    (howed := fun _ _ => rfl) (V := found m) (hmain := upto m Variants.none) (hA := held_A m) (hΦ := fun _ _ => rfl)

/-- The run with the three results named by the pipeline's arrays, the arguments kept, and the counters at zero. -/
theorem run : θ_run defs (onTc (τ := τ) (main (F := F))) ⟨m, fun _ => 0, ρ⟩ (fun r =>
    (∀ c : Dev nD,
      r.2.mem ((c.tc : Thread nD τ).loc main_v8_0) = (held m 0 c).arrAt 4 cfg0.N
      ∧ r.2.mem ((c.tc : Thread nD τ).loc main_v8_1) = (held m 0 c).arrAt 5 cfg0.N
      ∧ r.2.mem ((c.tc : Thread nD τ).loc main_v8_2) = (held m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c => ⟨(h.1 c).1 4, (h.1 c).1 5, (h.1 c).1 6,
      ((h.1 c).2 main_arg0 (Pipeline.mem_restRefs_of main_arg0 (by decide) (by decide))).trans (found_x m c),
      ((h.1 c).2 main_arg1 (Pipeline.mem_restRefs_of main_arg1 (by decide) (by decide))).trans (found_mod m c),
      ((h.1 c).2 main_arg2 (Pipeline.mem_restRefs_of main_arg2 (by decide) (by decide))).trans (found_w m c)⟩, h.2⟩) (run_all m ρ)

/-- The arguments are kept. -/
theorem kept : θ_run defs (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c => (h.1 c).2.2.2, h.2⟩) (run m ρ)

end Cert.Proj

end
-- ==== Proof.ProjValue.lean ====
/-
  What the projection's steps leave in its three result arrays, entry by entry: a step's products in terms of the blocks
  it holds, the blocks in terms of the arguments, and the arrays from the blocks.
-/
module
public import proofs.«01_k».proof.Proof.ProjRun
public import Idealize.ShloMosaic.Lib.Pipeline.ValueKit
public import Idealize.ShloMosaic.Lib.Pointwise
@[expose] public section
noncomputable section
namespace Cert.Proj
open Cert.Kernel2Ideal Cert.Kernel2Ideal.Gen
open Idealize.ShloMosaic Idealize.ShloMosaic.TcCoe Idealize.ShloMosaic.Tactic Idealize.SL.Sem
set_option maxRecDepth 16384
variable (m : (ℓ : Loc nD τ sig) → Buf (Elt Ideal) ℓ)

/-- The arrays the call finds, in the arguments: the rows of `x`, the packed weight, the modulation rows. -/
theorem found_rows (c : Dev nD) : found m c main_v7 = shapeCast S65536x1024 (m ((c : Thread nD τ).loc main_arg0)) shapeCasts_S16x4096x1024_S65536x1024 := by
  unfold found
  after_results <;> rfl
theorem found_packed (c : Dev nD) : found m c main_v5 = truncf (F := Ideal) .bf16 (concatenate S1024x8192 1
      [⟨S1024x5632, extractStridedSlice S1024x5632 ![0, 0] (m ((c : Thread nD τ).loc main_arg2)) slices_S1024x8004_S1024x5632_0_0⟩,
       ⟨S1024x324, extractStridedSlice S1024x324 ![0, 5632] (m ((c : Thread nD τ).loc main_arg2)) slices_S1024x8004_S1024x324_0_5632⟩,
       ⟨S1024x188, broadcastInDim S1024x188 ![] bcast_S_S1024x188 (constant (F := Ideal) S_ .f32 0x00000000#32)⟩,
       ⟨S1024x2048, extractStridedSlice S1024x2048 ![0, 5956] (m ((c : Thread nD τ).loc main_arg2)) slices_S1024x8004_S1024x2048_0_5956⟩]
       concatenates_S1024x5632_S1024x324_S1024x188_S1024x2048_S1024x8192_d1) bitsLt_bf16_f32 := by
  unfold found
  after_results <;> rfl
theorem found_mods (c : Dev nD) : found m c main_v6 = shapeCast S16x1x6144 (m ((c : Thread nD τ).loc main_arg1)) shapeCasts_S16x6144_S16x1x6144 := by
  unfold found
  after_results <;> rfl
/-- Which block every window shows at a step. -/
theorem idx : ∀ t : Fin cfg0.N, win0_0.index t = ![t.val, 0] ∧ win0_1.index t = ![t.val / 16, 0, 0] ∧ win0_2.index t = ![t.val / 16, 0, 1]
    ∧ win0_3.index t = ![0, 0] ∧ win0_4.index t = ![t.val, 0] ∧ win0_5.index t = ![t.val, 0] ∧ win0_6.index t = ![t.val, 0] := by
  decide +kernel
theorem hN (t : Fin cfg0.N) : t.val < 256 := lt_of_lt_of_eq t.isLt N_0

/-- Where a block lies in its array. -/
theorem seen_0 (c : Dev nD) (t : Fin cfg0.N) (r : Fin 256) (d : Fin 1024) :
    seen m c 0 t (ix2 r d) = found m c main_v7 (ix2 ⟨256 * t.val + r.val, by have := hN t; omega⟩ d) := by
  generalize hv : found m c = v
  unfold seen
  rw [hv]
  blk_ext [idx t]
theorem seen_1 (c : Dev nD) (t : Fin cfg0.N) (d : Fin 1024) :
    seen m c 1 t (ix3 0 0 d) = found m c main_v6 (ix3 ⟨t.val / 16, by have := hN t; omega⟩ 0 ⟨d.val, by omega⟩) := by
  generalize hv : found m c = v
  unfold seen
  rw [hv]
  blk_ext [idx t]
theorem seen_2 (c : Dev nD) (t : Fin cfg0.N) (d : Fin 1024) :
    seen m c 2 t (ix3 0 0 d) = found m c main_v6 (ix3 ⟨t.val / 16, by have := hN t; omega⟩ 0 ⟨1024 + d.val, by omega⟩) := by
  generalize hv : found m c = v
  unfold seen
  rw [hv]
  blk_ext [idx t]
theorem seen_3 (c : Dev nD) (t : Fin cfg0.N) :
    seen m c 3 t = found m c main_v5 := by
  generalize hv : found m c = v
  unfold seen
  rw [hv]
  blk_ext! [idx t]
/-- The reshapes of `x` and of the modulation at an entry. -/
theorem v7_at (x : S16x4096x1024.Idx → EReal) (b : Fin 16) (s : Fin 4096) (d : Fin 1024) :
    shapeCast S65536x1024 x shapeCasts_S16x4096x1024_S65536x1024 (ix2 ⟨4096 * b.val + s.val, by omega⟩ d) = x (ix3 b s d) := by
  pointwise []
theorem v6_at (x : S16x6144.Idx → EReal) (b : Fin 16) (d : Fin 6144) :
    shapeCast S16x1x6144 x shapeCasts_S16x6144_S16x1x6144 (ix3 b 0 d) = x (ix2 b d) := by
  pointwise []

/-- The weight's column that column `c` of the packed weight holds, or zero in the gap. -/
def spread (w : S1024x8004.Idx → EReal) (k : Fin 1024) (c : ℕ) : EReal :=
  if h : c < 5956 then w (ix2 k ⟨c, by omega⟩) else if h' : 6144 ≤ c ∧ c < 8192 then w (ix2 k ⟨c - 188, by omega⟩) else 0

/-- The packed weight at an entry. -/
theorem pack_at (w : S1024x8004.Idx → EReal) (k : Fin 1024) (c : Fin 8192) :
    concatenate S1024x8192 1
      [⟨S1024x5632, extractStridedSlice S1024x5632 ![0, 0] w slices_S1024x8004_S1024x5632_0_0⟩,
       ⟨S1024x324, extractStridedSlice S1024x324 ![0, 5632] w slices_S1024x8004_S1024x324_0_5632⟩,
       ⟨S1024x188, broadcastInDim S1024x188 ![] bcast_S_S1024x188 (constant (F := Ideal) S_ .f32 0x00000000#32)⟩,
       ⟨S1024x2048, extractStridedSlice S1024x2048 ![0, 5956] w slices_S1024x8004_S1024x2048_0_5956⟩]
       concatenates_S1024x5632_S1024x324_S1024x188_S1024x2048_S1024x8192_d1 (ix2 k c) = spread w k c.val := by
  unfold spread
  pointwise []
  by_cases h1 : c.val < 5632
  · rw [dif_pos h1, dif_pos (show c.val < 5956 by omega)]
  · by_cases h2 : c.val - 5632 < 324
    · rw [dif_neg h1, dif_pos h2, dif_pos (show c.val < 5956 by omega)]
      exact congrArg w (congrArg (ix2 k) (Fin.ext (by show 5632 + (c.val - 5632) = c.val; omega)))
    · by_cases h3 : 6144 ≤ c.val
      · rw [dif_neg h1, dif_neg h2, dif_neg (show ¬ c.val - 5632 - 324 < 188 by omega), dif_neg (show ¬ c.val < 5956 by omega),
          dif_pos h3]
        exact congrArg w (congrArg (ix2 k) (Fin.ext (by show 5956 + (c.val - 5632 - 324 - 188) = c.val - 188; omega)))
      · rw [dif_neg h1, dif_neg h2, dif_pos (show c.val - 5632 - 324 < 188 by omega), dif_neg (show ¬ c.val < 5956 by omega),
          dif_neg h3]

/-- What a step forms, at an entry: the scaled and shifted rows, and their products with blocks of the weight. -/
theorem rowsH_at (x0 : Vec Ideal S256x1024 .f32) (x1 x2 : Vec Ideal S1x1x1024 .f32) (r : Fin 256) (d : Fin 1024) :
    rowsH x0 x1 x2 (ix2 r d) = x0 (ix2 r d) * (1 + x2 (ix3 0 0 d)) + x1 (ix3 0 0 d) := by
  unfold rowsH k0_pay1
  pointwise [Ideal.ofBits_one_f32]

theorem tile_at (h : FVec Ideal S256x1024 .bf16) (w : Vec Ideal S1024x1024 .bf16) (r : Fin 256) (d : Fin 1024) :
    k0_pay6 h w (ix2 r d) = ∑ k : Fin 1024, h (ix2 r k) * w (ix2 k d) := by
  unfold k0_pay6
  pointwise []
theorem k_even (h : FVec Ideal S256x1024 .bf16) (w : Vec Ideal S1024x1024 .bf16) (r : Fin 256) (d : Fin 128) :
    k0_pay8 h w (ix2 r d) = ∑ k : Fin 1024, h (ix2 r k) * w (ix2 k ⟨d.val, by omega⟩) := by
  unfold k0_pay8 k0_pay7
  pointwise []
theorem k_odd (h : FVec Ideal S256x1024 .bf16) (w : Vec Ideal S1024x1024 .bf16) (r : Fin 256) (d : Fin 128) :
    k0_pay10 h w (ix2 r d) = ∑ k : Fin 1024, h (ix2 r k) * w (ix2 k ⟨128 + d.val, by omega⟩) := by
  unfold k0_pay10 k0_pay7
  pointwise []
theorem v_even (h : FVec Ideal S256x1024 .bf16) (w : Vec Ideal S1024x1024 .bf16) (r : Fin 256) (d : Fin 128) :
    k0_pay9 h w (ix2 r d) = ∑ k : Fin 1024, h (ix2 r k) * w (ix2 k ⟨256 + d.val, by omega⟩) := by
  unfold k0_pay9 k0_pay7
  pointwise []
theorem v_odd (h : FVec Ideal S256x1024 .bf16) (w : Vec Ideal S1024x1024 .bf16) (r : Fin 256) (d : Fin 128) :
    k0_pay11 h w (ix2 r d) = ∑ k : Fin 1024, h (ix2 r k) * w (ix2 k ⟨384 + d.val, by omega⟩) := by
  unfold k0_pay11 k0_pay7
  pointwise []

/-- The products of a step, at any column. -/
def colsOf (h : FVec Ideal S256x1024 .bf16) (w : Vec Ideal S1024x8192 .bf16) (y : S256x8192.Idx) : EReal :=
  ∑ k : Fin 1024, h (ix2 (y 0) k) * w (ix2 k (y 1))

/-- The eight blocks of columns together are the products at every column. -/
theorem outZ_eq (x0 : Vec Ideal S256x1024 .f32) (x1 x2 : Vec Ideal S1x1x1024 .f32) (x3 : Vec Ideal S1024x8192 .bf16) :
    outZ x0 x1 x2 x3 = colsOf (rowsH x0 x1 x2) x3 := by
  funext y
  refine View.canon_apply_of_pieces (Val := Elt Ideal) (colsOf (rowsH x0 x1 x2) x3) _ ?_ y (coverZ _ _ _ _ _ _ _ _ y)
  intro p hp x
  simp only [List.mem_cons, List.not_mem_nil, or_false] at hp
  rcases hp with rfl | rfl | rfl | rfl | rfl | rfl | rfl | rfl
  all_goals
    rw [eq_ix2 x]
    refine (tile_at _ _ _ _).trans (Finset.sum_congr rfl fun k _ => congrArg₂ (· * ·) (congrArg _ ?_) (congrArg x3 ?_))
  all_goals
    idx_ext <;> simp <;> omega

/-- The even and the odd rows of a block. -/
theorem not_odd (r : Fin 256) (d : Fin 128) : ix2 (⟨2 * r.val + 0, by omega⟩ : Fin 512) d ∉ rOdd.set := fun h => by
  obtain ⟨j, _, e⟩ := rOdd.mem_set.mp h 0
  have : 2 * r.val + 0 = 1 + 2 * j := e
  omega
theorem even_eq (r : Fin 256) (d : Fin 128) : ix2 (⟨2 * r.val + 0, by omega⟩ : Fin 512) d = rEven.emb (ix2 r d) := by
  refine funext fun a => Fin.ext ?_
  match a with
  | ⟨0, _⟩ => show 2 * r.val + 0 = 0 + 2 * r.val; omega
  | ⟨1, _⟩ => show d.val = 0 + 1 * d.val; omega
theorem odd_eq (r : Fin 256) (d : Fin 128) : ix2 (⟨2 * r.val + 1, by omega⟩ : Fin 512) d = rOdd.emb (ix2 r d) := by
  refine funext fun a => Fin.ext ?_
  match a with
  | ⟨0, _⟩ => show 2 * r.val + 1 = 1 + 2 * r.val; omega
  | ⟨1, _⟩ => show d.val = 0 + 1 * d.val; omega

/-- The columns of the keys and values in the packed weight. -/
theorem rW5_idx (k : Fin 1024) (d : Fin 1024) : rW5.idx (ix2 k d) = ix2 k ⟨5120 + d.val, by omega⟩ := by
  refine funext fun a => Fin.ext ?_
  match a with
  | ⟨0, _⟩ => show 0 + 1 * k.val = k.val; omega
  | ⟨1, _⟩ => show 5120 + 1 * d.val = 5120 + d.val; omega

/-- The even rows hold the rows stored first, the odd rows those stored second. -/
theorem even_read (p q : Vec Ideal S256x128 .f32) (r : Fin 256) (d : Fin 128) :
    View.canon (Val := Elt Ideal) (s := S512x128) (e := .f32) [⟨rOdd, p⟩, ⟨rEven, q⟩] (ix2 ⟨2 * r.val + 0, by omega⟩ d) = q (ix2 r d) := by
  have h := View.canon_cons_of_not_mem (Val := Elt Ideal) (s := S512x128) (e := .f32) ⟨rOdd, p⟩ [⟨rEven, q⟩]
    (y := ix2 ⟨2 * r.val + 0, by omega⟩ d) (not_odd r d)
  refine h.trans ?_
  rw [even_eq]
  exact View.canon_cons_emb (Val := Elt Ideal) (s := S512x128) (e := .f32) rEven q [] (ix2 r d)
theorem odd_read (p q : Vec Ideal S256x128 .f32) (r : Fin 256) (d : Fin 128) :
    View.canon (Val := Elt Ideal) (s := S512x128) (e := .f32) [⟨rOdd, p⟩, ⟨rEven, q⟩] (ix2 ⟨2 * r.val + 1, by omega⟩ d) = p (ix2 r d) := by
  rw [odd_eq]
  exact View.canon_cons_emb (Val := Elt Ideal) (s := S512x128) (e := .f32) rOdd p [⟨rEven, q⟩] (ix2 r d)

/-- The rows of `k` and `v` a step leaves. -/
theorem outK_at (x0 : Vec Ideal S256x1024 .f32) (x1 x2 : Vec Ideal S1x1x1024 .f32) (x3 : Vec Ideal S1024x8192 .bf16)
    (r : Fin 256) (g : Fin 2) (d : Fin 128) :
    outK x0 x1 x2 x3 (ix2 ⟨2 * r.val + g.val, by omega⟩ d) = colsOf (rowsH x0 x1 x2) x3 (ix2 r ⟨5120 + 128 * g.val + d.val, by omega⟩) := by
  unfold outK
  match g with
  | ⟨0, _⟩ =>
    refine (even_read _ _ r d).trans ((k_even _ _ _ _).trans (Finset.sum_congr rfl fun k _ => congrArg (_ * ·) (congrArg x3 ((rW5_idx k _).trans ?_))))
    exact congrArg (ix2 k) (Fin.ext (by show 5120 + d.val = 5120 + 128 * 0 + d.val; omega))
  | ⟨1, _⟩ =>
    refine (odd_read _ _ r d).trans ((k_odd _ _ _ _).trans (Finset.sum_congr rfl fun k _ => congrArg (_ * ·) (congrArg x3 ((rW5_idx k _).trans ?_))))
    exact congrArg (ix2 k) (Fin.ext (by show 5120 + (128 + d.val) = 5120 + 128 * 1 + d.val; omega))
theorem outV_at (x0 : Vec Ideal S256x1024 .f32) (x1 x2 : Vec Ideal S1x1x1024 .f32) (x3 : Vec Ideal S1024x8192 .bf16)
    (r : Fin 256) (g : Fin 2) (d : Fin 128) :
    outV x0 x1 x2 x3 (ix2 ⟨2 * r.val + g.val, by omega⟩ d) = colsOf (rowsH x0 x1 x2) x3 (ix2 r ⟨5376 + 128 * g.val + d.val, by omega⟩) := by
  unfold outV
  match g with
  | ⟨0, _⟩ =>
    refine (even_read _ _ r d).trans ((v_even _ _ _ _).trans (Finset.sum_congr rfl fun k _ => congrArg (_ * ·) (congrArg x3 ((rW5_idx k _).trans ?_))))
    exact congrArg (ix2 k) (Fin.ext (by show 5120 + (256 + d.val) = 5376 + 128 * 0 + d.val; omega))
  | ⟨1, _⟩ =>
    refine (odd_read _ _ r d).trans ((v_odd _ _ _ _).trans (Finset.sum_congr rfl fun k _ => congrArg (_ * ·) (congrArg x3 ((rW5_idx k _).trans ?_))))
    exact congrArg (ix2 k) (Fin.ext (by show 5120 + (384 + d.val) = 5376 + 128 * 1 + d.val; omega))

/-! ## Entries of the results -/

/-- A scaled and shifted entry. -/
def hAt (x : S16x4096x1024.Idx → EReal) (md : S16x6144.Idx → EReal) (b : Fin 16) (s : Fin 4096) (k : Fin 1024) : EReal :=
  x (ix3 b s k) * (1 + md (ix2 b ⟨1024 + k.val, by omega⟩)) + md (ix2 b ⟨k.val, by omega⟩)
/-- An entry of the projection with its gap. -/
def zAt (x : S16x4096x1024.Idx → EReal) (md : S16x6144.Idx → EReal) (w : S1024x8004.Idx → EReal)
    (b : Fin 16) (s : Fin 4096) (c : ℕ) : EReal :=
  ∑ k : Fin 1024, hAt x md b s k * spread w k c

/-- The arguments a device starts from. -/
abbrev xOf (c : Dev nD) : S16x4096x1024.Idx → EReal := m ((c : Thread nD τ).loc main_arg0)
abbrev modOf (c : Dev nD) : S16x6144.Idx → EReal := m ((c : Thread nD τ).loc main_arg1)
abbrev wOf (c : Dev nD) : S1024x8004.Idx → EReal := m ((c : Thread nD τ).loc main_arg2)

/-- The step that holds row `s` of batch entry `b`, and the row's place in its block. -/
def stepOf (b : Fin 16) (s : Fin 4096) : Fin cfg0.N :=
  ⟨16 * b.val + s.val / 256, lt_of_lt_of_eq (b := 256) (by omega) N_0.symm⟩
def rowIn (s : Fin 4096) : Fin 256 := ⟨s.val % 256, Nat.mod_lt _ (by decide)⟩

/-- A step's products, in the arguments. -/
theorem block_at (c : Dev nD) (b : Fin 16) (s : Fin 4096) (j : Fin 8192) :
    colsOf (rowsH (seen m c 0 (stepOf b s)) (seen m c 1 (stepOf b s)) (seen m c 2 (stepOf b s))) (seen m c 3 (stepOf b s))
        (ix2 (rowIn s) j)
      = zAt (xOf m c) (modOf m c) (wOf m c) b s j.val := by
  refine Finset.sum_congr rfl fun k _ => congrArg₂ (· * ·) ?_ ?_
  · refine (rowsH_at _ _ _ _ _).trans (congrArg₂ (· + ·) (congrArg₂ (· * ·) ?_ (congrArg (1 + ·) ?_)) ?_)
    · refine (seen_0 m c _ _ _).trans ?_
      rw [found_rows]
      refine Eq.trans (congrArg _ ?_) (v7_at (xOf m c) b s k)
      refine congrArg (fun a => ix2 a k) (Fin.ext ?_)
      show 256 * (16 * b.val + s.val / 256) + s.val % 256 = 4096 * b.val + s.val
      omega
    · refine (seen_2 m c _ _).trans ?_
      rw [found_mods]
      refine Eq.trans (congrArg _ ?_) (v6_at (modOf m c) b ⟨1024 + k.val, by omega⟩)
      refine congrArg (fun a => ix3 a 0 (⟨1024 + k.val, by omega⟩ : Fin 6144)) (Fin.ext ?_)
      show (16 * b.val + s.val / 256) / 16 = b.val
      omega
    · refine (seen_1 m c _ _).trans ?_
      rw [found_mods]
      refine Eq.trans (congrArg _ ?_) (v6_at (modOf m c) b ⟨k.val, by omega⟩)
      refine congrArg (fun a => ix3 a 0 (⟨k.val, by omega⟩ : Fin 6144)) (Fin.ext ?_)
      show (16 * b.val + s.val / 256) / 16 = b.val
      omega
  · rw [seen_3, found_packed]
    exact pack_at (wOf m c) k j

/-- Where a written block lies in its array. -/
theorem blk_4 (c : Dev nD) (t : Fin cfg0.N) (r : Fin 256) (j : Fin 8192) :
    ((cfg0.win 4).blk t).view.read (Elt Ideal) ((held m 0 c).arrAt 4 cfg0.N) (ix2 r j)
      = (held m 0 c).arrAt 4 cfg0.N (ix2 ⟨256 * t.val + r.val, by have := hN t; omega⟩ j) := by
  generalize (held m 0 c).arrAt 4 cfg0.N = f
  blk_ext [idx t]
theorem blk_5 (c : Dev nD) (t : Fin cfg0.N) (r : Fin 512) (j : Fin 128) :
    ((cfg0.win 5).blk t).view.read (Elt Ideal) ((held m 0 c).arrAt 5 cfg0.N) (ix2 r j)
      = (held m 0 c).arrAt 5 cfg0.N (ix2 ⟨512 * t.val + r.val, by have := hN t; omega⟩ j) := by
  generalize (held m 0 c).arrAt 5 cfg0.N = f
  blk_ext [idx t]
theorem blk_6 (c : Dev nD) (t : Fin cfg0.N) (r : Fin 512) (j : Fin 128) :
    ((cfg0.win 6).blk t).view.read (Elt Ideal) ((held m 0 c).arrAt 6 cfg0.N) (ix2 r j)
      = (held m 0 c).arrAt 6 cfg0.N (ix2 ⟨512 * t.val + r.val, by have := hN t; omega⟩ j) := by
  generalize (held m 0 c).arrAt 6 cfg0.N = f
  blk_ext [idx t]

/-- Blocks of different steps are apart. -/
theorem apart_4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (Fin.ext (by
    have e : win0_4.index t = win0_4.index t' := h
    rw [(idx t).2.2.2.2.1, (idx t').2.2.2.2.1] at e
    exact congrFun e 0))
theorem apart_5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (Fin.ext (by
    have e : win0_5.index t = win0_5.index t' := h
    rw [(idx t).2.2.2.2.2.1, (idx t').2.2.2.2.2.1] at e
    exact congrFun e 0))
theorem apart_6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (Fin.ext (by
    have e : win0_6.index t = win0_6.index t' := h
    rw [(idx t).2.2.2.2.2.2, (idx t').2.2.2.2.2.2] at e
    exact congrFun e 0))

/-- The rows of `z` at the end. -/
theorem final_z (c : Dev nD) (b : Fin 16) (s : Fin 4096) (j : Fin 8192) :
    (held m 0 c).arrAt 4 cfg0.N (ix2 ⟨4096 * b.val + s.val, by omega⟩ j) = zAt (xOf m c) (modOf m c) (wOf m c) b s j.val := by
  have e : (⟨4096 * b.val + s.val, by omega⟩ : Fin 65536) = ⟨256 * (stepOf b s).val + (rowIn s).val,
      by show 256 * (16 * b.val + s.val / 256) + s.val % 256 < 65536; omega⟩ :=
    Fin.ext (by show 4096 * b.val + s.val = 256 * (16 * b.val + s.val / 256) + s.val % 256; omega)
  rw [e]
  refine (blk_4 m c (stepOf b s) (rowIn s) j).symm.trans ?_
  rw [(held m 0 c).read_blk_arrAt_eq_flushed 4 apart_4 cfg0.N (stepOf b s) (stepOf b s).isLt (flush0_4 _)]
  show (cfg0.win 4).cut (grid0.coords (stepOf b s)) ((held m 0 c).after 4 (stepOf b s)) (ix2 (rowIn s) j) = _
  rw [left_4, outZ_eq]
  exact block_at m c b s j

/-- Where the row of head `g` lies in a block of `k` or `v`. -/
theorem row_split (b : Fin 16) (s : Fin 4096) (g : Fin 2) (h : 8192 * b.val + 2 * s.val + g.val < 131072) :
    (⟨8192 * b.val + 2 * s.val + g.val, h⟩ : Fin 131072)
      = ⟨512 * (stepOf b s).val + (⟨2 * (rowIn s).val + g.val, by have := (rowIn s).isLt; omega⟩ : Fin 512).val,
        by show 512 * (16 * b.val + s.val / 256) + (2 * (s.val % 256) + g.val) < 131072; omega⟩ :=
  Fin.ext (by show 8192 * b.val + 2 * s.val + g.val = 512 * (16 * b.val + s.val / 256) + (2 * (s.val % 256) + g.val); omega)

/-- The rows of `k` at the end. -/
theorem final_k (c : Dev nD) (b : Fin 16) (s : Fin 4096) (g : Fin 2) (d : Fin 128) :
    (held m 0 c).arrAt 5 cfg0.N (ix2 ⟨8192 * b.val + 2 * s.val + g.val, by omega⟩ d)
      = zAt (xOf m c) (modOf m c) (wOf m c) b s (5120 + 128 * g.val + d.val) := by
  rw [row_split]
  refine (blk_5 m c (stepOf b s) _ d).symm.trans ?_
  rw [(held m 0 c).read_blk_arrAt_eq_flushed 5 apart_5 cfg0.N (stepOf b s) (stepOf b s).isLt (flush0_5 _)]
  show (cfg0.win 5).cut (grid0.coords (stepOf b s)) ((held m 0 c).after 5 (stepOf b s)) _ = _
  rw [left_5]
  exact (outK_at _ _ _ _ (rowIn s) g d).trans (block_at m c b s _)

/-- The rows of `v` at the end. -/
theorem final_v (c : Dev nD) (b : Fin 16) (s : Fin 4096) (g : Fin 2) (d : Fin 128) :
    (held m 0 c).arrAt 6 cfg0.N (ix2 ⟨8192 * b.val + 2 * s.val + g.val, by omega⟩ d)
      = zAt (xOf m c) (modOf m c) (wOf m c) b s (5376 + 128 * g.val + d.val) := by
  rw [row_split]
  refine (blk_6 m c (stepOf b s) _ d).symm.trans ?_
  rw [(held m 0 c).read_blk_arrAt_eq_flushed 6 apart_6 cfg0.N (stepOf b s) (stepOf b s).isLt (flush0_6 _)]
  show (cfg0.win 6).cut (grid0.coords (stepOf b s)) ((held m 0 c).after 6 (stepOf b s)) _ = _
  rw [left_6]
  exact (outV_at _ _ _ _ (rowIn s) g d).trans (block_at m c b s _)

end Cert.Proj

end
-- ==== Proof.ProjRef.lean ====
/-
  The reference projection's run, and its three results entry by entry.
-/
module
public import proofs.«01_k».proof.Proof.Gen.Reference2Ideal.Run
public import proofs.«01_k».proof.Proof.ProjValue
public import Idealize.ShloMosaic.Lib.Pointwise
@[expose] public section
noncomputable section
namespace Cert.Proj
open Cert.Reference2Ideal Cert.Reference2Ideal.Gen
open Idealize.ShloMosaic Idealize.ShloMosaic.TcCoe Idealize.ShloMosaic.Tactic Idealize.SL.Sem
set_option maxRecDepth 16384

/-- The scaled and shifted rows, as the reference writes them. -/
def refRows (x : S16x4096x1024.Idx → EReal) (md : S16x6144.Idx → EReal) : FVec Ideal S16x4096x1024 .f32 :=
  addf (F := Ideal) (φ := .f32) (mulf (F := Ideal) (φ := .f32) x (broadcastInDim S16x4096x1024 ![0, 1, 2] bcast_S16x1x1024_S16x4096x1024_0_1_2
      (addf (broadcastInDim S16x1x1024 ![] bcast_S_S16x1x1024 (constant (F := Ideal) S_ .f32 0x3F800000#32))
        (extractStridedSlice S16x1x1024 ![0, 0, 1024] (broadcastInDim S16x1x6144 ![0, 2] bcast_S16x6144_S16x1x6144_0_2 md) slices_S16x1x6144_S16x1x1024_0_0_1024))))
    (broadcastInDim S16x4096x1024 ![0, 1, 2] bcast_S16x1x1024_S16x4096x1024_0_1_2
      (extractStridedSlice S16x1x1024 ![0, 0, 0] (broadcastInDim S16x1x6144 ![0, 2] bcast_S16x6144_S16x1x6144_0_2 md) slices_S16x1x6144_S16x1x1024_0_0_0))
theorem refRows_at (x : S16x4096x1024.Idx → EReal) (md : S16x6144.Idx → EReal) (b : Fin 16) (s : Fin 4096) (k : Fin 1024) :
    refRows x md (ix3 b s k) = x (ix3 b s k) * (1 + md (ix2 b ⟨1024 + k.val, by omega⟩)) + md (ix2 b ⟨k.val, by omega⟩) := by
  unfold refRows
  pointwise [Ideal.ofBits_one_f32]

/-- The reference's projection. -/
def refProj (h : FVec Ideal S16x4096x1024 .f32) (w : S1024x8004.Idx → EReal) : FVec Ideal S16x4096x8004 .f32 :=
  Host.dotGeneral (F := Ideal) (φ₁ := .f32) (φ₂ := .f32) dot_S16x4096x1024_S1024x8004_S16x4096x8004_2_0_01_1_n_n none h w
theorem refProj_at (h : FVec Ideal S16x4096x1024 .f32) (w : S1024x8004.Idx → EReal) (b : Fin 16) (s : Fin 4096) (j : Fin 8004) :
    refProj h w (ix3 b s j) = ∑ k : Fin 1024, h (ix3 b s k) * w (ix2 k j) := by
  unfold refProj
  pointwise []

/-- The projection laid out as the kernel's rows, with the gap of zero columns. -/
def refZ (z : FVec Ideal S16x4096x8004 .f32) : FVec Ideal S65536x8192 .f32 :=
  shapeCast S65536x8192 (concatenate S16x4096x8192 2
    [⟨S16x4096x5956, extractStridedSlice S16x4096x5956 ![0, 0, 0] z slices_S16x4096x8004_S16x4096x5956_0_0_0⟩,
     ⟨S16x4096x188, broadcastInDim S16x4096x188 ![] bcast_S_S16x4096x188 (constant (F := Ideal) S_ .f32 0x00000000#32)⟩,
     ⟨S16x4096x2048, extractStridedSlice S16x4096x2048 ![0, 0, 5956] z slices_S16x4096x8004_S16x4096x2048_0_0_5956⟩]
    concatenates_S16x4096x5956_S16x4096x188_S16x4096x2048_S16x4096x8192_d2) shapeCasts_S16x4096x8192_S65536x8192
theorem refZ_at (z : FVec Ideal S16x4096x8004 .f32) (b : Fin 16) (s : Fin 4096) (j : Fin 8192) :
    refZ z (ix2 ⟨4096 * b.val + s.val, by omega⟩ j) = if h : j.val < 5956 then z (ix3 b s ⟨j.val, by omega⟩)
      else if h' : 6144 ≤ j.val then z (ix3 b s ⟨j.val - 188, by omega⟩) else 0 := by
  unfold refZ
  pointwise []
  by_cases h1 : j.val < 5956
  · rw [dif_pos h1, dif_pos h1]
  · by_cases h2 : 6144 ≤ j.val
    · rw [dif_neg h1, dif_neg h1, dif_neg (show ¬ j.val - 5956 < 188 by omega), dif_pos h2]
      exact congrArg z (congrArg (ix3 b s) (Fin.ext (by show 5956 + (j.val - 5956 - 188) = j.val - 188; omega)))
    · rw [dif_neg h1, dif_neg h1, dif_pos (show j.val - 5956 < 188 by omega), dif_neg h2]

/-- The keys' and the values' columns as rows, one per head. -/
def refK (z : FVec Ideal S16x4096x8004 .f32) : FVec Ideal S131072x128 .f32 :=
  shapeCast S131072x128 (shapeCast S16x4096x2x128 (extractStridedSlice S16x4096x256 ![0, 0, 5120] z slices_S16x4096x8004_S16x4096x256_0_0_5120)
    shapeCasts_S16x4096x256_S16x4096x2x128) shapeCasts_S16x4096x2x128_S131072x128
def refV (z : FVec Ideal S16x4096x8004 .f32) : FVec Ideal S131072x128 .f32 :=
  shapeCast S131072x128 (shapeCast S16x4096x2x128 (extractStridedSlice S16x4096x256 ![0, 0, 5376] z slices_S16x4096x8004_S16x4096x256_0_0_5376)
    shapeCasts_S16x4096x256_S16x4096x2x128) shapeCasts_S16x4096x2x128_S131072x128
theorem refK_at (z : FVec Ideal S16x4096x8004 .f32) (b : Fin 16) (s : Fin 4096) (g : Fin 2) (d : Fin 128) :
    refK z (ix2 ⟨8192 * b.val + 2 * s.val + g.val, by omega⟩ d) = z (ix3 b s ⟨5120 + 128 * g.val + d.val, by omega⟩) := by
  unfold refK
  pointwise []
  exact congrArg z (congrArg (ix3 b s) (Fin.ext (by
    show 5120 + ((8192 * b.val + 2 * s.val + g.val) % 2 * 128 + d.val) = 5120 + 128 * g.val + d.val; omega)))
theorem refV_at (z : FVec Ideal S16x4096x8004 .f32) (b : Fin 16) (s : Fin 4096) (g : Fin 2) (d : Fin 128) :
    refV z (ix2 ⟨8192 * b.val + 2 * s.val + g.val, by omega⟩ d) = z (ix3 b s ⟨5376 + 128 * g.val + d.val, by omega⟩) := by
  unfold refV
  pointwise []
  exact congrArg z (congrArg (ix3 b s) (Fin.ext (by
    show 5376 + ((8192 * b.val + 2 * s.val + g.val) % 2 * 128 + d.val) = 5376 + 128 * g.val + d.val; omega)))

/-- The reference's run, its results by the names above. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = refZ (refProj (refRows (m ((c.tc : Thread nD τ).loc main_arg0)) (m ((c.tc : Thread nD τ).loc main_arg1))) (m ((c.tc : Thread nD τ).loc main_arg2)))
      ∧ r.2.mem ((c.tc : Thread nD τ).loc main_v23) = refK (refProj (refRows (m ((c.tc : Thread nD τ).loc main_arg0)) (m ((c.tc : Thread nD τ).loc main_arg1))) (m ((c.tc : Thread nD τ).loc main_arg2)))
      ∧ r.2.mem ((c.tc : Thread nD τ).loc main_v24) = refV (refProj (refRows (m ((c.tc : Thread nD τ).loc main_arg0)) (m ((c.tc : Thread nD τ).loc main_arg1))) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1.trans (by unfold refZ refProj refRows; rfl), (h c).2.1.trans (by unfold refK refProj refRows; rfl),
    (h c).2.2.1.trans (by unfold refV refProj refRows; rfl), (h c).2.2.2⟩) (Cert.Reference2Ideal.Value.run m ρ)

/-- The reference's entries are the kernel's. -/
theorem ref_proj (x : S16x4096x1024.Idx → EReal) (md : S16x6144.Idx → EReal) (w : S1024x8004.Idx → EReal)
    (b : Fin 16) (s : Fin 4096) (j : Fin 8004) (n : ℕ) (hn : ∀ k, w (ix2 k j) = spread w k n) :
    refProj (refRows x md) w (ix3 b s j) = zAt x md w b s n :=
  (refProj_at _ _ _ _ _).trans (Finset.sum_congr rfl fun k _ => congrArg₂ (· * ·) (refRows_at _ _ _ _ _) (hn k))
/-- Which column of the weight a column of the packed weight holds. -/
theorem spread_low (w : S1024x8004.Idx → EReal) (k : Fin 1024) (j : ℕ) (h : j < 5956) : w (ix2 k ⟨j, by omega⟩) = spread w k j := by
  unfold spread
  rw [dif_pos h]
theorem spread_high (w : S1024x8004.Idx → EReal) (k : Fin 1024) (j : ℕ) (h : 6144 ≤ j ∧ j < 8192) :
    w (ix2 k ⟨j - 188, by omega⟩) = spread w k j := by
  unfold spread
  rw [dif_neg (show ¬ j < 5956 by omega), dif_pos h]
theorem spread_gap (w : S1024x8004.Idx → EReal) (k : Fin 1024) (j : ℕ) (h : ¬ j < 5956) (h' : ¬ (6144 ≤ j ∧ j < 8192)) :
    spread w k j = 0 := by
  unfold spread
  rw [dif_neg h, dif_neg h']

/-- The reference's three results at an entry. -/
theorem ref_z (x : S16x4096x1024.Idx → EReal) (md : S16x6144.Idx → EReal) (w : S1024x8004.Idx → EReal)
    (b : Fin 16) (s : Fin 4096) (j : Fin 8192) :
    refZ (refProj (refRows x md) w) (ix2 ⟨4096 * b.val + s.val, by omega⟩ j) = zAt x md w b s j.val := by
  rw [refZ_at]
  by_cases h1 : j.val < 5956
  · rw [dif_pos h1]
    exact ref_proj x md w b s _ _ fun k => spread_low w k j.val h1
  · by_cases h2 : 6144 ≤ j.val
    · rw [dif_neg h1, dif_pos h2]
      exact ref_proj x md w b s _ _ fun k => spread_high w k j.val ⟨h2, j.isLt⟩
    · rw [dif_neg h1, dif_neg h2]
      refine (Finset.sum_eq_zero fun k _ => ?_).symm
      rw [spread_gap w k j.val h1 (fun h => h2 h.1), mul_zero]
theorem ref_k (x : S16x4096x1024.Idx → EReal) (md : S16x6144.Idx → EReal) (w : S1024x8004.Idx → EReal)
    (b : Fin 16) (s : Fin 4096) (g : Fin 2) (d : Fin 128) :
    refK (refProj (refRows x md) w) (ix2 ⟨8192 * b.val + 2 * s.val + g.val, by omega⟩ d)
      = zAt x md w b s (5120 + 128 * g.val + d.val) :=
  (refK_at _ b s g d).trans (ref_proj x md w b s _ _ fun k => spread_low w k _ (by omega))
theorem ref_v (x : S16x4096x1024.Idx → EReal) (md : S16x6144.Idx → EReal) (w : S1024x8004.Idx → EReal)
    (b : Fin 16) (s : Fin 4096) (g : Fin 2) (d : Fin 128) :
    refV (refProj (refRows x md) w) (ix2 ⟨8192 * b.val + 2 * s.val + g.val, by omega⟩ d)
      = zAt x md w b s (5376 + 128 * g.val + d.val) :=
  (refV_at _ b s g d).trans (ref_proj x md w b s _ _ fun k => spread_low w k _ (by omega))

/-- Every index of the results is one of those above. -/
theorem rows_all (i : S65536x8192.Idx) : ∃ (b : Fin 16) (s : Fin 4096) (j : Fin 8192),
    i = ix2 ⟨4096 * b.val + s.val, by omega⟩ j := by
  have h : (i 0).val < 65536 := (i 0).isLt
  refine ⟨⟨(i 0).val / 4096, by omega⟩, ⟨(i 0).val % 4096, by omega⟩, i 1, (eq_ix2 i).trans (congrArg (fun a => ix2 a (i 1)) (Fin.ext ?_))⟩
  show (i 0).val = 4096 * ((i 0).val / 4096) + (i 0).val % 4096
  omega
theorem heads_all (i : S131072x128.Idx) : ∃ (b : Fin 16) (s : Fin 4096) (g : Fin 2) (d : Fin 128),
    i = ix2 ⟨8192 * b.val + 2 * s.val + g.val, by omega⟩ d := by
  have h : (i 0).val < 131072 := (i 0).isLt
  refine ⟨⟨(i 0).val / 8192, by omega⟩, ⟨(i 0).val % 8192 / 2, by omega⟩, ⟨(i 0).val % 2, by omega⟩, i 1,
    (eq_ix2 i).trans (congrArg (fun a => ix2 a (i 1)) (Fin.ext ?_))⟩
  show (i 0).val = 8192 * ((i 0).val / 8192) + 2 * ((i 0).val % 8192 / 2) + (i 0).val % 2
  omega

end Cert.Proj

end
-- ==== Proof.MergeValue.lean ====
/-
  What the merge's steps leave in its two result arrays, entry by entry: the gated sum of the two branches, its product
  with the output weight, the residual sum, its norm, and the shifted and scaled rows made of that.
-/
module
public import proofs.«01_k».proof.Proof.Gen.Kernel3Ideal.Value
public import Idealize.ShloMosaic.Lib.Pipeline.ValueKit
public import Idealize.ShloMosaic.Lib.Pointwise
@[expose] public section
noncomputable section
namespace Cert.Merge
open Cert.Kernel3Ideal Cert.Kernel3Ideal.Gen
open Idealize.ShloMosaic Idealize.ShloMosaic.TcCoe Idealize.ShloMosaic.Tactic Idealize.SL.Sem
set_option maxRecDepth 16384

/-! ## A row's norm -/

/-- The mean of a row of 1024 entries. -/
def meanOf (p : Fin 1024 → EReal) : EReal := Ideal.div (∑ j, p j) (Ideal.ofBits .f32 0x44800000#32)
/-- An entry less its row's mean. -/
def devOf (p : Fin 1024 → EReal) (j : Fin 1024) : EReal := p j - meanOf p
/-- The row's variance. -/
def varOf (p : Fin 1024 → EReal) : EReal := Ideal.div (∑ j, devOf p j * devOf p j) (Ideal.ofBits .f32 0x44800000#32)
/-- The normalized entry, with weight `g` and offset `b`. -/
def normOf (p : Fin 1024 → EReal) (g b : EReal) (j : Fin 1024) : EReal :=
  devOf p j * Ideal.rsqrt (varOf p + Ideal.ofBits .f32 0x3727C5AC#32) * g + b

/-- The gated sum of the branches' entries. -/
def gated (ga a gb b : EReal) : EReal := Ideal.logistic ga * a + Ideal.logistic gb * b
/-- The residual sum. -/
def resid (x g y : EReal) : EReal := Ideal.ofBits .f32 0x3F9837F0#32 * x + g * y

/-! ## What a step forms -/

variable (ga a gb b : Vec Ideal S256x1024 .f32) (w : Vec Ideal S1024x1024 .bf16) (x : Vec Ideal S256x1024 .f32)
  (g1 : Vec Ideal S1x1x1024 .f32)

/-- A row of the residual sum. -/
def rowPre (r : Fin 256) (j : Fin 1024) : EReal :=
  resid (x (ix2 r j)) (g1 (ix3 0 0 j))
    (∑ k : Fin 1024, gated (ga (ix2 r k)) (a (ix2 r k)) (gb (ix2 r k)) (b (ix2 r k)) * w (ix2 k j))

theorem dev_at (r : Fin 256) (j : Fin 1024) : k0_pay3 ga a gb b w x g1 (ix2 r j) = devOf (rowPre ga a gb b w x g1 r) j := by
  unfold k0_pay3
  pointwise []
  rfl
theorem var_at (r : Fin 256) : k0_pay4 ga a gb b w x g1 (ix2 r 0)
    = ∑ j, devOf (rowPre ga a gb b w x g1 r) j * devOf (rowPre ga a gb b w x g1 r) j := by
  unfold k0_pay4
  pointwise [dev_at]
theorem norm_at (g b' : Vec Ideal S1x1024 .f32) (r : Fin 256) (j : Fin 1024) :
    k0_pay1 g b' (k0_pay3 ga a gb b w x g1) (k0_pay4 ga a gb b w x g1) (k0_pay5 (F := Ideal)) (ix2 r j)
      = normOf (rowPre ga a gb b w x g1 r) (g (ix2 0 j)) (b' (ix2 0 j)) j := by
  unfold k0_pay1 k0_pay5
  pointwise [dev_at, var_at]
  rfl
theorem next_at (g b' : Vec Ideal S1x1024 .f32) (sc sh : Vec Ideal S1x1x1024 .f32) (r : Fin 256) (j : Fin 1024) :
    k0_pay2 g b' (k0_pay3 ga a gb b w x g1) (k0_pay4 ga a gb b w x g1) (k0_pay5 (F := Ideal)) sc sh (ix2 r j)
      = normOf (rowPre ga a gb b w x g1 r) (g (ix2 0 j)) (b' (ix2 0 j)) j * (1 + sc (ix3 0 0 j)) + sh (ix3 0 0 j) := by
  unfold k0_pay2
  pointwise [norm_at, Ideal.ofBits_one_f32]

/-- What a load of a whole block reads is the block, and the second half of the gates' columns. -/
theorem zeros2 : (![0, 0] : Fin 2 → ℕ) = fun _ => 0 := funext fun a => match a with | ⟨0, _⟩ => rfl | ⟨1, _⟩ => rfl
theorem zeros3 : (![0, 0, 0] : Fin 3 → ℕ) = fun _ => 0 :=
  funext fun a => match a with | ⟨0, _⟩ => rfl | ⟨1, _⟩ => rfl | ⟨2, _⟩ => rfl
theorem ld_rows (y : Vec Ideal S256x1024 .f32) : View.ld y r0_1 = y := View.ld_unit_zero zeros2 _ y
theorem ld_weight (y : Vec Ideal S1024x1024 .bf16) : View.ld y r0_3 = y := View.ld_unit_zero zeros2 _ y
theorem ld_mod (y : Vec Ideal S1x1x1024 .f32) : View.ld y r0_4 = y := View.ld_unit_zero zeros3 _ y
theorem ld_row (y : Vec Ideal S1x1024 .f32) : View.ld y r0_5 = y := View.ld_unit_zero zeros2 _ y
theorem ld_low (y : Vec Ideal S256x2048 .f32) (r : Fin 256) (j : Fin 1024) :
    View.ld y r0_0 (ix2 r j) = y (ix2 r ⟨j.val, by omega⟩) :=
  congrArg y (by idx_ext <;> simp <;> omega)
theorem ld_high (y : Vec Ideal S256x2048 .f32) (r : Fin 256) (j : Fin 1024) :
    View.ld y r0_2 (ix2 r j) = y (ix2 r ⟨1024 + j.val, by omega⟩) :=
  congrArg y (by idx_ext <;> simp <;> omega)

/-- A row of the residual sum, from the blocks of a step. -/
def blockPre (x0 x1 : Vec Ideal S256x1024 .f32) (x2 : Vec Ideal S256x2048 .f32) (x3 : Vec Ideal S256x1024 .f32)
    (x4 : Vec Ideal S1x1x1024 .f32) (x7 : Vec Ideal S1024x1024 .bf16) (r : Fin 256) (j : Fin 1024) : EReal :=
  resid (x3 (ix2 r j)) (x4 (ix3 0 0 j)) (∑ k : Fin 1024,
    gated (x2 (ix2 r ⟨k.val, by omega⟩)) (x0 (ix2 r k)) (x2 (ix2 r ⟨1024 + k.val, by omega⟩)) (x1 (ix2 r k)) * x7 (ix2 k j))

theorem rowPre_block (x0 x1 : Vec Ideal S256x1024 .f32) (x2 : Vec Ideal S256x2048 .f32) (x3 : Vec Ideal S256x1024 .f32)
    (x4 : Vec Ideal S1x1x1024 .f32) (x7 : Vec Ideal S1024x1024 .bf16) (r : Fin 256) :
    rowPre (View.ld x2 r0_0) x0 (View.ld x2 r0_2) x1 x7 x3 x4 r = blockPre x0 x1 x2 x3 x4 x7 r := by
  funext j
  refine congrArg (resid _ _) (Finset.sum_congr rfl fun k _ => ?_)
  show gated (View.ld x2 r0_0 (ix2 r k)) _ (View.ld x2 r0_2 (ix2 r k)) _ * _ = _
  rw [ld_low, ld_high]

section
variable (x0 x1 : Vec Ideal S256x1024 .f32) (x2 : Vec Ideal S256x2048 .f32) (x3 : Vec Ideal S256x1024 .f32)
  (x4 x5 x6 : Vec Ideal S1x1x1024 .f32) (x7 : Vec Ideal S1024x1024 .bf16) (x8 x9 : Vec Ideal S1x1024 .f32)

/-- The two blocks a step writes. -/
theorem out_norm (r : Fin 256) (j : Fin 1024) : out0_10 x0 x1 x2 x3 x4 x5 x6 x7 x8 x9 (ix2 r j)
    = normOf (blockPre x0 x1 x2 x3 x4 x7 r) (x8 (ix2 0 j)) (x9 (ix2 0 j)) j := by
  unfold out0_10 k0_pay6 k0_pay7 k0_pay8
  rw [View.canon_unit_zero zeros2]
  refine (norm_at _ _ _ _ _ _ _ _ _ r j).trans ?_
  rw [ld_rows, ld_rows, ld_rows, ld_weight, ld_mod, ld_row, ld_row, rowPre_block]
theorem out_next (r : Fin 256) (j : Fin 1024) : out0_11 x0 x1 x2 x3 x4 x5 x6 x7 x8 x9 (ix2 r j)
    = normOf (blockPre x0 x1 x2 x3 x4 x7 r) (x8 (ix2 0 j)) (x9 (ix2 0 j)) j * (1 + x6 (ix3 0 0 j)) + x5 (ix3 0 0 j) := by
  unfold out0_11 k0_pay6 k0_pay7 k0_pay8
  rw [View.canon_unit_zero zeros2]
  refine (next_at _ _ _ _ _ _ _ _ _ _ _ r j).trans ?_
  rw [ld_rows, ld_rows, ld_rows, ld_weight, ld_mod, ld_mod, ld_mod, ld_row, ld_row, rowPre_block]
end

/-! ## The blocks, in the arguments -/

variable (m : (ℓ : Loc nD τ sig) → Buf (Elt Ideal) ℓ)

/-- The arrays the call finds that the host prepares. -/
theorem found_mods (c : Dev nD) : V m c main_v0 = shapeCast S16x1x6144 (m ((c : Thread nD τ).loc main_arg4)) shapeCasts_S16x6144_S16x1x6144 := by
  unfold V
  after_results <;> rfl
theorem found_rows (c : Dev nD) : V m c main_v1 = shapeCast S65536x1024 (m ((c : Thread nD τ).loc main_arg3)) shapeCasts_S16x4096x1024_S65536x1024 := by
  unfold V
  after_results <;> rfl
theorem found_weight (c : Dev nD) : V m c main_v2 = truncf (F := Ideal) .bf16 (m ((c : Thread nD τ).loc main_arg5)) bitsLt_bf16_f32 := by
  unfold V
  after_results <;> rfl

/-- Which block every window shows at a step. -/
theorem idx : ∀ t : Fin cfg0.N, win0_0.index t = ![t.val, 0] ∧ win0_1.index t = ![t.val, 0] ∧ win0_2.index t = ![t.val, 3]
    ∧ win0_3.index t = ![t.val, 0] ∧ win0_4.index t = ![t.val / 16, 0, 2] ∧ win0_5.index t = ![t.val / 16, 0, 3]
    ∧ win0_6.index t = ![t.val / 16, 0, 4] ∧ win0_7.index t = ![0, 0] ∧ win0_8.index t = ![0, 0] ∧ win0_9.index t = ![0, 0]
    ∧ win0_10.index t = ![t.val, 0] ∧ win0_11.index t = ![t.val, 0] := by
  decide +kernel
theorem hN (t : Fin cfg0.N) : t.val < 256 := lt_of_lt_of_eq t.isLt N_0

/-- Where a block lies in its array. -/
theorem seen_0 (c : Dev nD) (t : Fin cfg0.N) (r : Fin 256) (d : Fin 1024) :
    iblk m c 0 t (ix2 r d) = V m c main_arg0 (ix2 ⟨256 * t.val + r.val, by have := hN t; omega⟩ d) := by
  generalize hv : V m c = v
  unfold iblk
  rw [hv]
  blk_ext [idx t]
theorem seen_1 (c : Dev nD) (t : Fin cfg0.N) (r : Fin 256) (d : Fin 1024) :
    iblk m c 1 t (ix2 r d) = V m c main_arg1 (ix2 ⟨256 * t.val + r.val, by have := hN t; omega⟩ d) := by
  generalize hv : V m c = v
  unfold iblk
  rw [hv]
  blk_ext [idx t]
theorem seen_2 (c : Dev nD) (t : Fin cfg0.N) (r : Fin 256) (d : Fin 2048) :
    iblk m c 2 t (ix2 r d) = V m c main_arg2 (ix2 ⟨256 * t.val + r.val, by have := hN t; omega⟩ ⟨6144 + d.val, by omega⟩) := by
  generalize hv : V m c = v
  unfold iblk
  rw [hv]
  blk_ext [idx t]
theorem seen_3 (c : Dev nD) (t : Fin cfg0.N) (r : Fin 256) (d : Fin 1024) :
    iblk m c 3 t (ix2 r d) = V m c main_v1 (ix2 ⟨256 * t.val + r.val, by have := hN t; omega⟩ d) := by
  generalize hv : V m c = v
  unfold iblk
  rw [hv]
  blk_ext [idx t]
theorem seen_4 (c : Dev nD) (t : Fin cfg0.N) (d : Fin 1024) :
    iblk m c 4 t (ix3 0 0 d) = V m c main_v0 (ix3 ⟨t.val / 16, by have := hN t; omega⟩ 0 ⟨2048 + d.val, by omega⟩) := by
  generalize hv : V m c = v
  unfold iblk
  rw [hv]
  blk_ext [idx t]
theorem seen_5 (c : Dev nD) (t : Fin cfg0.N) (d : Fin 1024) :
    iblk m c 5 t (ix3 0 0 d) = V m c main_v0 (ix3 ⟨t.val / 16, by have := hN t; omega⟩ 0 ⟨3072 + d.val, by omega⟩) := by
  generalize hv : V m c = v
  unfold iblk
  rw [hv]
  blk_ext [idx t]
theorem seen_6 (c : Dev nD) (t : Fin cfg0.N) (d : Fin 1024) :
    iblk m c 6 t (ix3 0 0 d) = V m c main_v0 (ix3 ⟨t.val / 16, by have := hN t; omega⟩ 0 ⟨4096 + d.val, by omega⟩) := by
  generalize hv : V m c = v
  unfold iblk
  rw [hv]
  blk_ext [idx t]
theorem seen_7 (c : Dev nD) (t : Fin cfg0.N) : iblk m c 7 t = V m c main_v2 := by
  generalize hv : V m c = v
  unfold iblk
  rw [hv]
  blk_ext! [idx t]
theorem seen_8 (c : Dev nD) (t : Fin cfg0.N) : iblk m c 8 t = V m c main_arg6 := by
  generalize hv : V m c = v
  unfold iblk
  rw [hv]
  blk_ext! [idx t]
theorem seen_9 (c : Dev nD) (t : Fin cfg0.N) : iblk m c 9 t = V m c main_arg7 := by
  generalize hv : V m c = v
  unfold iblk
  rw [hv]
  blk_ext! [idx t]

/-- The reshapes of `x` and of the modulation at an entry. -/
theorem rows_at (x : S16x4096x1024.Idx → EReal) (b : Fin 16) (s : Fin 4096) (d : Fin 1024) :
    shapeCast S65536x1024 x shapeCasts_S16x4096x1024_S65536x1024 (ix2 ⟨4096 * b.val + s.val, by omega⟩ d) = x (ix3 b s d) := by
  pointwise []
theorem mods_at (x : S16x6144.Idx → EReal) (b : Fin 16) (d : Fin 6144) :
    shapeCast S16x1x6144 x shapeCasts_S16x6144_S16x1x6144 (ix3 b 0 d) = x (ix2 b d) := by
  pointwise []

/-! ## Entries of the results -/

section
variable (oa ob : S65536x1024.Idx → EReal) (z : S65536x8192.Idx → EReal) (x : S16x4096x1024.Idx → EReal)
  (md : S16x6144.Idx → EReal) (w : S1024x1024.Idx → EReal) (g b' : S1x1024.Idx → EReal)

/-- A row of the residual sum. -/
def preAt (b : Fin 16) (s : Fin 4096) (j : Fin 1024) : EReal :=
  resid (x (ix3 b s j)) (md (ix2 b ⟨2048 + j.val, by omega⟩)) (∑ k : Fin 1024,
    gated (z (ix2 ⟨4096 * b.val + s.val, by omega⟩ ⟨6144 + k.val, by omega⟩)) (oa (ix2 ⟨4096 * b.val + s.val, by omega⟩ k))
      (z (ix2 ⟨4096 * b.val + s.val, by omega⟩ ⟨7168 + k.val, by omega⟩)) (ob (ix2 ⟨4096 * b.val + s.val, by omega⟩ k))
      * w (ix2 k j))
/-- An entry of the normalized rows, and of the rows made of them. -/
def normAt (b : Fin 16) (s : Fin 4096) (j : Fin 1024) : EReal :=
  normOf (preAt oa ob z x md w b s) (g (ix2 0 j)) (b' (ix2 0 j)) j
def nextAt (b : Fin 16) (s : Fin 4096) (j : Fin 1024) : EReal :=
  normAt oa ob z x md w g b' b s j * (1 + md (ix2 b ⟨4096 + j.val, by omega⟩)) + md (ix2 b ⟨3072 + j.val, by omega⟩)
end

/-- The arguments a device starts from. -/
abbrev oaOf (c : Dev nD) : S65536x1024.Idx → EReal := m ((c : Thread nD τ).loc main_arg0)
abbrev obOf (c : Dev nD) : S65536x1024.Idx → EReal := m ((c : Thread nD τ).loc main_arg1)
abbrev zOf (c : Dev nD) : S65536x8192.Idx → EReal := m ((c : Thread nD τ).loc main_arg2)
abbrev xOf (c : Dev nD) : S16x4096x1024.Idx → EReal := m ((c : Thread nD τ).loc main_arg3)
abbrev modOf (c : Dev nD) : S16x6144.Idx → EReal := m ((c : Thread nD τ).loc main_arg4)
abbrev wOf (c : Dev nD) : S1024x1024.Idx → EReal := m ((c : Thread nD τ).loc main_arg5)
abbrev gOf (c : Dev nD) : S1x1024.Idx → EReal := m ((c : Thread nD τ).loc main_arg6)
abbrev bOf (c : Dev nD) : S1x1024.Idx → EReal := m ((c : Thread nD τ).loc main_arg7)

/-- The step that holds row `s` of batch entry `b`, and the row's place in its block. -/
def stepOf (b : Fin 16) (s : Fin 4096) : Fin cfg0.N :=
  ⟨16 * b.val + s.val / 256, lt_of_lt_of_eq (b := 256) (by omega) N_0.symm⟩
def rowIn (s : Fin 4096) : Fin 256 := ⟨s.val % 256, Nat.mod_lt _ (by decide)⟩
theorem row_of (b : Fin 16) (s : Fin 4096) (h : 256 * (stepOf b s).val + (rowIn s).val < 65536) :
    (⟨256 * (stepOf b s).val + (rowIn s).val, h⟩ : Fin 65536) = ⟨4096 * b.val + s.val, by omega⟩ :=
  Fin.ext (by show 256 * (16 * b.val + s.val / 256) + s.val % 256 = 4096 * b.val + s.val; omega)
theorem batch_of (b : Fin 16) (s : Fin 4096) (h : (stepOf b s).val / 16 < 16) : (⟨(stepOf b s).val / 16, h⟩ : Fin 16) = b :=
  Fin.ext (by show (16 * b.val + s.val / 256) / 16 = b.val; omega)

/-- The blocks of a step, in the arguments. -/
theorem arg_oa (c : Dev nD) (b : Fin 16) (s : Fin 4096) (d : Fin 1024) :
    iblk m c 0 (stepOf b s) (ix2 (rowIn s) d) = oaOf m c (ix2 ⟨4096 * b.val + s.val, by omega⟩ d) := by
  rw [seen_0, row_of, V_main_arg0]
theorem arg_ob (c : Dev nD) (b : Fin 16) (s : Fin 4096) (d : Fin 1024) :
    iblk m c 1 (stepOf b s) (ix2 (rowIn s) d) = obOf m c (ix2 ⟨4096 * b.val + s.val, by omega⟩ d) := by
  rw [seen_1, row_of, V_main_arg1]
theorem arg_z (c : Dev nD) (b : Fin 16) (s : Fin 4096) (d : Fin 2048) :
    iblk m c 2 (stepOf b s) (ix2 (rowIn s) d) = zOf m c (ix2 ⟨4096 * b.val + s.val, by omega⟩ ⟨6144 + d.val, by omega⟩) := by
  rw [seen_2, row_of, V_main_arg2]
theorem arg_x (c : Dev nD) (b : Fin 16) (s : Fin 4096) (d : Fin 1024) :
    iblk m c 3 (stepOf b s) (ix2 (rowIn s) d) = xOf m c (ix3 b s d) := by
  rw [seen_3, row_of, found_rows]
  exact rows_at (xOf m c) b s d
theorem arg_g1 (c : Dev nD) (b : Fin 16) (s : Fin 4096) (d : Fin 1024) :
    iblk m c 4 (stepOf b s) (ix3 0 0 d) = modOf m c (ix2 b ⟨2048 + d.val, by omega⟩) := by
  rw [seen_4, batch_of, found_mods]
  exact mods_at (modOf m c) b _
theorem arg_sh (c : Dev nD) (b : Fin 16) (s : Fin 4096) (d : Fin 1024) :
    iblk m c 5 (stepOf b s) (ix3 0 0 d) = modOf m c (ix2 b ⟨3072 + d.val, by omega⟩) := by
  rw [seen_5, batch_of, found_mods]
  exact mods_at (modOf m c) b _
theorem arg_sc (c : Dev nD) (b : Fin 16) (s : Fin 4096) (d : Fin 1024) :
    iblk m c 6 (stepOf b s) (ix3 0 0 d) = modOf m c (ix2 b ⟨4096 + d.val, by omega⟩) := by
  rw [seen_6, batch_of, found_mods]
  exact mods_at (modOf m c) b _
theorem arg_w (c : Dev nD) (t : Fin cfg0.N) (k j : Fin 1024) : iblk m c 7 t (ix2 k j) = wOf m c (ix2 k j) := by
  rw [seen_7, found_weight]
  rfl

/-- A step's rows, in the arguments. -/
theorem block_pre (c : Dev nD) (b : Fin 16) (s : Fin 4096) :
    blockPre (iblk m c 0 (stepOf b s)) (iblk m c 1 (stepOf b s)) (iblk m c 2 (stepOf b s)) (iblk m c 3 (stepOf b s))
        (iblk m c 4 (stepOf b s)) (iblk m c 7 (stepOf b s)) (rowIn s)
      = preAt (oaOf m c) (obOf m c) (zOf m c) (xOf m c) (modOf m c) (wOf m c) b s := by
  funext j
  unfold blockPre preAt
  rw [arg_x, arg_g1]
  refine congrArg (resid _ _) (Finset.sum_congr rfl fun k _ => ?_)
  rw [arg_oa, arg_ob, arg_z, arg_z, arg_w]
  refine congrArg (fun a => gated _ _ (zOf m c (ix2 _ a)) _ * _) (Fin.ext ?_)
  show 6144 + (1024 + k.val) = 7168 + k.val
  omega

/-- Where a written block lies in its array. -/
theorem blk_10 (c : Dev nD) (t : Fin cfg0.N) (r : Fin 256) (j : Fin 1024) :
    ((cfg0.win 10).blk t).view.read (Elt Ideal) ((dats m 0 c).arrAt 10 cfg0.N) (ix2 r j)
      = (dats m 0 c).arrAt 10 cfg0.N (ix2 ⟨256 * t.val + r.val, by have := hN t; omega⟩ j) := by
  generalize (dats m 0 c).arrAt 10 cfg0.N = f
  blk_ext [idx t]
theorem blk_11 (c : Dev nD) (t : Fin cfg0.N) (r : Fin 256) (j : Fin 1024) :
    ((cfg0.win 11).blk t).view.read (Elt Ideal) ((dats m 0 c).arrAt 11 cfg0.N) (ix2 r j)
      = (dats m 0 c).arrAt 11 cfg0.N (ix2 ⟨256 * t.val + r.val, by have := hN t; omega⟩ j) := by
  generalize (dats m 0 c).arrAt 11 cfg0.N = f
  blk_ext [idx t]

/-- The normalized rows at the end. -/
theorem final_norm (c : Dev nD) (b : Fin 16) (s : Fin 4096) (j : Fin 1024) :
    (dats m 0 c).arrAt 10 cfg0.N (ix2 ⟨4096 * b.val + s.val, by omega⟩ j)
      = normAt (oaOf m c) (obOf m c) (zOf m c) (xOf m c) (modOf m c) (wOf m c) (gOf m c) (bOf m c) b s j := by
  rw [← row_of b s (by show 256 * (16 * b.val + s.val / 256) + s.val % 256 < 65536; omega)]
  refine (blk_10 m c (stepOf b s) (rowIn s) j).symm.trans ?_
  rw [Value.blocks10 m c _ (flush0_10 _), Value.flushed10]
  refine (out_norm _ _ _ _ _ _ _ _ _ _ (rowIn s) j).trans ?_
  rw [block_pre, seen_8, seen_9, V_main_arg6, V_main_arg7]
  rfl
/-- The rows made of them at the end. -/
theorem final_next (c : Dev nD) (b : Fin 16) (s : Fin 4096) (j : Fin 1024) :
    (dats m 0 c).arrAt 11 cfg0.N (ix2 ⟨4096 * b.val + s.val, by omega⟩ j)
      = nextAt (oaOf m c) (obOf m c) (zOf m c) (xOf m c) (modOf m c) (wOf m c) (gOf m c) (bOf m c) b s j := by
  rw [← row_of b s (by show 256 * (16 * b.val + s.val / 256) + s.val % 256 < 65536; omega)]
  refine (blk_11 m c (stepOf b s) (rowIn s) j).symm.trans ?_
  rw [Value.blocks11 m c _ (flush0_11 _), Value.flushed11]
  refine (out_next _ _ _ _ _ _ _ _ _ _ (rowIn s) j).trans ?_
  rw [block_pre, seen_8, seen_9, V_main_arg6, V_main_arg7, arg_sc, arg_sh]
  rfl

end Cert.Merge
end
-- ==== Proof.MergeRef.lean ====
/-
  The reference merge's run, and its two results entry by entry.
-/
module
public import proofs.«01_k».proof.Proof.Gen.Reference3Ideal.Run
public import proofs.«01_k».proof.Proof.MergeValue
public import Idealize.ShloMosaic.Lib.Pointwise
@[expose] public section
noncomputable section
namespace Cert.Merge
open Cert.Reference3Ideal Cert.Reference3Ideal.Gen
open Idealize.ShloMosaic Idealize.ShloMosaic.TcCoe Idealize.ShloMosaic.Tactic Idealize.SL.Sem
set_option maxRecDepth 16384

/-- The reference's sigmoid of a stretch of gates. -/
def refGate (z : FVec Ideal S65536x1024 .f32) : FVec Ideal S16x4096x1024 .f32 :=
  Host.divf (F := Ideal) (φ := .f32) (broadcastInDim S16x4096x1024 ![] bcast_S_S16x4096x1024 (constant (F := Ideal) S_ .f32 0x3F800000#32))
    (addf (broadcastInDim S16x4096x1024 ![] bcast_S_S16x4096x1024 (constant (F := Ideal) S_ .f32 0x3F800000#32))
      (Host.exp (Host.negf (shapeCast S16x4096x1024 z shapeCasts_S65536x1024_S16x4096x1024))))
theorem refGate_at (z : FVec Ideal S65536x1024 .f32) (b : Fin 16) (s : Fin 4096) (d : Fin 1024) :
    refGate z (ix3 b s d) = Ideal.logistic (z (ix2 ⟨4096 * b.val + s.val, by omega⟩ d)) := by
  unfold refGate
  pointwise []
  have e : (⟨b.val * 4096 + s.val, by omega⟩ : Fin 65536) = ⟨4096 * b.val + s.val, by omega⟩ :=
    Fin.ext (by show b.val * 4096 + s.val = 4096 * b.val + s.val; omega)
  rw [e]
  rfl

/-- The gated sum of the branches. -/
def refGated (oa ob : S65536x1024.Idx → EReal) (z : S65536x8192.Idx → EReal) : FVec Ideal S16x4096x1024 .f32 :=
  addf (F := Ideal) (φ := .f32)
    (mulf (F := Ideal) (φ := .f32) (refGate (extractStridedSlice S65536x1024 ![0, 6144] z slices_S65536x8192_S65536x1024_0_6144))
      (shapeCast S16x4096x1024 oa shapeCasts_S65536x1024_S16x4096x1024))
    (mulf (F := Ideal) (φ := .f32) (refGate (extractStridedSlice S65536x1024 ![0, 7168] z slices_S65536x8192_S65536x1024_0_7168))
      (shapeCast S16x4096x1024 ob shapeCasts_S65536x1024_S16x4096x1024))
theorem refGated_at (oa ob : S65536x1024.Idx → EReal) (z : S65536x8192.Idx → EReal) (b : Fin 16) (s : Fin 4096) (d : Fin 1024) :
    refGated oa ob z (ix3 b s d) = gated (z (ix2 ⟨4096 * b.val + s.val, by omega⟩ ⟨6144 + d.val, by omega⟩))
      (oa (ix2 ⟨4096 * b.val + s.val, by omega⟩ d)) (z (ix2 ⟨4096 * b.val + s.val, by omega⟩ ⟨7168 + d.val, by omega⟩))
      (ob (ix2 ⟨4096 * b.val + s.val, by omega⟩ d)) := by
  unfold refGated
  pointwise [refGate_at]
  have e : (⟨b.val * 4096 + s.val, by omega⟩ : Fin 65536) = ⟨4096 * b.val + s.val, by omega⟩ :=
    Fin.ext (by show b.val * 4096 + s.val = 4096 * b.val + s.val; omega)
  rw [e]
  rfl

/-- The residual sum. -/
def refPre (a : FVec Ideal S16x4096x1024 .f32) (x : S16x4096x1024.Idx → EReal) (md : S16x6144.Idx → EReal)
    (w : S1024x1024.Idx → EReal) : FVec Ideal S16x4096x1024 .f32 :=
  addf (F := Ideal) (φ := .f32)
    (mulf (F := Ideal) (φ := .f32) (broadcastInDim S16x4096x1024 ![] bcast_S_S16x4096x1024 (constant (F := Ideal) S_ .f32 0x3F9837F0#32)) x)
    (mulf (F := Ideal) (φ := .f32) (broadcastInDim S16x4096x1024 ![0, 1, 2] bcast_S16x1x1024_S16x4096x1024_0_1_2
        (extractStridedSlice S16x1x1024 ![0, 0, 2048] (broadcastInDim S16x1x6144 ![0, 2] bcast_S16x6144_S16x1x6144_0_2 md) slices_S16x1x6144_S16x1x1024_0_0_2048))
      (Host.dotGeneral (F := Ideal) (φ₁ := .f32) (φ₂ := .f32) dot_S16x4096x1024_S1024x1024_S16x4096x1024_2_0_01_1_n_n none a w))
theorem refPre_at (a : FVec Ideal S16x4096x1024 .f32) (x : S16x4096x1024.Idx → EReal) (md : S16x6144.Idx → EReal)
    (w : S1024x1024.Idx → EReal) (b : Fin 16) (s : Fin 4096) (j : Fin 1024) :
    refPre a x md w (ix3 b s j)
      = resid (x (ix3 b s j)) (md (ix2 b ⟨2048 + j.val, by omega⟩)) (∑ k : Fin 1024, a (ix3 b s k) * w (ix2 k j)) := by
  unfold refPre
  pointwise []
  rfl

/-- The deviation from the mean of a row, and the norm. -/
def refMean (p : FVec Ideal S16x4096x1024 .f32) : FVec Ideal S16x4096x1 .f32 :=
  Host.divf (F := Ideal) (φ := .f32) (broadcastInDim S16x4096x1 ![0, 1] bcast_S16x4096_S16x4096x1_0_1
    (Host.reduceAdd (F := Ideal) (φ := .f32) p (constant (F := Ideal) S_ .f32 0x00000000#32) reducesTo_S16x4096x1024_S16x4096_d2 h_S_))
    (broadcastInDim S16x4096x1 ![] bcast_S_S16x4096x1 (constant (F := Ideal) S_ .f32 0x44800000#32))
theorem refMean_at (p : FVec Ideal S16x4096x1024 .f32) (b : Fin 16) (s : Fin 4096) :
    refMean p (ix3 b s 0) = meanOf fun j => p (ix3 b s j) := by
  unfold refMean
  pointwise []
  rfl
def refDev (p : FVec Ideal S16x4096x1024 .f32) : FVec Ideal S16x4096x1024 .f32 :=
  subf (F := Ideal) (φ := .f32) p (broadcastInDim S16x4096x1024 ![0, 1, 2] bcast_S16x4096x1_S16x4096x1024_0_1_2 (refMean p))
theorem refDev_at (p : FVec Ideal S16x4096x1024 .f32) (b : Fin 16) (s : Fin 4096) (j : Fin 1024) :
    refDev p (ix3 b s j) = devOf (fun j => p (ix3 b s j)) j := by
  unfold refDev
  pointwise [refMean_at]
  rfl
def refNorm (p : FVec Ideal S16x4096x1024 .f32) (g b' : S1x1024.Idx → EReal) : FVec Ideal S16x4096x1024 .f32 :=
  addf (F := Ideal) (φ := .f32) (mulf (F := Ideal) (φ := .f32) (mulf (F := Ideal) (φ := .f32) (refDev p)
      (broadcastInDim S16x4096x1024 ![0, 1, 2] bcast_S16x4096x1_S16x4096x1024_0_1_2
        (Host.rsqrt (addf (refMean (mulf (F := Ideal) (φ := .f32) (refDev p) (refDev p)))
          (broadcastInDim S16x4096x1 ![] bcast_S_S16x4096x1 (constant (F := Ideal) S_ .f32 0x3727C5AC#32))))))
      (broadcastInDim S16x4096x1024 ![0, 1, 2] bcast_S1x1x1024_S16x4096x1024_0_1_2
        (broadcastInDim S1x1x1024 ![2] bcast_S1024_S1x1x1024_2 (shapeCast S1024 g shapeCasts_S1x1024_S1024))))
    (broadcastInDim S16x4096x1024 ![0, 1, 2] bcast_S1x1x1024_S16x4096x1024_0_1_2
      (broadcastInDim S1x1x1024 ![2] bcast_S1024_S1x1x1024_2 (shapeCast S1024 b' shapeCasts_S1x1024_S1024)))
theorem refNorm_at (p : FVec Ideal S16x4096x1024 .f32) (g b' : S1x1024.Idx → EReal) (b : Fin 16) (s : Fin 4096) (j : Fin 1024) :
    refNorm p g b' (ix3 b s j) = normOf (fun j => p (ix3 b s j)) (g (ix2 0 j)) (b' (ix2 0 j)) j := by
  unfold refNorm
  pointwise [refMean_at, refDev_at]
  rfl

/-- The rows made of the normalized rows. -/
def refNext (n : FVec Ideal S16x4096x1024 .f32) (md : S16x6144.Idx → EReal) : FVec Ideal S16x4096x1024 .f32 :=
  addf (F := Ideal) (φ := .f32) (mulf (F := Ideal) (φ := .f32) n (broadcastInDim S16x4096x1024 ![0, 1, 2] bcast_S16x1x1024_S16x4096x1024_0_1_2
      (addf (broadcastInDim S16x1x1024 ![] bcast_S_S16x1x1024 (constant (F := Ideal) S_ .f32 0x3F800000#32))
        (extractStridedSlice S16x1x1024 ![0, 0, 4096] (broadcastInDim S16x1x6144 ![0, 2] bcast_S16x6144_S16x1x6144_0_2 md) slices_S16x1x6144_S16x1x1024_0_0_4096))))
    (broadcastInDim S16x4096x1024 ![0, 1, 2] bcast_S16x1x1024_S16x4096x1024_0_1_2
      (extractStridedSlice S16x1x1024 ![0, 0, 3072] (broadcastInDim S16x1x6144 ![0, 2] bcast_S16x6144_S16x1x6144_0_2 md) slices_S16x1x6144_S16x1x1024_0_0_3072))
theorem refNext_at (n : FVec Ideal S16x4096x1024 .f32) (md : S16x6144.Idx → EReal) (b : Fin 16) (s : Fin 4096) (k : Fin 1024) :
    refNext n md (ix3 b s k) = n (ix3 b s k) * (1 + md (ix2 b ⟨4096 + k.val, by omega⟩)) + md (ix2 b ⟨3072 + k.val, by omega⟩) := by
  unfold refNext
  pointwise [Ideal.ofBits_one_f32]

/-- Both results as rows. -/
def refRows (n : FVec Ideal S16x4096x1024 .f32) : FVec Ideal S65536x1024 .f32 :=
  shapeCast S65536x1024 n shapeCasts_S16x4096x1024_S65536x1024
theorem refRows_at (n : FVec Ideal S16x4096x1024 .f32) (b : Fin 16) (s : Fin 4096) (d : Fin 1024) :
    refRows n (ix2 ⟨4096 * b.val + s.val, by omega⟩ d) = n (ix3 b s d) := by
  unfold refRows
  pointwise []
def refHalf (n : FVec Ideal S65536x1024 .f32) : FVec Ideal S65536x1024 .bf16 := truncf .bf16 n bitsLt_bf16_f32

/-- The normalized rows before they are laid out as rows, in the arguments. -/
def refOut (oa ob : S65536x1024.Idx → EReal) (z : S65536x8192.Idx → EReal) (x : S16x4096x1024.Idx → EReal)
    (md : S16x6144.Idx → EReal) (w : S1024x1024.Idx → EReal) (g b' : S1x1024.Idx → EReal) : FVec Ideal S16x4096x1024 .f32 :=
  refNorm (refPre (refGated oa ob z) x md w) g b'
theorem refOut_at (oa ob : S65536x1024.Idx → EReal) (z : S65536x8192.Idx → EReal) (x : S16x4096x1024.Idx → EReal)
    (md : S16x6144.Idx → EReal) (w : S1024x1024.Idx → EReal) (g b' : S1x1024.Idx → EReal) (b : Fin 16) (s : Fin 4096) (j : Fin 1024) :
    refOut oa ob z x md w g b' (ix3 b s j) = normAt oa ob z x md w g b' b s j := by
  refine (refNorm_at _ g b' b s j).trans ?_
  refine congrArg (fun p => normOf p (g (ix2 0 j)) (b' (ix2 0 j)) j) (funext fun j => ?_)
  refine (refPre_at _ x md w b s j).trans (congrArg (resid _ _) (Finset.sum_congr rfl fun k _ => ?_))
  rw [refGated_at]

/-- The reference's run, its results by the names above. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66) = refRows (refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_v68) = refHalf (refRows (refNext (refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun r h c => ⟨(h c).1.trans (by
      unfold Value.res_main_v66 refRows refOut refNorm refDev refMean refPre refGated refGate; rfl), (h c).2.1.trans (by
      unfold Value.res_main_v68 refHalf refRows refNext refOut refNorm refDev refMean refPre refGated refGate; rfl), (h c).2.2⟩)
    (Cert.Reference3Ideal.Value.run m ρ)

/-- The reference's two results at an entry. -/
theorem ref_norm (oa ob : S65536x1024.Idx → EReal) (z : S65536x8192.Idx → EReal) (x : S16x4096x1024.Idx → EReal)
    (md : S16x6144.Idx → EReal) (w : S1024x1024.Idx → EReal) (g b' : S1x1024.Idx → EReal) (b : Fin 16) (s : Fin 4096) (j : Fin 1024) :
    refRows (refOut oa ob z x md w g b') (ix2 ⟨4096 * b.val + s.val, by omega⟩ j) = normAt oa ob z x md w g b' b s j :=
  (refRows_at _ b s j).trans (refOut_at oa ob z x md w g b' b s j)
theorem ref_next (oa ob : S65536x1024.Idx → EReal) (z : S65536x8192.Idx → EReal) (x : S16x4096x1024.Idx → EReal)
    (md : S16x6144.Idx → EReal) (w : S1024x1024.Idx → EReal) (g b' : S1x1024.Idx → EReal) (b : Fin 16) (s : Fin 4096) (j : Fin 1024) :
    refHalf (refRows (refNext (refOut oa ob z x md w g b') md)) (ix2 ⟨4096 * b.val + s.val, by omega⟩ j) = nextAt oa ob z x md w g b' b s j := by
  refine (show refHalf (refRows (refNext (refOut oa ob z x md w g b') md)) (ix2 ⟨4096 * b.val + s.val, by omega⟩ j)
    = refRows (refNext (refOut oa ob z x md w g b') md) (ix2 ⟨4096 * b.val + s.val, by omega⟩ j) from rfl).trans ?_
  refine (refRows_at _ b s j).trans ((refNext_at _ _ _ _ _).trans ?_)
  rw [refOut_at]
  rfl

/-- Every index of the results is one of those above. -/
theorem rows_all (i : S65536x1024.Idx) : ∃ (b : Fin 16) (s : Fin 4096) (j : Fin 1024),
    i = ix2 ⟨4096 * b.val + s.val, by omega⟩ j := by
  have h : (i 0).val < 65536 := (i 0).isLt
  refine ⟨⟨(i 0).val / 4096, by omega⟩, ⟨(i 0).val % 4096, by omega⟩, i 1, (eq_ix2 i).trans (congrArg (fun a => ix2 a (i 1)) (Fin.ext ?_))⟩
  show (i 0).val = 4096 * ((i 0).val / 4096) + (i 0).val % 4096
  omega

end Cert.Merge

end
-- ==== Proof.AdaValue.lean ====
/-
  The modulation: what the call's steps leave in its result, what the reference computes, entry by entry.
-/
module
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
@[expose] public section
noncomputable section
namespace Cert.Ada
open Idealize.ShloMosaic Idealize.ShloMosaic.TcCoe Idealize.ShloMosaic.Tactic Idealize.SL.Sem
set_option maxRecDepth 16384

/-! ## The kernel -/

section
open Cert.Kernel4Ideal Cert.Kernel4Ideal.Gen

/-- An entry of the modulation, from its row of conditions, the column of the weight and the bias. -/
def modOf (p w : Fin 1024 → EReal) (b : EReal) : EReal := (∑ k, p k * Ideal.logistic (p k) * w k) + b
/-- A row of the conditions, the prompt group's before the sample group's. -/
def condOf (cp : S16x1024.Idx → EReal) (cs : S128x1024.Idx → EReal) (r : Fin 144) (k : Fin 1024) : EReal :=
  if h : r.val < 16 then cp (ix2 ⟨r.val, h⟩ k) else cs (ix2 ⟨r.val - 16, by omega⟩ k)

theorem zeros2 : (![0, 0] : Fin 2 → ℕ) = fun _ => 0 := funext fun a => match a with | ⟨0, _⟩ => rfl | ⟨1, _⟩ => rfl

/-- The block a step writes. -/
theorem step_at (x0 : Vec Ideal S144x1024 .f32) (x1 : Vec Ideal S1024x1536 .bf16) (x2 : Vec Ideal S1x1536 .f32)
    (r : Fin 144) (j : Fin 1536) : k0_pay1 x0 x1 x2 (ix2 r j) = modOf (fun k => x0 (ix2 r k)) (fun k => x1 (ix2 k j)) (x2 (ix2 0 j)) := by
  unfold k0_pay1
  pointwise []
  rfl
theorem out_at (x0 : Vec Ideal S144x1024 .f32) (x1 : Vec Ideal S1024x1536 .bf16) (x2 : Vec Ideal S1x1536 .f32)
    (r : Fin 144) (j : Fin 1536) : out0_3 x0 x1 x2 (ix2 r j) = modOf (fun k => x0 (ix2 r k)) (fun k => x1 (ix2 k j)) (x2 (ix2 0 j)) := by
  unfold out0_3
  rw [View.canon_unit_zero zeros2, View.ld_unit_zero zeros2, View.ld_unit_zero zeros2, View.ld_unit_zero zeros2]
  exact step_at x0 x1 x2 r j

variable (m : (ℓ : Loc nD τ sig) → Buf (Elt Ideal) ℓ)

/-- The arrays the call finds that the host prepares. -/
theorem found_conds (c : Dev nD) : V m c main_v0 = concatenate S144x1024 0
    [⟨S16x1024, m ((c : Thread nD τ).loc main_arg0)⟩, ⟨S128x1024, m ((c : Thread nD τ).loc main_arg1)⟩]
    concatenates_S16x1024_S128x1024_S144x1024_d0 := by
  unfold V
  after_results <;> rfl
theorem found_weight (c : Dev nD) : V m c main_v1 = truncf (F := Ideal) .bf16 (m ((c : Thread nD τ).loc main_arg2)) bitsLt_bf16_f32 := by
  unfold V
  after_results <;> rfl

/-- Which block every window shows at a step. -/
theorem idx : ∀ t : Fin cfg0.N, win0_0.index t = ![0, 0] ∧ win0_1.index t = ![0, t.val] ∧ win0_2.index t = ![0, t.val]
    ∧ win0_3.index t = ![0, t.val] := by
  decide +kernel
theorem hN (t : Fin cfg0.N) : t.val < 4 := lt_of_lt_of_eq t.isLt N_0

/-- Where a block lies in its array. -/
theorem seen_0 (c : Dev nD) (t : Fin cfg0.N) : iblk m c 0 t = V m c main_v0 := by
  generalize hv : V m c = v
  unfold iblk
  rw [hv]
  blk_ext! [idx t]
theorem seen_1 (c : Dev nD) (t : Fin cfg0.N) (k : Fin 1024) (j : Fin 1536) :
    iblk m c 1 t (ix2 k j) = V m c main_v1 (ix2 k ⟨1536 * t.val + j.val, by have := hN t; omega⟩) := by
  generalize hv : V m c = v
  unfold iblk
  rw [hv]
  blk_ext [idx t]
theorem seen_2 (c : Dev nD) (t : Fin cfg0.N) (j : Fin 1536) :
    iblk m c 2 t (ix2 0 j) = V m c main_arg3 (ix2 0 ⟨1536 * t.val + j.val, by have := hN t; omega⟩) := by
  generalize hv : V m c = v
  unfold iblk
  rw [hv]
  blk_ext [idx t]
theorem blk_3 (c : Dev nD) (t : Fin cfg0.N) (r : Fin 144) (j : Fin 1536) :
    ((cfg0.win 3).blk t).view.read (Elt Ideal) ((dats m 0 c).arrAt 3 cfg0.N) (ix2 r j)
      = (dats m 0 c).arrAt 3 cfg0.N (ix2 r ⟨1536 * t.val + j.val, by have := hN t; omega⟩) := by
  generalize (dats m 0 c).arrAt 3 cfg0.N = f
  blk_ext [idx t]

/-- A row of the joined conditions. -/
theorem conds_at (cp : S16x1024.Idx → EReal) (cs : S128x1024.Idx → EReal) (r : Fin 144) (k : Fin 1024) :
    concatenate S144x1024 0 [⟨S16x1024, cp⟩, ⟨S128x1024, cs⟩] concatenates_S16x1024_S128x1024_S144x1024_d0 (ix2 r k)
      = condOf cp cs r k := by
  pointwise []
  rfl

/-- The arguments a device starts from. -/
abbrev cpOf (c : Dev nD) : S16x1024.Idx → EReal := m ((c : Thread nD τ).loc main_arg0)
abbrev csOf (c : Dev nD) : S128x1024.Idx → EReal := m ((c : Thread nD τ).loc main_arg1)
abbrev wOf (c : Dev nD) : S1024x6144.Idx → EReal := m ((c : Thread nD τ).loc main_arg2)
abbrev bOf (c : Dev nD) : S1x6144.Idx → EReal := m ((c : Thread nD τ).loc main_arg3)

/-- The step that holds a column, and the column's place in its block. -/
def stepOf (j : Fin 6144) : Fin cfg0.N := ⟨j.val / 1536, lt_of_lt_of_eq (b := 4) (by omega) N_0.symm⟩
def colIn (j : Fin 6144) : Fin 1536 := ⟨j.val % 1536, Nat.mod_lt _ (by decide)⟩
theorem col_of (j : Fin 6144) (h : 1536 * (stepOf j).val + (colIn j).val < 6144) :
    (⟨1536 * (stepOf j).val + (colIn j).val, h⟩ : Fin 6144) = j :=
  Fin.ext (by show 1536 * (j.val / 1536) + j.val % 1536 = j.val; omega)

/-- The modulation at the end. -/
theorem final_mod (c : Dev nD) (r : Fin 144) (j : Fin 6144) : (dats m 0 c).arrAt 3 cfg0.N (ix2 r j)
    = modOf (condOf (cpOf m c) (csOf m c) r) (fun k => wOf m c (ix2 k j)) (bOf m c (ix2 0 j)) := by
  have h : 1536 * (stepOf j).val + (colIn j).val < 6144 := by have := hN (stepOf j); have := (colIn j).isLt; omega
  have e : (dats m 0 c).arrAt 3 cfg0.N (ix2 r j) = (dats m 0 c).arrAt 3 cfg0.N (ix2 r ⟨1536 * (stepOf j).val + (colIn j).val, h⟩) := by
    rw [col_of]
  refine e.trans ((blk_3 m c (stepOf j) r (colIn j)).symm.trans ?_)
  rw [Value.blocks3 m c _ (flush0_3 _), Value.flushed3]
  refine (out_at _ _ _ r (colIn j)).trans ?_
  rw [seen_0, seen_2, col_of, V_main_arg3, found_conds]
  refine congrArg₂ (fun p q => modOf p q _) (funext fun k => conds_at _ _ r k) (funext fun k => ?_)
  rw [seen_1, col_of, found_weight]
  rfl
end

/-! ## The reference -/

section
open Cert.Reference4Ideal Cert.Reference4Ideal.Gen

/-- The reference's modulation of the prompt group, of the sample group, and both. -/
def refPrompt (cp : S16x1024.Idx → EReal) (w : S1024x6144.Idx → EReal) (b : S1x6144.Idx → EReal) : FVec Ideal S16x6144 .f32 :=
  addf (Host.dotGeneral (F := Ideal) (φ₁ := .f32) (φ₂ := .f32) dot_S16x1024_S1024x6144_S16x6144_1_0_0_1_n_n none
    (mulf (F := Ideal) (φ := .f32) cp (Host.divf (F := Ideal) (φ := .f32) (broadcastInDim S16x1024 ![] bcast_S_S16x1024 (constant (F := Ideal) S_ .f32 0x3F800000#32))
      (addf (broadcastInDim S16x1024 ![] bcast_S_S16x1024 (constant (F := Ideal) S_ .f32 0x3F800000#32))
        (Host.exp (Host.negf (F := Ideal) (φ := .f32) cp))))) w)
    (broadcastInDim S16x6144 ![0, 1] bcast_S1x6144_S16x6144_0_1 (broadcastInDim S1x6144 ![1] bcast_S6144_S1x6144_1 (shapeCast S6144 b shapeCasts_S1x6144_S6144)))
def refSample (cs : S128x1024.Idx → EReal) (w : S1024x6144.Idx → EReal) (b : S1x6144.Idx → EReal) : FVec Ideal S128x6144 .f32 :=
  addf (Host.dotGeneral (F := Ideal) (φ₁ := .f32) (φ₂ := .f32) dot_S128x1024_S1024x6144_S128x6144_1_0_0_1_n_n none
    (mulf (F := Ideal) (φ := .f32) cs (Host.divf (F := Ideal) (φ := .f32) (broadcastInDim S128x1024 ![] bcast_S_S128x1024 (constant (F := Ideal) S_ .f32 0x3F800000#32))
      (addf (broadcastInDim S128x1024 ![] bcast_S_S128x1024 (constant (F := Ideal) S_ .f32 0x3F800000#32))
        (Host.exp (Host.negf (F := Ideal) (φ := .f32) cs))))) w)
    (broadcastInDim S128x6144 ![0, 1] bcast_S1x6144_S128x6144_0_1 (broadcastInDim S1x6144 ![1] bcast_S6144_S1x6144_1 (shapeCast S6144 b shapeCasts_S1x6144_S6144)))
def refBoth (p : FVec Ideal S16x6144 .f32) (s : FVec Ideal S128x6144 .f32) : FVec Ideal S144x6144 .f32 :=
  concatenate S144x6144 0 [⟨S16x6144, p⟩, ⟨S128x6144, s⟩] concatenates_S16x6144_S128x6144_S144x6144_d0

theorem refPrompt_at (cp : S16x1024.Idx → EReal) (w : S1024x6144.Idx → EReal) (b : S1x6144.Idx → EReal) (r : Fin 16) (j : Fin 6144) :
    refPrompt cp w b (ix2 r j) = modOf (fun k => cp (ix2 r k)) (fun k => w (ix2 k j)) (b (ix2 0 j)) := by
  unfold refPrompt
  pointwise []
  rfl
theorem refSample_at (cs : S128x1024.Idx → EReal) (w : S1024x6144.Idx → EReal) (b : S1x6144.Idx → EReal) (r : Fin 128) (j : Fin 6144) :
    refSample cs w b (ix2 r j) = modOf (fun k => cs (ix2 r k)) (fun k => w (ix2 k j)) (b (ix2 0 j)) := by
  unfold refSample
  pointwise []
  rfl
theorem refBoth_at (p : FVec Ideal S16x6144 .f32) (s : FVec Ideal S128x6144 .f32) (r : Fin 144) (j : Fin 6144) :
    refBoth p s (ix2 r j) = if h : r.val < 16 then p (ix2 ⟨r.val, h⟩ j) else s (ix2 ⟨r.val - 16, by omega⟩ j) := by
  unfold refBoth
  pointwise []

/-- The reference's result at an entry. -/
theorem ref_mod (cp : S16x1024.Idx → EReal) (cs : S128x1024.Idx → EReal) (w : S1024x6144.Idx → EReal) (b : S1x6144.Idx → EReal)
    (r : Fin 144) (j : Fin 6144) : refBoth (refPrompt cp w b) (refSample cs w b) (ix2 r j)
      = modOf (condOf cp cs r) (fun k => w (ix2 k j)) (b (ix2 0 j)) := by
  rw [refBoth_at]
  by_cases h : r.val < 16
  · rw [dif_pos h, refPrompt_at]
    exact congrArg (fun p => modOf p _ _) (funext fun k => by unfold condOf; rw [dif_pos h])
  · rw [dif_neg h, refSample_at]
    exact congrArg (fun p => modOf p _ _) (funext fun k => by unfold condOf; rw [dif_neg h])

/-- The reference's run, its result by the names above. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = refBoth
          (refPrompt (m ((c.tc : Thread nD τ).loc main_arg0)) (m ((c.tc : Thread nD τ).loc main_arg2)) (m ((c.tc : Thread nD τ).loc main_arg3)))
          (refSample (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans (by unfold refBoth refPrompt refSample; rfl), (h c).2⟩)
    (Cert.Reference4Ideal.Value.run m ρ)
end

end Cert.Ada
end
-- ==== Proof.SampleRun.lean ====
/-
  The run of the input projection's call for the sample group, over any float values.  Each of the two steps holds 256
  rows of `x`, the shift and scale of every row, and the whole packed weight; it writes the 256 rows of `z`, eight blocks
  of columns one after the other, and the rows of `k` and `v`, the even rows from the first head and the odd rows from
  the second.
-/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Sample

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the call finds -/

/-- The arrays as the call finds them: after the packing of the weight and the reshapes. -/
abbrev found (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the call. -/
theorem upto (vs : Variants) : Pipeline.HMain (Ix := Unit) (Name := ℕ) (U := UR sig nD τ) (Lvl := ℕ) cfgs 0 defs₀ vs m
    (main (F := F)) (found m) :=
  Pipeline.hmain_prefix cfgs 0 defs₀ vs m main hostOps0 hostOps0_sub hostOps0_fresh main_chain

/-- Nothing before the call writes an array that is none of the intermediate arrays. -/
theorem found_of (c : Dev nD) (b : Ref sig .tc) (h0 : b ≠ main_v0) (h1 : b ≠ main_v1) (h2 : b ≠ main_v2)
    (h3 : b ≠ main_v3) (h4 : b ≠ main_v4) (h5 : b ≠ main_v5) (h6 : b ≠ main_v6) (h7 : b ≠ main_v7)
    (h8 : b ≠ main_v8) (hc : b ≠ main_cst) :
    found m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (by assumption)))

theorem found_x (c : Dev nD) : found m c main_arg0 = m ((c : Thread nD τ).loc main_arg0) := by
  apply found_of <;> decide
theorem found_mod (c : Dev nD) : found m c main_arg1 = m ((c : Thread nD τ).loc main_arg1) := by
  apply found_of <;> decide
theorem found_w (c : Dev nD) : found m c main_arg2 = m ((c : Thread nD τ).loc main_arg2) := by
  apply found_of <;> decide

/-- The block a window shows at a step, of its array as the call finds it. -/
def seen (c : Dev nD) (w : Fin cfg0.W) (t : Fin cfg0.N) :
    ((cfg0.win w).xblock (cfg0.grid.coords t)).Idx → Elt F (cfg0.win w).elt :=
  ((cfg0.win w).blk t).view.read (Elt F) (found m c (Pipeline.arrRef spec0 w))

/-! ## What a step writes -/

/-- A whole block of `x`, of shifts or of scales. -/
abbrev rX : Rect S256x1024 := Rect.unit (s := S256x1024) ![0, 0] S256x1024.size inb_S256x1024_S256x1024_0_0

/-- The eight blocks of columns of the weight (`rW`) and of `z` (`rZ`). -/
abbrev rW0 : Rect S1024x8192 := Rect.unit (s := S1024x8192) ![0, 0] S1024x1024.size inb_S1024x8192_S1024x1024_0_0
abbrev rZ0 : Rect S256x8192 := Rect.unit (s := S256x8192) ![0, 0] S256x1024.size inb_S256x8192_S256x1024_0_0
abbrev rW1 : Rect S1024x8192 := Rect.unit (s := S1024x8192) ![0, 1024] S1024x1024.size inb_S1024x8192_S1024x1024_0_1024
abbrev rZ1 : Rect S256x8192 := Rect.unit (s := S256x8192) ![0, 1024] S256x1024.size inb_S256x8192_S256x1024_0_1024
abbrev rW2 : Rect S1024x8192 := Rect.unit (s := S1024x8192) ![0, 2048] S1024x1024.size inb_S1024x8192_S1024x1024_0_2048
abbrev rZ2 : Rect S256x8192 := Rect.unit (s := S256x8192) ![0, 2048] S256x1024.size inb_S256x8192_S256x1024_0_2048
abbrev rW3 : Rect S1024x8192 := Rect.unit (s := S1024x8192) ![0, 3072] S1024x1024.size inb_S1024x8192_S1024x1024_0_3072
abbrev rZ3 : Rect S256x8192 := Rect.unit (s := S256x8192) ![0, 3072] S256x1024.size inb_S256x8192_S256x1024_0_3072
abbrev rW4 : Rect S1024x8192 := Rect.unit (s := S1024x8192) ![0, 4096] S1024x1024.size inb_S1024x8192_S1024x1024_0_4096
abbrev rZ4 : Rect S256x8192 := Rect.unit (s := S256x8192) ![0, 4096] S256x1024.size inb_S256x8192_S256x1024_0_4096
abbrev rW5 : Rect S1024x8192 := Rect.unit (s := S1024x8192) ![0, 5120] S1024x1024.size inb_S1024x8192_S1024x1024_0_5120
abbrev rZ5 : Rect S256x8192 := Rect.unit (s := S256x8192) ![0, 5120] S256x1024.size inb_S256x8192_S256x1024_0_5120
abbrev rW6 : Rect S1024x8192 := Rect.unit (s := S1024x8192) ![0, 6144] S1024x1024.size inb_S1024x8192_S1024x1024_0_6144
abbrev rZ6 : Rect S256x8192 := Rect.unit (s := S256x8192) ![0, 6144] S256x1024.size inb_S256x8192_S256x1024_0_6144
abbrev rW7 : Rect S1024x8192 := Rect.unit (s := S1024x8192) ![0, 7168] S1024x1024.size inb_S1024x8192_S1024x1024_0_7168
abbrev rZ7 : Rect S256x8192 := Rect.unit (s := S256x8192) ![0, 7168] S256x1024.size inb_S256x8192_S256x1024_0_7168
/-- The even and the odd rows of a block of `k` or `v`. -/
abbrev rEven : Rect S512x128 :=
  ⟨(⟨![0, 0], S256x128.size, ![2, 1], inb_S512x128_S256x128_0_0_s_2_1⟩ : LoadRect S512x128), spos_2_1⟩
abbrev rOdd : Rect S512x128 :=
  ⟨(⟨![1, 0], S256x128.size, ![2, 1], inb_S512x128_S256x128_1_0_s_2_1⟩ : LoadRect S512x128), spos_2_1⟩

/-- The scaled and shifted rows of `x`. -/
def rowsH (x0 : Vec F S256x1024 .f32) (x1 x2 : Vec F S256x1024 .f32) : FVec F S256x1024 .bf16 :=
  k0_pay1 (View.ld x0 rX) (View.ld x2 rX) (View.ld x1 rX)

/-- What a step leaves in the rows of `z`. -/
def outZ (x0 : Vec F S256x1024 .f32) (x1 x2 : Vec F S256x1024 .f32) (x3 : Vec F S1024x8192 .bf16) : Vec F S256x8192 .f32 :=
  View.canon [⟨rZ7, k0_pay6 (rowsH x0 x1 x2) (View.ld x3 rW7)⟩,
    ⟨rZ6, k0_pay6 (rowsH x0 x1 x2) (View.ld x3 rW6)⟩,
    ⟨rZ5, k0_pay6 (rowsH x0 x1 x2) (View.ld x3 rW5)⟩,
    ⟨rZ4, k0_pay6 (rowsH x0 x1 x2) (View.ld x3 rW4)⟩,
    ⟨rZ3, k0_pay6 (rowsH x0 x1 x2) (View.ld x3 rW3)⟩,
    ⟨rZ2, k0_pay6 (rowsH x0 x1 x2) (View.ld x3 rW2)⟩,
    ⟨rZ1, k0_pay6 (rowsH x0 x1 x2) (View.ld x3 rW1)⟩,
    ⟨rZ0, k0_pay6 (rowsH x0 x1 x2) (View.ld x3 rW0)⟩]

/-- What a step leaves in the rows of `k`. -/
def outK (x0 : Vec F S256x1024 .f32) (x1 x2 : Vec F S256x1024 .f32) (x3 : Vec F S1024x8192 .bf16) : Vec F S512x128 .f32 :=
  View.canon [⟨rOdd, k0_pay10 (rowsH x0 x1 x2) (View.ld x3 rW5)⟩, ⟨rEven, k0_pay8 (rowsH x0 x1 x2) (View.ld x3 rW5)⟩]

/-- What a step leaves in the rows of `v`. -/
def outV (x0 : Vec F S256x1024 .f32) (x1 x2 : Vec F S256x1024 .f32) (x3 : Vec F S1024x8192 .bf16) : Vec F S512x128 .f32 :=
  View.canon [⟨rOdd, k0_pay11 (rowsH x0 x1 x2) (View.ld x3 rW5)⟩, ⟨rEven, k0_pay9 (rowsH x0 x1 x2) (View.ld x3 rW5)⟩]

/-- The eight blocks of columns cover `z`. -/
theorem coverZ (p0 p1 p2 p3 p4 p5 p6 p7 : Vec F S256x1024 .f32) (y : S256x8192.Idx) :
    ∃ pc ∈ ([⟨rZ7, p0⟩, ⟨rZ6, p1⟩, ⟨rZ5, p2⟩, ⟨rZ4, p3⟩, ⟨rZ3, p4⟩, ⟨rZ2, p5⟩, ⟨rZ1, p6⟩, ⟨rZ0, p7⟩] : List (View.Piece (Elt F) S256x8192 .f32)), y ∈ pc.1.set :=
  View.cover_of_tiled [⟨rZ7, p0⟩, ⟨rZ6, p1⟩, ⟨rZ5, p2⟩, ⟨rZ4, p3⟩, ⟨rZ3, p4⟩, ⟨rZ2, p5⟩, ⟨rZ1, p6⟩, ⟨rZ0, p7⟩] S256x1024.size (by rfl) y

/-- A row is even or odd. -/
theorem mem_rEven (y : S512x128.Idx) (h : (y 0).val % 2 = 0) : y ∈ rEven.set := by
  refine rEven.mem_set.mpr fun a => ?_
  match a with
  | ⟨0, _⟩ => exact ⟨(y 0).val / 2, by have := (y 0).isLt; show (y 0).val / 2 < 256; have : (y 0).val < 512 := this; omega,
      by show (y 0).val = 0 + 2 * ((y 0).val / 2); omega⟩
  | ⟨1, _⟩ => exact ⟨(y 1).val, (y 1).isLt, by show (y 1).val = 0 + 1 * (y 1).val; omega⟩

theorem mem_rOdd (y : S512x128.Idx) (h : (y 0).val % 2 = 1) : y ∈ rOdd.set := by
  refine rOdd.mem_set.mpr fun a => ?_
  match a with
  | ⟨0, _⟩ => exact ⟨(y 0).val / 2, by have := (y 0).isLt; show (y 0).val / 2 < 256; have : (y 0).val < 512 := this; omega,
      by show (y 0).val = 1 + 2 * ((y 0).val / 2); omega⟩
  | ⟨1, _⟩ => exact ⟨(y 1).val, (y 1).isLt, by show (y 1).val = 0 + 1 * (y 1).val; omega⟩

/-- The even and the odd rows cover `k`, and `v`. -/
theorem coverK (p q : Vec F S256x128 .f32) (y : S512x128.Idx) :
    ∃ pc ∈ ([⟨rOdd, p⟩, ⟨rEven, q⟩] : List (View.Piece (Elt F) S512x128 .f32)), y ∈ pc.1.set := by
  rcases Nat.mod_two_eq_zero_or_one (y 0).val with h | h
  · exact ⟨_, List.mem_cons_of_mem _ List.mem_cons_self, mem_rEven y h⟩
  · exact ⟨_, List.mem_cons_self, mem_rOdd y h⟩

/-! ## One step -/

set_option maxHeartbeats 1000000 in
/-- One step: holding the blocks it reads, it leaves them as they were and writes `outZ`, `outK` and `outV`. -/
theorem step_triple (c : Dev nD) (E : Set ℕ) (i : grid0.Coords)
    (arg1 : Memref sig .tc .vmem S256x1024 .f32) (harg1 : arg1.IsWhole)
    (arg2 : Memref sig .tc .vmem S256x1024 .f32) (harg2 : arg2.IsWhole)
    (arg3 : Memref sig .tc .vmem S256x1024 .f32) (harg3 : arg3.IsWhole)
    (arg4 : Memref sig .tc .vmem S1024x8192 .bf16) (harg4 : arg4.IsWhole)
    (arg5 : Memref sig .tc .vmem S256x8192 .f32) (harg5 : arg5.IsWhole)
    (arg6 : Memref sig .tc .vmem S512x128 .f32) (harg6 : arg6.IsWhole)
    (arg7 : Memref sig .tc .vmem S512x128 .f32) (harg7 : arg7.IsWhole)
    (x0 : Vec F S256x1024 .f32) (x1 : Vec F S256x1024 .f32) (x2 : Vec F S256x1024 .f32) (x3 : Vec F S1024x8192 .bf16)
    (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare (outZ x0 x1 x2 x3) ∗ owns (c : Thread nD τ) arg6 fullShare (outK x0 x1 x2 x3) ∗ owns (c : Thread nD τ) arg7 fullShare (outV x0 x1 x2 x3)) -∗ K ⟨⟩))
      ⊢ wp frame (wpE (defs₀ (F := F)) Variants.none c none) E (cc0_inproj i arg1 harg1 arg2 harg2 arg3 harg3 arg4 harg4 arg5 harg5 arg6 harg6 arg7 harg7) K := by
  simp only [cc0_inproj_eq_skeleton]; unfold cc0_inproj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact (View.read_writes_eq_canon _ _ _ (coverZ _ _ _ _ _ _ _ _)).trans rfl
  isplitl [H5]
  · iexists _; isplitr
    swap; · iexact H5
    ipureintro
    exact (View.read_writes_eq_canon _ _ _ (coverK _ _)).trans rfl
  iexists _; isplitr
  swap; · iexact H6
  ipureintro
  exact (View.read_writes_eq_canon _ _ _ (coverK _ _)).trans rfl

/-! ## The pipeline -/

/-- What the pipeline holds: the arrays as found; after a step the blocks read in place and the blocks written at
    `outZ`, `outK`, `outV` of them. -/
def held (_ : Fin 1) (c : Dev nD) : Dat τ (Elt F) Unit ℕ (UR sig nD τ) ℕ cfg0 c where
  A w := found m c (Pipeline.arrRef spec0 w)
  after w t := match w with
    | ⟨0, _⟩ => seen m c 0 t
    | ⟨1, _⟩ => seen m c 1 t
    | ⟨2, _⟩ => seen m c 2 t
    | ⟨3, _⟩ => seen m c 3 t
    | ⟨4, _⟩ => outZ (seen m c 0 t) (seen m c 1 t) (seen m c 2 t) (seen m c 3 t)
    | ⟨5, _⟩ => outK (seen m c 0 t) (seen m c 1 t) (seen m c 2 t) (seen m c 3 t)
    | ⟨6, _⟩ => outV (seen m c 0 t) (seen m c 1 t) (seen m c 2 t) (seen m c 3 t)
  Φ _ := Pipeline.ΦA spec0 c
  q w := Pipeline.shareOf spec0 w
  owed _ := 0

theorem held_A (c : Dev nD) (w : Fin cfg0.W) : (held m 0 c).A w = found m c (Pipeline.arrRef spec0 w) := by
  dsimp only [held]

theorem left_0 (c : Dev nD) (t : Fin cfg0.N) : (held m 0 c).after 0 t = seen m c 0 t := by dsimp only [held]
theorem left_1 (c : Dev nD) (t : Fin cfg0.N) : (held m 0 c).after 1 t = seen m c 1 t := by dsimp only [held]
theorem left_2 (c : Dev nD) (t : Fin cfg0.N) : (held m 0 c).after 2 t = seen m c 2 t := by dsimp only [held]
theorem left_3 (c : Dev nD) (t : Fin cfg0.N) : (held m 0 c).after 3 t = seen m c 3 t := by dsimp only [held]
theorem left_4 (c : Dev nD) (t : Fin cfg0.N) :
    (held m 0 c).after 4 t = outZ (seen m c 0 t) (seen m c 1 t) (seen m c 2 t) (seen m c 3 t) := by
  dsimp only [held]
theorem left_5 (c : Dev nD) (t : Fin cfg0.N) :
    (held m 0 c).after 5 t = outK (seen m c 0 t) (seen m c 1 t) (seen m c 2 t) (seen m c 3 t) := by
  dsimp only [held]
theorem left_6 (c : Dev nD) (t : Fin cfg0.N) :
    (held m 0 c).after 6 t = outV (seen m c 0 t) (seen m c 1 t) (seen m c 2 t) (seen m c 3 t) := by
  dsimp only [held]

/-- At every step a window that is read shows its block, fetched at that step or before. -/
theorem shows_0 (c : Dev nD) (t : Fin cfg0.N) (d) : (held m 0 c).before 0 t d = seen m c 0 t :=
  ((held m 0 c).before_in_eq_fetched 0 rfl (fun _ => rfl) (fun _ _ _ => rfl)
      (fun t => by rw [left_0]; unfold Dat.blockOf seen; rw [held_A]; try rfl) t d).trans
    (by unfold Dat.fetched Dat.blockOf seen; rw [held_A]; try rfl)
theorem shows_1 (c : Dev nD) (t : Fin cfg0.N) (d) : (held m 0 c).before 1 t d = seen m c 1 t :=
  ((held m 0 c).before_in_eq_fetched 1 rfl (fun _ => rfl) (fun _ _ _ => rfl)
      (fun t => by rw [left_1]; unfold Dat.blockOf seen; rw [held_A]; try rfl) t d).trans
    (by unfold Dat.fetched Dat.blockOf seen; rw [held_A]; try rfl)
theorem shows_2 (c : Dev nD) (t : Fin cfg0.N) (d) : (held m 0 c).before 2 t d = seen m c 2 t :=
  ((held m 0 c).before_in_eq_fetched 2 rfl (fun _ => rfl) (fun _ _ _ => rfl)
      (fun t => by rw [left_2]; unfold Dat.blockOf seen; rw [held_A]; try rfl) t d).trans
    (by unfold Dat.fetched Dat.blockOf seen; rw [held_A]; try rfl)
theorem shows_3 (c : Dev nD) (t : Fin cfg0.N) (d) : (held m 0 c).before 3 t d = seen m c 3 t :=
  ((held m 0 c).before_in_eq_fetched 3 rfl (fun _ => rfl) (fun _ _ _ => rfl)
      (fun t => by rw [left_3]; unfold Dat.blockOf seen; rw [held_A]; try rfl) t d).trans
    (by unfold Dat.fetched Dat.blockOf seen; rw [held_A]; try rfl)

/-- What a step starts from and what it leaves. -/
def stepPre (c : Dev nD) (t : Fin cfg0.N) : sProp (MT nD τ sig Unit (Elt F) ℕ (UR sig nD τ) ℕ) :=
  iprop((held m 0 c).Φ t.castSucc ∗ (held m 0 c).owesAt () t.castSucc
    ∗ (∃ d, owns (c : Thread nD τ) (st0_0 t) fullShare ((held m 0 c).before 0 t d))
    ∗ (∃ d, owns (c : Thread nD τ) (st0_1 t) fullShare ((held m 0 c).before 1 t d))
    ∗ (∃ d, owns (c : Thread nD τ) (st0_2 t) fullShare ((held m 0 c).before 2 t d))
    ∗ (∃ d, owns (c : Thread nD τ) (st0_3 t) fullShare ((held m 0 c).before 3 t d))
    ∗ (∃ d, owns (c : Thread nD τ) (st0_4 t) fullShare ((held m 0 c).before 4 t d))
    ∗ (∃ d, owns (c : Thread nD τ) (st0_5 t) fullShare ((held m 0 c).before 5 t d))
    ∗ (∃ d, owns (c : Thread nD τ) (st0_6 t) fullShare ((held m 0 c).before 6 t d)))

def stepPost (c : Dev nD) (t : Fin cfg0.N) : sProp (MT nD τ sig Unit (Elt F) ℕ (UR sig nD τ) ℕ) :=
  iprop((held m 0 c).Φ t.succ ∗ (held m 0 c).owesAt () t.succ
    ∗ owns (c : Thread nD τ) (st0_0 t) fullShare ((held m 0 c).after 0 t)
    ∗ owns (c : Thread nD τ) (st0_1 t) fullShare ((held m 0 c).after 1 t)
    ∗ owns (c : Thread nD τ) (st0_2 t) fullShare ((held m 0 c).after 2 t)
    ∗ owns (c : Thread nD τ) (st0_3 t) fullShare ((held m 0 c).after 3 t)
    ∗ owns (c : Thread nD τ) (st0_4 t) fullShare ((held m 0 c).after 4 t)
    ∗ owns (c : Thread nD τ) (st0_5 t) fullShare ((held m 0 c).after 5 t)
    ∗ owns (c : Thread nD τ) (st0_6 t) fullShare ((held m 0 c).after 6 t))

/-- Every step goes from the one to the other. -/
theorem step_at (c : Dev nD) (t : Fin cfg0.N) :
    stepPre m c t ⊢ wp frame (wpE (defs₀ (F := F)) Variants.none c none) Set.univ (bodyAt0 t) (fun _ => stepPost m c t) := by
  unfold stepPre stepPost bodyAt0
  simp only [shows_0, shows_1, shows_2, shows_3]
  rw [show (held m 0 c).Φ t.succ = (held m 0 c).Φ t.castSucc from rfl,
    show (held m 0 c).owesAt () t.succ = (held m 0 c).owesAt () t.castSucc from rfl,
    left_0, left_1, left_2, left_3, left_4, left_5, left_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (step_triple c Set.univ (grid0.coords t) _ _ _ _ _ _ _ _ _ _ _ _ _ _ (seen m c 0 t) (seen m c 1 t) (seen m c 2 t) (seen m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_row (t : Fin cfg0.N) :
    defs₀ (F := F) .tc cfg0.body (cfg0.bodyArgs t (cfg0.slots t)) = bodyAt0 t := by
  unfold defs₀; rw [Defs.onTc_tc]

theorem steps (c : Dev nD) : BodyObligation (held (F := F) m 0 c) (defs₀ (F := F)) Variants.none () Set.univ := fun t => by
  rw [bigSep_W0, bigSep_W0, body_row]
  exact triple_restated (step_at m c t) rfl .rfl fun _ => .rfl

set_option backward.isDefEq.respectTransparency.types false in
set_option maxHeartbeats 800000 in
/-- The run: it ends with every array of the call at what the steps write, every other array as found, and every
    counter at zero. -/
theorem run_all : θ_run defs (onTc (τ := τ) (main (F := F))) (s₀ m ρ)
    (fun r => (Pipeline.FramePost cfgs (held m) 0 (found m)) r ∧ r.2.sem = fun _ => 0) :=
  Pipeline.θ_run_frame_shared (Q' := _) cfgs (held m) (0 : Fin 1) launch₀0 defs₀ Variants.none m ρ main
    (hbody := fun c => (steps m c).loose) (hq := fun _ _ _ => rfl)
    (howed := fun _ _ => rfl) (V := found m) (hmain := upto m Variants.none) (hA := held_A m) (hΦ := fun _ _ => rfl)

/-- The run with the three results named by the pipeline's arrays, the arguments kept, and the counters at zero. -/
theorem run : θ_run defs (onTc (τ := τ) (main (F := F))) ⟨m, fun _ => 0, ρ⟩ (fun r =>
    (∀ c : Dev nD,
      r.2.mem ((c.tc : Thread nD τ).loc main_v9_0) = (held m 0 c).arrAt 4 cfg0.N
      ∧ r.2.mem ((c.tc : Thread nD τ).loc main_v9_1) = (held m 0 c).arrAt 5 cfg0.N
      ∧ r.2.mem ((c.tc : Thread nD τ).loc main_v9_2) = (held m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c => ⟨(h.1 c).1 4, (h.1 c).1 5, (h.1 c).1 6,
      ((h.1 c).2 main_arg0 (Pipeline.mem_restRefs_of main_arg0 (by decide) (by decide))).trans (found_x m c),
      ((h.1 c).2 main_arg1 (Pipeline.mem_restRefs_of main_arg1 (by decide) (by decide))).trans (found_mod m c),
      ((h.1 c).2 main_arg2 (Pipeline.mem_restRefs_of main_arg2 (by decide) (by decide))).trans (found_w m c)⟩, h.2⟩) (run_all m ρ)

/-- The arguments are kept. -/
theorem kept : θ_run defs (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c => (h.1 c).2.2.2, h.2⟩) (run m ρ)

end Cert.Sample

end
-- ==== Proof.SampleValue.lean ====
/-
  What the sample group's projection's steps leave in its three result arrays, entry by entry: a step's products in terms of the blocks
  it holds, the blocks in terms of the arguments, and the arrays from the blocks.
-/
module
public import proofs.«01_k».proof.Proof.SampleRun
public import proofs.«01_k».proof.Proof.ProjRef
public import Idealize.ShloMosaic.Lib.Pipeline.ValueKit
public import Idealize.ShloMosaic.Lib.Pointwise
@[expose] public section
noncomputable section
namespace Cert.Sample
open Cert.Kernel5Ideal Cert.Kernel5Ideal.Gen
open Idealize.ShloMosaic Idealize.ShloMosaic.TcCoe Idealize.ShloMosaic.Tactic Idealize.SL.Sem
set_option maxRecDepth 16384
variable (m : (ℓ : Loc nD τ sig) → Buf (Elt Ideal) ℓ)

/-- The arrays the call finds, in the arguments: the rows of `x`, the packed weight, the modulation rows. -/
theorem found_rows (c : Dev nD) : found m c main_v8 = shapeCast S512x1024 (m ((c : Thread nD τ).loc main_arg0)) shapeCasts_S128x4x1024_S512x1024 := by
  unfold found
  after_results <;> rfl
theorem found_packed (c : Dev nD) : found m c main_v5 = truncf (F := Ideal) .bf16 (concatenate S1024x8192 1
      [⟨S1024x5632, extractStridedSlice S1024x5632 ![0, 0] (m ((c : Thread nD τ).loc main_arg2)) slices_S1024x8004_S1024x5632_0_0⟩,
       ⟨S1024x324, extractStridedSlice S1024x324 ![0, 5632] (m ((c : Thread nD τ).loc main_arg2)) slices_S1024x8004_S1024x324_0_5632⟩,
       ⟨S1024x188, broadcastInDim S1024x188 ![] bcast_S_S1024x188 (constant (F := Ideal) S_ .f32 0x00000000#32)⟩,
       ⟨S1024x2048, extractStridedSlice S1024x2048 ![0, 5956] (m ((c : Thread nD τ).loc main_arg2)) slices_S1024x8004_S1024x2048_0_5956⟩]
       concatenates_S1024x5632_S1024x324_S1024x188_S1024x2048_S1024x8192_d1) bitsLt_bf16_f32 := by
  unfold found
  after_results <;> rfl
theorem found_mods (c : Dev nD) : found m c main_v7 = shapeCast S512x6144 (broadcastInDim S128x4x6144 ![0, 2] bcast_S128x6144_S128x4x6144_0_2 (m ((c : Thread nD τ).loc main_arg1)))
    shapeCasts_S128x4x6144_S512x6144 := by
  unfold found
  after_results <;> rfl
/-- Which block every window shows at a step. -/
theorem idx : ∀ t : Fin cfg0.N, win0_0.index t = ![t.val, 0] ∧ win0_1.index t = ![t.val, 0] ∧ win0_2.index t = ![t.val, 1]
    ∧ win0_3.index t = ![0, 0] ∧ win0_4.index t = ![t.val, 0] ∧ win0_5.index t = ![t.val, 0] ∧ win0_6.index t = ![t.val, 0] := by
  decide +kernel
theorem hN (t : Fin cfg0.N) : t.val < 2 := lt_of_lt_of_eq t.isLt N_0

/-- Where a block lies in its array. -/
theorem seen_0 (c : Dev nD) (t : Fin cfg0.N) (r : Fin 256) (d : Fin 1024) :
    seen m c 0 t (ix2 r d) = found m c main_v8 (ix2 ⟨256 * t.val + r.val, by have := hN t; omega⟩ d) := by
  generalize hv : found m c = v
  unfold seen
  rw [hv]
  blk_ext [idx t]
theorem seen_1 (c : Dev nD) (t : Fin cfg0.N) (r : Fin 256) (d : Fin 1024) :
    seen m c 1 t (ix2 r d) = found m c main_v7 (ix2 ⟨256 * t.val + r.val, by have := hN t; omega⟩ ⟨d.val, by omega⟩) := by
  generalize hv : found m c = v
  unfold seen
  rw [hv]
  blk_ext [idx t]
theorem seen_2 (c : Dev nD) (t : Fin cfg0.N) (r : Fin 256) (d : Fin 1024) :
    seen m c 2 t (ix2 r d) = found m c main_v7 (ix2 ⟨256 * t.val + r.val, by have := hN t; omega⟩ ⟨1024 + d.val, by omega⟩) := by
  generalize hv : found m c = v
  unfold seen
  rw [hv]
  blk_ext [idx t]
theorem seen_3 (c : Dev nD) (t : Fin cfg0.N) :
    seen m c 3 t = found m c main_v5 := by
  generalize hv : found m c = v
  unfold seen
  rw [hv]
  blk_ext! [idx t]
/-- The reshapes of `x` and of the modulation at an entry. -/
theorem v8_at (x : S128x4x1024.Idx → EReal) (b : Fin 128) (s : Fin 4) (d : Fin 1024) :
    shapeCast S512x1024 x shapeCasts_S128x4x1024_S512x1024 (ix2 ⟨4 * b.val + s.val, by omega⟩ d) = x (ix3 b s d) := by
  pointwise []
theorem v7_at (x : S128x6144.Idx → EReal) (b : Fin 128) (s : Fin 4) (d : Fin 6144) :
    shapeCast S512x6144 (broadcastInDim S128x4x6144 ![0, 2] bcast_S128x6144_S128x4x6144_0_2 x) shapeCasts_S128x4x6144_S512x6144
      (ix2 ⟨4 * b.val + s.val, by omega⟩ d) = x (ix2 b d) := by
  pointwise []

/-- The packed weight at an entry. -/
theorem pack_at (w : S1024x8004.Idx → EReal) (k : Fin 1024) (c : Fin 8192) :
    concatenate S1024x8192 1
      [⟨S1024x5632, extractStridedSlice S1024x5632 ![0, 0] w slices_S1024x8004_S1024x5632_0_0⟩,
       ⟨S1024x324, extractStridedSlice S1024x324 ![0, 5632] w slices_S1024x8004_S1024x324_0_5632⟩,
       ⟨S1024x188, broadcastInDim S1024x188 ![] bcast_S_S1024x188 (constant (F := Ideal) S_ .f32 0x00000000#32)⟩,
       ⟨S1024x2048, extractStridedSlice S1024x2048 ![0, 5956] w slices_S1024x8004_S1024x2048_0_5956⟩]
       concatenates_S1024x5632_S1024x324_S1024x188_S1024x2048_S1024x8192_d1 (ix2 k c) = Cert.Proj.spread w k c.val := by
  unfold Cert.Proj.spread
  pointwise []
  by_cases h1 : c.val < 5632
  · rw [dif_pos h1, dif_pos (show c.val < 5956 by omega)]
  · by_cases h2 : c.val - 5632 < 324
    · rw [dif_neg h1, dif_pos h2, dif_pos (show c.val < 5956 by omega)]
      exact congrArg w (congrArg (ix2 k) (Fin.ext (by show 5632 + (c.val - 5632) = c.val; omega)))
    · by_cases h3 : 6144 ≤ c.val
      · rw [dif_neg h1, dif_neg h2, dif_neg (show ¬ c.val - 5632 - 324 < 188 by omega), dif_neg (show ¬ c.val < 5956 by omega),
          dif_pos h3]
        exact congrArg w (congrArg (ix2 k) (Fin.ext (by show 5956 + (c.val - 5632 - 324 - 188) = c.val - 188; omega)))
      · rw [dif_neg h1, dif_neg h2, dif_pos (show c.val - 5632 - 324 < 188 by omega), dif_neg (show ¬ c.val < 5956 by omega),
          dif_neg h3]

/-- What a step forms, at an entry: the scaled and shifted rows, and their products with blocks of the weight. -/
theorem rowsH_at (x0 : Vec Ideal S256x1024 .f32) (x1 x2 : Vec Ideal S256x1024 .f32) (r : Fin 256) (d : Fin 1024) :
    rowsH x0 x1 x2 (ix2 r d) = x0 (ix2 r d) * (1 + x2 (ix2 r d)) + x1 (ix2 r d) := by
  unfold rowsH k0_pay1
  pointwise [Ideal.ofBits_one_f32]

theorem tile_at (h : FVec Ideal S256x1024 .bf16) (w : Vec Ideal S1024x1024 .bf16) (r : Fin 256) (d : Fin 1024) :
    k0_pay6 h w (ix2 r d) = ∑ k : Fin 1024, h (ix2 r k) * w (ix2 k d) := by
  unfold k0_pay6
  pointwise []
theorem k_even (h : FVec Ideal S256x1024 .bf16) (w : Vec Ideal S1024x1024 .bf16) (r : Fin 256) (d : Fin 128) :
    k0_pay8 h w (ix2 r d) = ∑ k : Fin 1024, h (ix2 r k) * w (ix2 k ⟨d.val, by omega⟩) := by
  unfold k0_pay8 k0_pay7
  pointwise []
theorem k_odd (h : FVec Ideal S256x1024 .bf16) (w : Vec Ideal S1024x1024 .bf16) (r : Fin 256) (d : Fin 128) :
    k0_pay10 h w (ix2 r d) = ∑ k : Fin 1024, h (ix2 r k) * w (ix2 k ⟨128 + d.val, by omega⟩) := by
  unfold k0_pay10 k0_pay7
  pointwise []
theorem v_even (h : FVec Ideal S256x1024 .bf16) (w : Vec Ideal S1024x1024 .bf16) (r : Fin 256) (d : Fin 128) :
    k0_pay9 h w (ix2 r d) = ∑ k : Fin 1024, h (ix2 r k) * w (ix2 k ⟨256 + d.val, by omega⟩) := by
  unfold k0_pay9 k0_pay7
  pointwise []
theorem v_odd (h : FVec Ideal S256x1024 .bf16) (w : Vec Ideal S1024x1024 .bf16) (r : Fin 256) (d : Fin 128) :
    k0_pay11 h w (ix2 r d) = ∑ k : Fin 1024, h (ix2 r k) * w (ix2 k ⟨384 + d.val, by omega⟩) := by
  unfold k0_pay11 k0_pay7
  pointwise []

/-- The products of a step, at any column. -/
def colsOf (h : FVec Ideal S256x1024 .bf16) (w : Vec Ideal S1024x8192 .bf16) (y : S256x8192.Idx) : EReal :=
  ∑ k : Fin 1024, h (ix2 (y 0) k) * w (ix2 k (y 1))

/-- The eight blocks of columns together are the products at every column. -/
theorem outZ_eq (x0 : Vec Ideal S256x1024 .f32) (x1 x2 : Vec Ideal S256x1024 .f32) (x3 : Vec Ideal S1024x8192 .bf16) :
    outZ x0 x1 x2 x3 = colsOf (rowsH x0 x1 x2) x3 := by
  funext y
  refine View.canon_apply_of_pieces (Val := Elt Ideal) (colsOf (rowsH x0 x1 x2) x3) _ ?_ y (coverZ _ _ _ _ _ _ _ _ y)
  intro p hp x
  simp only [List.mem_cons, List.not_mem_nil, or_false] at hp
  rcases hp with rfl | rfl | rfl | rfl | rfl | rfl | rfl | rfl
  all_goals
    rw [eq_ix2 x]
    refine (tile_at _ _ _ _).trans (Finset.sum_congr rfl fun k _ => congrArg₂ (· * ·) (congrArg _ ?_) (congrArg x3 ?_))
  all_goals
    idx_ext <;> simp <;> omega

/-- The even and the odd rows of a block. -/
theorem not_odd (r : Fin 256) (d : Fin 128) : ix2 (⟨2 * r.val + 0, by omega⟩ : Fin 512) d ∉ rOdd.set := fun h => by
  obtain ⟨j, _, e⟩ := rOdd.mem_set.mp h 0
  have : 2 * r.val + 0 = 1 + 2 * j := e
  omega
theorem even_eq (r : Fin 256) (d : Fin 128) : ix2 (⟨2 * r.val + 0, by omega⟩ : Fin 512) d = rEven.emb (ix2 r d) := by
  refine funext fun a => Fin.ext ?_
  match a with
  | ⟨0, _⟩ => show 2 * r.val + 0 = 0 + 2 * r.val; omega
  | ⟨1, _⟩ => show d.val = 0 + 1 * d.val; omega
theorem odd_eq (r : Fin 256) (d : Fin 128) : ix2 (⟨2 * r.val + 1, by omega⟩ : Fin 512) d = rOdd.emb (ix2 r d) := by
  refine funext fun a => Fin.ext ?_
  match a with
  | ⟨0, _⟩ => show 2 * r.val + 1 = 1 + 2 * r.val; omega
  | ⟨1, _⟩ => show d.val = 0 + 1 * d.val; omega

/-- The columns of the keys and values in the packed weight. -/
theorem rW5_idx (k : Fin 1024) (d : Fin 1024) : rW5.idx (ix2 k d) = ix2 k ⟨5120 + d.val, by omega⟩ := by
  refine funext fun a => Fin.ext ?_
  match a with
  | ⟨0, _⟩ => show 0 + 1 * k.val = k.val; omega
  | ⟨1, _⟩ => show 5120 + 1 * d.val = 5120 + d.val; omega

/-- The even rows hold the rows stored first, the odd rows those stored second. -/
theorem even_read (p q : Vec Ideal S256x128 .f32) (r : Fin 256) (d : Fin 128) :
    View.canon (Val := Elt Ideal) (s := S512x128) (e := .f32) [⟨rOdd, p⟩, ⟨rEven, q⟩] (ix2 ⟨2 * r.val + 0, by omega⟩ d) = q (ix2 r d) := by
  have h := View.canon_cons_of_not_mem (Val := Elt Ideal) (s := S512x128) (e := .f32) ⟨rOdd, p⟩ [⟨rEven, q⟩]
    (y := ix2 ⟨2 * r.val + 0, by omega⟩ d) (not_odd r d)
  refine h.trans ?_
  rw [even_eq]
  exact View.canon_cons_emb (Val := Elt Ideal) (s := S512x128) (e := .f32) rEven q [] (ix2 r d)
theorem odd_read (p q : Vec Ideal S256x128 .f32) (r : Fin 256) (d : Fin 128) :
    View.canon (Val := Elt Ideal) (s := S512x128) (e := .f32) [⟨rOdd, p⟩, ⟨rEven, q⟩] (ix2 ⟨2 * r.val + 1, by omega⟩ d) = p (ix2 r d) := by
  rw [odd_eq]
  exact View.canon_cons_emb (Val := Elt Ideal) (s := S512x128) (e := .f32) rOdd p [⟨rEven, q⟩] (ix2 r d)

/-- The rows of `k` and `v` a step leaves. -/
theorem outK_at (x0 : Vec Ideal S256x1024 .f32) (x1 x2 : Vec Ideal S256x1024 .f32) (x3 : Vec Ideal S1024x8192 .bf16)
    (r : Fin 256) (g : Fin 2) (d : Fin 128) :
    outK x0 x1 x2 x3 (ix2 ⟨2 * r.val + g.val, by omega⟩ d) = colsOf (rowsH x0 x1 x2) x3 (ix2 r ⟨5120 + 128 * g.val + d.val, by omega⟩) := by
  unfold outK
  match g with
  | ⟨0, _⟩ =>
    refine (even_read _ _ r d).trans ((k_even _ _ _ _).trans (Finset.sum_congr rfl fun k _ => congrArg (_ * ·) (congrArg x3 ((rW5_idx k _).trans ?_))))
    exact congrArg (ix2 k) (Fin.ext (by show 5120 + d.val = 5120 + 128 * 0 + d.val; omega))
  | ⟨1, _⟩ =>
    refine (odd_read _ _ r d).trans ((k_odd _ _ _ _).trans (Finset.sum_congr rfl fun k _ => congrArg (_ * ·) (congrArg x3 ((rW5_idx k _).trans ?_))))
    exact congrArg (ix2 k) (Fin.ext (by show 5120 + (128 + d.val) = 5120 + 128 * 1 + d.val; omega))
theorem outV_at (x0 : Vec Ideal S256x1024 .f32) (x1 x2 : Vec Ideal S256x1024 .f32) (x3 : Vec Ideal S1024x8192 .bf16)
    (r : Fin 256) (g : Fin 2) (d : Fin 128) :
    outV x0 x1 x2 x3 (ix2 ⟨2 * r.val + g.val, by omega⟩ d) = colsOf (rowsH x0 x1 x2) x3 (ix2 r ⟨5376 + 128 * g.val + d.val, by omega⟩) := by
  unfold outV
  match g with
  | ⟨0, _⟩ =>
    refine (even_read _ _ r d).trans ((v_even _ _ _ _).trans (Finset.sum_congr rfl fun k _ => congrArg (_ * ·) (congrArg x3 ((rW5_idx k _).trans ?_))))
    exact congrArg (ix2 k) (Fin.ext (by show 5120 + (256 + d.val) = 5376 + 128 * 0 + d.val; omega))
  | ⟨1, _⟩ =>
    refine (odd_read _ _ r d).trans ((v_odd _ _ _ _).trans (Finset.sum_congr rfl fun k _ => congrArg (_ * ·) (congrArg x3 ((rW5_idx k _).trans ?_))))
    exact congrArg (ix2 k) (Fin.ext (by show 5120 + (384 + d.val) = 5376 + 128 * 1 + d.val; omega))

/-! ## Entries of the results -/

/-- A scaled and shifted entry. -/
def hAt (x : S128x4x1024.Idx → EReal) (md : S128x6144.Idx → EReal) (b : Fin 128) (s : Fin 4) (k : Fin 1024) : EReal :=
  x (ix3 b s k) * (1 + md (ix2 b ⟨1024 + k.val, by omega⟩)) + md (ix2 b ⟨k.val, by omega⟩)
/-- An entry of the projection with its gap. -/
def zAt (x : S128x4x1024.Idx → EReal) (md : S128x6144.Idx → EReal) (w : S1024x8004.Idx → EReal)
    (b : Fin 128) (s : Fin 4) (c : ℕ) : EReal :=
  ∑ k : Fin 1024, hAt x md b s k * Cert.Proj.spread w k c

/-- The arguments a device starts from. -/
abbrev xOf (c : Dev nD) : S128x4x1024.Idx → EReal := m ((c : Thread nD τ).loc main_arg0)
abbrev modOf (c : Dev nD) : S128x6144.Idx → EReal := m ((c : Thread nD τ).loc main_arg1)
abbrev wOf (c : Dev nD) : S1024x8004.Idx → EReal := m ((c : Thread nD τ).loc main_arg2)

/-- The step that holds row `s` of batch entry `b`, and the row's place in its block. -/
def stepOf (b : Fin 128) : Fin cfg0.N := ⟨b.val / 64, lt_of_lt_of_eq (b := 2) (by omega) N_0.symm⟩
def rowIn (b : Fin 128) (s : Fin 4) : Fin 256 := ⟨4 * (b.val % 64) + s.val, by omega⟩
theorem row_of (b : Fin 128) (s : Fin 4) (h : 256 * (stepOf b).val + (rowIn b s).val < 512) :
    (⟨256 * (stepOf b).val + (rowIn b s).val, h⟩ : Fin 512) = ⟨4 * b.val + s.val, by omega⟩ :=
  Fin.ext (by show 256 * (b.val / 64) + (4 * (b.val % 64) + s.val) = 4 * b.val + s.val; omega)

/-- A step's products, in the arguments. -/
theorem block_at (c : Dev nD) (b : Fin 128) (s : Fin 4) (j : Fin 8192) :
    colsOf (rowsH (seen m c 0 (stepOf b)) (seen m c 1 (stepOf b)) (seen m c 2 (stepOf b))) (seen m c 3 (stepOf b))
        (ix2 (rowIn b s) j)
      = zAt (xOf m c) (modOf m c) (wOf m c) b s j.val := by
  refine Finset.sum_congr rfl fun k _ => congrArg₂ (· * ·) ?_ ?_
  · refine (rowsH_at _ _ _ _ _).trans (congrArg₂ (· + ·) (congrArg₂ (· * ·) ?_ (congrArg (1 + ·) ?_)) ?_)
    · refine (seen_0 m c _ (rowIn b s) k).trans ((congrArg (fun n => found m c main_v8 (ix2 n k)) (row_of b s _)).trans ?_)
      rw [found_rows]
      exact v8_at (xOf m c) b s k
    · refine (seen_2 m c _ (rowIn b s) k).trans ((congrArg (fun n => found m c main_v7 (ix2 n ⟨1024 + k.val, by omega⟩)) (row_of b s _)).trans ?_)
      rw [found_mods]
      exact v7_at (modOf m c) b s ⟨1024 + k.val, by omega⟩
    · refine (seen_1 m c _ (rowIn b s) k).trans ((congrArg (fun n => found m c main_v7 (ix2 n ⟨k.val, by omega⟩)) (row_of b s _)).trans ?_)
      rw [found_mods]
      exact v7_at (modOf m c) b s ⟨k.val, by omega⟩
  · rw [seen_3, found_packed]
    exact pack_at (wOf m c) k j

/-- Where a written block lies in its array. -/
theorem blk_4 (c : Dev nD) (t : Fin cfg0.N) (r : Fin 256) (j : Fin 8192) :
    ((cfg0.win 4).blk t).view.read (Elt Ideal) ((held m 0 c).arrAt 4 cfg0.N) (ix2 r j)
      = (held m 0 c).arrAt 4 cfg0.N (ix2 ⟨256 * t.val + r.val, by have := hN t; omega⟩ j) := by
  generalize (held m 0 c).arrAt 4 cfg0.N = f
  blk_ext [idx t]
theorem blk_5 (c : Dev nD) (t : Fin cfg0.N) (r : Fin 512) (j : Fin 128) :
    ((cfg0.win 5).blk t).view.read (Elt Ideal) ((held m 0 c).arrAt 5 cfg0.N) (ix2 r j)
      = (held m 0 c).arrAt 5 cfg0.N (ix2 ⟨512 * t.val + r.val, by have := hN t; omega⟩ j) := by
  generalize (held m 0 c).arrAt 5 cfg0.N = f
  blk_ext [idx t]
theorem blk_6 (c : Dev nD) (t : Fin cfg0.N) (r : Fin 512) (j : Fin 128) :
    ((cfg0.win 6).blk t).view.read (Elt Ideal) ((held m 0 c).arrAt 6 cfg0.N) (ix2 r j)
      = (held m 0 c).arrAt 6 cfg0.N (ix2 ⟨512 * t.val + r.val, by have := hN t; omega⟩ j) := by
  generalize (held m 0 c).arrAt 6 cfg0.N = f
  blk_ext [idx t]

/-- Blocks of different steps are apart. -/
theorem apart_4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (Fin.ext (by
    have e : win0_4.index t = win0_4.index t' := h
    rw [(idx t).2.2.2.2.1, (idx t').2.2.2.2.1] at e
    exact congrFun e 0))
theorem apart_5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (Fin.ext (by
    have e : win0_5.index t = win0_5.index t' := h
    rw [(idx t).2.2.2.2.2.1, (idx t').2.2.2.2.2.1] at e
    exact congrFun e 0))
theorem apart_6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (Fin.ext (by
    have e : win0_6.index t = win0_6.index t' := h
    rw [(idx t).2.2.2.2.2.2, (idx t').2.2.2.2.2.2] at e
    exact congrFun e 0))

/-- The rows of `z` at the end. -/
theorem final_z (c : Dev nD) (b : Fin 128) (s : Fin 4) (j : Fin 8192) :
    (held m 0 c).arrAt 4 cfg0.N (ix2 ⟨4 * b.val + s.val, by omega⟩ j) = zAt (xOf m c) (modOf m c) (wOf m c) b s j.val := by
  rw [← row_of b s (by show 256 * (b.val / 64) + (4 * (b.val % 64) + s.val) < 512; omega)]
  refine (blk_4 m c (stepOf b) (rowIn b s) j).symm.trans ?_
  rw [(held m 0 c).read_blk_arrAt_eq_flushed 4 apart_4 cfg0.N (stepOf b) (stepOf b).isLt (flush0_4 _)]
  show (cfg0.win 4).cut (grid0.coords (stepOf b)) ((held m 0 c).after 4 (stepOf b)) (ix2 (rowIn b s) j) = _
  rw [left_4, outZ_eq]
  exact block_at m c b s j

/-- Where the row of head `g` lies in a block of `k` or `v`. -/
theorem row_split (b : Fin 128) (s : Fin 4) (g : Fin 2) (h : 8 * b.val + 2 * s.val + g.val < 1024) :
    (⟨8 * b.val + 2 * s.val + g.val, h⟩ : Fin 1024)
      = ⟨512 * (stepOf b).val + (⟨2 * (rowIn b s).val + g.val, by have := (rowIn b s).isLt; omega⟩ : Fin 512).val,
        by show 512 * (b.val / 64) + (2 * (4 * (b.val % 64) + s.val) + g.val) < 1024; omega⟩ :=
  Fin.ext (by show 8 * b.val + 2 * s.val + g.val = 512 * (b.val / 64) + (2 * (4 * (b.val % 64) + s.val) + g.val); omega)

/-- The rows of `k` at the end. -/
theorem final_k (c : Dev nD) (b : Fin 128) (s : Fin 4) (g : Fin 2) (d : Fin 128) :
    (held m 0 c).arrAt 5 cfg0.N (ix2 ⟨8 * b.val + 2 * s.val + g.val, by omega⟩ d)
      = zAt (xOf m c) (modOf m c) (wOf m c) b s (5120 + 128 * g.val + d.val) := by
  rw [row_split]
  refine (blk_5 m c (stepOf b) _ d).symm.trans ?_
  rw [(held m 0 c).read_blk_arrAt_eq_flushed 5 apart_5 cfg0.N (stepOf b) (stepOf b).isLt (flush0_5 _)]
  show (cfg0.win 5).cut (grid0.coords (stepOf b)) ((held m 0 c).after 5 (stepOf b)) _ = _
  rw [left_5]
  exact (outK_at _ _ _ _ (rowIn b s) g d).trans (block_at m c b s _)

/-- The rows of `v` at the end. -/
theorem final_v (c : Dev nD) (b : Fin 128) (s : Fin 4) (g : Fin 2) (d : Fin 128) :
    (held m 0 c).arrAt 6 cfg0.N (ix2 ⟨8 * b.val + 2 * s.val + g.val, by omega⟩ d)
      = zAt (xOf m c) (modOf m c) (wOf m c) b s (5376 + 128 * g.val + d.val) := by
  rw [row_split]
  refine (blk_6 m c (stepOf b) _ d).symm.trans ?_
  rw [(held m 0 c).read_blk_arrAt_eq_flushed 6 apart_6 cfg0.N (stepOf b) (stepOf b).isLt (flush0_6 _)]
  show (cfg0.win 6).cut (grid0.coords (stepOf b)) ((held m 0 c).after 6 (stepOf b)) _ = _
  rw [left_6]
  exact (outV_at _ _ _ _ (rowIn b s) g d).trans (block_at m c b s _)

end Cert.Sample

end
-- ==== Proof.SampleRef.lean ====
/-
  The run of the reference's projection for the sample group, and its three results entry by entry.
-/
module
public import proofs.«01_k».proof.Proof.Gen.Reference5Ideal.Run
public import proofs.«01_k».proof.Proof.SampleValue
public import Idealize.ShloMosaic.Lib.Pointwise
@[expose] public section
noncomputable section
namespace Cert.Sample
open Cert.Reference5Ideal Cert.Reference5Ideal.Gen
open Idealize.ShloMosaic Idealize.ShloMosaic.TcCoe Idealize.ShloMosaic.Tactic Idealize.SL.Sem
set_option maxRecDepth 16384

/-- The scaled and shifted rows, as the reference writes them. -/
def refRows (x : S128x4x1024.Idx → EReal) (md : S128x6144.Idx → EReal) : FVec Ideal S128x4x1024 .f32 :=
  addf (F := Ideal) (φ := .f32) (mulf (F := Ideal) (φ := .f32) x (broadcastInDim S128x4x1024 ![0, 1, 2] bcast_S128x1x1024_S128x4x1024_0_1_2
      (addf (broadcastInDim S128x1x1024 ![] bcast_S_S128x1x1024 (constant (F := Ideal) S_ .f32 0x3F800000#32))
        (extractStridedSlice S128x1x1024 ![0, 0, 1024] (broadcastInDim S128x1x6144 ![0, 2] bcast_S128x6144_S128x1x6144_0_2 md) slices_S128x1x6144_S128x1x1024_0_0_1024))))
    (broadcastInDim S128x4x1024 ![0, 1, 2] bcast_S128x1x1024_S128x4x1024_0_1_2
      (extractStridedSlice S128x1x1024 ![0, 0, 0] (broadcastInDim S128x1x6144 ![0, 2] bcast_S128x6144_S128x1x6144_0_2 md) slices_S128x1x6144_S128x1x1024_0_0_0))
theorem refRows_at (x : S128x4x1024.Idx → EReal) (md : S128x6144.Idx → EReal) (b : Fin 128) (s : Fin 4) (k : Fin 1024) :
    refRows x md (ix3 b s k) = x (ix3 b s k) * (1 + md (ix2 b ⟨1024 + k.val, by omega⟩)) + md (ix2 b ⟨k.val, by omega⟩) := by
  unfold refRows
  pointwise [Ideal.ofBits_one_f32]

/-- The reference's projection. -/
def refProj (h : FVec Ideal S128x4x1024 .f32) (w : S1024x8004.Idx → EReal) : FVec Ideal S128x4x8004 .f32 :=
  Host.dotGeneral (F := Ideal) (φ₁ := .f32) (φ₂ := .f32) dot_S128x4x1024_S1024x8004_S128x4x8004_2_0_01_1_n_n none h w
theorem refProj_at (h : FVec Ideal S128x4x1024 .f32) (w : S1024x8004.Idx → EReal) (b : Fin 128) (s : Fin 4) (j : Fin 8004) :
    refProj h w (ix3 b s j) = ∑ k : Fin 1024, h (ix3 b s k) * w (ix2 k j) := by
  unfold refProj
  pointwise []

/-- The projection laid out as the kernel's rows, with the gap of zero columns. -/
def refZ (z : FVec Ideal S128x4x8004 .f32) : FVec Ideal S512x8192 .f32 :=
  shapeCast S512x8192 (concatenate S128x4x8192 2
    [⟨S128x4x5956, extractStridedSlice S128x4x5956 ![0, 0, 0] z slices_S128x4x8004_S128x4x5956_0_0_0⟩,
     ⟨S128x4x188, broadcastInDim S128x4x188 ![] bcast_S_S128x4x188 (constant (F := Ideal) S_ .f32 0x00000000#32)⟩,
     ⟨S128x4x2048, extractStridedSlice S128x4x2048 ![0, 0, 5956] z slices_S128x4x8004_S128x4x2048_0_0_5956⟩]
    concatenates_S128x4x5956_S128x4x188_S128x4x2048_S128x4x8192_d2) shapeCasts_S128x4x8192_S512x8192
theorem refZ_at (z : FVec Ideal S128x4x8004 .f32) (b : Fin 128) (s : Fin 4) (j : Fin 8192) :
    refZ z (ix2 ⟨4 * b.val + s.val, by omega⟩ j) = if h : j.val < 5956 then z (ix3 b s ⟨j.val, by omega⟩)
      else if h' : 6144 ≤ j.val then z (ix3 b s ⟨j.val - 188, by omega⟩) else 0 := by
  unfold refZ
  pointwise []
  by_cases h1 : j.val < 5956
  · rw [dif_pos h1, dif_pos h1]
  · by_cases h2 : 6144 ≤ j.val
    · rw [dif_neg h1, dif_neg h1, dif_neg (show ¬ j.val - 5956 < 188 by omega), dif_pos h2]
      exact congrArg z (congrArg (ix3 b s) (Fin.ext (by show 5956 + (j.val - 5956 - 188) = j.val - 188; omega)))
    · rw [dif_neg h1, dif_neg h1, dif_pos (show j.val - 5956 < 188 by omega), dif_neg h2]

/-- The keys' and the values' columns as rows, one per head. -/
def refK (z : FVec Ideal S128x4x8004 .f32) : FVec Ideal S1024x128 .f32 :=
  shapeCast S1024x128 (shapeCast S128x4x2x128 (extractStridedSlice S128x4x256 ![0, 0, 5120] z slices_S128x4x8004_S128x4x256_0_0_5120)
    shapeCasts_S128x4x256_S128x4x2x128) shapeCasts_S128x4x2x128_S1024x128
def refV (z : FVec Ideal S128x4x8004 .f32) : FVec Ideal S1024x128 .f32 :=
  shapeCast S1024x128 (shapeCast S128x4x2x128 (extractStridedSlice S128x4x256 ![0, 0, 5376] z slices_S128x4x8004_S128x4x256_0_0_5376)
    shapeCasts_S128x4x256_S128x4x2x128) shapeCasts_S128x4x2x128_S1024x128
theorem refK_at (z : FVec Ideal S128x4x8004 .f32) (b : Fin 128) (s : Fin 4) (g : Fin 2) (d : Fin 128) :
    refK z (ix2 ⟨8 * b.val + 2 * s.val + g.val, by omega⟩ d) = z (ix3 b s ⟨5120 + 128 * g.val + d.val, by omega⟩) := by
  unfold refK
  pointwise []
  exact congrArg z (congrArg (ix3 b s) (Fin.ext (by
    show 5120 + ((8 * b.val + 2 * s.val + g.val) % 2 * 128 + d.val) = 5120 + 128 * g.val + d.val; omega)))
theorem refV_at (z : FVec Ideal S128x4x8004 .f32) (b : Fin 128) (s : Fin 4) (g : Fin 2) (d : Fin 128) :
    refV z (ix2 ⟨8 * b.val + 2 * s.val + g.val, by omega⟩ d) = z (ix3 b s ⟨5376 + 128 * g.val + d.val, by omega⟩) := by
  unfold refV
  pointwise []
  exact congrArg z (congrArg (ix3 b s) (Fin.ext (by
    show 5376 + ((8 * b.val + 2 * s.val + g.val) % 2 * 128 + d.val) = 5376 + 128 * g.val + d.val; omega)))

/-- The reference's run, its results by the names above. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = refZ (refProj (refRows (m ((c.tc : Thread nD τ).loc main_arg0)) (m ((c.tc : Thread nD τ).loc main_arg1))) (m ((c.tc : Thread nD τ).loc main_arg2)))
      ∧ r.2.mem ((c.tc : Thread nD τ).loc main_v23) = refK (refProj (refRows (m ((c.tc : Thread nD τ).loc main_arg0)) (m ((c.tc : Thread nD τ).loc main_arg1))) (m ((c.tc : Thread nD τ).loc main_arg2)))
      ∧ r.2.mem ((c.tc : Thread nD τ).loc main_v24) = refV (refProj (refRows (m ((c.tc : Thread nD τ).loc main_arg0)) (m ((c.tc : Thread nD τ).loc main_arg1))) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1.trans (by unfold refZ refProj refRows; rfl), (h c).2.1.trans (by unfold refK refProj refRows; rfl),
    (h c).2.2.1.trans (by unfold refV refProj refRows; rfl), (h c).2.2.2⟩) (Cert.Reference5Ideal.Value.run m ρ)

/-- The reference's entries are the kernel's. -/
theorem ref_proj (x : S128x4x1024.Idx → EReal) (md : S128x6144.Idx → EReal) (w : S1024x8004.Idx → EReal)
    (b : Fin 128) (s : Fin 4) (j : Fin 8004) (n : ℕ) (hn : ∀ k, w (ix2 k j) = Cert.Proj.spread w k n) :
    refProj (refRows x md) w (ix3 b s j) = zAt x md w b s n :=
  (refProj_at _ _ _ _ _).trans (Finset.sum_congr rfl fun k _ => congrArg₂ (· * ·) (refRows_at _ _ _ _ _) (hn k))
/-- The reference's three results at an entry. -/
theorem ref_z (x : S128x4x1024.Idx → EReal) (md : S128x6144.Idx → EReal) (w : S1024x8004.Idx → EReal)
    (b : Fin 128) (s : Fin 4) (j : Fin 8192) :
    refZ (refProj (refRows x md) w) (ix2 ⟨4 * b.val + s.val, by omega⟩ j) = zAt x md w b s j.val := by
  rw [refZ_at]
  by_cases h1 : j.val < 5956
  · rw [dif_pos h1]
    exact ref_proj x md w b s _ _ fun k => Cert.Proj.spread_low w k j.val h1
  · by_cases h2 : 6144 ≤ j.val
    · rw [dif_neg h1, dif_pos h2]
      exact ref_proj x md w b s _ _ fun k => Cert.Proj.spread_high w k j.val ⟨h2, j.isLt⟩
    · rw [dif_neg h1, dif_neg h2]
      refine (Finset.sum_eq_zero fun k _ => ?_).symm
      rw [Cert.Proj.spread_gap w k j.val h1 (fun h => h2 h.1), mul_zero]
theorem ref_k (x : S128x4x1024.Idx → EReal) (md : S128x6144.Idx → EReal) (w : S1024x8004.Idx → EReal)
    (b : Fin 128) (s : Fin 4) (g : Fin 2) (d : Fin 128) :
    refK (refProj (refRows x md) w) (ix2 ⟨8 * b.val + 2 * s.val + g.val, by omega⟩ d)
      = zAt x md w b s (5120 + 128 * g.val + d.val) :=
  (refK_at _ b s g d).trans (ref_proj x md w b s _ _ fun k => Cert.Proj.spread_low w k _ (by omega))
theorem ref_v (x : S128x4x1024.Idx → EReal) (md : S128x6144.Idx → EReal) (w : S1024x8004.Idx → EReal)
    (b : Fin 128) (s : Fin 4) (g : Fin 2) (d : Fin 128) :
    refV (refProj (refRows x md) w) (ix2 ⟨8 * b.val + 2 * s.val + g.val, by omega⟩ d)
      = zAt x md w b s (5376 + 128 * g.val + d.val) :=
  (refV_at _ b s g d).trans (ref_proj x md w b s _ _ fun k => Cert.Proj.spread_low w k _ (by omega))

/-- Every index of the results is one of those above. -/
theorem rows_all (i : S512x8192.Idx) : ∃ (b : Fin 128) (s : Fin 4) (j : Fin 8192),
    i = ix2 ⟨4 * b.val + s.val, by omega⟩ j := by
  have h : (i 0).val < 512 := (i 0).isLt
  refine ⟨⟨(i 0).val / 4, by omega⟩, ⟨(i 0).val % 4, by omega⟩, i 1, (eq_ix2 i).trans (congrArg (fun a => ix2 a (i 1)) (Fin.ext ?_))⟩
  show (i 0).val = 4 * ((i 0).val / 4) + (i 0).val % 4
  omega
theorem heads_all (i : S1024x128.Idx) : ∃ (b : Fin 128) (s : Fin 4) (g : Fin 2) (d : Fin 128),
    i = ix2 ⟨8 * b.val + 2 * s.val + g.val, by omega⟩ d := by
  have h : (i 0).val < 1024 := (i 0).isLt
  refine ⟨⟨(i 0).val / 8, by omega⟩, ⟨(i 0).val % 8 / 2, by omega⟩, ⟨(i 0).val % 2, by omega⟩, i 1,
    (eq_ix2 i).trans (congrArg (fun a => ix2 a (i 1)) (Fin.ext ?_))⟩
  show (i 0).val = 8 * ((i 0).val / 8) + 2 * ((i 0).val % 8 / 2) + (i 0).val % 2
  omega

end Cert.Sample

end
-- ==== Proof.StepVoc.lean ====
/-
  The sample group's block of one sequence (8 rows, the first 4 of them its positions) as one vocabulary, per head.

  The generated payloads spell each of the eight heads out separately. Here every one of them is one function of the
  head `hh`: the masked scores times the values (`intra`), the part of the output the state gives (`inter`), the
  state after the block (`stStep`), the normalized and gated head (`oHead`).
-/
module

public import proofs.«01_k».proof.Proof.Gen.Kernel6Ideal.Value
public import Idealize.ShloMosaic.Lib.Pointwise

@[expose] public section

noncomputable section

namespace Cert.Step

open Idealize.ShloMosaic Cert.Kernel6Ideal Cert.Kernel6Ideal.Gen

variable {F : FTy → Type} [FloatOps F]

theorem sl8 : ∀ hh : Fin 8, S8x1024.Slices ![0, 128 * hh.val] S8x128 := by decide
theorem sl1 : ∀ hh : Fin 8, S8x1024.Slices ![0, 128 * hh.val] S1x128 := by decide
theorem sl128 : ∀ hh : Fin 8, S128x1024.Slices ![0, 128 * hh.val] S128x128 := by decide

/-- Head `hh`'s 128 columns of a block. -/
def cols {α : Type} (hh : Fin 8) (x : S8x1024.Idx → α) : S8x128.Idx → α :=
  extractStridedSlice S8x128 ![0, 128 * hh.val] x (sl8 hh)
/-- Head `hh`'s 128 columns of a block padded to 128 rows. -/
def wide {α : Type} (hh : Fin 8) (x : S128x1024.Idx → α) : S128x128.Idx → α :=
  extractStridedSlice S128x128 ![0, 128 * hh.val] x (sl128 hh)

/-- The masked scores of head `hh` times its values. -/
def intra (hh : Fin 8) (QE KE V : FVec F S8x1024 .bf16) : FVec F S8x128 .f32 :=
  matmul dot_S8x8_S8x128_S8x128_1_0_0_1_n_n none
    (truncf .bf16 (select k0_pay13
      (matmul dot_S8x128_S8x128_S8x8_1_1_0_0_n_n none (cols hh QE) (cols hh KE)
        (constant S8x8 .f32 0x00000000#32))
      (broadcast S8x8 (Scalar.ofBits .f32 0x00000000#32))) bitsLt_bf16_f32)
    (cols hh V) (constant S8x128 .f32 0x00000000#32)

/-- The transposed state after the block. -/
def stStep (hh : Fin 8) (TOT : FVec F S8x1024 .f32) (KD : FVec F S128x1024 .bf16) (V : FVec F S128x1024 .f32)
    (ST : FVec F S128x128 .f32) : FVec F S128x128 .f32 :=
  addf
    (mulf ST (broadcastTo S128x128
      (exp (extractStridedSlice S1x128 ![0, 128 * hh.val] TOT (sl1 hh))) broadcasts_S1x128_S128x128))
    (matmul dot_S128x128_S128x128_S128x128_1_0_0_1_n_n none
      (truncf .bf16 (transpose S128x128 [1, 0] (wide hh V) transposes_S128x128_p1_0_S128x128) bitsLt_bf16_f32)
      (wide hh KD) (constant S128x128 .f32 0x00000000#32))

/-- What the state adds to the output. -/
def inter (hh : Fin 8) (QE : FVec F S8x1024 .bf16) (ST : FVec F S128x128 .f32) : FVec F S8x128 .f32 :=
  matmul dot_S8x128_S128x128_S8x128_1_1_0_0_n_n none (cols hh QE)
    (truncf .bf16 ST bitsLt_bf16_f32) (constant S8x128 .f32 0x00000000#32)

/-- A head normalized by its root mean square, scaled and gated. -/
def normGate (hh : Fin 8) (o : FVec F S8x128 .f32) (gn : Vec F S1x128 .f32) (g : Vec F S8x1024 .f32) :
    FVec F S8x128 .f32 :=
  mulf (mulf (mulf o (broadcastTo S8x128
      (rsqrt (addf (divf (shapeCast S8x1
          (multiReduction .add [1] S8 (mulf o o) 0x00000000#32 reduces_S8x128_S8 (.inl rfl) rfl)
          shapeCasts_S8_S8x1)
        (broadcast S8x1 (Scalar.ofBits .f32 0x43000000#32)))
        (broadcast S8x1 (Scalar.ofBits .f32 0x358637BD#32)))) broadcasts_S8x1_S8x128))
      (broadcastTo S8x128 gn broadcasts_S1x128_S8x128))
    (cols hh (k0_pay80 g))

/-- The running sums of the log gates of a block. -/
def cumB (lb : Vec F S2x1024 .f32) (f : Vec F S8x1024 .f32) : FVec F S8x1024 .f32 :=
  k0_pay24 k0_pay14 (k0_pay20 lb f) k0_pay22 (Scalar.ofBits .f32 0x00000000#32)
/-- Their last row, at each row. -/
def totB (lb : Vec F S2x1024 .f32) (f : Vec F S8x1024 .f32) : FVec F S8x1024 .f32 :=
  k0_pay25 k0_pay14 (k0_pay20 lb f) k0_pay22 (Scalar.ofBits .f32 0x00000000#32)
/-- The queries scaled by the decay from the block's start. -/
def qeB (lb : Vec F S2x1024 .f32) (f q : Vec F S8x1024 .f32) : FVec F S8x1024 .bf16 :=
  k0_pay26 k0_pay14 (k0_pay20 lb f) k0_pay22 (Scalar.ofBits .f32 0x00000000#32) q
/-- The keys scaled back to the block's start. -/
def keB (lb : Vec F S2x1024 .f32) (f : Vec F S8x1024 .f32) : FVec F S8x1024 .bf16 :=
  k0_pay27 k0_pay14 (k0_pay20 lb f) (k0_pay21 lb f) k0_pay22 (Scalar.ofBits .f32 0x00000000#32)
/-- The keys scaled to the block's end, padded to 128 rows. -/
def kdB (lb : Vec F S2x1024 .f32) (f : Vec F S8x1024 .f32) : FVec F S128x1024 .bf16 :=
  k0_pay32 k0_pay14 (k0_pay20 lb f) (k0_pay21 lb f) k0_pay22 (Scalar.ofBits .f32 0x00000000#32)

/-- The stored columns of head `hh`, of the block's inputs and the state it meets. -/
def oHead (hh : Fin 8) (q f v g : Vec F S8x1024 .f32) (lb : Vec F S2x1024 .f32) (gn : Vec F S1x128 .f32)
    (ST : FVec F S128x128 .f32) : FVec F S8x128 .f32 :=
  normGate hh (addf (intra hh (qeB lb f q) (keB lb f) (k0_pay29 v)) (inter hh (qeB lb f q) ST)) gn g

/-- Head `hh`'s transposed state after the block. -/
def sHead (hh : Fin 8) (f v : Vec F S8x1024 .f32) (lb : Vec F S2x1024 .f32)
    (ST : FVec F S128x128 .f32) : FVec F S128x128 .f32 :=
  stStep hh (totB lb f) (kdB lb f) (k0_pay31 v) ST

/-- The carried transposed state of head `hh`. -/
def slab (hh : Fin 8) (s : Vec F S8x128x128 .f32) : FVec F S128x128 .f32 :=
  fun y => s (ix3 hh (y 0) (y 1))

/-- The kernel's output block as one function of the block's inputs and the eight states. -/
def OB (q f v g : Vec F S8x1024 .f32) (lb : Vec F S2x1024 .f32) (gn : Vec F S1x128 .f32)
    (ST : Fin 8 → FVec F S128x128 .f32) : Vec F S8x1024 .f32 := fun y =>
  oHead ⟨(y 1).val / 128, by have h : (y 1).val < 1024 := (y 1).isLt; omega⟩ q f v g lb gn
    (ST ⟨(y 1).val / 128, by have h : (y 1).val < 1024 := (y 1).isLt; omega⟩)
    (ix2 (y 0) ⟨(y 1).val % 128, Nat.mod_lt _ (by decide)⟩)

/-- The carried states after the block. -/
def SB (f v : Vec F S8x1024 .f32) (lb : Vec F S2x1024 .f32)
    (ST : Fin 8 → FVec F S128x128 .f32) : Vec F S8x128x128 .f32 := fun y =>
  sHead (y 0) f v lb (ST (y 0)) (ix2 (y 1) (y 2))

end Cert.Step

end
-- ==== Proof.StepBlock.lean ====
/-
  What one grid point of the sample group's recurrence leaves behind: the output block is `OB` of the point's inputs and
  the states its sequence starts from, and the stored states are `SB` of them, transposed back.
-/
module

public import proofs.«01_k».proof.Proof.StepVoc

@[expose] public section

set_option maxRecDepth 16384
set_option maxHeartbeats 2000000

noncomputable section

open Idealize.ShloMosaic Cert.Kernel6Ideal.Gen Cert.Kernel6Ideal Idealize.ShloMosaic.Tactic

namespace Cert.Step

variable {F : FTy → Type} [FloatOps F]

theorem ld8 (x : Vec F S8x1024 .f32) : View.ld x (Rect.unit ![0, 0] ![8, 1024] inb_S8x1024_S8x1024_0_0) = x :=
  View.ld_unit_zero (S := S8x1024) (funext fun a => by fin_cases a <;> rfl) _ x
theorem ld2 (x : Vec F S2x1024 .f32) : View.ld x (Rect.unit ![0, 0] ![2, 1024] inb_S2x1024_S2x1024_0_0) = x :=
  View.ld_unit_zero (S := S2x1024) (funext fun a => by fin_cases a <;> rfl) _ x
theorem ld1 (x : Vec F S1x128 .f32) : View.ld x (Rect.unit ![0, 0] ![1, 128] inb_S1x128_S1x128_0_0) = x :=
  View.ld_unit_zero (S := S1x128) (funext fun a => by fin_cases a <;> rfl) _ x

theorem dropUnit (v : Vec F S1x128x128 .f32) :
    shapeCast S128x128 v shapeCasts_S1x128x128_S128x128 = fun y => v (ix3 0 (y 0) (y 1)) := by
  funext y
  idx_vars y
  pointwise []
theorem slab_ld (hh : Fin 8) (h : ∀ a : Fin 3, (![hh.val, 0, 0] : Fin 3 → ℕ) a + S1x128x128.size a ≤ S8x128x128.size a)
    (xs : Vec F S8x128x128 .f32) :
    shapeCast S128x128 (View.ld xs (Rect.unit (s := S8x128x128) ![hh.val, 0, 0] S1x128x128.size h))
      shapeCasts_S1x128x128_S128x128 = slab hh xs := by
  rw [dropUnit]
  funext y
  refine congrArg xs (funext fun a => Fin.ext ?_)
  refine (Rect.emb_apply _ _ a).trans ?_
  match a with
  | 0 => exact rfl
  | 1 => exact (Nat.zero_add _).trans (Nat.one_mul _)
  | 2 => exact (Nat.zero_add _).trans (Nat.one_mul _)
theorem embCols (hh : Fin 8) (h : ∀ a : Fin 2, (![0, 128 * hh.val] : Fin 2 → ℕ) a + S8x128.size a ≤ S8x1024.size a) (x : S8x128.Idx) :
  (((Rect.unit (s := S8x1024) ![0, 128 * hh.val] S8x128.size h).emb x) 0) = x 0 ∧
  (((Rect.unit (s := S8x1024) ![0, 128 * hh.val] S8x128.size h).emb x) 1).val = 128 * hh.val + (x 1).val :=
 ⟨Fin.ext ((Rect.emb_apply _ _ 0).trans ((Nat.zero_add _).trans (Nat.one_mul _))),
  (Rect.emb_apply _ _ 1).trans (congrArg (128 * hh.val + ·) (Nat.one_mul _))⟩
theorem OB_head (hh : Fin 8) (q f v g : Vec F S8x1024 .f32) (lb : Vec F S2x1024 .f32) (gn : Vec F S1x128 .f32)
    (ST : Fin 8 → FVec F S128x128 .f32)
    (h : ∀ a : Fin 2, (![0, 128 * hh.val] : Fin 2 → ℕ) a + S8x128.size a ≤ S8x1024.size a) (x : S8x128.Idx) :
    oHead hh q f v g lb gn (ST hh) x
      = OB q f v g lb gn ST ((Rect.unit (s := S8x1024) ![0, 128 * hh.val] S8x128.size h).emb x) := by
  have hx : (x 1).val < 128 := (x 1).isLt
  obtain ⟨e0, e⟩ := embCols hh h x
  generalize (Rect.unit (s := S8x1024) ![0, 128 * hh.val] S8x128.size h).emb x = y at e0 e
  unfold OB
  have eh : (⟨(y 1).val / 128, by rw [e]; omega⟩ : Fin 8) = hh :=
    Fin.ext (by show (y 1).val / 128 = _; rw [e]; omega)
  rw [eh]
  congr 1
  rw [eq_ix2 x]
  refine congrArg₂ ix2 e0.symm (Fin.ext ?_)
  show (x 1).val = (y 1).val % 128
  rw [e]; omega

theorem addUnit (v : FVec F S128x128 .f32) :
    shapeCast S1x128x128 v shapeCasts_S128x128_S1x128x128 = fun y => v (ix2 (y 1) (y 2)) := by
  funext y
  idx_vars y
  pointwise []
theorem SB_head (hh : Fin 8) (f v : Vec F S8x1024 .f32) (lb : Vec F S2x1024 .f32) (ST : Fin 8 → FVec F S128x128 .f32)
    (h : ∀ a : Fin 3, (![hh.val, 0, 0] : Fin 3 → ℕ) a + S1x128x128.size a ≤ S8x128x128.size a) (x : S1x128x128.Idx) :
    shapeCast S1x128x128 (sHead hh f v lb (ST hh)) shapeCasts_S128x128_S1x128x128 x
      = SB f v lb ST ((Rect.unit (s := S8x128x128) ![hh.val, 0, 0] S1x128x128.size h).emb x) := by
  rw [addUnit]
  have e0 : ((Rect.unit (s := S8x128x128) ![hh.val, 0, 0] S1x128x128.size h).emb x) 0 = hh :=
    Fin.ext ((Rect.emb_apply _ _ 0).trans (by
      have : (x 0).val < 1 := (x 0).isLt
      show hh.val + 1 * (x 0).val = hh.val
      omega))
  have e1 : ((Rect.unit (s := S8x128x128) ![hh.val, 0, 0] S1x128x128.size h).emb x) 1 = x 1 :=
    Fin.ext ((Rect.emb_apply _ _ 1).trans ((Nat.zero_add _).trans (Nat.one_mul _)))
  have e2 : ((Rect.unit (s := S8x128x128) ![hh.val, 0, 0] S1x128x128.size h).emb x) 2 = x 2 :=
    Fin.ext ((Rect.emb_apply _ _ 2).trans ((Nat.zero_add _).trans (Nat.one_mul _)))
  generalize (Rect.unit (s := S8x128x128) ![hh.val, 0, 0] S1x128x128.size h).emb x = y at e0 e1 e2
  unfold SB
  rw [e0, e1, e2]

theorem canon_prefix {Val : EltTy → Type} [∀ e, Nonempty (Val e)] {S : Shape} {e : EltTy} (G : S.Idx → Val e)
    (M : List (View.Piece Val S e)) :
    ∀ (L : List (View.Piece Val S e)) (_ : ∀ p ∈ L, ∀ x : p.1.shape.Idx, p.2 x = G (p.1.emb x)) (y : S.Idx)
      (_ : ∃ p ∈ L, y ∈ p.1.set), View.canon (L ++ M) y = G y
  | [], _, _, hy => by obtain ⟨p, hp, _⟩ := hy; exact absurd hp List.not_mem_nil
  | p :: L, hL, y, hy => by
    rw [List.cons_append]
    by_cases hm : y ∈ p.1.set
    · obtain ⟨x, rfl⟩ := p.1.exists_idx_of_mem hm
      rw [show p.1.idx x = p.1.emb x from rfl, View.canon_cons_emb]
      exact hL p List.mem_cons_self x
    · rw [View.canon_cons_of_not_mem p _ hm]
      refine canon_prefix G M L (fun q hq => hL q (List.mem_cons_of_mem _ hq)) y ?_
      obtain ⟨q, hq, hqy⟩ := hy
      rcases List.mem_cons.mp hq with rfl | hq
      · exact absurd hqy hm
      · exact ⟨q, hq, hqy⟩

theorem readPieces {Val : EltTy → Type} [∀ e, Nonempty (Val e)] {sig : RefSig} {κ : Kind} {sp : Space} {s : Shape}
    {e : EltTy} (v : View sig κ sp s e) (G : s.Idx → Val e) (L : List (View.Piece Val s e))
    (hL : ∀ p ∈ L, ∀ x : p.1.shape.Idx, p.2 x = G (p.1.emb x)) (r : Rect s) (hr : ∃ p ∈ L, p.1 = r) :
    v.readCov L r.toLoadRect = View.ld G r := by
  obtain ⟨p, hp, rfl⟩ := hr
  have hc : ∀ j : p.1.shape.Idx, ∃ q ∈ L, p.1.idx j ∈ q.1.set := fun j => ⟨p, hp, p.1.idx_mem j⟩
  refine (View.readCov_eq_canon v L _ hc).trans (funext fun j => ?_)
  exact View.canon_apply_of_pieces G L hL _ (hc j)

theorem readPrefix {Val : EltTy → Type} [∀ e, Nonempty (Val e)] {sig : RefSig} {κ : Kind} {sp : Space} {s : Shape}
    {e : EltTy} (v : View sig κ sp s e) (G : s.Idx → Val e) (L M : List (View.Piece Val s e))
    (hL : ∀ p ∈ L, ∀ x : p.1.shape.Idx, p.2 x = G (p.1.emb x)) (r : Rect s) (hr : ∃ p ∈ L, p.1 = r) :
    v.readCov (L ++ M) r.toLoadRect = View.ld G r := by
  obtain ⟨p, hp, rfl⟩ := hr
  have hc : ∀ j : p.1.shape.Idx, ∃ q ∈ L, p.1.idx j ∈ q.1.set := fun j => ⟨p, hp, p.1.idx_mem j⟩
  have hc' : ∀ j : p.1.shape.Idx, ∃ q ∈ L ++ M, p.1.idx j ∈ q.1.set := fun j =>
    ⟨p, List.mem_append_left _ hp, p.1.idx_mem j⟩
  refine (View.readCov_eq_canon v (L ++ M) _ hc').trans (funext fun j => ?_)
  exact canon_prefix G M L hL _ (hc j)

/-- Stored states: each head's state transposed back. -/
def outT (s : Vec F S8x128x128 .f32) : Vec F S1x8x128x128 .f32 := fun y => s (ix3 (y 1) (y 3) (y 2))
/-- The states a sequence starts from, transposed. -/
def startT (s : Vec F S1x8x128x128 .f32) : Vec F S8x128x128 .f32 := fun y => s (ix4 0 (y 0) (y 2) (y 1))

theorem turnIn (v : Vec F S1x1x128x128 .f32) :
    shapeCast S1x128x128 (transpose S128x128 [1, 0] (shapeCast S128x128 v shapeCasts_S1x1x128x128_S128x128)
      transposes_S128x128_p1_0_S128x128) shapeCasts_S128x128_S1x128x128 = fun y => v (ix4 0 0 (y 2) (y 1)) := by
  funext y
  idx_vars y
  pointwise []
theorem turnOut (v : Vec F S1x128x128 .f32) :
    shapeCast S1x1x128x128 (transpose S128x128 [1, 0] (shapeCast S128x128 v shapeCasts_S1x128x128_S128x128)
      transposes_S128x128_p1_0_S128x128) shapeCasts_S128x128_S1x1x128x128 = fun y => v (ix3 0 (y 3) (y 2)) := by
  funext y
  idx_vars y
  pointwise []

theorem embSlab (hh : Fin 8)
    (h : ∀ a : Fin 3, (![hh.val, 0, 0] : Fin 3 → ℕ) a + S1x128x128.size a ≤ S8x128x128.size a) (x : S1x128x128.Idx) :
    ((Rect.unit (s := S8x128x128) ![hh.val, 0, 0] S1x128x128.size h).emb x) = ix3 hh (x 1) (x 2) := by
  refine funext fun a => Fin.ext ((Rect.emb_apply _ _ a).trans ?_)
  match a with
  | 0 =>
    have : (x 0).val < 1 := (x 0).isLt
    show hh.val + 1 * (x 0).val = hh.val
    omega
  | 1 => exact (Nat.zero_add _).trans (Nat.one_mul _)
  | 2 => exact (Nat.zero_add _).trans (Nat.one_mul _)
theorem embState (hh : Fin 8) (h : ∀ a : Fin 4, (![0, hh.val, 0, 0] : Fin 4 → ℕ) a + S1x1x128x128.size a ≤ S1x8x128x128.size a) (x : S1x1x128x128.Idx) :
    ((Rect.unit (s := S1x8x128x128) ![0, hh.val, 0, 0] S1x1x128x128.size h).emb x) = ix4 0 hh (x 2) (x 3) := by
  refine funext fun a => Fin.ext ((Rect.emb_apply _ _ a).trans ?_)
  match a with
  | 0 =>
    have : (x 0).val < 1 := (x 0).isLt
    show 0 + 1 * (x 0).val = 0
    omega
  | 1 =>
    have : (x 1).val < 1 := (x 1).isLt
    show hh.val + 1 * (x 1).val = hh.val
    omega
  | 2 => exact (Nat.zero_add _).trans (Nat.one_mul _)
  | 3 => exact (Nat.zero_add _).trans (Nat.one_mul _)

/-- Head `hh`'s starting state as it is put into the scratch. -/
def initP (hh : Fin 8) (h : ∀ a : Fin 4, (![0, hh.val, 0, 0] : Fin 4 → ℕ) a + S1x1x128x128.size a ≤ S1x8x128x128.size a) (x6 : Vec F S1x8x128x128 .f32) : Vec F S1x128x128 .f32 :=
  shapeCast S1x128x128 (transpose S128x128 [1, 0] (shapeCast S128x128
    (View.ld x6 (Rect.unit (s := S1x8x128x128) ![0, hh.val, 0, 0] S1x1x128x128.size h)) shapeCasts_S1x1x128x128_S128x128)
      transposes_S128x128_p1_0_S128x128) shapeCasts_S128x128_S1x128x128
theorem initP_eq (hh : Fin 8) (h : ∀ a : Fin 4, (![0, hh.val, 0, 0] : Fin 4 → ℕ) a + S1x1x128x128.size a ≤ S1x8x128x128.size a) (x6 : Vec F S1x8x128x128 .f32)
    (h' : ∀ a : Fin 3, (![hh.val, 0, 0] : Fin 3 → ℕ) a + S1x128x128.size a ≤ S8x128x128.size a) (x : S1x128x128.Idx) :
    initP hh h x6 x = startT x6 ((Rect.unit (s := S8x128x128) ![hh.val, 0, 0] S1x128x128.size h').emb x) := by
  unfold initP
  rw [turnIn, embSlab]
  exact congrArg x6 (embState hh h _)

/-- What the scratch holds after the starting states are stored. -/
def initL (x6 : Vec F S1x8x128x128 .f32) : List (View.Piece (Elt F) S8x128x128 .f32) :=
  [⟨Rect.unit (s := S8x128x128) ![7, 0, 0] S1x128x128.size inb_S8x128x128_S1x128x128_7_0_0, initP 7 inb_S1x8x128x128_S1x1x128x128_0_7_0_0 x6⟩,
    ⟨Rect.unit (s := S8x128x128) ![6, 0, 0] S1x128x128.size inb_S8x128x128_S1x128x128_6_0_0, initP 6 inb_S1x8x128x128_S1x1x128x128_0_6_0_0 x6⟩,
    ⟨Rect.unit (s := S8x128x128) ![5, 0, 0] S1x128x128.size inb_S8x128x128_S1x128x128_5_0_0, initP 5 inb_S1x8x128x128_S1x1x128x128_0_5_0_0 x6⟩,
    ⟨Rect.unit (s := S8x128x128) ![4, 0, 0] S1x128x128.size inb_S8x128x128_S1x128x128_4_0_0, initP 4 inb_S1x8x128x128_S1x1x128x128_0_4_0_0 x6⟩,
    ⟨Rect.unit (s := S8x128x128) ![3, 0, 0] S1x128x128.size inb_S8x128x128_S1x128x128_3_0_0, initP 3 inb_S1x8x128x128_S1x1x128x128_0_3_0_0 x6⟩,
    ⟨Rect.unit (s := S8x128x128) ![2, 0, 0] S1x128x128.size inb_S8x128x128_S1x128x128_2_0_0, initP 2 inb_S1x8x128x128_S1x1x128x128_0_2_0_0 x6⟩,
    ⟨Rect.unit (s := S8x128x128) ![1, 0, 0] S1x128x128.size inb_S8x128x128_S1x128x128_1_0_0, initP 1 inb_S1x8x128x128_S1x1x128x128_0_1_0_0 x6⟩,
    ⟨Rect.unit (s := S8x128x128) ![0, 0, 0] S1x128x128.size inb_S8x128x128_S1x128x128_0_0_0, initP 0 inb_S1x8x128x128_S1x1x128x128_0_0_0_0 x6⟩]
/-- What the scratch holds after a block. -/
def lastL (x1 x2 : Vec F S8x1024 .f32) (x4 : Vec F S2x1024 .f32) (ST : Fin 8 → FVec F S128x128 .f32) :
    List (View.Piece (Elt F) S8x128x128 .f32) :=
  [⟨Rect.unit (s := S8x128x128) ![7, 0, 0] S1x128x128.size inb_S8x128x128_S1x128x128_7_0_0, shapeCast S1x128x128 (sHead 7 x1 x2 x4 (ST 7)) shapeCasts_S128x128_S1x128x128⟩,
    ⟨Rect.unit (s := S8x128x128) ![6, 0, 0] S1x128x128.size inb_S8x128x128_S1x128x128_6_0_0, shapeCast S1x128x128 (sHead 6 x1 x2 x4 (ST 6)) shapeCasts_S128x128_S1x128x128⟩,
    ⟨Rect.unit (s := S8x128x128) ![5, 0, 0] S1x128x128.size inb_S8x128x128_S1x128x128_5_0_0, shapeCast S1x128x128 (sHead 5 x1 x2 x4 (ST 5)) shapeCasts_S128x128_S1x128x128⟩,
    ⟨Rect.unit (s := S8x128x128) ![4, 0, 0] S1x128x128.size inb_S8x128x128_S1x128x128_4_0_0, shapeCast S1x128x128 (sHead 4 x1 x2 x4 (ST 4)) shapeCasts_S128x128_S1x128x128⟩,
    ⟨Rect.unit (s := S8x128x128) ![3, 0, 0] S1x128x128.size inb_S8x128x128_S1x128x128_3_0_0, shapeCast S1x128x128 (sHead 3 x1 x2 x4 (ST 3)) shapeCasts_S128x128_S1x128x128⟩,
    ⟨Rect.unit (s := S8x128x128) ![2, 0, 0] S1x128x128.size inb_S8x128x128_S1x128x128_2_0_0, shapeCast S1x128x128 (sHead 2 x1 x2 x4 (ST 2)) shapeCasts_S128x128_S1x128x128⟩,
    ⟨Rect.unit (s := S8x128x128) ![1, 0, 0] S1x128x128.size inb_S8x128x128_S1x128x128_1_0_0, shapeCast S1x128x128 (sHead 1 x1 x2 x4 (ST 1)) shapeCasts_S128x128_S1x128x128⟩,
    ⟨Rect.unit (s := S8x128x128) ![0, 0, 0] S1x128x128.size inb_S8x128x128_S1x128x128_0_0_0, shapeCast S1x128x128 (sHead 0 x1 x2 x4 (ST 0)) shapeCasts_S128x128_S1x128x128⟩]
theorem initL_read {sig : RefSig} {κ : Kind} {sp : Space} (v : View sig κ sp S8x128x128 .f32)
    (x6 : Vec F S1x8x128x128 .f32) (r : Rect S8x128x128) (hr : ∃ p ∈ initL x6, p.1 = r) :
    v.readCov (initL x6) r.toLoadRect = View.ld (startT x6) r := by
  refine readPieces v _ _ ?_ r hr
  simp only [initL, List.forall_mem_cons]
  exact ⟨initP_eq 7 _ x6 _, initP_eq 6 _ x6 _, initP_eq 5 _ x6 _, initP_eq 4 _ x6 _, initP_eq 3 _ x6 _, initP_eq 2 _ x6 _, initP_eq 1 _ x6 _, initP_eq 0 _ x6 _, fun _ h => absurd h List.not_mem_nil⟩
theorem lastL_read {sig : RefSig} {κ : Kind} {sp : Space} (v : View sig κ sp S8x128x128 .f32) (x6 : Vec F S1x8x128x128 .f32)
    (x1 x2 : Vec F S8x1024 .f32) (x4 : Vec F S2x1024 .f32) (ST : Fin 8 → FVec F S128x128 .f32)
    (r : Rect S8x128x128) (hr : ∃ p ∈ lastL x1 x2 x4 ST, p.1 = r) :
    v.readCov (lastL x1 x2 x4 ST ++ initL x6) r.toLoadRect = View.ld (SB x1 x2 x4 ST) r := by
  refine readPrefix v _ _ _ ?_ r hr
  simp only [lastL, List.forall_mem_cons]
  exact ⟨SB_head 7 x1 x2 x4 ST _, SB_head 6 x1 x2 x4 ST _, SB_head 5 x1 x2 x4 ST _, SB_head 4 x1 x2 x4 ST _, SB_head 3 x1 x2 x4 ST _, SB_head 2 x1 x2 x4 ST _, SB_head 1 x1 x2 x4 ST _, SB_head 0 x1 x2 x4 ST _, fun _ h => absurd h List.not_mem_nil⟩
theorem initL_mem (hh : Fin 8) (h : ∀ a : Fin 3, (![hh.val, 0, 0] : Fin 3 → ℕ) a + S1x128x128.size a ≤ S8x128x128.size a) (x6 : Vec F S1x8x128x128 .f32) :
    ∃ p ∈ initL x6, p.1 = Rect.unit (s := S8x128x128) ![hh.val, 0, 0] S1x128x128.size h :=
  match hh with
  | 0 => ⟨_, List.mem_cons_of_mem _ (List.mem_cons_of_mem _ (List.mem_cons_of_mem _ (List.mem_cons_of_mem _ (List.mem_cons_of_mem _ (List.mem_cons_of_mem _ (List.mem_cons_of_mem _ List.mem_cons_self)))))), rfl⟩
  | 1 => ⟨_, List.mem_cons_of_mem _ (List.mem_cons_of_mem _ (List.mem_cons_of_mem _ (List.mem_cons_of_mem _ (List.mem_cons_of_mem _ (List.mem_cons_of_mem _ List.mem_cons_self))))), rfl⟩
  | 2 => ⟨_, List.mem_cons_of_mem _ (List.mem_cons_of_mem _ (List.mem_cons_of_mem _ (List.mem_cons_of_mem _ (List.mem_cons_of_mem _ List.mem_cons_self)))), rfl⟩
  | 3 => ⟨_, List.mem_cons_of_mem _ (List.mem_cons_of_mem _ (List.mem_cons_of_mem _ (List.mem_cons_of_mem _ List.mem_cons_self))), rfl⟩
  | 4 => ⟨_, List.mem_cons_of_mem _ (List.mem_cons_of_mem _ (List.mem_cons_of_mem _ List.mem_cons_self)), rfl⟩
  | 5 => ⟨_, List.mem_cons_of_mem _ (List.mem_cons_of_mem _ List.mem_cons_self), rfl⟩
  | 6 => ⟨_, List.mem_cons_of_mem _ List.mem_cons_self, rfl⟩
  | 7 => ⟨_, List.mem_cons_self, rfl⟩
theorem lastL_mem (hh : Fin 8) (h : ∀ a : Fin 3, (![hh.val, 0, 0] : Fin 3 → ℕ) a + S1x128x128.size a ≤ S8x128x128.size a) (x1 x2 : Vec F S8x1024 .f32) (x4 : Vec F S2x1024 .f32)
    (ST : Fin 8 → FVec F S128x128 .f32) :
    ∃ p ∈ lastL x1 x2 x4 ST, p.1 = Rect.unit (s := S8x128x128) ![hh.val, 0, 0] S1x128x128.size h :=
  match hh with
  | 0 => ⟨_, List.mem_cons_of_mem _ (List.mem_cons_of_mem _ (List.mem_cons_of_mem _ (List.mem_cons_of_mem _ (List.mem_cons_of_mem _ (List.mem_cons_of_mem _ (List.mem_cons_of_mem _ List.mem_cons_self)))))), rfl⟩
  | 1 => ⟨_, List.mem_cons_of_mem _ (List.mem_cons_of_mem _ (List.mem_cons_of_mem _ (List.mem_cons_of_mem _ (List.mem_cons_of_mem _ (List.mem_cons_of_mem _ List.mem_cons_self))))), rfl⟩
  | 2 => ⟨_, List.mem_cons_of_mem _ (List.mem_cons_of_mem _ (List.mem_cons_of_mem _ (List.mem_cons_of_mem _ (List.mem_cons_of_mem _ List.mem_cons_self)))), rfl⟩
  | 3 => ⟨_, List.mem_cons_of_mem _ (List.mem_cons_of_mem _ (List.mem_cons_of_mem _ (List.mem_cons_of_mem _ List.mem_cons_self))), rfl⟩
  | 4 => ⟨_, List.mem_cons_of_mem _ (List.mem_cons_of_mem _ (List.mem_cons_of_mem _ List.mem_cons_self)), rfl⟩
  | 5 => ⟨_, List.mem_cons_of_mem _ (List.mem_cons_of_mem _ List.mem_cons_self), rfl⟩
  | 6 => ⟨_, List.mem_cons_of_mem _ List.mem_cons_self, rfl⟩
  | 7 => ⟨_, List.mem_cons_self, rfl⟩
theorem start_read (hh : Fin 8) (h : ∀ a : Fin 3, (![hh.val, 0, 0] : Fin 3 → ℕ) a + S1x128x128.size a ≤ S8x128x128.size a) {sig : RefSig} {κ : Kind} {sp : Space}
    (v : View sig κ sp S8x128x128 .f32) (x6 : Vec F S1x8x128x128 .f32) :
    shapeCast S128x128 (v.readCov (initL x6)
      (Rect.unit (s := S8x128x128) ![hh.val, 0, 0] S1x128x128.size h).toLoadRect) shapeCasts_S1x128x128_S128x128
      = slab hh (startT x6) := by
  rw [initL_read v x6 _ (initL_mem hh h x6)]
  exact slab_ld hh h _
theorem out8_head (hh : Fin 8) (h : ∀ a : Fin 4, (![0, hh.val, 0, 0] : Fin 4 → ℕ) a + S1x1x128x128.size a ≤ S1x8x128x128.size a)
    (h' : ∀ a : Fin 3, (![hh.val, 0, 0] : Fin 3 → ℕ) a + S1x128x128.size a ≤ S8x128x128.size a)
    (s : Vec F S8x128x128 .f32) (x : S1x1x128x128.Idx) :
    shapeCast S1x1x128x128 (transpose S128x128 [1, 0] (shapeCast S128x128
        (View.ld s (Rect.unit (s := S8x128x128) ![hh.val, 0, 0] S1x128x128.size h')) shapeCasts_S1x128x128_S128x128)
      transposes_S128x128_p1_0_S128x128) shapeCasts_S128x128_S1x1x128x128 x
      = outT s ((Rect.unit (s := S1x8x128x128) ![0, hh.val, 0, 0] S1x1x128x128.size h).emb x) := by
  rw [turnOut, embState]
  exact congrArg s (embSlab hh h' _)
theorem out8_read (hh : Fin 8) (h : ∀ a : Fin 4, (![0, hh.val, 0, 0] : Fin 4 → ℕ) a + S1x1x128x128.size a ≤ S1x8x128x128.size a) (h' : ∀ a : Fin 3, (![hh.val, 0, 0] : Fin 3 → ℕ) a + S1x128x128.size a ≤ S8x128x128.size a) {sig : RefSig} {κ : Kind} {sp : Space}
    (v : View sig κ sp S8x128x128 .f32) (x6 : Vec F S1x8x128x128 .f32) (x1 x2 : Vec F S8x1024 .f32) (x4 : Vec F S2x1024 .f32)
    (ST : Fin 8 → FVec F S128x128 .f32) (x : S1x1x128x128.Idx) :
    shapeCast S1x1x128x128 (transpose S128x128 [1, 0] (shapeCast S128x128
        (v.readCov (lastL x1 x2 x4 ST ++ initL x6) (Rect.unit (s := S8x128x128) ![hh.val, 0, 0] S1x128x128.size h').toLoadRect)
        shapeCasts_S1x128x128_S128x128)
      transposes_S128x128_p1_0_S128x128) shapeCasts_S128x128_S1x1x128x128 x
      = outT (SB x1 x2 x4 ST) ((Rect.unit (s := S1x8x128x128) ![0, hh.val, 0, 0] S1x1x128x128.size h).emb x) := by
  rw [lastL_read v x6 x1 x2 x4 ST _ (lastL_mem hh h' x1 x2 x4 ST)]
  exact out8_head hh h h' _ x
section Run
variable (c : Dev nD) (i : grid0.Coords)
  (arg3 : Memref sig .tc .vmem S8x1024 .f32) (harg3 : arg3.IsWhole)
  (arg4 : Memref sig .tc .vmem S8x1024 .f32) (harg4 : arg4.IsWhole)
  (arg5 : Memref sig .tc .vmem S8x1024 .f32) (harg5 : arg5.IsWhole)
  (arg6 : Memref sig .tc .vmem S8x1024 .f32) (harg6 : arg6.IsWhole)
  (arg7 : Memref sig .tc .vmem S2x1024 .f32) (harg7 : arg7.IsWhole)
  (arg8 : Memref sig .tc .vmem S1x128 .f32) (harg8 : arg8.IsWhole)
  (arg9 : Memref sig .tc .vmem S1x8x128x128 .f32) (harg9 : arg9.IsWhole)
  (arg10 : Memref sig .tc .vmem S8x1024 .f32) (harg10 : arg10.IsWhole)
  (arg11 : Memref sig .tc .vmem S1x8x128x128 .f32) (harg11 : arg11.IsWhole)
  (arg12 : Memref sig .tc .vmem S8x128x128 .f32) (harg12 : arg12.IsWhole)
  (x0 x1 x2 x3 : Vec F S8x1024 .f32) (x4 : Vec F S2x1024 .f32) (x5 : Vec F S1x128 .f32)
  (x6 : Vec F S1x8x128x128 .f32)

theorem out7_A (hc0 : cond0_0 i) (hc1 : cond0_1 i) :
    out0_A_7 c i arg3 harg3 arg4 harg4 arg5 harg5 arg6 harg6 arg7 harg7 arg8 harg8 arg9 harg9 arg10 harg10 arg11 harg11 arg12 harg12 hc0 hc1 x0 x1 x2 x3 x4 x5 x6 = OB x0 x1 x2 x3 x4 x5 (fun hh => slab hh (startT x6)) := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 hc0 hc1 x0 x1 x2 x3 x4 x5 x6)]
  funext y
  refine View.canon_apply_of_pieces (OB x0 x1 x2 x3 x4 x5 (fun hh => slab hh (startT x6))) _ ?_ y (cover0_A_7 c i arg3 harg3 arg4 harg4 arg5 harg5 arg6 harg6 arg7 harg7 arg8 harg8 arg9 harg9 arg10 harg10 arg11 harg11 arg12 harg12 hc0 hc1 x0 x1 x2 x3 x4 x5 x6 y)
  unfold kernelRun0_A
  dsimp only
  sl_unfold_words
  simp only [View.readAt_eq_ld, harg3.read_unread, harg4.read_unread, harg5.read_unread, harg6.read_unread, harg7.read_unread, harg8.read_unread, harg9.read_unread, harg12.read_unread, ld8, ld2, ld1]
  simp only [List.forall_mem_cons]
  refine ⟨fun x => (congrFun (?_ : _ = oHead 7 x0 x1 x2 x3 x4 x5 (slab 7 (startT x6))) x).trans (OB_head 7 x0 x1 x2 x3 x4 x5 (fun hh => slab hh (startT x6)) _ x),
    fun x => (congrFun (?_ : _ = oHead 6 x0 x1 x2 x3 x4 x5 (slab 6 (startT x6))) x).trans (OB_head 6 x0 x1 x2 x3 x4 x5 (fun hh => slab hh (startT x6)) _ x),
    fun x => (congrFun (?_ : _ = oHead 5 x0 x1 x2 x3 x4 x5 (slab 5 (startT x6))) x).trans (OB_head 5 x0 x1 x2 x3 x4 x5 (fun hh => slab hh (startT x6)) _ x),
    fun x => (congrFun (?_ : _ = oHead 4 x0 x1 x2 x3 x4 x5 (slab 4 (startT x6))) x).trans (OB_head 4 x0 x1 x2 x3 x4 x5 (fun hh => slab hh (startT x6)) _ x),
    fun x => (congrFun (?_ : _ = oHead 3 x0 x1 x2 x3 x4 x5 (slab 3 (startT x6))) x).trans (OB_head 3 x0 x1 x2 x3 x4 x5 (fun hh => slab hh (startT x6)) _ x),
    fun x => (congrFun (?_ : _ = oHead 2 x0 x1 x2 x3 x4 x5 (slab 2 (startT x6))) x).trans (OB_head 2 x0 x1 x2 x3 x4 x5 (fun hh => slab hh (startT x6)) _ x),
    fun x => (congrFun (?_ : _ = oHead 1 x0 x1 x2 x3 x4 x5 (slab 1 (startT x6))) x).trans (OB_head 1 x0 x1 x2 x3 x4 x5 (fun hh => slab hh (startT x6)) _ x),
    fun x => (congrFun (?_ : _ = oHead 0 x0 x1 x2 x3 x4 x5 (slab 0 (startT x6))) x).trans (OB_head 0 x0 x1 x2 x3 x4 x5 (fun hh => slab hh (startT x6)) _ x),
    fun _ h => absurd h List.not_mem_nil⟩
  · rw [← start_read 7 inb_S8x128x128_S1x128x128_7_0_0 arg12.view x6]; rfl
  · rw [← start_read 6 inb_S8x128x128_S1x128x128_6_0_0 arg12.view x6]; rfl
  · rw [← start_read 5 inb_S8x128x128_S1x128x128_5_0_0 arg12.view x6]; rfl
  · rw [← start_read 4 inb_S8x128x128_S1x128x128_4_0_0 arg12.view x6]; rfl
  · rw [← start_read 3 inb_S8x128x128_S1x128x128_3_0_0 arg12.view x6]; rfl
  · rw [← start_read 2 inb_S8x128x128_S1x128x128_2_0_0 arg12.view x6]; rfl
  · rw [← start_read 1 inb_S8x128x128_S1x128x128_1_0_0 arg12.view x6]; rfl
  · rw [← start_read 0 inb_S8x128x128_S1x128x128_0_0_0 arg12.view x6]; rfl

theorem out8_A (hc0 : cond0_0 i) (hc1 : cond0_1 i) :
    out0_A_8 c i arg3 harg3 arg4 harg4 arg5 harg5 arg6 harg6 arg7 harg7 arg8 harg8 arg9 harg9 arg10 harg10 arg11 harg11 arg12 harg12 hc0 hc1 x0 x1 x2 x3 x4 x5 x6 = outT (SB x1 x2 x4 (fun hh => slab hh (startT x6))) := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 hc0 hc1 x0 x1 x2 x3 x4 x5 x6)]
  funext y
  refine View.canon_apply_of_pieces (outT (SB x1 x2 x4 (fun hh => slab hh (startT x6)))) _ ?_ y (cover0_A_8 c i arg3 harg3 arg4 harg4 arg5 harg5 arg6 harg6 arg7 harg7 arg8 harg8 arg9 harg9 arg10 harg10 arg11 harg11 arg12 harg12 hc0 hc1 x0 x1 x2 x3 x4 x5 x6 y)
  unfold kernelRun0_A
  dsimp only
  sl_unfold_words
  simp only [View.readAt_eq_ld, harg3.read_unread, harg4.read_unread, harg5.read_unread, harg6.read_unread, harg7.read_unread, harg8.read_unread, harg9.read_unread, harg12.read_unread, ld8, ld2, ld1]
  simp only [List.forall_mem_cons]
  refine ⟨fun x => (congrFun (?_ : _ = shapeCast S1x1x128x128 (transpose S128x128 [1, 0] (shapeCast S128x128 (arg12.view.readCov (lastL x1 x2 x4 (fun hh => slab hh (startT x6)) ++ initL x6) (Rect.unit (s := S8x128x128) ![7, 0, 0] S1x128x128.size inb_S8x128x128_S1x128x128_7_0_0).toLoadRect) shapeCasts_S1x128x128_S128x128) transposes_S128x128_p1_0_S128x128) shapeCasts_S128x128_S1x1x128x128) x).trans (out8_read 7 _ _ arg12.view x6 x1 x2 x4 (fun hh => slab hh (startT x6)) x),
    fun x => (congrFun (?_ : _ = shapeCast S1x1x128x128 (transpose S128x128 [1, 0] (shapeCast S128x128 (arg12.view.readCov (lastL x1 x2 x4 (fun hh => slab hh (startT x6)) ++ initL x6) (Rect.unit (s := S8x128x128) ![6, 0, 0] S1x128x128.size inb_S8x128x128_S1x128x128_6_0_0).toLoadRect) shapeCasts_S1x128x128_S128x128) transposes_S128x128_p1_0_S128x128) shapeCasts_S128x128_S1x1x128x128) x).trans (out8_read 6 _ _ arg12.view x6 x1 x2 x4 (fun hh => slab hh (startT x6)) x),
    fun x => (congrFun (?_ : _ = shapeCast S1x1x128x128 (transpose S128x128 [1, 0] (shapeCast S128x128 (arg12.view.readCov (lastL x1 x2 x4 (fun hh => slab hh (startT x6)) ++ initL x6) (Rect.unit (s := S8x128x128) ![5, 0, 0] S1x128x128.size inb_S8x128x128_S1x128x128_5_0_0).toLoadRect) shapeCasts_S1x128x128_S128x128) transposes_S128x128_p1_0_S128x128) shapeCasts_S128x128_S1x1x128x128) x).trans (out8_read 5 _ _ arg12.view x6 x1 x2 x4 (fun hh => slab hh (startT x6)) x),
    fun x => (congrFun (?_ : _ = shapeCast S1x1x128x128 (transpose S128x128 [1, 0] (shapeCast S128x128 (arg12.view.readCov (lastL x1 x2 x4 (fun hh => slab hh (startT x6)) ++ initL x6) (Rect.unit (s := S8x128x128) ![4, 0, 0] S1x128x128.size inb_S8x128x128_S1x128x128_4_0_0).toLoadRect) shapeCasts_S1x128x128_S128x128) transposes_S128x128_p1_0_S128x128) shapeCasts_S128x128_S1x1x128x128) x).trans (out8_read 4 _ _ arg12.view x6 x1 x2 x4 (fun hh => slab hh (startT x6)) x),
    fun x => (congrFun (?_ : _ = shapeCast S1x1x128x128 (transpose S128x128 [1, 0] (shapeCast S128x128 (arg12.view.readCov (lastL x1 x2 x4 (fun hh => slab hh (startT x6)) ++ initL x6) (Rect.unit (s := S8x128x128) ![3, 0, 0] S1x128x128.size inb_S8x128x128_S1x128x128_3_0_0).toLoadRect) shapeCasts_S1x128x128_S128x128) transposes_S128x128_p1_0_S128x128) shapeCasts_S128x128_S1x1x128x128) x).trans (out8_read 3 _ _ arg12.view x6 x1 x2 x4 (fun hh => slab hh (startT x6)) x),
    fun x => (congrFun (?_ : _ = shapeCast S1x1x128x128 (transpose S128x128 [1, 0] (shapeCast S128x128 (arg12.view.readCov (lastL x1 x2 x4 (fun hh => slab hh (startT x6)) ++ initL x6) (Rect.unit (s := S8x128x128) ![2, 0, 0] S1x128x128.size inb_S8x128x128_S1x128x128_2_0_0).toLoadRect) shapeCasts_S1x128x128_S128x128) transposes_S128x128_p1_0_S128x128) shapeCasts_S128x128_S1x1x128x128) x).trans (out8_read 2 _ _ arg12.view x6 x1 x2 x4 (fun hh => slab hh (startT x6)) x),
    fun x => (congrFun (?_ : _ = shapeCast S1x1x128x128 (transpose S128x128 [1, 0] (shapeCast S128x128 (arg12.view.readCov (lastL x1 x2 x4 (fun hh => slab hh (startT x6)) ++ initL x6) (Rect.unit (s := S8x128x128) ![1, 0, 0] S1x128x128.size inb_S8x128x128_S1x128x128_1_0_0).toLoadRect) shapeCasts_S1x128x128_S128x128) transposes_S128x128_p1_0_S128x128) shapeCasts_S128x128_S1x1x128x128) x).trans (out8_read 1 _ _ arg12.view x6 x1 x2 x4 (fun hh => slab hh (startT x6)) x),
    fun x => (congrFun (?_ : _ = shapeCast S1x1x128x128 (transpose S128x128 [1, 0] (shapeCast S128x128 (arg12.view.readCov (lastL x1 x2 x4 (fun hh => slab hh (startT x6)) ++ initL x6) (Rect.unit (s := S8x128x128) ![0, 0, 0] S1x128x128.size inb_S8x128x128_S1x128x128_0_0_0).toLoadRect) shapeCasts_S1x128x128_S128x128) transposes_S128x128_p1_0_S128x128) shapeCasts_S128x128_S1x1x128x128) x).trans (out8_read 0 _ _ arg12.view x6 x1 x2 x4 (fun hh => slab hh (startT x6)) x),
    fun _ h => absurd h List.not_mem_nil⟩
  · simp only [lastL, ← start_read 0 inb_S8x128x128_S1x128x128_0_0_0 arg12.view x6, ← start_read 1 inb_S8x128x128_S1x128x128_1_0_0 arg12.view x6, ← start_read 2 inb_S8x128x128_S1x128x128_2_0_0 arg12.view x6, ← start_read 3 inb_S8x128x128_S1x128x128_3_0_0 arg12.view x6, ← start_read 4 inb_S8x128x128_S1x128x128_4_0_0 arg12.view x6, ← start_read 5 inb_S8x128x128_S1x128x128_5_0_0 arg12.view x6, ← start_read 6 inb_S8x128x128_S1x128x128_6_0_0 arg12.view x6, ← start_read 7 inb_S8x128x128_S1x128x128_7_0_0 arg12.view x6]; rfl
  · simp only [lastL, ← start_read 0 inb_S8x128x128_S1x128x128_0_0_0 arg12.view x6, ← start_read 1 inb_S8x128x128_S1x128x128_1_0_0 arg12.view x6, ← start_read 2 inb_S8x128x128_S1x128x128_2_0_0 arg12.view x6, ← start_read 3 inb_S8x128x128_S1x128x128_3_0_0 arg12.view x6, ← start_read 4 inb_S8x128x128_S1x128x128_4_0_0 arg12.view x6, ← start_read 5 inb_S8x128x128_S1x128x128_5_0_0 arg12.view x6, ← start_read 6 inb_S8x128x128_S1x128x128_6_0_0 arg12.view x6, ← start_read 7 inb_S8x128x128_S1x128x128_7_0_0 arg12.view x6]; rfl
  · simp only [lastL, ← start_read 0 inb_S8x128x128_S1x128x128_0_0_0 arg12.view x6, ← start_read 1 inb_S8x128x128_S1x128x128_1_0_0 arg12.view x6, ← start_read 2 inb_S8x128x128_S1x128x128_2_0_0 arg12.view x6, ← start_read 3 inb_S8x128x128_S1x128x128_3_0_0 arg12.view x6, ← start_read 4 inb_S8x128x128_S1x128x128_4_0_0 arg12.view x6, ← start_read 5 inb_S8x128x128_S1x128x128_5_0_0 arg12.view x6, ← start_read 6 inb_S8x128x128_S1x128x128_6_0_0 arg12.view x6, ← start_read 7 inb_S8x128x128_S1x128x128_7_0_0 arg12.view x6]; rfl
  · simp only [lastL, ← start_read 0 inb_S8x128x128_S1x128x128_0_0_0 arg12.view x6, ← start_read 1 inb_S8x128x128_S1x128x128_1_0_0 arg12.view x6, ← start_read 2 inb_S8x128x128_S1x128x128_2_0_0 arg12.view x6, ← start_read 3 inb_S8x128x128_S1x128x128_3_0_0 arg12.view x6, ← start_read 4 inb_S8x128x128_S1x128x128_4_0_0 arg12.view x6, ← start_read 5 inb_S8x128x128_S1x128x128_5_0_0 arg12.view x6, ← start_read 6 inb_S8x128x128_S1x128x128_6_0_0 arg12.view x6, ← start_read 7 inb_S8x128x128_S1x128x128_7_0_0 arg12.view x6]; rfl
  · simp only [lastL, ← start_read 0 inb_S8x128x128_S1x128x128_0_0_0 arg12.view x6, ← start_read 1 inb_S8x128x128_S1x128x128_1_0_0 arg12.view x6, ← start_read 2 inb_S8x128x128_S1x128x128_2_0_0 arg12.view x6, ← start_read 3 inb_S8x128x128_S1x128x128_3_0_0 arg12.view x6, ← start_read 4 inb_S8x128x128_S1x128x128_4_0_0 arg12.view x6, ← start_read 5 inb_S8x128x128_S1x128x128_5_0_0 arg12.view x6, ← start_read 6 inb_S8x128x128_S1x128x128_6_0_0 arg12.view x6, ← start_read 7 inb_S8x128x128_S1x128x128_7_0_0 arg12.view x6]; rfl
  · simp only [lastL, ← start_read 0 inb_S8x128x128_S1x128x128_0_0_0 arg12.view x6, ← start_read 1 inb_S8x128x128_S1x128x128_1_0_0 arg12.view x6, ← start_read 2 inb_S8x128x128_S1x128x128_2_0_0 arg12.view x6, ← start_read 3 inb_S8x128x128_S1x128x128_3_0_0 arg12.view x6, ← start_read 4 inb_S8x128x128_S1x128x128_4_0_0 arg12.view x6, ← start_read 5 inb_S8x128x128_S1x128x128_5_0_0 arg12.view x6, ← start_read 6 inb_S8x128x128_S1x128x128_6_0_0 arg12.view x6, ← start_read 7 inb_S8x128x128_S1x128x128_7_0_0 arg12.view x6]; rfl
  · simp only [lastL, ← start_read 0 inb_S8x128x128_S1x128x128_0_0_0 arg12.view x6, ← start_read 1 inb_S8x128x128_S1x128x128_1_0_0 arg12.view x6, ← start_read 2 inb_S8x128x128_S1x128x128_2_0_0 arg12.view x6, ← start_read 3 inb_S8x128x128_S1x128x128_3_0_0 arg12.view x6, ← start_read 4 inb_S8x128x128_S1x128x128_4_0_0 arg12.view x6, ← start_read 5 inb_S8x128x128_S1x128x128_5_0_0 arg12.view x6, ← start_read 6 inb_S8x128x128_S1x128x128_6_0_0 arg12.view x6, ← start_read 7 inb_S8x128x128_S1x128x128_7_0_0 arg12.view x6]; rfl
  · simp only [lastL, ← start_read 0 inb_S8x128x128_S1x128x128_0_0_0 arg12.view x6, ← start_read 1 inb_S8x128x128_S1x128x128_1_0_0 arg12.view x6, ← start_read 2 inb_S8x128x128_S1x128x128_2_0_0 arg12.view x6, ← start_read 3 inb_S8x128x128_S1x128x128_3_0_0 arg12.view x6, ← start_read 4 inb_S8x128x128_S1x128x128_4_0_0 arg12.view x6, ← start_read 5 inb_S8x128x128_S1x128x128_5_0_0 arg12.view x6, ← start_read 6 inb_S8x128x128_S1x128x128_6_0_0 arg12.view x6, ← start_read 7 inb_S8x128x128_S1x128x128_7_0_0 arg12.view x6]; rfl

end Run
end Cert.Step
end
-- ==== Proof.StepValue.lean ====
/-
  The sample group's recurrence entry by entry: a head of one sequence's block, as sums over the sequence's 4 positions,
  and then the two arrays the kernel's grid leaves.
-/
module
public import proofs.«01_k».proof.Proof.StepBlock
public import Idealize.ShloMosaic.Lib.Pipeline.ValueKit
@[expose] public section
noncomputable section
open Idealize.ShloMosaic Idealize.ShloMosaic.TcCoe Idealize.SL.Sem Cert.Kernel6Ideal.Gen Cert.Kernel6Ideal Idealize.ShloMosaic.Tactic
set_option maxRecDepth 16384
set_option maxHeartbeats 1000000
namespace Cert.Step

/-- A sequence's rows of one head: 4 rows of 128 values. -/
abbrev Rows := Fin 4 → Fin 128 → EReal
/-- A head's state. -/
abbrev St := Fin 128 → Fin 128 → EReal

/-- Sum of the log gates up to row `r`. -/
def cumR (f : Rows) (r : Fin 4) (d : Fin 128) : EReal := ∑ s : Fin 4, if s ≤ r then Ideal.log (f s d) else 0
/-- Queries scaled by the decay from the start. -/
def qeR (q f : Rows) : Rows := fun r d => q r d * Ideal.logistic (q r d) * Ideal.exp (cumR f r d)
/-- Keys scaled back to the start. -/
def keR (f : Rows) : Rows := fun r d => (1 - f r d) * Ideal.exp (0 - cumR f r d)
/-- Keys scaled to the end. -/
def kdR (f : Rows) : Rows := fun r d => (1 - f r d) * Ideal.exp (cumR f 3 d - cumR f r d)
/-- The output: the masked scores times the values, and the part the state gives. -/
def outR (q f v : Rows) (S : St) : Rows := fun r e =>
  (∑ s : Fin 4, if s ≤ r then (∑ d, qeR q f r d * keR f s d) * v s e else 0) + ∑ d, qeR q f r d * S d e
/-- The state after the rows. -/
def stR (f v : Rows) (S : St) : St := fun d e => S d e * Ideal.exp (cumR f 3 d) + ∑ s, v s e * kdR f s d
/-- Row 0 of the softmax over the two rows of the bound's parameter. -/
def lowR (lb : S2x1024.Idx → EReal) (e : Fin 1024) : EReal :=
  Ideal.div (Ideal.exp (lb (ix2 0 e) - Finset.fold max (Ideal.ofBits .f32 0xFF800000#32) (fun x => lb (ix2 x e)) Finset.univ))
    (∑ x, Ideal.exp (lb (ix2 x e) - Finset.fold max (Ideal.ofBits .f32 0xFF800000#32) (fun x => lb (ix2 x e)) Finset.univ))
/-- The forget gate, bounded below by `L`. -/
def gateR (L x : EReal) : EReal := L + (1 - L) * Ideal.logistic x
/-- A head's row normalized by its root mean square, scaled and gated. -/
def normR (o : Fin 128 → EReal) (gn g : EReal) (e : Fin 128) : EReal :=
  o e * Ideal.rsqrt (Ideal.div (∑ x, o x * o x) (Ideal.ofBits .f32 0x43000000#32) + Ideal.ofBits .f32 0x358637BD#32)
    * gn * (g * Ideal.logistic g)

/-- Head `hh`'s first 4 rows of a block. -/
def rowsOf (x : S8x1024.Idx → EReal) (hh : Fin 8) : Rows := fun r d =>
  x (ix2 ⟨r.val, by omega⟩ ⟨128 * hh.val + d.val, by omega⟩)
/-- The gates of head `hh` in a block. -/
def gateRows (lb : S2x1024.Idx → EReal) (f : S8x1024.Idx → EReal) (hh : Fin 8) : Rows := fun r d =>
  gateR (lowR lb ⟨128 * hh.val + d.val, by omega⟩) (rowsOf f hh r d)

theorem sumFew {n : ℕ} (hn : 4 ≤ n) (G : Fin n → EReal) (h : ∀ s : Fin n, 4 ≤ s.val → G s = 0) :
    ∑ s, G s = ∑ s : Fin 4, G ⟨s.val, by omega⟩ := by
  refine (Finset.sum_of_injOn (fun s : Fin 4 => (⟨s.val, by omega⟩ : Fin n)) ?_ ?_ ?_ ?_).symm
  · intro a _ b _ hab
    have := congrArg Fin.val hab
    exact Fin.ext (by simpa using this)
  · intro a _; exact Finset.mem_coe.mpr (Finset.mem_univ _)
  · intro s _ hs
    refine h s (by_contra fun e => hs ⟨⟨s.val, by omega⟩, Finset.mem_coe.mpr (Finset.mem_univ _), rfl⟩)
  · intro a _; rfl

theorem shr3 : ∀ a : Fin 8, IntOp.shrsi ArithUnit.vector (BitVec.ofNat 32 a.val) 3#32 = 0#32 := by decide
theorem lt4 : ∀ a : Fin 8, IntOp.cmpi .slt (BitVec.ofNat 32 a.val) 4#32 = BitVec.ofBool (decide (a.val < 4)) := by decide
theorem sel_ofBool (p : Prop) [Decidable p] (a b : EReal) :
    Scalar.select (BitVec.ofBool (decide p)) a b = if p then a else b := by
  by_cases h : p <;> simp [h, Scalar.select]

theorem cols_apply (hh : Fin 8) (x : S8x1024.Idx → EReal) (r : Fin 8) (d : Fin 128) :
    cols hh x (ix2 r d) = x (ix2 r ⟨128 * hh.val + d.val, by omega⟩) := by
  unfold cols
  pointwise []
theorem wide_apply (hh : Fin 8) (x : S128x1024.Idx → EReal) (r : Fin 128) (d : Fin 128) :
    wide hh x (ix2 r d) = x (ix2 r ⟨128 * hh.val + d.val, by omega⟩) := by
  unfold wide
  pointwise []
theorem pay13_apply (r s : Fin 8) : k0_pay13 (ix2 r s) = BitVec.ofBool (decide (s.val ≤ r.val)) := by
  unfold k0_pay13
  pointwise []
  rw [shr3, shr3, WordCmp.cmpi_sle_ofNat (by omega) (by omega)]
  by_cases h2 : s.val ≤ r.val <;> simp [h2, IntOp.andi, IntOp.cmpi]
theorem pay19_apply (lb : Vec Ideal S2x1024 .f32) (f : Vec Ideal S8x1024 .f32)
    (r : Fin 8) (e : Fin 1024) : k0_pay19 lb f (ix2 r e) = gateR (lowR lb e) (f (ix2 r e)) := by
  unfold k0_pay19 gateR lowR
  pointwise []
theorem pay22_apply (r : Fin 8) (e : Fin 1024) : k0_pay22 (ix2 r e) = BitVec.ofBool (decide (r.val < 4)) := by
  unfold k0_pay22
  pointwise []
  exact lt4 r
theorem key_apply (lb : Vec Ideal S2x1024 .f32) (f : Vec Ideal S8x1024 .f32) (r : Fin 8) (e : Fin 1024) :
    k0_pay23 (k0_pay21 lb f) k0_pay22 (ix2 r e) = if r.val < 4 then 1 - k0_pay19 lb f (ix2 r e) else 0 := by
  unfold k0_pay23 k0_pay21
  pointwise []
  rw [pay22_apply, sel_ofBool]
theorem cumB_apply (lb : Vec Ideal S2x1024 .f32) (f : Vec Ideal S8x1024 .f32) (r : Fin 8) (e : Fin 1024) :
    cumB lb f (ix2 r e) = ∑ s : Fin 4, if s.val ≤ r.val then Ideal.log (k0_pay19 lb f (ix2 ⟨s.val, by omega⟩ e)) else 0 := by
  unfold cumB k0_pay24 k0_pay14 k0_pay20
  pointwise []
  rw [sumFew (by decide)]
  · refine Finset.sum_congr rfl fun s _ => ?_
    rw [pay13_apply, pay22_apply, sel_ofBool, sel_ofBool, if_pos (show s.val < 4 from s.isLt)]
  · intro s hs
    rw [pay22_apply, sel_ofBool, if_neg (by omega)]
theorem pay25_apply (v11 : FVec Ideal S8x8 .f32) (v34 : FVec Ideal S8x1024 .f32) (v39 : IVec S8x1024 1) (z : Ideal .f32)
    (r : Fin 8) (e : Fin 1024) : k0_pay25 v11 v34 v39 z (ix2 r e) = k0_pay24 v11 v34 v39 z (ix2 7 e) := by
  unfold k0_pay25
  pointwise []
theorem totB_apply (lb : Vec Ideal S2x1024 .f32) (f : Vec Ideal S8x1024 .f32) (r : Fin 8) (e : Fin 1024) :
    totB lb f (ix2 r e) = cumB lb f (ix2 7 e) := pay25_apply _ _ _ _ r e
theorem pay26_apply (v11 : FVec Ideal S8x8 .f32) (v34 : FVec Ideal S8x1024 .f32) (v39 : IVec S8x1024 1) (z : Ideal .f32)
    (q : Vec Ideal S8x1024 .f32) (r : Fin 8) (e : Fin 1024) : k0_pay26 v11 v34 v39 z q (ix2 r e)
      = q (ix2 r e) * Ideal.logistic (q (ix2 r e)) * Ideal.exp (k0_pay24 v11 v34 v39 z (ix2 r e)) := by
  unfold k0_pay26
  pointwise []
theorem qeB_apply (lb : Vec Ideal S2x1024 .f32) (f q : Vec Ideal S8x1024 .f32) (r : Fin 8) (e : Fin 1024) :
    qeB lb f q (ix2 r e) = q (ix2 r e) * Ideal.logistic (q (ix2 r e)) * Ideal.exp (cumB lb f (ix2 r e)) :=
  pay26_apply _ _ _ _ q r e
theorem pay27_apply (v11 : FVec Ideal S8x8 .f32) (v34 v36 : FVec Ideal S8x1024 .f32) (v39 : IVec S8x1024 1) (z : Ideal .f32)
    (r : Fin 8) (e : Fin 1024) : k0_pay27 v11 v34 v36 v39 z (ix2 r e)
      = k0_pay23 v36 v39 (ix2 r e) * Ideal.exp (0 - k0_pay24 v11 v34 v39 z (ix2 r e)) := by
  unfold k0_pay27
  pointwise []
theorem keB_apply (lb : Vec Ideal S2x1024 .f32) (f : Vec Ideal S8x1024 .f32) (r : Fin 8) (e : Fin 1024) :
    keB lb f (ix2 r e) = k0_pay23 (k0_pay21 lb f) k0_pay22 (ix2 r e) * Ideal.exp (0 - cumB lb f (ix2 r e)) :=
  pay27_apply _ _ _ _ _ r e
theorem pay32_apply (v11 : FVec Ideal S8x8 .f32) (v34 v36 : FVec Ideal S8x1024 .f32) (v39 : IVec S8x1024 1) (z : Ideal .f32)
    (r : Fin 128) (e : Fin 1024) : k0_pay32 v11 v34 v36 v39 z (ix2 r e)
      = if h : r.val < 8 then k0_pay23 v36 v39 (ix2 ⟨r.val, h⟩ e)
        * Ideal.exp (k0_pay25 v11 v34 v39 z (ix2 ⟨r.val, h⟩ e) - k0_pay24 v11 v34 v39 z (ix2 ⟨r.val, h⟩ e)) else 0 := by
  unfold k0_pay32 k0_pay30
  pointwise []
theorem kdB_apply (lb : Vec Ideal S2x1024 .f32) (f : Vec Ideal S8x1024 .f32) (r : Fin 128) (e : Fin 1024) :
    kdB lb f (ix2 r e) = if h : r.val < 8 then k0_pay23 (k0_pay21 lb f) k0_pay22 (ix2 ⟨r.val, h⟩ e)
      * Ideal.exp (totB lb f (ix2 ⟨r.val, h⟩ e) - cumB lb f (ix2 ⟨r.val, h⟩ e)) else 0 :=
  pay32_apply _ _ _ _ _ r e
theorem valB_apply (v : Vec Ideal S8x1024 .f32) (r : Fin 128) (e : Fin 1024) :
    k0_pay31 v (ix2 r e) = if h : r.val < 8 then v (ix2 ⟨r.val, h⟩ e) else 0 := by
  unfold k0_pay31 k0_pay30 k0_pay28
  pointwise []
theorem stStep_apply (hh : Fin 8) (TOT : FVec Ideal S8x1024 .f32) (KD : FVec Ideal S128x1024 .bf16)
    (V : FVec Ideal S128x1024 .f32) (ST : FVec Ideal S128x128 .f32) (e d : Fin 128) :
    stStep hh TOT KD V ST (ix2 e d) = ST (ix2 e d) * Ideal.exp (TOT (ix2 0 ⟨128 * hh.val + d.val, by omega⟩))
      + ∑ s : Fin 128, V (ix2 s ⟨128 * hh.val + e.val, by omega⟩) * KD (ix2 s ⟨128 * hh.val + d.val, by omega⟩) := by
  unfold stStep
  pointwise [wide_apply]
theorem inter_apply (hh : Fin 8) (QE : FVec Ideal S8x1024 .bf16) (ST : FVec Ideal S128x128 .f32)
   (r : Fin 8) (e : Fin 128) : inter hh QE ST (ix2 r e)
      = ∑ d : Fin 128, QE (ix2 r ⟨128 * hh.val + d.val, by omega⟩) * ST (ix2 e d) := by
  unfold inter
  pointwise [cols_apply]
theorem intra_apply (hh : Fin 8) (QE KE V : FVec Ideal S8x1024 .bf16)
   (r : Fin 8) (e : Fin 128) : intra hh QE KE V (ix2 r e)
    = ∑ s : Fin 8, if s.val ≤ r.val then (∑ d : Fin 128, QE (ix2 r ⟨128 * hh.val + d.val, by omega⟩) * KE (ix2 s ⟨128 * hh.val + d.val, by omega⟩))
      * V (ix2 s ⟨128 * hh.val + e.val, by omega⟩) else 0 := by
  unfold intra
  pointwise [cols_apply]
  refine Finset.sum_congr rfl fun s _ => ?_
  rw [pay13_apply, sel_ofBool]
theorem normGate_apply (hh : Fin 8) (o : FVec Ideal S8x128 .f32) (gn : Vec Ideal S1x128 .f32)
    (g : Vec Ideal S8x1024 .f32) (r : Fin 8) (e : Fin 128) : normGate hh o gn g (ix2 r e)
      = normR (fun x => o (ix2 r x)) (gn (ix2 0 e)) (g (ix2 r ⟨128 * hh.val + e.val, by omega⟩)) e := by
  unfold normGate k0_pay80 normR
  pointwise [cols_apply]

theorem cum_rows (lb : Vec Ideal S2x1024 .f32) (f : Vec Ideal S8x1024 .f32) (hh : Fin 8) (r : Fin 4) (d : Fin 128) :
    cumB lb f (ix2 ⟨r.val, by omega⟩ ⟨128 * hh.val + d.val, by omega⟩) = cumR (gateRows lb f hh) r d := by
  rw [cumB_apply]
  refine Finset.sum_congr rfl fun s _ => ?_
  rw [pay19_apply]
  rfl
theorem cum_last (lb : Vec Ideal S2x1024 .f32) (f : Vec Ideal S8x1024 .f32) (hh : Fin 8) (d : Fin 128) :
    cumB lb f (ix2 7 ⟨128 * hh.val + d.val, by omega⟩) = cumR (gateRows lb f hh) 3 d := by
  rw [cumB_apply]
  refine Finset.sum_congr rfl fun s _ => ?_
  have hs := s.isLt
  rw [pay19_apply, if_pos (show s.val ≤ (7 : Fin 8).val from (by omega : s.val ≤ 7)), if_pos (show s ≤ 3 from Fin.le_def.mpr (by show s.val ≤ 3; omega))]
  rfl
theorem tot_rows (lb : Vec Ideal S2x1024 .f32) (f : Vec Ideal S8x1024 .f32) (hh : Fin 8) (r : Fin 8) (d : Fin 128) :
    totB lb f (ix2 r ⟨128 * hh.val + d.val, by omega⟩) = cumR (gateRows lb f hh) 3 d :=
  (totB_apply lb f r _).trans (cum_last lb f hh d)
theorem qe_rows (lb : Vec Ideal S2x1024 .f32) (f q : Vec Ideal S8x1024 .f32) (hh : Fin 8) (r : Fin 4) (d : Fin 128) :
    qeB lb f q (ix2 ⟨r.val, by omega⟩ ⟨128 * hh.val + d.val, by omega⟩) = qeR (rowsOf q hh) (gateRows lb f hh) r d := by
  rw [qeB_apply, cum_rows]
  rfl
theorem ke_rows (lb : Vec Ideal S2x1024 .f32) (f : Vec Ideal S8x1024 .f32) (hh : Fin 8) (r : Fin 4) (d : Fin 128) :
    keB lb f (ix2 ⟨r.val, by omega⟩ ⟨128 * hh.val + d.val, by omega⟩) = keR (gateRows lb f hh) r d := by
  rw [keB_apply, cum_rows, key_apply, if_pos (show r.val < 4 from r.isLt), pay19_apply]
  rfl
theorem kd_rows (lb : Vec Ideal S2x1024 .f32) (f : Vec Ideal S8x1024 .f32) (hh : Fin 8) (r : Fin 4) (d : Fin 128) :
    kdB lb f (ix2 ⟨r.val, by omega⟩ ⟨128 * hh.val + d.val, by omega⟩) = kdR (gateRows lb f hh) r d := by
  rw [kdB_apply, dif_pos (show r.val < 8 by omega), tot_rows, cum_rows, key_apply, if_pos (show r.val < 4 from r.isLt), pay19_apply]
  rfl
/-- Rows past the sequence give no key. -/
theorem ke_past (lb : Vec Ideal S2x1024 .f32) (f : Vec Ideal S8x1024 .f32) (r : Fin 8) (h : 4 ≤ r.val) (e : Fin 1024) :
    keB lb f (ix2 r e) = 0 := by
  rw [keB_apply, key_apply, if_neg (by omega), zero_mul]
theorem kd_past (lb : Vec Ideal S2x1024 .f32) (f : Vec Ideal S8x1024 .f32) (r : Fin 128) (h : 4 ≤ r.val) (e : Fin 1024) :
    kdB lb f (ix2 r e) = 0 := by
  rw [kdB_apply]
  by_cases h8 : r.val < 8
  · rw [dif_pos h8, key_apply, if_neg (show ¬ r.val < 4 by omega), zero_mul]
  · rw [dif_neg h8]
theorem val_rows (v : Vec Ideal S8x1024 .f32) (hh : Fin 8) (r : Fin 4) (d : Fin 128) :
    k0_pay31 v (ix2 ⟨r.val, by omega⟩ ⟨128 * hh.val + d.val, by omega⟩) = rowsOf v hh r d := by
  rw [valB_apply, dif_pos (show r.val < 8 by omega)]
  rfl
theorem pay29_apply (v : Vec Ideal S8x1024 .f32) (r : Fin 8) (e : Fin 1024) : k0_pay29 v (ix2 r e) = v (ix2 r e) := by
  unfold k0_pay29 k0_pay28
  pointwise []

/-- The transposed state of a head is the state. -/
def Turned (ST : FVec Ideal S128x128 .f32) (S : St) : Prop := ∀ e d, ST (ix2 e d) = S d e

theorem sHead_turned (hh : Fin 8) (f v : Vec Ideal S8x1024 .f32) (lb : Vec Ideal S2x1024 .f32)
    (ST : FVec Ideal S128x128 .f32) (S : St) (h : Turned ST S) :
    Turned (sHead hh f v lb ST) (stR (gateRows lb f hh) (rowsOf v hh) S) := fun e d => by
  unfold sHead
  rw [stStep_apply, h e d, tot_rows, sumFew (by decide)]
  · unfold stR
    refine congrArg₂ (· + ·) rfl (Finset.sum_congr rfl fun s _ => ?_)
    rw [val_rows, kd_rows]
  · intro s hs
    rw [kd_past lb f s hs, mul_zero]

theorem oHead_apply (hh : Fin 8) (q f v g : Vec Ideal S8x1024 .f32) (lb : Vec Ideal S2x1024 .f32)
    (gn : Vec Ideal S1x128 .f32) (ST : FVec Ideal S128x128 .f32) (S : St) (h : Turned ST S) (r : Fin 4) (e : Fin 128) :
    oHead hh q f v g lb gn ST (ix2 ⟨r.val, by omega⟩ e)
      = normR (outR (rowsOf q hh) (gateRows lb f hh) (rowsOf v hh) S r) (gn (ix2 0 e)) (rowsOf g hh r e) e := by
  unfold oHead
  rw [normGate_apply]
  refine congrArg (fun o => normR o _ _ e) (funext fun x => ?_)
  refine (congrArg₂ (· + ·) (intra_apply hh _ _ _ _ x) (inter_apply hh _ _ _ x)).trans ?_
  unfold outR
  refine congrArg₂ (· + ·) ?_ (Finset.sum_congr rfl fun d _ => ?_)
  · rw [sumFew (by decide)]
    · refine Finset.sum_congr rfl fun s _ => ?_
      refine if_congr Iff.rfl ?_ rfl
      rw [pay29_apply]
      refine congrArg (· * _) (Finset.sum_congr rfl fun d _ => ?_)
      rw [qe_rows, ke_rows]
    · intro s hs
      split
      · rw [Finset.sum_eq_zero (fun d _ => by rw [ke_past lb f s hs, mul_zero]), zero_mul]
      · rfl
  · rw [qe_rows, h x d]
/-- A row with no query gives no output. -/
theorem oHead_past (hh : Fin 8) (q f v g : Vec Ideal S8x1024 .f32) (lb : Vec Ideal S2x1024 .f32)
    (gn : Vec Ideal S1x128 .f32) (ST : FVec Ideal S128x128 .f32) (r : Fin 8) (hq : ∀ d, q (ix2 r d) = 0) (e : Fin 128) :
    oHead hh q f v g lb gn ST (ix2 r e) = 0 := by
  have hz : ∀ d, qeB lb f q (ix2 r d) = 0 := fun d => by rw [qeB_apply, hq, zero_mul, zero_mul]
  unfold oHead
  rw [normGate_apply]
  unfold normR
  have ho : addf (intra hh (qeB lb f q) (keB lb f) (k0_pay29 v)) (inter hh (qeB lb f q) ST) (ix2 r e) = (0 : EReal) := by
    refine (congrArg₂ (· + ·) (intra_apply hh _ _ _ r e) (inter_apply hh _ _ r e)).trans ?_
    rw [Finset.sum_eq_zero, Finset.sum_eq_zero, add_zero]
    · intro d _
      rw [hz, zero_mul]
    · intro s _
      split
      · rw [Finset.sum_eq_zero (fun d _ => by rw [hz, zero_mul]), zero_mul]
      · rfl
  beta_reduce
  rw [ho, zero_mul, zero_mul, zero_mul]

/-- An entry of the rows of all the heads. -/
theorem OB_apply (q f v g : Vec Ideal S8x1024 .f32) (lb : Vec Ideal S2x1024 .f32) (gn : Vec Ideal S1x128 .f32)
    (ST : Fin 8 → FVec Ideal S128x128 .f32) (hh : Fin 8) (r : Fin 8) (e : Fin 128) :
    OB q f v g lb gn ST (ix2 r ⟨128 * hh.val + e.val, by omega⟩) = oHead hh q f v g lb gn (ST hh) (ix2 r e) := by
  have h1 : (⟨(128 * hh.val + e.val) / 128, by omega⟩ : Fin 8) = hh := Fin.ext (by show (128 * hh.val + e.val) / 128 = hh.val; omega)
  have h2 : (⟨(128 * hh.val + e.val) % 128, Nat.mod_lt _ (by decide)⟩ : Fin 128) = e := Fin.ext (by show (128 * hh.val + e.val) % 128 = e.val; omega)
  exact congrArg₂ (fun a x => oHead a q f v g lb gn (ST a) (ix2 r x)) h1 h2

variable (m : (ℓ : Loc nD τ sig) → Buf (Elt Ideal) ℓ)

theorem idx : ∀ t : Fin cfg0.N, win0_0.index t = ![t.val, 0] ∧ win0_1.index t = ![t.val, 1] ∧ win0_2.index t = ![t.val, 2]
    ∧ win0_3.index t = ![t.val, 3] ∧ win0_4.index t = ![0, 0] ∧ win0_5.index t = ![0, 0] ∧ win0_6.index t = ![t.val, 0, 0, 0]
    ∧ win0_7.index t = ![t.val, 0] ∧ win0_8.index t = ![t.val, 0, 0, 0] := by
  decide +kernel
theorem hN (t : Fin cfg0.N) : t.val < 128 := lt_of_lt_of_eq t.isLt N_0

/-- The arguments a device starts from. -/
abbrev zOf (c : Dev nD) : S512x8192.Idx → EReal := m ((c : Thread nD τ).loc main_arg0)
abbrev sOf (c : Dev nD) : S128x8x128x128.Idx → EReal := m ((c : Thread nD τ).loc main_arg1)
abbrev lbOf (c : Dev nD) : S2x1024.Idx → EReal := m ((c : Thread nD τ).loc main_arg2)
abbrev gnOf (c : Dev nD) : S1x128.Idx → EReal := m ((c : Thread nD τ).loc main_arg3)
/-- The padded activations: each sequence's 4 rows and 4 of zeros. -/
def padZ (z : S512x8192.Idx → EReal) : S1024x8192.Idx → EReal :=
  shapeCast S1024x8192 (pad S128x8x8192 ![0, 0, 0] ![0, 4, 0] ![0, 0, 0] (shapeCast S128x4x8192 z shapeCasts_S512x8192_S128x4x8192)
    (sitofp (F := Ideal) FTy.f32 (constantI S_ 32 0#32)) pads_S128x4x8192_S128x8x8192_000_040_000 h_S_) shapeCasts_S128x8x8192_S1024x8192
theorem found_pad (c : Dev nD) : V m c main_v2 = padZ (zOf m c) := by
  unfold V
  simp only [List.flatten_cons, List.flatten_nil, hostOps0, hostOps0_1, hostOps0_2, List.cons_append, List.nil_append, List.append_nil]
  after_results
  rfl
theorem padZ_apply (z : S512x8192.Idx → EReal) (b : Fin 128) (r : Fin 8) (e : Fin 8192) :
    padZ z (ix2 ⟨8 * b.val + r.val, by omega⟩ e) = if h : r.val < 4 then z (ix2 ⟨4 * b.val + r.val, by omega⟩ e) else 0 := by
  unfold padZ
  pointwise []
  have hz : (FloatOps.sitofp (F := Ideal) FTy.f32 0#32 : EReal) = 0 := by
    show ((((0#32 : BitVec 32).toInt : ℝ)) : EReal) = 0
    simp
  rw [hz]
  by_cases h : r.val < 4
  · rw [dif_pos h, dif_pos h]
    exact congrArg z (congrArg (fun n => ix2 n e) (Fin.ext (by show b.val * 4 + r.val = 4 * b.val + r.val; omega)))
  · rw [dif_neg h, dif_neg h]
theorem seen_0 (c : Dev nD) (t : Fin cfg0.N) (r : Fin 8) (e : Fin 1024) :
    iblk m c 0 t (ix2 r e) = V m c main_v2 (ix2 ⟨8 * t.val + r.val, by have := hN t; omega⟩ ⟨1024 * 0 + e.val, by omega⟩) := by
  generalize hv : V m c = v
  unfold iblk
  rw [hv]
  blk_ext [idx t]
theorem seen_1 (c : Dev nD) (t : Fin cfg0.N) (r : Fin 8) (e : Fin 1024) :
    iblk m c 1 t (ix2 r e) = V m c main_v2 (ix2 ⟨8 * t.val + r.val, by have := hN t; omega⟩ ⟨1024 * 1 + e.val, by omega⟩) := by
  generalize hv : V m c = v
  unfold iblk
  rw [hv]
  blk_ext [idx t]
theorem seen_2 (c : Dev nD) (t : Fin cfg0.N) (r : Fin 8) (e : Fin 1024) :
    iblk m c 2 t (ix2 r e) = V m c main_v2 (ix2 ⟨8 * t.val + r.val, by have := hN t; omega⟩ ⟨1024 * 2 + e.val, by omega⟩) := by
  generalize hv : V m c = v
  unfold iblk
  rw [hv]
  blk_ext [idx t]
theorem seen_3 (c : Dev nD) (t : Fin cfg0.N) (r : Fin 8) (e : Fin 1024) :
    iblk m c 3 t (ix2 r e) = V m c main_v2 (ix2 ⟨8 * t.val + r.val, by have := hN t; omega⟩ ⟨1024 * 3 + e.val, by omega⟩) := by
  generalize hv : V m c = v
  unfold iblk
  rw [hv]
  blk_ext [idx t]
theorem seen_4 (c : Dev nD) (t : Fin cfg0.N) : iblk m c 4 t = V m c main_arg2 := by
  generalize hv : V m c = v
  unfold iblk
  rw [hv]
  blk_ext! [idx t]
theorem seen_5 (c : Dev nD) (t : Fin cfg0.N) : iblk m c 5 t = V m c main_arg3 := by
  generalize hv : V m c = v
  unfold iblk
  rw [hv]
  blk_ext! [idx t]
theorem seen_6 (c : Dev nD) (t : Fin cfg0.N) (hh : Fin 8) (d e : Fin 128) :
    iblk m c 6 t (ix4 0 hh d e) = V m c main_arg1 (ix4 ⟨t.val, hN t⟩ hh d e) := by
  generalize hv : V m c = v
  unfold iblk
  rw [hv]
  blk_ext [idx t]
theorem blk_7 (c : Dev nD) (t : Fin cfg0.N) (r : Fin 8) (e : Fin 1024) :
    ((cfg0.win 7).blk t).view.read (Elt Ideal) ((dats m 0 c).arrAt 7 cfg0.N) (ix2 r e)
      = (dats m 0 c).arrAt 7 cfg0.N (ix2 ⟨8 * t.val + r.val, by have := hN t; omega⟩ e) := by
  generalize (dats m 0 c).arrAt 7 cfg0.N = f
  blk_ext [idx t]
theorem blk_8 (c : Dev nD) (t : Fin cfg0.N) (hh : Fin 8) (d e : Fin 128) :
    ((cfg0.win 8).blk t).view.read (Elt Ideal) ((dats m 0 c).arrAt 8 cfg0.N) (ix4 0 hh d e)
      = (dats m 0 c).arrAt 8 cfg0.N (ix4 ⟨t.val, hN t⟩ hh d e) := by
  generalize (dats m 0 c).arrAt 8 cfg0.N = f
  blk_ext [idx t]

/-- Window `w` of the projected activations: sequence `b`, head `hh`. -/
def zRows (z : S512x8192.Idx → EReal) (w : Fin 4) (b : Fin 128) (hh : Fin 8) : Rows := fun r d =>
  z (ix2 ⟨4 * b.val + r.val, by omega⟩ ⟨1024 * w.val + 128 * hh.val + d.val, by omega⟩)
/-- The gates of a sequence. -/
def fRows (z : S512x8192.Idx → EReal) (lb : S2x1024.Idx → EReal) (b : Fin 128) (hh : Fin 8) : Rows :=
  fun r d => gateR (lowR lb ⟨128 * hh.val + d.val, by omega⟩) (zRows z 1 b hh r d)
/-- The state a sequence starts from. -/
def S0 (s : S128x8x128x128.Idx → EReal) (b : Fin 128) (hh : Fin 8) : St := fun d e => s (ix4 b hh d e)
/-- The state after its rows. -/
def SS (z : S512x8192.Idx → EReal) (s : S128x8x128x128.Idx → EReal) (lb : S2x1024.Idx → EReal) (b : Fin 128) (hh : Fin 8) : St :=
  stR (fRows z lb b hh) (zRows z 2 b hh) (S0 s b hh)
/-- The output row, before its norm. -/
def rawRow (z : S512x8192.Idx → EReal) (s : S128x8x128x128.Idx → EReal) (lb : S2x1024.Idx → EReal) (b : Fin 128) (hh : Fin 8) : Rows :=
  outR (zRows z 0 b hh) (fRows z lb b hh) (zRows z 2 b hh) (S0 s b hh)
/-- The output row. -/
def outRow (z : S512x8192.Idx → EReal) (s : S128x8x128x128.Idx → EReal) (lb : S2x1024.Idx → EReal) (gn : S1x128.Idx → EReal)
    (b : Fin 128) (hh : Fin 8) : Rows := fun r e =>
  normR (rawRow z s lb b hh r) (gn (ix2 0 e)) (zRows z 3 b hh r e) e

theorem rows_seen (z : S512x8192.Idx → EReal) (w : Fin 4) (b : Fin 128) (hh : Fin 8) (x : Vec Ideal S8x1024 .f32)
    (hx : ∀ r e, x (ix2 r e) = padZ z (ix2 ⟨8 * b.val + r.val, by omega⟩ ⟨1024 * w.val + e.val, by omega⟩)) : rowsOf x hh = zRows z w b hh := by
  funext r d
  refine (hx _ _).trans ((padZ_apply z b ⟨r.val, by omega⟩ _).trans ?_)
  rw [dif_pos (show r.val < 4 from r.isLt)]
  exact congrArg z (congrArg (ix2 _) (Fin.ext (by show 1024 * w.val + (128 * hh.val + d.val) = 1024 * w.val + 128 * hh.val + d.val; omega)))
/-- The step of a sequence. -/
def stepOf (b : Fin 128) : Fin cfg0.N := ⟨b.val, lt_of_lt_of_eq b.isLt N_0.symm⟩
theorem pad_seen_0 (c : Dev nD) (b : Fin 128) (r : Fin 8) (e : Fin 1024) : iblk m c 0 (stepOf b) (ix2 r e)
    = padZ (zOf m c) (ix2 ⟨8 * b.val + r.val, by omega⟩ ⟨1024 * (0 : Fin 4).val + e.val, by show 1024 * 0 + _ < _; omega⟩) :=
  (seen_0 m c (stepOf b) r e).trans (congrFun (found_pad m c) _)
theorem pad_seen_1 (c : Dev nD) (b : Fin 128) (r : Fin 8) (e : Fin 1024) : iblk m c 1 (stepOf b) (ix2 r e)
    = padZ (zOf m c) (ix2 ⟨8 * b.val + r.val, by omega⟩ ⟨1024 * (1 : Fin 4).val + e.val, by show 1024 * 1 + _ < _; omega⟩) :=
  (seen_1 m c (stepOf b) r e).trans (congrFun (found_pad m c) _)
theorem pad_seen_2 (c : Dev nD) (b : Fin 128) (r : Fin 8) (e : Fin 1024) : iblk m c 2 (stepOf b) (ix2 r e)
    = padZ (zOf m c) (ix2 ⟨8 * b.val + r.val, by omega⟩ ⟨1024 * (2 : Fin 4).val + e.val, by show 1024 * 2 + _ < _; omega⟩) :=
  (seen_2 m c (stepOf b) r e).trans (congrFun (found_pad m c) _)
theorem pad_seen_3 (c : Dev nD) (b : Fin 128) (r : Fin 8) (e : Fin 1024) : iblk m c 3 (stepOf b) (ix2 r e)
    = padZ (zOf m c) (ix2 ⟨8 * b.val + r.val, by omega⟩ ⟨1024 * (3 : Fin 4).val + e.val, by show 1024 * 3 + _ < _; omega⟩) :=
  (seen_3 m c (stepOf b) r e).trans (congrFun (found_pad m c) _)
theorem gates_seen (c : Dev nD) (b : Fin 128) (hh : Fin 8) :
    gateRows (lbOf m c) (iblk m c 1 (stepOf b)) hh = fRows (zOf m c) (lbOf m c) b hh := by
  funext r d
  exact congrArg (gateR _) (congrFun (congrFun (rows_seen (zOf m c) 1 b hh _ (pad_seen_1 m c b)) r) d)
theorem start_seen (c : Dev nD) (b : Fin 128) (hh : Fin 8) : Turned (slab hh (startT (iblk m c 6 (stepOf b)))) (S0 (sOf m c) b hh) := fun e d =>
  (seen_6 m c (stepOf b) hh d e).trans (congrFun (V_main_arg1 m c) _)

/-- The states at the end. -/
theorem final_states (c : Dev nD) (b : Fin 128) (hh : Fin 8) (d e : Fin 128) :
    (dats m 0 c).arrAt 8 cfg0.N (ix4 b hh d e) = SS (zOf m c) (sOf m c) (lbOf m c) b hh d e := by
  refine (blk_8 m c (stepOf b) hh d e).symm.trans ?_
  rw [Value.blocks8 m c _ (flush0_8 _), Value.flushed8_A, out8_A, seen_4, V_main_arg2]
  refine (sHead_turned hh _ _ _ _ _ (start_seen m c b hh) e d).trans ?_
  rw [gates_seen, rows_seen (zOf m c) 2 b hh _ (pad_seen_2 m c b)]
  rfl
/-- The rows at the end: a sequence's, and the zeros that pad them. -/
theorem final_rows (c : Dev nD) (b : Fin 128) (hh : Fin 8) (r : Fin 8) (e : Fin 128) :
    (dats m 0 c).arrAt 7 cfg0.N (ix2 ⟨8 * b.val + r.val, by omega⟩ ⟨128 * hh.val + e.val, by omega⟩)
      = if h : r.val < 4 then outRow (zOf m c) (sOf m c) (lbOf m c) (gnOf m c) b hh ⟨r.val, h⟩ e else 0 := by
  refine (blk_7 m c (stepOf b) r ⟨128 * hh.val + e.val, by omega⟩).symm.trans ?_
  rw [Value.blocks7 m c _ (flush0_7 _), Value.flushed7_A, out7_A, seen_4, V_main_arg2, seen_5, V_main_arg3]
  refine (OB_apply _ _ _ _ _ _ _ hh r e).trans ?_
  by_cases h : r.val < 4
  · rw [dif_pos h]
    refine (oHead_apply hh _ _ _ _ _ _ _ _ (start_seen m c b hh) ⟨r.val, h⟩ e).trans ?_
    rw [gates_seen, rows_seen (zOf m c) 0 b hh _ (pad_seen_0 m c b), rows_seen (zOf m c) 2 b hh _ (pad_seen_2 m c b), rows_seen (zOf m c) 3 b hh _ (pad_seen_3 m c b)]
    rfl
  · rw [dif_neg h]
    refine oHead_past hh _ _ _ _ _ _ _ r (fun d => ?_) e
    rw [pad_seen_0, padZ_apply, dif_neg h]

end Cert.Step
end
-- ==== Proof.Ref.lean ====
/-
  What one trip of the reference's loop over chunks computes, entry by entry, over the extended reals.
-/
module
public import proofs.«01_k».proof.Proof.Gen.ReferenceIdeal.Step
public import proofs.«01_k».proof.Proof.Head
public import Idealize.ShloMosaic.Lib.Pointwise
public import Idealize.ShloMosaic.Lib.DynamicIndex
@[expose] public section
noncomputable section
open Idealize.ShloMosaic Idealize.ShloMosaic.TcCoe Idealize.SL.Sem Cert.ReferenceIdeal.Gen Cert.ReferenceIdeal Cert.ReferenceIdeal.Step
set_option maxRecDepth 16384
set_option maxHeartbeats 1000000
namespace Cert.Hgrn

/-- A fold that adds is the starting value and the sum. -/
theorem foldl_add {α : Type} (g : α → EReal) (L : List α) (v : EReal) : L.foldl (fun r n => r + g n) v = v + (L.map g).sum := by
  induction L generalizing v with
  | nil => simp
  | cons a L ih => rw [List.foldl_cons, ih, List.map_cons, List.sum_cons, add_assoc]

/-- The window that ends at row `r` covers the rows up to `r`. -/
theorem window_rows (r : Fin 32) (X : Fin 32 → EReal) :
    ∑ n : Fin 32, (if 31 ≤ r.val + n.val then X ⟨(r.val + n.val - 31) % 32, by omega⟩ else 0) = ∑ s, if s ≤ r then X s else 0 := by
  have hinj : Function.Injective (fun n : Fin 32 => (⟨(r.val + n.val + 1) % 32, by omega⟩ : Fin 32)) := by
    intro a b h
    have h' : (r.val + a.val + 1) % 32 = (r.val + b.val + 1) % 32 := congrArg Fin.val h
    exact Fin.ext (by omega)
  refine Fintype.sum_equiv (Equiv.ofBijective _ (Finite.injective_iff_bijective.mp hinj)) _ _ fun n => ?_
  show _ = if (r.val + n.val + 1) % 32 ≤ r.val then X ⟨(r.val + n.val + 1) % 32, _⟩ else 0
  by_cases h : 31 ≤ r.val + n.val
  · rw [if_pos h, if_pos (by omega)]
    exact congrArg X (Fin.ext (by show (r.val + n.val - 31) % 32 = (r.val + n.val + 1) % 32; omega))
  · rw [if_neg h, if_neg (by omega)]

/-- The running sum within a chunk. -/
def cumL (l : Rows) : Rows := fun r d => ∑ s, if s ≤ r then l s d else 0

/-- The window sum of a chunk is the running sum. -/
theorem window_at (x : S16x8x32x128.Idx → EReal) (b : Fin 16) (hh : Fin 8) (r : Fin 32) (d : Fin 128)
    (h : S16x8x32x128.ReduceWindows ![1, 1, 32, 1] ![1, 1, 1, 1] ![0, 0, 31, 0] ![0, 0, 0, 0] S16x8x32x128) :
    Ideal.hostReduceWindowAdd ![1, 1, 32, 1] ![1, 1, 1, 1] ![0, 0, 31, 0] ![0, 0, 0, 0] h x 0 (ix4 b hh r d)
      = cumL (fun r d => x (ix4 b hh r d)) r d := by
  unfold Ideal.hostReduceWindowAdd Host.reduceWindow
  rw [foldl_add, zero_add, ← Fin.sum_univ_def]
  unfold cumL
  rw [← window_rows r (fun s => x (ix4 b hh s d))]
  refine Fintype.sum_equiv (finCongr (by decide)) _ _ fun n => ?_
  have hw := Shape.rowMajor_val_four ((⟨4, ![1, 1, 32, 1]⟩ : Shape).rowMajor.symm n)
  rw [Equiv.apply_symm_apply] at hw
  let y : (⟨S16x8x32x128.rank, ![1, 1, 32, 1]⟩ : Shape).Idx := (⟨S16x8x32x128.rank, ![1, 1, 32, 1]⟩ : Shape).rowMajor.symm n
  have y0 : (y 0).val < 1 := (y 0).isLt
  have y1 : (y 1).val < 1 := (y 1).isLt
  have y2 : (y 2).val < 32 := (y 2).isLt
  have y3 : (y 3).val < 1 := (y 3).isLt
  have hn : n.val = (y 2).val := by
    refine hw.trans ?_
    show (((y 0).val * 1 + (y 1).val) * 32 + (y 2).val) * 1 + (y 3).val = _
    omega
  show _ = if 31 ≤ r.val + n.val then x (ix4 b hh ⟨(r.val + n.val - 31) % 32, _⟩ d) else 0
  have hr := r.isLt
  by_cases hle : 31 ≤ r.val + n.val
  · rw [if_pos hle, dif_pos]
    · refine congrArg x ((eq_ix4 _).trans ?_)
      refine congr (congr (congrArg₂ ix4 (Fin.ext ?_) (Fin.ext ?_)) (Fin.ext ?_)) (Fin.ext ?_)
      · show b.val * 1 + (y 0).val - 0 = b.val; omega
      · show hh.val * 1 + (y 1).val - 0 = hh.val; omega
      · show r.val * 1 + (y 2).val - 31 = (r.val + n.val - 31) % 32; omega
      · show d.val * 1 + (y 3).val - 0 = d.val; omega
    · intro a
      match a with
      | ⟨0, _⟩ => show 0 ≤ b.val * 1 + (y 0).val ∧ b.val * 1 + (y 0).val - 0 < 16; omega
      | ⟨1, _⟩ => show 0 ≤ hh.val * 1 + (y 1).val ∧ hh.val * 1 + (y 1).val - 0 < 8; omega
      | ⟨2, _⟩ => show 31 ≤ r.val * 1 + (y 2).val ∧ r.val * 1 + (y 2).val - 31 < 32; omega
      | ⟨3, _⟩ => show 0 ≤ d.val * 1 + (y 3).val ∧ d.val * 1 + (y 3).val - 0 < 128; omega
  · rw [if_neg hle, dif_neg]
    intro hin
    have h2 : 31 ≤ r.val * 1 + (y 2).val ∧ r.val * 1 + (y 2).val - 31 < 32 := hin 2
    omega

/-- The start of chunk `n` in the array of all chunks. -/
theorem start_at (n : Fin 128) (w : Fin 5 → (⟨S_, .i32⟩ : BufTy).Contents (Elt Ideal))
    (h0 : w 0 = constantI S_ 32 (BitVec.ofNat 32 n.val)) (h1 : w 1 = constantI S_ 32 0#32) (h2 : w 2 = constantI S_ 32 0#32)
    (h3 : w 3 = constantI S_ 32 0#32) (h4 : w 4 = constantI S_ 32 0#32) (a : Fin 5) :
    (w a (Shape.Idx.first h_S_)).toInt = ((![n.val, 0, 0, 0, 0] : Fin 5 → ℕ) a : Int) := by
  match a with
  | ⟨0, _⟩ =>
    show (w 0 _).toInt = (n.val : Int)
    rw [h0]
    show (BitVec.ofNat 32 n.val).toInt = _
    have := n.isLt
    have hk : (BitVec.ofNat 32 n.val).toNat = n.val := by rw [BitVec.toNat_ofNat]; omega
    rw [BitVec.toInt_eq_toNat_of_lt (by rw [hk]; omega), hk]
  | ⟨1, _⟩ => show (w 1 _).toInt = 0; rw [h1]; rfl
  | ⟨2, _⟩ => show (w 2 _).toInt = 0; rw [h2]; rfl
  | ⟨3, _⟩ => show (w 3 _).toInt = 0; rw [h3]; rfl
  | ⟨4, _⟩ => show (w 4 _).toInt = 0; rw [h4]; rfl

/-- A chunk lies within the array of all chunks. -/
theorem chunk_fits (n : Fin 128) (a : Fin 5) :
    (![n.val, 0, 0, 0, 0] : Fin 5 → ℕ) a + S1x16x8x32x128.size a ≤ S128x16x8x32x128.size a := by
  have := n.isLt
  match a with
  | ⟨0, _⟩ => show n.val + 1 ≤ 128; omega
  | ⟨1, _⟩ => show 0 + 16 ≤ 16; omega
  | ⟨2, _⟩ => show 0 + 8 ≤ 8; omega
  | ⟨3, _⟩ => show 0 + 32 ≤ 32; omega
  | ⟨4, _⟩ => show 0 + 128 ≤ 128; omega

/-- A chunk read from the array of all chunks. -/
theorem slice_at (x : S128x16x8x32x128.Idx → EReal) (n : Fin 128) (w : Fin 5 → (⟨S_, .i32⟩ : BufTy).Contents (Elt Ideal))
    (h0 : w 0 = constantI S_ 32 (BitVec.ofNat 32 n.val)) (h1 : w 1 = constantI S_ 32 0#32) (h2 : w 2 = constantI S_ 32 0#32)
    (h3 : w 3 = constantI S_ 32 0#32) (h4 : w 4 = constantI S_ 32 0#32)
    (h : S128x16x8x32x128.Slices (fun _ => 0) S1x16x8x32x128) (b : Fin 16) (hh : Fin 8) (r : Fin 32) (d : Fin 128) :
    Host.dynamicSlice S1x16x8x32x128 x (fun k => (w k (Shape.Idx.first h_S_)).toInt) h (ix5 0 b hh r d) = x (ix5 n b hh r d) := by
  rw [Host.dynamicSlice_eq_extractStridedSlice S1x16x8x32x128 x _ ![n.val, 0, 0, 0, 0] h ⟨rfl, chunk_fits n⟩
    (start_at n w h0 h1 h2 h3 h4)]
  unfold extractStridedSlice
  refine congrArg x (funext fun a => Fin.ext ?_)
  match a with
  | ⟨0, _⟩ => show n.val + 0 = n.val; omega
  | ⟨1, _⟩ => show 0 + b.val = b.val; omega
  | ⟨2, _⟩ => show 0 + hh.val = hh.val; omega
  | ⟨3, _⟩ => show 0 + r.val = r.val; omega
  | ⟨4, _⟩ => show 0 + d.val = d.val; omega

/-- A chunk written into the array of all chunks. -/
theorem update_at (x : S128x16x8x32x128.Idx → EReal) (u : S1x16x8x32x128.Idx → EReal) (n : Fin 128) (w : Fin 5 → (⟨S_, .i32⟩ : BufTy).Contents (Elt Ideal))
    (h0 : w 0 = constantI S_ 32 (BitVec.ofNat 32 n.val)) (h1 : w 1 = constantI S_ 32 0#32) (h2 : w 2 = constantI S_ 32 0#32)
    (h3 : w 3 = constantI S_ 32 0#32) (h4 : w 4 = constantI S_ 32 0#32)
    (h : S128x16x8x32x128.Slices (fun _ => 0) S1x16x8x32x128) (k : Fin 128) (b : Fin 16) (hh : Fin 8) (r : Fin 32) (d : Fin 128) :
    Host.dynamicUpdateSlice x u (fun k => (w k (Shape.Idx.first h_S_)).toInt) h (ix5 k b hh r d)
      = if k = n then u (ix5 0 b hh r d) else x (ix5 k b hh r d) := by
  have c : ∀ a : Fin 5, Host.clampedStart S128x16x8x32x128 S1x16x8x32x128 h.1 (fun k => (w k (Shape.Idx.first h_S_)).toInt) a
      = (![n.val, 0, 0, 0, 0] : Fin 5 → ℕ) a := fun a =>
    Host.clampedStart_of_le h.1 _ a _ (start_at n w h0 h1 h2 h3 h4 a) (chunk_fits n a)
  rw [Host.dynamicUpdateSlice_apply]
  by_cases hk : k = n
  · subst hk
    rw [if_pos rfl, dif_pos]
    · refine congrArg u (funext fun a => Fin.ext ?_)
      show ((ix5 k b hh r d : S128x16x8x32x128.Idx) a).val - Host.clampedStart S128x16x8x32x128 S1x16x8x32x128 h.1 _ a = _
      rw [c a]
      match a with
      | ⟨0, _⟩ => show k.val - k.val = 0; omega
      | ⟨1, _⟩ => rfl
      | ⟨2, _⟩ => rfl
      | ⟨3, _⟩ => rfl
      | ⟨4, _⟩ => rfl
    · intro a
      rw [c a]
      match a with
      | ⟨0, _⟩ => show k.val ≤ k.val ∧ k.val < k.val + 1; omega
      | ⟨1, _⟩ => show 0 ≤ b.val ∧ b.val < 0 + 16; omega
      | ⟨2, _⟩ => show 0 ≤ hh.val ∧ hh.val < 0 + 8; omega
      | ⟨3, _⟩ => show 0 ≤ r.val ∧ r.val < 0 + 32; omega
      | ⟨4, _⟩ => show 0 ≤ d.val ∧ d.val < 0 + 128; omega
  · rw [if_neg hk, dif_neg]
    intro hin
    have h' := hin 0
    rw [c 0] at h'
    have h'' : n.val ≤ k.val ∧ k.val < n.val + 1 := h'
    exact hk (Fin.ext (by omega))

/-- One head's rows of chunk `n`. -/
def chunk (x : S128x16x8x32x128.Idx → EReal) (n : Fin 128) (b : Fin 16) (hh : Fin 8) : Rows := fun r d => x (ix5 n b hh r d)

variable (n : Fin 128) (s : State Ideal) (b : Fin 16) (hh : Fin 8)
theorem b5_at (r : Fin 32) (d : Fin 128) : b5 n.val s (ix4 b hh r d) = chunk s.main_v49_0 n b hh r d := by
  have e : b5 n.val s (ix4 b hh r d) = b4 n.val s (ix5 0 b hh r d) := by
    unfold b5
    pointwise []
  exact e.trans (slice_at s.main_v49_0 n ![constantI S_ 32 (BitVec.ofNat 32 n.val), b0 n.val s, b1 n.val s, b2 n.val s, b3 n.val s] rfl rfl rfl rfl rfl sliceFits_S128x16x8x32x128_S1x16x8x32x128 b hh r d)
theorem b11_at (r : Fin 32) (d : Fin 128) : b11 n.val s (ix4 b hh r d) = chunk s.main_v49_1 n b hh r d := by
  have e : b11 n.val s (ix4 b hh r d) = b10 n.val s (ix5 0 b hh r d) := by
    unfold b11
    pointwise []
  exact e.trans (slice_at s.main_v49_1 n ![constantI S_ 32 (BitVec.ofNat 32 n.val), b6 n.val s, b7 n.val s, b8 n.val s, b9 n.val s] rfl rfl rfl rfl rfl sliceFits_S128x16x8x32x128_S1x16x8x32x128 b hh r d)
theorem b17_at (r : Fin 32) (d : Fin 128) : b17 n.val s (ix4 b hh r d) = chunk s.main_v49_2 n b hh r d := by
  have e : b17 n.val s (ix4 b hh r d) = b16 n.val s (ix5 0 b hh r d) := by
    unfold b17
    pointwise []
  exact e.trans (slice_at s.main_v49_2 n ![constantI S_ 32 (BitVec.ofNat 32 n.val), b12 n.val s, b13 n.val s, b14 n.val s, b15 n.val s] rfl rfl rfl rfl rfl sliceFits_S128x16x8x32x128_S1x16x8x32x128 b hh r d)
theorem b20_at (r : Fin 32) (d : Fin 128) : b20 n.val s (ix4 b hh r d) = cumL (chunk s.main_v49_1 n b hh) r d := by
  have e : b20 n.val s (ix4 b hh r d) = Ideal.hostReduceWindowAdd ![1, 1, 32, 1] ![1, 1, 1, 1] ![0, 0, 31, 0] ![0, 0, 0, 0]
    reduceWindows_S16x8x32x128_S16x8x32x128_w1s1p0_0_w1s1p0_0_w32s1p31_0_w1s1p0_0 (b11 n.val s) (Ideal.ofBits .f32 0x00000000#32) (ix4 b hh r d) := rfl
  rw [e, Ideal.ofBits_zero_f32, window_at]
  refine congrArg (fun l => cumL l r d) (funext fun r => funext fun d => b11_at n s b hh r d)

theorem mask_at (r t : Fin 32) : K_main_v47 (F := Ideal) (ix2 r t) = BitVec.ofBool (decide (t ≤ r)) := by
  unfold K_main_v47 K_main_call2_v4 K_main_call2_v2 K_main_call2_v0 K_main_call2_v1 K_main_call2_c K_main_call2_v3 K_main_v46 K_main_c K_main_call2_v5 K_main_call2_c_0
  revert r t
  pointwise []
  decide +kernel

variable (r : Fin 32) (d e : Fin 128)
theorem b21_at : b21 n.val s (ix4 b hh 0 d) = cumL (chunk s.main_v49_1 n b hh) 31 d := by
  refine Eq.trans ?_ (b20_at n s b hh 31 d)
  unfold b21
  pointwise []
/-- The queries with the decay from the chunk's start. -/
def qL (q l : Rows) : Rows := fun r d => q r d * Ideal.exp (cumL l r d)
/-- The keys taken back to the chunk's start. -/
def kL (l : Rows) : Rows := fun r d => (-(Ideal.exp (l r d) - 1)) * Ideal.exp (-(cumL l r d))
/-- The keys carried to the chunk's end. -/
def kdL (l : Rows) : Rows := fun r d => (-(Ideal.exp (l r d) - 1)) * Ideal.exp (cumL l 31 d - cumL l r d)
theorem b23_at : b23 n.val s (ix4 b hh r d) = -(Ideal.exp (chunk s.main_v49_1 n b hh r d) - 1) := by
  rw [← b11_at]
  unfold b23 b22
  pointwise []
theorem b25_at : b25 n.val s (ix4 b hh r d) = qL (chunk s.main_v49_0 n b hh) (chunk s.main_v49_1 n b hh) r d := by
  unfold qL
  rw [← b5_at, ← b20_at]
  unfold b25 b24
  pointwise []
theorem b28_at : b28 n.val s (ix4 b hh r d) = kL (chunk s.main_v49_1 n b hh) r d := by
  unfold kL
  rw [← b23_at, ← b20_at]
  unfold b28 b27 b26
  pointwise []
theorem b32_at : b32 n.val s (ix4 b hh r d) = kdL (chunk s.main_v49_1 n b hh) r d := by
  unfold kdL
  rw [← b23_at, ← b21_at, ← b20_at]
  unfold b32 b31 b30 b29
  pointwise []
theorem b38_at (t : Fin 32) : b38 n.val s (ix4 b hh r t) = if t ≤ r then
    ∑ d, qL (chunk s.main_v49_0 n b hh) (chunk s.main_v49_1 n b hh) r d * kL (chunk s.main_v49_1 n b hh) t d else 0 := by
  unfold b38 b36 b33 b37 b35 b34
  pointwise []
  rw [mask_at]
  simp only [b25_at, b28_at]
  by_cases h : t ≤ r
  · rw [if_pos h, decide_eq_true h]; rfl
  · rw [if_neg h, decide_eq_false h]; rfl
theorem b41_at : b41 n.val s (ix4 b hh r e) =
    (∑ d, qL (chunk s.main_v49_0 n b hh) (chunk s.main_v49_1 n b hh) r d * s.main_v49_5 (ix4 b hh d e))
     + ∑ t, b38 n.val s (ix4 b hh r t) * chunk s.main_v49_2 n b hh t e := by
  unfold b41 b39 b40
  pointwise []
  simp only [b25_at, b17_at]
theorem b48_at : b48 n.val s (ix4 b hh d e) = Ideal.exp (cumL (chunk s.main_v49_1 n b hh) 31 d) * s.main_v49_5 (ix4 b hh d e)
     + ∑ t, kdL (chunk s.main_v49_1 n b hh) t d * chunk s.main_v49_2 n b hh t e := by
  rw [← b21_at]
  unfold b48 b46 b47 b45 b44 b43 b42
  pointwise []
  simp only [b32_at, b17_at]
theorem b54_at (k : Fin 128) : b54 n.val s (ix5 k b hh r e) = if k = n then b41 n.val s (ix4 b hh r e) else s.main_v49_6 (ix5 k b hh r e) := by
  refine (update_at s.main_v49_6 (b49 n.val s) n ![constantI S_ 32 (BitVec.ofNat 32 n.val), b50 n.val s, b51 n.val s, b52 n.val s, b53 n.val s]
    rfl rfl rfl rfl rfl updateFits_S128x16x8x32x128_S1x16x8x32x128 k b hh r e).trans (if_congr Iff.rfl ?_ rfl)
  unfold b49
  pointwise []
end Cert.Hgrn
end
-- ==== Proof.RefRun.lean ====
/-
  The reference's run: its two results are read from the state its loop leaves, and that state is `step` applied trip
  after trip to the state before the loop.
-/
module
public import proofs.«01_k».proof.Proof.Gen.ReferenceIdeal.Run
public import proofs.«01_k».proof.Proof.Gen.ReferenceIdeal.Step
@[expose] public section
noncomputable section
open Idealize.ShloMosaic Idealize.ShloMosaic.TcCoe Idealize.SL.Sem Cert.ReferenceIdeal.Gen Cert.ReferenceIdeal Cert.ReferenceIdeal.Step Cert.ReferenceIdeal.Value Idealize.ShloMosaic.StableHlo
set_option maxRecDepth 16384
set_option maxHeartbeats 1000000
namespace Cert.Hgrn
variable {F : FTy → Type} [FloatOps F]

/-- The carried values and loop constants that the buffers hold. -/
def held (W : Valuation τ sig (Elt F)) : State F where
  main_v49_5 := W (Proc.devRef .tc main_v49_5)
  main_v49_6 := W (Proc.devRef .tc main_v49_6)
  main_v49_0 := W (Proc.devRef .tc main_v49_0)
  main_v49_1 := W (Proc.devRef .tc main_v49_1)
  main_v49_2 := W (Proc.devRef .tc main_v49_2)

/-- The counter holds `j` and the mask's buffer the mask. -/
structure Ready (W : Valuation τ sig (Elt F)) (j : ℕ) : Prop where
  count : W (Proc.devRef .tc main_v49_4) = constantI S_ 32 (BitVec.ofNat 32 j)
  mask : W (Proc.devRef .tc main_v49_3) = K_main_v47 (F := F)

theorem state_trip (W : Valuation τ sig (Elt F)) (j : ℕ) (h : Ready W j) : Value.step_main_v49_5 W = b48 j (held W) := by
  have q : res_main_while0b_v73 W = b11 j (held W) := by unfold res_main_while0b_v73; rw [h.count]; rfl
  have v : res_main_while0b_v74 W = b17 j (held W) := by unfold res_main_while0b_v74; rw [h.count]; rfl
  have c : res_main_while0b_v75 W = b20 j (held W) := by unfold res_main_while0b_v75; rw [q]; rfl
  have l : res_main_while0b_v76 W = b21 j (held W) := by unfold res_main_while0b_v76; rw [c]; rfl
  have k : res_main_while0b_v78 W = b23 j (held W) := by unfold res_main_while0b_v78; rw [q]; rfl
  unfold Value.step_main_v49_5
  rw [l, v, c, k]
  rfl
theorem out_trip (W : Valuation τ sig (Elt F)) (j : ℕ) (h : Ready W j) : Value.step_main_v49_6 W = b54 j (held W) := by
  have q : res_main_while0b_v73 W = b11 j (held W) := by unfold res_main_while0b_v73; rw [h.count]; rfl
  have v : res_main_while0b_v74 W = b17 j (held W) := by unfold res_main_while0b_v74; rw [h.count]; rfl
  have c : res_main_while0b_v75 W = b20 j (held W) := by unfold res_main_while0b_v75; rw [q]; rfl
  have k : res_main_while0b_v78 W = b23 j (held W) := by unfold res_main_while0b_v78; rw [q]; rfl
  have e : res_main_while0b_v80 W = b25 j (held W) := by unfold res_main_while0b_v80; rw [c, h.count]; rfl
  unfold Value.step_main_v49_6
  rw [e, v, c, k, h.count, h.mask]
  rfl
theorem ready_trip (W : Valuation τ sig (Elt F)) (j : ℕ) (h : Ready W j) : Ready (STEP W) (j + 1) where
  count := by
    rw [STEP_main_v49_4]
    unfold Value.step_main_v49_4
    rw [h.count]
    funext i
    show BitVec.ofNat 32 j + 1#32 = _
    simp only [BitVec.ofNat_add]
    rfl
  mask := (STEP_main_v49_3 W).trans h.mask
/-- One trip is `step`. -/
theorem held_trip (W : Valuation τ sig (Elt F)) (j : ℕ) (h : Ready W j) : held (STEP W) = step j (held W) := by
  unfold held step
  rw [STEP_main_v49_5, STEP_main_v49_6, STEP_main_v49_0, STEP_main_v49_1, STEP_main_v49_2, state_trip W j h, out_trip W j h]
  rfl

/-- The states before each trip. -/
def refStates (z : (⟨S65536x8192, .f32⟩ : BufTy).Contents (Elt F)) (lb : (⟨S2x1024, .f32⟩ : BufTy).Contents (Elt F)) : ℕ → State F
  | 0 => init z lb
  | n + 1 => step n (refStates z lb n)

variable (m : (ℓ : Loc nD τ sig) → Buf (Elt F) ℓ) (ρ : Dev nD → PrngReg)

set_option maxRecDepth 65536 in
theorem entry_ready (c : Dev nD) : Ready (entryContents preI m c) 0 := by
  constructor <;> (simp only [entryContents, afterL_cons, afterL_nil]; after_reads_simp) <;> rfl
set_option maxRecDepth 65536 in
theorem entry_held (c : Dev nD) : held (entryContents preI m c) = init (m ((c.tc : Thread nD τ).loc main_arg0)) (m ((c.tc : Thread nD τ).loc main_arg1)) := by
  unfold held init
  congr 1 <;> (simp only [entryContents, afterL_cons, afterL_nil]; after_reads_simp) <;> rfl
theorem loop_held (c : Dev nD) (k : ℕ) : Ready (STEP^[k] (entryContents preI m c)) k
    ∧ held (STEP^[k] (entryContents preI m c)) = refStates (m ((c.tc : Thread nD τ).loc main_arg0)) (m ((c.tc : Thread nD τ).loc main_arg1)) k := by
  induction k with
  | zero => exact ⟨entry_ready m c, entry_held m c⟩
  | succ k ih =>
    rw [Function.iterate_succ_apply']
    exact ⟨ready_trip _ k ih.1, (held_trip _ k ih.1).trans (congrArg (step k) ih.2)⟩
/-- The first result, of what the loop leaves. -/
theorem out_held (W : Valuation τ sig (Elt F)) :
    out_main_v71 W = R_main_v71 (held W) (W (Proc.devRef .tc main_arg0)) (W (Proc.devRef .tc main_arg2)) := by
  unfold out_main_v71 R_main_v71 held
  rfl
/-- The reference's results and arguments after its run. -/
theorem ref_run : θ_run (defs (F := F)) (onTc (τ := τ) (main (F := F))) ⟨m, fun _ => 0, ρ⟩ fun r => ∀ c : Dev nD,
      r.2.mem ((c.tc : Thread nD τ).loc main_v71) = R_main_v71 (refStates (m ((c.tc : Thread nD τ).loc main_arg0)) (m ((c.tc : Thread nD τ).loc main_arg1)) 128)
        (m ((c.tc : Thread nD τ).loc main_arg0)) (m ((c.tc : Thread nD τ).loc main_arg2))
      ∧ r.2.mem ((c.tc : Thread nD τ).loc main_v49_5) = (refStates (m ((c.tc : Thread nD τ).loc main_arg0)) (m ((c.tc : Thread nD τ).loc main_arg1)) 128).main_v49_5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2⟩) (Value.run m ρ)
  · exact (out_held _).trans (congr (congr (congrArg R_main_v71 (loop_held m c 128).2) (iter_main_arg0 m c 128)) (iter_main_arg2 m c 128))
  · exact congrArg State.main_v49_5 (loop_held m c 128).2
end Cert.Hgrn
end
-- ==== Proof.RefValue.lean ====
/-
  The reference's results entry by entry: the same recurrence.
-/
module
public import proofs.«01_k».proof.Proof.Ref
public import proofs.«01_k».proof.Proof.RefRun
public import proofs.«01_k».proof.Proof.Spec
@[expose] public section
noncomputable section
open Idealize.ShloMosaic Idealize.ShloMosaic.TcCoe Idealize.SL.Sem Cert.ReferenceIdeal.Gen Cert.ReferenceIdeal Cert.ReferenceIdeal.Step Idealize.ShloMosaic.Tactic
set_option maxRecDepth 16384
set_option maxHeartbeats 1000000
namespace Cert.Hgrn

variable (z : S65536x8192.Idx → EReal) (lb : S2x1024.Idx → EReal) (gn : S1x128.Idx → EReal)

/-- The first row of the running sum over two rows is the first row. -/
theorem first_row (x : S2x1024.Idx → EReal) (e : Fin 1024) (h : S2x1024.ReduceWindows ![2, 1] ![1, 1] ![1, 0] ![0, 0] S2x1024) :
    Ideal.hostReduceWindowAdd ![2, 1] ![1, 1] ![1, 0] ![0, 0] h x 0 (ix2 0 e) = x (ix2 0 e) := by
  unfold Ideal.hostReduceWindowAdd Host.reduceWindow
  rw [foldl_add, zero_add, ← Fin.sum_univ_def]
  refine Eq.trans (Fintype.sum_equiv (finCongr (by decide)) _ (fun n : Fin 2 => if n = 1 then x (ix2 0 e) else 0) fun n => ?_) (by simp)
  have hw := Shape.rowMajor_val_two ((⟨2, ![2, 1]⟩ : Shape).rowMajor.symm n)
  rw [Equiv.apply_symm_apply] at hw
  let y : (⟨S2x1024.rank, ![2, 1]⟩ : Shape).Idx := (⟨S2x1024.rank, ![2, 1]⟩ : Shape).rowMajor.symm n
  have y0 : (y 0).val < 2 := (y 0).isLt
  have y1 : (y 1).val < 1 := (y 1).isLt
  have hn : n.val = (y 0).val := by
    refine hw.trans ?_
    show (y 0).val * 1 + (y 1).val = _
    omega
  by_cases h1 : n.val = 1
  · rw [if_pos (Fin.ext h1), dif_pos]
    · refine congrArg x ((eq_ix2 _).trans (congrArg₂ ix2 (Fin.ext ?_) (Fin.ext ?_)))
      · show 0 * 1 + (y 0).val - 1 = 0; omega
      · show e.val * 1 + (y 1).val - 0 = e.val; omega
    · intro a
      have he := e.isLt
      match a with
      | ⟨0, _⟩ => show 1 ≤ 0 * 1 + (y 0).val ∧ 0 * 1 + (y 0).val - 1 < 2; omega
      | ⟨1, _⟩ => show 0 ≤ e.val * 1 + (y 1).val ∧ e.val * 1 + (y 1).val - 0 < 1024; omega
  · rw [if_neg (fun q => h1 (congrArg Fin.val q)), dif_neg]
    intro hin
    have h2 : 1 ≤ 0 * 1 + (y 0).val ∧ 0 * 1 + (y 0).val - 1 < 2 := hin 0
    omega

/-- The lower bound of the gates. -/
theorem low_at (e : Fin 1024) : A_main_v19 (F := Ideal) z lb (ix1 e) = lowR lb e := by
  have e1 : A_main_v19 (F := Ideal) z lb (ix1 e) = A_main_v17 (F := Ideal) z lb (ix2 0 e) := by
    unfold A_main_v19 A_main_v18
    pointwise []
  have e2 : A_main_v17 (F := Ideal) z lb (ix2 0 e) = Ideal.hostReduceWindowAdd ![2, 1] ![1, 1] ![1, 0] ![0, 0]
    reduceWindows_S2x1024_S2x1024_w2s1p1_0_w1s1p0_0 (A_main_v16 (F := Ideal) z lb) (Ideal.ofBits .f32 0x00000000#32) (ix2 0 e) := by
    unfold A_main_v17
    rfl
  rw [e1, e2, Ideal.ofBits_zero_f32, first_row]
  unfold A_main_v16 A_main_v15 A_main_v14 A_main_v13 A_main_v12 A_main_v11 A_main_v10 A_main_v9 A_main_v8 A_main_v6 K_main_v7 K_main_cst K_main_cst_0 K_main_cst_1
  pointwise []
  rw [max_eq_right (by rw [Finset.le_fold_max]; exact Or.inl le_rfl)]
  rfl

/-- The queries the loop reads: `q · σ(q)`. -/
theorem q_at (n : Fin 128) (b : Fin 16) (hh : Fin 8) (r : Fin 32) (d : Fin 128) :
    A_main_v41 (F := Ideal) z lb (ix5 n b hh r d) = zRows z 0 b n hh r d * Ideal.logistic (zRows z 0 b n hh r d) := by
  unfold A_main_v41 A_main_v40 A_main_v37 A_main_v36 A_main_v1 A_main_v0 A_main_call1_v5 A_main_call1_v3 A_main_call1_v1 A_main_call1_v0 A_main_v1 A_main_v0
    K_main_call1_v4 K_main_call1_cst_0 K_main_call1_v2 K_main_call1_cst
  pointwise []
  have e : z (ix2 ⟨b.val * 4096 + (n.val * 32 + r.val), by omega⟩ ⟨hh.val * 128 + d.val, by omega⟩) = zRows z 0 b n hh r d :=
    congrArg z (congrArg₂ ix2 (Fin.ext (by show b.val * 4096 + (n.val * 32 + r.val) = 4096 * b.val + 32 * n.val + r.val; omega)) (Fin.ext (by show hh.val * 128 + d.val = 1024 * 0 + 128 * hh.val + d.val; omega)))
  rw [e]
  rfl
/-- The values the loop reads. -/
theorem v_at (n : Fin 128) (b : Fin 16) (hh : Fin 8) (r : Fin 32) (d : Fin 128) :
    A_main_v45 (F := Ideal) z lb (ix5 n b hh r d) = zRows z 2 b n hh r d := by
  unfold A_main_v45 A_main_v44 A_main_v39 A_main_v5 A_main_v4
  pointwise []
  exact congrArg z (congrArg₂ ix2 (Fin.ext (by show b.val * 4096 + n.val * 32 + r.val = 4096 * b.val + 32 * n.val + r.val; omega))
    (Fin.ext (by show 2048 + (hh.val * 128 + d.val) = 1024 * 2 + 128 * hh.val + d.val; omega)))
/-- The logarithms of the gates the loop reads. -/
theorem l_at (n : Fin 128) (b : Fin 16) (hh : Fin 8) (r : Fin 32) (d : Fin 128) :
    A_main_v43 (F := Ideal) z lb (ix5 n b hh r d) = Ideal.log (fRows z lb b n hh r d) := by
  unfold A_main_v43 A_main_v42 A_main_v38 A_main_v34 A_main_v33 A_main_v32 A_main_v31 A_main_v30 A_main_v29 A_main_v28 A_main_v27 A_main_v25
    A_main_v23 A_main_v22 A_main_v21 A_main_v3 A_main_v2 K_main_v20 K_main_v26 K_main_v24 K_main_cst_2 K_main_cst_3 K_main_cst_4
  pointwise []
  have e : z (ix2 ⟨b.val * 4096 + (n.val * 32 + r.val), by omega⟩ ⟨1024 + (hh.val * 128 + d.val), by omega⟩) = zRows z 1 b n hh r d :=
    congrArg z (congrArg₂ ix2 (Fin.ext (by show b.val * 4096 + (n.val * 32 + r.val) = 4096 * b.val + 32 * n.val + r.val; omega)) (Fin.ext (by show 1024 + (hh.val * 128 + d.val) = 1024 * 1 + 128 * hh.val + d.val; omega)))
  have e' : (⟨hh.val * 128 + d.val, by omega⟩ : Fin 1024) = ⟨128 * hh.val + d.val, by omega⟩ := Fin.ext (by show hh.val * 128 + d.val = 128 * hh.val + d.val; omega)
  rw [e, e', low_at]
  rfl

/-- A sum with the least value among its terms is the least value. -/
theorem sum_bot {ι : Type} [Fintype ι] [DecidableEq ι] (g : ι → EReal) (i : ι) (h : g i = ⊥) : ∑ x, g x = ⊥ := by
  rw [← Finset.add_sum_erase _ _ (Finset.mem_univ i), h, EReal.bot_add]
/-- Where a gate isn't positive its logarithm, and the running sum from there on, is the least value. -/
theorem cum_bot (f : Rows) (r t : Fin 32) (d : Fin 128) (hrt : r ≤ t) (h : Ideal.log (f r d) = ⊥) : cumR f t d = ⊥ :=
  sum_bot _ r (by show (if r ≤ t then _ else _) = _; rw [if_pos hrt, h])
/-- A gate is its logarithm's exponential, or it is negative and its logarithm the least value. -/
theorem exp_log (x : EReal) : Ideal.exp (Ideal.log x) = x ∨ (x < 0 ∧ Ideal.log x = ⊥) := by
  induction x with
  | bot => exact Or.inr ⟨EReal.bot_lt_zero, rfl⟩
  | top => exact Or.inl rfl
  | coe x =>
    rw [Ideal.log_coe]
    rcases lt_trichotomy x 0 with h | h | h
    · exact Or.inr ⟨by exact_mod_cast h, if_pos h.le⟩
    · subst h
      exact Or.inl (by rw [if_pos le_rfl]; rfl)
    · refine Or.inl ?_
      rw [if_neg (not_le.mpr h), Ideal.exp_coe, Real.exp_log h]
/-- A difference turned round. -/
theorem neg_sub_one (x : EReal) : -(x - 1) = 1 - x := by
  rw [EReal.neg_sub (Or.inr (by decide)) (Or.inr (by decide)), add_comm, ← sub_eq_add_neg]
/-- One less a negative number is positive. -/
theorem one_sub_pos (x : EReal) (h : x < 0) : 0 < 1 - x := by
  induction x with
  | bot =>
    rw [sub_eq_add_neg, EReal.neg_bot, ← EReal.coe_one, EReal.coe_add_top]
    exact EReal.zero_lt_top
  | top => exact absurd h (not_lt.mpr le_top)
  | coe x =>
    have hx : x < 0 := by exact_mod_cast h
    exact_mod_cast (by linarith : (0 : ℝ) < 1 - x)
/-- The keys from the gate's logarithm are the keys from the gate. -/
theorem k_eq (f : Rows) (r : Fin 32) (d : Fin 128) : kL (fun r d => Ideal.log (f r d)) r d = keR f r d := by
  show (-(Ideal.exp (Ideal.log (f r d)) - 1)) * Ideal.exp (-(cumR f r d)) = (1 - f r d) * Ideal.exp (0 - cumR f r d)
  rcases exp_log (f r d) with h | ⟨hneg, hb⟩
  · rw [h, neg_sub_one, zero_sub]
  · rw [cum_bot f r r d le_rfl hb, hb, neg_sub_one, zero_sub, EReal.neg_bot, Ideal.exp_top, Ideal.exp_bot,
      EReal.mul_top_of_pos (one_sub_pos _ hneg), EReal.mul_top_of_pos (by rw [sub_zero]; exact zero_lt_one)]
/-- The same of the keys that enter the state. -/
theorem kd_eq (f : Rows) (r : Fin 32) (d : Fin 128) : kdL (fun r d => Ideal.log (f r d)) r d = kdR f r d := by
  show (-(Ideal.exp (Ideal.log (f r d)) - 1)) * Ideal.exp (cumR f 31 d - cumR f r d) = (1 - f r d) * Ideal.exp (cumR f 31 d - cumR f r d)
  rcases exp_log (f r d) with h | ⟨hneg, hb⟩
  · rw [h, neg_sub_one]
  · rw [cum_bot f r 31 d (by omega) hb, sub_eq_add_neg ⊥, EReal.bot_add, Ideal.exp_bot, mul_zero, mul_zero]

/-- What the reference holds before trip `n`. -/
theorem held_at (n : ℕ) (hn : n ≤ 128) :
    (refStates (F := Ideal) z lb n).main_v49_0 = A_main_v41 z lb ∧ (refStates (F := Ideal) z lb n).main_v49_1 = A_main_v43 z lb ∧ (refStates (F := Ideal) z lb n).main_v49_2 = A_main_v45 z lb
    ∧ (∀ b hh d e, (refStates (F := Ideal) z lb n).main_v49_5 (ix4 b hh d e) = SS z lb b hh n d e)
    ∧ ∀ (k : Fin 128) b hh r e, k.val < n → (refStates (F := Ideal) z lb n).main_v49_6 (ix5 k b hh r e) = rawRow z lb b k hh r e := by
  induction n with
  | zero =>
    refine ⟨rfl, rfl, rfl, fun b hh d e => ?_, fun k b hh r e h => absurd h (Nat.not_lt_zero _)⟩
    show K_main_v35 (F := Ideal) (ix4 b hh d e) = 0
    unfold K_main_v35 K_main_cst_5
    pointwise []
  | succ n ih =>
    obtain ⟨h0, h1, h2, hS, hO⟩ := ih (by omega)
    have eq0 : ∀ b hh, chunk (refStates (F := Ideal) z lb n).main_v49_0 ⟨n, hn⟩ b hh = fun r d => zRows z 0 b ⟨n, hn⟩ hh r d * Ideal.logistic (zRows z 0 b ⟨n, hn⟩ hh r d) := fun b hh => by
      funext r d; rw [h0]; exact q_at z lb _ _ _ _ _
    have eq1 : ∀ b hh, chunk (refStates (F := Ideal) z lb n).main_v49_1 ⟨n, hn⟩ b hh = fun r d => Ideal.log (fRows z lb b ⟨n, hn⟩ hh r d) := fun b hh => by
      funext r d; rw [h1]; exact l_at z lb _ _ _ _ _
    have eq2 : ∀ b hh, chunk (refStates (F := Ideal) z lb n).main_v49_2 ⟨n, hn⟩ b hh = zRows z 2 b ⟨n, hn⟩ hh := fun b hh => by
      funext r d; rw [h2]; exact v_at z lb _ _ _ _ _
    have en : (Fin.ofNat 128 n) = ⟨n, hn⟩ := Fin.ext (Nat.mod_eq_of_lt hn)
    refine ⟨h0, h1, h2, fun b hh d e => ?_, fun k b hh r e hk => ?_⟩
    · refine (b48_at ⟨n, hn⟩ (refStates (F := Ideal) z lb n) b hh d e).trans ?_
      rw [eq1, eq2, hS]
      show _ = stR (fRows z lb b (Fin.ofNat 128 n) hh) (zRows z 2 b (Fin.ofNat 128 n) hh) (SS z lb b hh n) d e
      rw [en]
      unfold stR
      refine congrArg₂ (· + ·) (mul_comm _ _) (Finset.sum_congr rfl fun t _ => ?_)
      rw [kd_eq, mul_comm]
    · refine (b54_at ⟨n, hn⟩ (refStates (F := Ideal) z lb n) b hh r e k).trans ?_
      by_cases hkn : k = ⟨n, hn⟩
      · rw [if_pos hkn, hkn, b41_at, add_comm]
        unfold rawRow outR
        refine congrArg₂ (· + ·) (Finset.sum_congr rfl fun t _ => ?_) (Finset.sum_congr rfl fun d _ => ?_)
        · rw [b38_at, eq0, eq1, eq2]
          by_cases ht : t ≤ r
          · rw [if_pos ht, if_pos ht]
            refine congrArg (· * _) (Finset.sum_congr rfl fun d _ => ?_)
            rw [k_eq]
            rfl
          · rw [if_neg ht, if_neg ht, zero_mul]
        · rw [eq0, eq1, hS]
          rfl
      · rw [if_neg hkn]
        exact hO k b hh r e (by have : k.val ≠ n := fun q => hkn (Fin.ext q); omega)

/-- The reference's second result. -/
theorem ref_state (b : Fin 16) (hh : Fin 8) (d e : Fin 128) : (refStates (F := Ideal) z lb 128).main_v49_5 (ix4 b hh d e) = SS z lb b hh 128 d e :=
  (held_at z lb 128 le_rfl).2.2.2.1 b hh d e

end Cert.Hgrn
end
-- ==== Proof.StepRef.lean ====
/-
  What the one trip of the sample group's reference computes, entry by entry, over the extended reals.
-/
module
public import proofs.«01_k».proof.Proof.Gen.Reference6Ideal.Step
public import proofs.«01_k».proof.Proof.StepValue
public import proofs.«01_k».proof.Proof.RefValue
public import Idealize.ShloMosaic.Lib.Pointwise
public import Idealize.ShloMosaic.Lib.DynamicIndex
@[expose] public section
noncomputable section
open Idealize.ShloMosaic Idealize.ShloMosaic.TcCoe Idealize.SL.Sem Cert.Reference6Ideal.Gen Cert.Reference6Ideal Cert.Reference6Ideal.Step
set_option maxRecDepth 16384
set_option maxHeartbeats 1000000
namespace Cert.Step
open Cert.Hgrn (foldl_add sum_bot exp_log neg_sub_one one_sub_pos first_row)

/-- The window that ends at row `r` covers the rows up to `r`. -/
theorem window_rows (r : Fin 4) (X : Fin 4 → EReal) :
    ∑ n : Fin 4, (if 3 ≤ r.val + n.val then X ⟨(r.val + n.val - 3) % 4, by omega⟩ else 0) = ∑ s, if s ≤ r then X s else 0 := by
  have hinj : Function.Injective (fun n : Fin 4 => (⟨(r.val + n.val + 1) % 4, by omega⟩ : Fin 4)) := by
    intro a b h
    have h' : (r.val + a.val + 1) % 4 = (r.val + b.val + 1) % 4 := congrArg Fin.val h
    exact Fin.ext (by omega)
  refine Fintype.sum_equiv (Equiv.ofBijective _ (Finite.injective_iff_bijective.mp hinj)) _ _ fun n => ?_
  show _ = if (r.val + n.val + 1) % 4 ≤ r.val then X ⟨(r.val + n.val + 1) % 4, _⟩ else 0
  by_cases h : 3 ≤ r.val + n.val
  · rw [if_pos h, if_pos (by omega)]
    exact congrArg X (Fin.ext (by show (r.val + n.val - 3) % 4 = (r.val + n.val + 1) % 4; omega))
  · rw [if_neg h, if_neg (by omega)]

/-- The running sum within a chunk. -/
def cumL (l : Rows) : Rows := fun r d => ∑ s, if s ≤ r then l s d else 0

/-- The window sum of a chunk is the running sum. -/
theorem window_at (x : S128x8x4x128.Idx → EReal) (b : Fin 128) (hh : Fin 8) (r : Fin 4) (d : Fin 128)
    (h : S128x8x4x128.ReduceWindows ![1, 1, 4, 1] ![1, 1, 1, 1] ![0, 0, 3, 0] ![0, 0, 0, 0] S128x8x4x128) :
    Ideal.hostReduceWindowAdd ![1, 1, 4, 1] ![1, 1, 1, 1] ![0, 0, 3, 0] ![0, 0, 0, 0] h x 0 (ix4 b hh r d)
      = cumL (fun r d => x (ix4 b hh r d)) r d := by
  unfold Ideal.hostReduceWindowAdd Host.reduceWindow
  rw [foldl_add, zero_add, ← Fin.sum_univ_def]
  unfold cumL
  rw [← window_rows r (fun s => x (ix4 b hh s d))]
  refine Fintype.sum_equiv (finCongr (by decide)) _ _ fun n => ?_
  have hw := Shape.rowMajor_val_four ((⟨4, ![1, 1, 4, 1]⟩ : Shape).rowMajor.symm n)
  rw [Equiv.apply_symm_apply] at hw
  let y : (⟨S128x8x4x128.rank, ![1, 1, 4, 1]⟩ : Shape).Idx := (⟨S128x8x4x128.rank, ![1, 1, 4, 1]⟩ : Shape).rowMajor.symm n
  have y0 : (y 0).val < 1 := (y 0).isLt
  have y1 : (y 1).val < 1 := (y 1).isLt
  have y2 : (y 2).val < 4 := (y 2).isLt
  have y3 : (y 3).val < 1 := (y 3).isLt
  have hn : n.val = (y 2).val := by
    refine hw.trans ?_
    show (((y 0).val * 1 + (y 1).val) * 4 + (y 2).val) * 1 + (y 3).val = _
    omega
  show _ = if 3 ≤ r.val + n.val then x (ix4 b hh ⟨(r.val + n.val - 3) % 4, _⟩ d) else 0
  have hr := r.isLt
  by_cases hle : 3 ≤ r.val + n.val
  · rw [if_pos hle, dif_pos]
    · refine congrArg x ((eq_ix4 _).trans ?_)
      refine congr (congr (congrArg₂ ix4 (Fin.ext ?_) (Fin.ext ?_)) (Fin.ext ?_)) (Fin.ext ?_)
      · show b.val * 1 + (y 0).val - 0 = b.val; omega
      · show hh.val * 1 + (y 1).val - 0 = hh.val; omega
      · show r.val * 1 + (y 2).val - 3 = (r.val + n.val - 3) % 4; omega
      · show d.val * 1 + (y 3).val - 0 = d.val; omega
    · intro a
      match a with
      | ⟨0, _⟩ => show 0 ≤ b.val * 1 + (y 0).val ∧ b.val * 1 + (y 0).val - 0 < 128; omega
      | ⟨1, _⟩ => show 0 ≤ hh.val * 1 + (y 1).val ∧ hh.val * 1 + (y 1).val - 0 < 8; omega
      | ⟨2, _⟩ => show 3 ≤ r.val * 1 + (y 2).val ∧ r.val * 1 + (y 2).val - 3 < 4; omega
      | ⟨3, _⟩ => show 0 ≤ d.val * 1 + (y 3).val ∧ d.val * 1 + (y 3).val - 0 < 128; omega
  · rw [if_neg hle, dif_neg]
    intro hin
    have h2 : 3 ≤ r.val * 1 + (y 2).val ∧ r.val * 1 + (y 2).val - 3 < 4 := hin 2
    omega

/-- The start of chunk `n` in the array of all chunks. -/
theorem start_at (n : Fin 1) (w : Fin 5 → (⟨S_, .i32⟩ : BufTy).Contents (Elt Ideal))
    (h0 : w 0 = constantI S_ 32 (BitVec.ofNat 32 n.val)) (h1 : w 1 = constantI S_ 32 0#32) (h2 : w 2 = constantI S_ 32 0#32)
    (h3 : w 3 = constantI S_ 32 0#32) (h4 : w 4 = constantI S_ 32 0#32) (a : Fin 5) :
    (w a (Shape.Idx.first h_S_)).toInt = ((![n.val, 0, 0, 0, 0] : Fin 5 → ℕ) a : Int) := by
  match a with
  | ⟨0, _⟩ =>
    show (w 0 _).toInt = (n.val : Int)
    rw [h0]
    show (BitVec.ofNat 32 n.val).toInt = _
    have := n.isLt
    have hk : (BitVec.ofNat 32 n.val).toNat = n.val := by rw [BitVec.toNat_ofNat]; omega
    rw [BitVec.toInt_eq_toNat_of_lt (by rw [hk]; omega), hk]
  | ⟨1, _⟩ => show (w 1 _).toInt = 0; rw [h1]; rfl
  | ⟨2, _⟩ => show (w 2 _).toInt = 0; rw [h2]; rfl
  | ⟨3, _⟩ => show (w 3 _).toInt = 0; rw [h3]; rfl
  | ⟨4, _⟩ => show (w 4 _).toInt = 0; rw [h4]; rfl

/-- A chunk lies within the array of all chunks. -/
theorem chunk_fits (n : Fin 1) (a : Fin 5) :
    (![n.val, 0, 0, 0, 0] : Fin 5 → ℕ) a + S1x128x8x4x128.size a ≤ S1x128x8x4x128.size a := by
  have := n.isLt
  match a with
  | ⟨0, _⟩ => show n.val + 1 ≤ 1; omega
  | ⟨1, _⟩ => show 0 + 128 ≤ 128; omega
  | ⟨2, _⟩ => show 0 + 8 ≤ 8; omega
  | ⟨3, _⟩ => show 0 + 4 ≤ 4; omega
  | ⟨4, _⟩ => show 0 + 128 ≤ 128; omega

/-- A chunk read from the array of all chunks. -/
theorem slice_at (x : S1x128x8x4x128.Idx → EReal) (n : Fin 1) (w : Fin 5 → (⟨S_, .i32⟩ : BufTy).Contents (Elt Ideal))
    (h0 : w 0 = constantI S_ 32 (BitVec.ofNat 32 n.val)) (h1 : w 1 = constantI S_ 32 0#32) (h2 : w 2 = constantI S_ 32 0#32)
    (h3 : w 3 = constantI S_ 32 0#32) (h4 : w 4 = constantI S_ 32 0#32)
    (h : S1x128x8x4x128.Slices (fun _ => 0) S1x128x8x4x128) (b : Fin 128) (hh : Fin 8) (r : Fin 4) (d : Fin 128) :
    Host.dynamicSlice S1x128x8x4x128 x (fun k => (w k (Shape.Idx.first h_S_)).toInt) h (ix5 0 b hh r d) = x (ix5 n b hh r d) := by
  rw [Host.dynamicSlice_eq_extractStridedSlice S1x128x8x4x128 x _ ![n.val, 0, 0, 0, 0] h ⟨rfl, chunk_fits n⟩
    (start_at n w h0 h1 h2 h3 h4)]
  unfold extractStridedSlice
  refine congrArg x (funext fun a => Fin.ext ?_)
  match a with
  | ⟨0, _⟩ => show n.val + 0 = n.val; omega
  | ⟨1, _⟩ => show 0 + b.val = b.val; omega
  | ⟨2, _⟩ => show 0 + hh.val = hh.val; omega
  | ⟨3, _⟩ => show 0 + r.val = r.val; omega
  | ⟨4, _⟩ => show 0 + d.val = d.val; omega

/-- A chunk written into the array of all chunks. -/
theorem update_at (x : S1x128x8x4x128.Idx → EReal) (u : S1x128x8x4x128.Idx → EReal) (n : Fin 1) (w : Fin 5 → (⟨S_, .i32⟩ : BufTy).Contents (Elt Ideal))
    (h0 : w 0 = constantI S_ 32 (BitVec.ofNat 32 n.val)) (h1 : w 1 = constantI S_ 32 0#32) (h2 : w 2 = constantI S_ 32 0#32)
    (h3 : w 3 = constantI S_ 32 0#32) (h4 : w 4 = constantI S_ 32 0#32)
    (h : S1x128x8x4x128.Slices (fun _ => 0) S1x128x8x4x128) (k : Fin 1) (b : Fin 128) (hh : Fin 8) (r : Fin 4) (d : Fin 128) :
    Host.dynamicUpdateSlice x u (fun k => (w k (Shape.Idx.first h_S_)).toInt) h (ix5 k b hh r d)
      = if k = n then u (ix5 0 b hh r d) else x (ix5 k b hh r d) := by
  have c : ∀ a : Fin 5, Host.clampedStart S1x128x8x4x128 S1x128x8x4x128 h.1 (fun k => (w k (Shape.Idx.first h_S_)).toInt) a
      = (![n.val, 0, 0, 0, 0] : Fin 5 → ℕ) a := fun a =>
    Host.clampedStart_of_le h.1 _ a _ (start_at n w h0 h1 h2 h3 h4 a) (chunk_fits n a)
  rw [Host.dynamicUpdateSlice_apply]
  by_cases hk : k = n
  · subst hk
    rw [if_pos rfl, dif_pos]
    · refine congrArg u (funext fun a => Fin.ext ?_)
      show ((ix5 k b hh r d : S1x128x8x4x128.Idx) a).val - Host.clampedStart S1x128x8x4x128 S1x128x8x4x128 h.1 _ a = _
      rw [c a]
      match a with
      | ⟨0, _⟩ => show k.val - k.val = 0; omega
      | ⟨1, _⟩ => rfl
      | ⟨2, _⟩ => rfl
      | ⟨3, _⟩ => rfl
      | ⟨4, _⟩ => rfl
    · intro a
      rw [c a]
      match a with
      | ⟨0, _⟩ => show k.val ≤ k.val ∧ k.val < k.val + 1; omega
      | ⟨1, _⟩ => show 0 ≤ b.val ∧ b.val < 0 + 128; omega
      | ⟨2, _⟩ => show 0 ≤ hh.val ∧ hh.val < 0 + 8; omega
      | ⟨3, _⟩ => show 0 ≤ r.val ∧ r.val < 0 + 4; omega
      | ⟨4, _⟩ => show 0 ≤ d.val ∧ d.val < 0 + 128; omega
  · rw [if_neg hk, dif_neg]
    intro hin
    have h' := hin 0
    rw [c 0] at h'
    have h'' : n.val ≤ k.val ∧ k.val < n.val + 1 := h'
    exact hk (Fin.ext (by omega))

/-- One head's rows of chunk `n`. -/
def chunk (x : S1x128x8x4x128.Idx → EReal) (n : Fin 1) (b : Fin 128) (hh : Fin 8) : Rows := fun r d => x (ix5 n b hh r d)

variable (s : State Ideal) (b : Fin 128) (hh : Fin 8)
theorem b5_at (r : Fin 4) (d : Fin 128) : b5 0 s (ix4 b hh r d) = chunk s.main_v48_0 0 b hh r d := by
  have e : b5 0 s (ix4 b hh r d) = b4 0 s (ix5 0 b hh r d) := by
    unfold b5
    pointwise []
  exact e.trans (slice_at s.main_v48_0 0 ![constantI S_ 32 (BitVec.ofNat 32 0), b0 0 s, b1 0 s, b2 0 s, b3 0 s] rfl rfl rfl rfl rfl sliceFits_S1x128x8x4x128_S1x128x8x4x128 b hh r d)
theorem b11_at (r : Fin 4) (d : Fin 128) : b11 0 s (ix4 b hh r d) = chunk s.main_v48_1 0 b hh r d := by
  have e : b11 0 s (ix4 b hh r d) = b10 0 s (ix5 0 b hh r d) := by
    unfold b11
    pointwise []
  exact e.trans (slice_at s.main_v48_1 0 ![constantI S_ 32 (BitVec.ofNat 32 0), b6 0 s, b7 0 s, b8 0 s, b9 0 s] rfl rfl rfl rfl rfl sliceFits_S1x128x8x4x128_S1x128x8x4x128 b hh r d)
theorem b17_at (r : Fin 4) (d : Fin 128) : b17 0 s (ix4 b hh r d) = chunk s.main_v48_2 0 b hh r d := by
  have e : b17 0 s (ix4 b hh r d) = b16 0 s (ix5 0 b hh r d) := by
    unfold b17
    pointwise []
  exact e.trans (slice_at s.main_v48_2 0 ![constantI S_ 32 (BitVec.ofNat 32 0), b12 0 s, b13 0 s, b14 0 s, b15 0 s] rfl rfl rfl rfl rfl sliceFits_S1x128x8x4x128_S1x128x8x4x128 b hh r d)
theorem b20_at (r : Fin 4) (d : Fin 128) : b20 0 s (ix4 b hh r d) = cumL (chunk s.main_v48_1 0 b hh) r d := by
  have e : b20 0 s (ix4 b hh r d) = Ideal.hostReduceWindowAdd ![1, 1, 4, 1] ![1, 1, 1, 1] ![0, 0, 3, 0] ![0, 0, 0, 0]
    reduceWindows_S128x8x4x128_S128x8x4x128_w1s1p0_0_w1s1p0_0_w4s1p3_0_w1s1p0_0 (b11 0 s) (Ideal.ofBits .f32 0x00000000#32) (ix4 b hh r d) := rfl
  rw [e, Ideal.ofBits_zero_f32, window_at]
  refine congrArg (fun l => cumL l r d) (funext fun r => funext fun d => b11_at s b hh r d)

theorem mask_at (r t : Fin 4) : K_main_v46 (F := Ideal) (ix2 r t) = BitVec.ofBool (decide (t ≤ r)) := by
  unfold K_main_v46 K_main_call2_v4 K_main_call2_v2 K_main_call2_v0 K_main_call2_v1 K_main_call2_c K_main_call2_v3 K_main_v45 K_main_c K_main_call2_v5 K_main_call2_c_0
  revert r t
  pointwise []
  decide +kernel

variable (r : Fin 4) (d e : Fin 128)
theorem b21_at : b21 0 s (ix4 b hh 0 d) = cumL (chunk s.main_v48_1 0 b hh) 3 d := by
  refine Eq.trans ?_ (b20_at s b hh 3 d)
  unfold b21
  pointwise []
/-- The queries with the decay from the chunk's start. -/
def qL (q l : Rows) : Rows := fun r d => q r d * Ideal.exp (cumL l r d)
/-- The keys taken back to the chunk's start. -/
def kL (l : Rows) : Rows := fun r d => (-(Ideal.exp (l r d) - 1)) * Ideal.exp (-(cumL l r d))
/-- The keys carried to the chunk's end. -/
def kdL (l : Rows) : Rows := fun r d => (-(Ideal.exp (l r d) - 1)) * Ideal.exp (cumL l 3 d - cumL l r d)
theorem b23_at : b23 0 s (ix4 b hh r d) = -(Ideal.exp (chunk s.main_v48_1 0 b hh r d) - 1) := by
  rw [← b11_at]
  unfold b23 b22
  pointwise []
theorem b25_at : b25 0 s (ix4 b hh r d) = qL (chunk s.main_v48_0 0 b hh) (chunk s.main_v48_1 0 b hh) r d := by
  unfold qL
  rw [← b5_at, ← b20_at]
  unfold b25 b24
  pointwise []
theorem b28_at : b28 0 s (ix4 b hh r d) = kL (chunk s.main_v48_1 0 b hh) r d := by
  unfold kL
  rw [← b23_at, ← b20_at]
  unfold b28 b27 b26
  pointwise []
theorem b32_at : b32 0 s (ix4 b hh r d) = kdL (chunk s.main_v48_1 0 b hh) r d := by
  unfold kdL
  rw [← b23_at, ← b21_at, ← b20_at]
  unfold b32 b31 b30 b29
  pointwise []
theorem b38_at (t : Fin 4) : b38 0 s (ix4 b hh r t) = if t ≤ r then
    ∑ d, qL (chunk s.main_v48_0 0 b hh) (chunk s.main_v48_1 0 b hh) r d * kL (chunk s.main_v48_1 0 b hh) t d else 0 := by
  unfold b38 b36 b33 b37 b35 b34
  pointwise []
  rw [mask_at]
  simp only [b25_at, b28_at]
  by_cases h : t ≤ r
  · rw [if_pos h, decide_eq_true h]; rfl
  · rw [if_neg h, decide_eq_false h]; rfl
theorem b41_at : b41 0 s (ix4 b hh r e) =
    (∑ d, qL (chunk s.main_v48_0 0 b hh) (chunk s.main_v48_1 0 b hh) r d * s.main_v48_5 (ix4 b hh d e))
     + ∑ t, b38 0 s (ix4 b hh r t) * chunk s.main_v48_2 0 b hh t e := by
  unfold b41 b39 b40
  pointwise []
  simp only [b25_at, b17_at]
theorem b48_at : b48 0 s (ix4 b hh d e) = Ideal.exp (cumL (chunk s.main_v48_1 0 b hh) 3 d) * s.main_v48_5 (ix4 b hh d e)
     + ∑ t, kdL (chunk s.main_v48_1 0 b hh) t d * chunk s.main_v48_2 0 b hh t e := by
  rw [← b21_at]
  unfold b48 b46 b47 b45 b44 b43 b42
  pointwise []
  simp only [b32_at, b17_at]
theorem b54_at (k : Fin 1) : b54 0 s (ix5 k b hh r e) = if k = 0 then b41 0 s (ix4 b hh r e) else s.main_v48_6 (ix5 k b hh r e) := by
  refine (update_at s.main_v48_6 (b49 0 s) 0 ![constantI S_ 32 (BitVec.ofNat 32 0), b50 0 s, b51 0 s, b52 0 s, b53 0 s]
    rfl rfl rfl rfl rfl updateFits_S1x128x8x4x128_S1x128x8x4x128 k b hh r e).trans (if_congr Iff.rfl ?_ rfl)
  unfold b49
  pointwise []
end Cert.Step
end
-- ==== Proof.StepRun.lean ====
/-
  The sample group's reference run: its two results are read from the state its loop leaves, and that state is `step` applied once
  to the state before the loop.
-/
module
public import proofs.«01_k».proof.Proof.Gen.Reference6Ideal.Run
public import proofs.«01_k».proof.Proof.Gen.Reference6Ideal.Step
@[expose] public section
noncomputable section
open Idealize.ShloMosaic Idealize.ShloMosaic.TcCoe Idealize.SL.Sem Cert.Reference6Ideal.Gen Cert.Reference6Ideal Cert.Reference6Ideal.Step Cert.Reference6Ideal.Value Idealize.ShloMosaic.StableHlo
set_option maxRecDepth 16384
set_option maxHeartbeats 1000000
namespace Cert.Step
variable {F : FTy → Type} [FloatOps F]

/-- The carried values and loop constants that the buffers hold. -/
def held (W : Valuation τ sig (Elt F)) : State F where
  main_v48_5 := W (Proc.devRef .tc main_v48_5)
  main_v48_6 := W (Proc.devRef .tc main_v48_6)
  main_v48_0 := W (Proc.devRef .tc main_v48_0)
  main_v48_1 := W (Proc.devRef .tc main_v48_1)
  main_v48_2 := W (Proc.devRef .tc main_v48_2)

/-- The counter holds `j` and the mask's buffer the mask. -/
structure Ready (W : Valuation τ sig (Elt F)) (j : ℕ) : Prop where
  count : W (Proc.devRef .tc main_v48_4) = constantI S_ 32 (BitVec.ofNat 32 j)
  mask : W (Proc.devRef .tc main_v48_3) = K_main_v46 (F := F)

theorem state_trip (W : Valuation τ sig (Elt F)) (j : ℕ) (h : Ready W j) : Value.step_main_v48_5 W = b48 j (held W) := by
  have q : res_main_while0b_v73 W = b11 j (held W) := by unfold res_main_while0b_v73; rw [h.count]; rfl
  have v : res_main_while0b_v74 W = b17 j (held W) := by unfold res_main_while0b_v74; rw [h.count]; rfl
  have c : res_main_while0b_v75 W = b20 j (held W) := by unfold res_main_while0b_v75; rw [q]; rfl
  have l : res_main_while0b_v76 W = b21 j (held W) := by unfold res_main_while0b_v76; rw [c]; rfl
  have k : res_main_while0b_v78 W = b23 j (held W) := by unfold res_main_while0b_v78; rw [q]; rfl
  unfold Value.step_main_v48_5
  rw [l, v, c, k]
  rfl
theorem out_trip (W : Valuation τ sig (Elt F)) (j : ℕ) (h : Ready W j) : Value.step_main_v48_6 W = b54 j (held W) := by
  have q : res_main_while0b_v73 W = b11 j (held W) := by unfold res_main_while0b_v73; rw [h.count]; rfl
  have v : res_main_while0b_v74 W = b17 j (held W) := by unfold res_main_while0b_v74; rw [h.count]; rfl
  have c : res_main_while0b_v75 W = b20 j (held W) := by unfold res_main_while0b_v75; rw [q]; rfl
  have k : res_main_while0b_v78 W = b23 j (held W) := by unfold res_main_while0b_v78; rw [q]; rfl
  have e : res_main_while0b_v80 W = b25 j (held W) := by unfold res_main_while0b_v80; rw [c, h.count]; rfl
  unfold Value.step_main_v48_6
  rw [e, v, c, k, h.count, h.mask]
  rfl
theorem ready_trip (W : Valuation τ sig (Elt F)) (j : ℕ) (h : Ready W j) : Ready (STEP W) (j + 1) where
  count := by
    rw [STEP_main_v48_4]
    unfold Value.step_main_v48_4
    rw [h.count]
    funext i
    show BitVec.ofNat 32 j + 1#32 = _
    simp only [BitVec.ofNat_add]
    rfl
  mask := (STEP_main_v48_3 W).trans h.mask
/-- One trip is `step`. -/
theorem held_trip (W : Valuation τ sig (Elt F)) (j : ℕ) (h : Ready W j) : held (STEP W) = step j (held W) := by
  unfold held step
  rw [STEP_main_v48_5, STEP_main_v48_6, STEP_main_v48_0, STEP_main_v48_1, STEP_main_v48_2, state_trip W j h, out_trip W j h]
  rfl

/-- The states before each trip. -/
def refStates (s0 : (⟨S128x8x128x128, .f32⟩ : BufTy).Contents (Elt F)) (z : (⟨S512x8192, .f32⟩ : BufTy).Contents (Elt F)) (lb : (⟨S2x1024, .f32⟩ : BufTy).Contents (Elt F)) : ℕ → State F
  | 0 => init s0 z lb
  | n + 1 => step n (refStates s0 z lb n)

variable (m : (ℓ : Loc nD τ sig) → Buf (Elt F) ℓ) (ρ : Dev nD → PrngReg)

set_option maxRecDepth 65536 in
theorem entry_ready (c : Dev nD) : Ready (entryContents preI m c) 0 := by
  constructor <;> (simp only [entryContents, afterL_cons, afterL_nil]; after_reads_simp) <;> rfl
set_option maxRecDepth 65536 in
theorem entry_held (c : Dev nD) : held (entryContents preI m c) = init (m ((c.tc : Thread nD τ).loc main_arg1)) (m ((c.tc : Thread nD τ).loc main_arg0)) (m ((c.tc : Thread nD τ).loc main_arg2)) := by
  unfold held init
  congr 1 <;> (simp only [entryContents, afterL_cons, afterL_nil]; after_reads_simp) <;> rfl
theorem loop_held (c : Dev nD) (k : ℕ) : Ready (STEP^[k] (entryContents preI m c)) k
    ∧ held (STEP^[k] (entryContents preI m c)) = refStates (m ((c.tc : Thread nD τ).loc main_arg1)) (m ((c.tc : Thread nD τ).loc main_arg0)) (m ((c.tc : Thread nD τ).loc main_arg2)) k := by
  induction k with
  | zero => exact ⟨entry_ready m c, entry_held m c⟩
  | succ k ih =>
    rw [Function.iterate_succ_apply']
    exact ⟨ready_trip _ k ih.1, (held_trip _ k ih.1).trans (congrArg (step k) ih.2)⟩
/-- The first result, of what the loop leaves. -/
theorem out_held (W : Valuation τ sig (Elt F)) :
    out_main_v71 W = R_main_v71 (held W) (W (Proc.devRef .tc main_arg0)) (W (Proc.devRef .tc main_arg3)) := by
  unfold out_main_v71 R_main_v71 held
  rfl
/-- The reference's results and arguments after its run. -/
theorem ref_run : θ_run (defs (F := F)) (onTc (τ := τ) (main (F := F))) ⟨m, fun _ => 0, ρ⟩ fun r => ∀ c : Dev nD,
      r.2.mem ((c.tc : Thread nD τ).loc main_v71) = R_main_v71 (refStates (m ((c.tc : Thread nD τ).loc main_arg1)) (m ((c.tc : Thread nD τ).loc main_arg0)) (m ((c.tc : Thread nD τ).loc main_arg2)) 1)
        (m ((c.tc : Thread nD τ).loc main_arg0)) (m ((c.tc : Thread nD τ).loc main_arg3))
      ∧ r.2.mem ((c.tc : Thread nD τ).loc main_v48_5) = (refStates (m ((c.tc : Thread nD τ).loc main_arg1)) (m ((c.tc : Thread nD τ).loc main_arg0)) (m ((c.tc : Thread nD τ).loc main_arg2)) 1).main_v48_5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2⟩) (Value.run m ρ)
  · exact (out_held _).trans (congr (congr (congrArg R_main_v71 (loop_held m c 1).2) (iter_main_arg0 m c 1)) (iter_main_arg3 m c 1))
  · exact congrArg State.main_v48_5 (loop_held m c 1).2
end Cert.Step
end
-- ==== Proof.StepOut.lean ====
/-
  The sample group's reference results entry by entry, and that the kernel's are the same.
-/
module
public import proofs.«01_k».proof.Proof.StepRef
public import proofs.«01_k».proof.Proof.StepRun
@[expose] public section
noncomputable section
open Idealize.ShloMosaic Idealize.ShloMosaic.TcCoe Idealize.SL.Sem Idealize.ShloMosaic.Tactic
set_option maxRecDepth 16384
set_option maxHeartbeats 1000000
namespace Cert.Step
section
open Cert.Reference6Ideal.Gen Cert.Reference6Ideal Cert.Reference6Ideal.Step
open Cert.Hgrn (foldl_add sum_bot exp_log neg_sub_one one_sub_pos first_row)

variable (z : S512x8192.Idx → EReal) (s0 : S128x8x128x128.Idx → EReal) (lb : S2x1024.Idx → EReal) (gn : S1x128.Idx → EReal)

/-- The lower bound of the gates. -/
theorem low_at (e : Fin 1024) : A_main_v19 (F := Ideal) z lb (ix1 e) = lowR lb e := by
  have e1 : A_main_v19 (F := Ideal) z lb (ix1 e) = A_main_v17 (F := Ideal) z lb (ix2 0 e) := by
    unfold A_main_v19 A_main_v18
    pointwise []
  have e2 : A_main_v17 (F := Ideal) z lb (ix2 0 e) = Ideal.hostReduceWindowAdd ![2, 1] ![1, 1] ![1, 0] ![0, 0]
    reduceWindows_S2x1024_S2x1024_w2s1p1_0_w1s1p0_0 (A_main_v16 (F := Ideal) z lb) (Ideal.ofBits .f32 0x00000000#32) (ix2 0 e) := by
    unfold A_main_v17
    rfl
  rw [e1, e2, Ideal.ofBits_zero_f32, first_row]
  unfold A_main_v16 A_main_v15 A_main_v14 A_main_v13 A_main_v12 A_main_v11 A_main_v10 A_main_v9 A_main_v8 A_main_v6 K_main_v7 K_main_cst K_main_cst_0 K_main_cst_1
  pointwise []
  rw [max_eq_right (by rw [Finset.le_fold_max]; exact Or.inl le_rfl)]
  rfl

/-- The queries the trip reads: `q · σ(q)`. -/
theorem q_at (b : Fin 128) (hh : Fin 8) (r : Fin 4) (d : Fin 128) :
    A_main_v40 (F := Ideal) z lb (ix5 0 b hh r d) = zRows z 0 b hh r d * Ideal.logistic (zRows z 0 b hh r d) := by
  unfold A_main_v40 A_main_v39 A_main_v36 A_main_v35 A_main_v1 A_main_v0 A_main_call1_v5 A_main_call1_v3 A_main_call1_v1 A_main_call1_v0 A_main_v1 A_main_v0
    K_main_call1_v4 K_main_call1_cst_0 K_main_call1_v2 K_main_call1_cst
  pointwise []
  have e : z (ix2 ⟨b.val * 4 + r.val, by omega⟩ ⟨hh.val * 128 + d.val, by omega⟩) = zRows z 0 b hh r d :=
    congrArg z (congrArg₂ ix2 (Fin.ext (by show b.val * 4 + r.val = 4 * b.val + r.val; omega)) (Fin.ext (by show hh.val * 128 + d.val = 1024 * 0 + 128 * hh.val + d.val; omega)))
  rw [e]
  rfl
/-- The values the trip reads. -/
theorem v_at (b : Fin 128) (hh : Fin 8) (r : Fin 4) (d : Fin 128) :
    A_main_v44 (F := Ideal) z lb (ix5 0 b hh r d) = zRows z 2 b hh r d := by
  unfold A_main_v44 A_main_v43 A_main_v38 A_main_v5 A_main_v4
  pointwise []
  exact congrArg z (congrArg₂ ix2 (Fin.ext (by show b.val * 4 + r.val = 4 * b.val + r.val; omega))
    (Fin.ext (by show 2048 + (hh.val * 128 + d.val) = 1024 * 2 + 128 * hh.val + d.val; omega)))
/-- The logarithms of the gates the trip reads. -/
theorem l_at (b : Fin 128) (hh : Fin 8) (r : Fin 4) (d : Fin 128) :
    A_main_v42 (F := Ideal) z lb (ix5 0 b hh r d) = Ideal.log (fRows z lb b hh r d) := by
  unfold A_main_v42 A_main_v41 A_main_v37 A_main_v34 A_main_v33 A_main_v32 A_main_v31 A_main_v30 A_main_v29 A_main_v28 A_main_v27 A_main_v25
    A_main_v23 A_main_v22 A_main_v21 A_main_v3 A_main_v2 K_main_v20 K_main_v26 K_main_v24 K_main_cst_2 K_main_cst_3 K_main_cst_4
  pointwise []
  have e : z (ix2 ⟨b.val * 4 + r.val, by omega⟩ ⟨1024 + (hh.val * 128 + d.val), by omega⟩) = zRows z 1 b hh r d :=
    congrArg z (congrArg₂ ix2 (Fin.ext (by show b.val * 4 + r.val = 4 * b.val + r.val; omega)) (Fin.ext (by show 1024 + (hh.val * 128 + d.val) = 1024 * 1 + 128 * hh.val + d.val; omega)))
  have e' : (⟨hh.val * 128 + d.val, by omega⟩ : Fin 1024) = ⟨128 * hh.val + d.val, by omega⟩ := Fin.ext (by show hh.val * 128 + d.val = 128 * hh.val + d.val; omega)
  rw [e, e', low_at]
  rfl

/-- Where a gate isn't positive its logarithm, and the running sum from there on, is the least value. -/
theorem cum_bot (f : Rows) (r t : Fin 4) (d : Fin 128) (hrt : r ≤ t) (h : Ideal.log (f r d) = ⊥) : cumR f t d = ⊥ :=
  sum_bot _ r (by show (if r ≤ t then _ else _) = _; rw [if_pos hrt, h])
/-- The keys from the gate's logarithm are the keys from the gate. -/
theorem k_eq (f : Rows) (r : Fin 4) (d : Fin 128) : kL (fun r d => Ideal.log (f r d)) r d = keR f r d := by
  show (-(Ideal.exp (Ideal.log (f r d)) - 1)) * Ideal.exp (-(cumR f r d)) = (1 - f r d) * Ideal.exp (0 - cumR f r d)
  rcases exp_log (f r d) with h | ⟨hneg, hb⟩
  · rw [h, neg_sub_one, zero_sub]
  · rw [cum_bot f r r d le_rfl hb, hb, neg_sub_one, zero_sub, EReal.neg_bot, Ideal.exp_top, Ideal.exp_bot,
      EReal.mul_top_of_pos (one_sub_pos _ hneg), EReal.mul_top_of_pos (by rw [sub_zero]; exact zero_lt_one)]
/-- The same of the keys that enter the state. -/
theorem kd_eq (f : Rows) (r : Fin 4) (d : Fin 128) : kdL (fun r d => Ideal.log (f r d)) r d = kdR f r d := by
  show (-(Ideal.exp (Ideal.log (f r d)) - 1)) * Ideal.exp (cumR f 3 d - cumR f r d) = (1 - f r d) * Ideal.exp (cumR f 3 d - cumR f r d)
  rcases exp_log (f r d) with h | ⟨hneg, hb⟩
  · rw [h, neg_sub_one]
  · rw [cum_bot f r 3 d (by omega) hb, sub_eq_add_neg ⊥, EReal.bot_add, Ideal.exp_bot, mul_zero, mul_zero]

theorem q_rows (b : Fin 128) (hh : Fin 8) : chunk (A_main_v40 (F := Ideal) z lb) 0 b hh = fun r d => zRows z 0 b hh r d * Ideal.logistic (zRows z 0 b hh r d) := by
  funext r d; exact q_at z lb b hh r d
theorem l_rows (b : Fin 128) (hh : Fin 8) : chunk (A_main_v42 (F := Ideal) z lb) 0 b hh = fun r d => Ideal.log (fRows z lb b hh r d) := by
  funext r d; exact l_at z lb b hh r d
theorem v_rows (b : Fin 128) (hh : Fin 8) : chunk (A_main_v44 (F := Ideal) z lb) 0 b hh = zRows z 2 b hh := by
  funext r d; exact v_at z lb b hh r d

/-- The reference's second result. -/
theorem ref_state (b : Fin 128) (hh : Fin 8) (d e : Fin 128) :
    (refStates (F := Ideal) s0 z lb 1).main_v48_5 (ix4 b hh d e) = SS z s0 lb b hh d e := by
  refine (b48_at (init (F := Ideal) s0 z lb) b hh d e).trans ?_
  show Ideal.exp (cumL (chunk (A_main_v42 (F := Ideal) z lb) 0 b hh) 3 d) * s0 (ix4 b hh d e)
    + ∑ t, kdL (chunk (A_main_v42 (F := Ideal) z lb) 0 b hh) t d * chunk (A_main_v44 (F := Ideal) z lb) 0 b hh t e = _
  rw [l_rows, v_rows]
  unfold SS stR
  refine congrArg₂ (· + ·) (mul_comm _ _) (Finset.sum_congr rfl fun t _ => ?_)
  rw [kd_eq, mul_comm]
/-- The rows before their norm. -/
theorem ref_raw (b : Fin 128) (hh : Fin 8) (r : Fin 4) (e : Fin 128) :
    (refStates (F := Ideal) s0 z lb 1).main_v48_6 (ix5 0 b hh r e) = rawRow z s0 lb b hh r e := by
  refine (b54_at (init (F := Ideal) s0 z lb) b hh r e 0).trans ?_
  rw [if_pos rfl, b41_at, add_comm]
  unfold rawRow outR
  refine congrArg₂ (· + ·) (Finset.sum_congr rfl fun t _ => ?_) (Finset.sum_congr rfl fun d _ => ?_)
  · rw [b38_at]
    show (if t ≤ r then ∑ d, qL (chunk (A_main_v40 (F := Ideal) z lb) 0 b hh) (chunk (A_main_v42 (F := Ideal) z lb) 0 b hh) r d
      * kL (chunk (A_main_v42 (F := Ideal) z lb) 0 b hh) t d else 0) * chunk (A_main_v44 (F := Ideal) z lb) 0 b hh t e = _
    rw [q_rows, l_rows, v_rows]
    by_cases ht : t ≤ r
    · rw [if_pos ht, if_pos ht]
      refine congrArg (· * _) (Finset.sum_congr rfl fun d _ => ?_)
      rw [k_eq]
      rfl
    · rw [if_neg ht, if_neg ht, zero_mul]
  · show qL (chunk (A_main_v40 (F := Ideal) z lb) 0 b hh) (chunk (A_main_v42 (F := Ideal) z lb) 0 b hh) r d * s0 (ix4 b hh d e) = _
    rw [q_rows, l_rows]
    rfl

/-- The recurrence's rows, one after the other. -/
def rowsRef (o : S1x128x8x4x128.Idx → EReal) : S128x4x8x128.Idx → EReal :=
  shapeCast _ (transpose (α := EReal) S128x1x4x8x128 [1, 0, 3, 2, 4] o transposes_S1x128x8x4x128_S128x1x4x8x128_1_0_3_2_4) shapeCasts_S128x1x4x8x128_S128x4x8x128
theorem rowsRef_at (o : S1x128x8x4x128.Idx → EReal) (b : Fin 128) (hh : Fin 8) (r : Fin 4) (e : Fin 128) :
    rowsRef o (ix4 b r hh e) = o (ix5 0 b hh r e) := by
  unfold rowsRef
  pointwise []

/-- The norm and the gate the reference applies to them. -/
def afterNorm {F : FTy → Type} [FloatOps F] (X : (⟨S128x4x8x128, .f32⟩ : BufTy).Contents (Elt F)) (main_arg0 : (⟨S512x8192, .f32⟩ : BufTy).Contents (Elt F))
    (main_arg3 : (⟨S1x128, .f32⟩ : BufTy).Contents (Elt F)) : (⟨S128x4x1024, .f32⟩ : BufTy).Contents (Elt F) :=
  mulf (shapeCast _ (mulf (mulf X (broadcastInDim S128x4x8x128 ![0, 1, 2, 3] bcast_S128x4x8x1_S128x4x8x128_0_1_2_3 (Host.rsqrt (addf (Host.divf
  (broadcastInDim S128x4x8x1 ![0, 1, 2] bcast_S128x4x8_S128x4x8x1_0_1_2 (Host.reduceAdd (mulf X X) (constant S_ .f32 0x00000000#32)
  reducesTo_S128x4x8x128_S128x4x8_d3 h_S_)) (broadcastInDim S128x4x8x1 ![] bcast_S_S128x4x8x1 (constant S_ .f32 0x43000000#32))) (broadcastInDim
  S128x4x8x1 ![] bcast_S_S128x4x8x1 (constant S_ .f32 0x358637BD#32)))))) (broadcastInDim S128x4x8x128 ![0, 1, 2, 3]
  bcast_S1x1x1x128_S128x4x8x128_0_1_2_3 (broadcastInDim S1x1x1x128 ![3] bcast_S128_S1x1x1x128_3 (shapeCast _ (main_arg3) shapeCasts_S1x128_S128))))
  shapeCasts_S128x4x8x128_S128x4x1024) (mulf (shapeCast _ (extractStridedSlice S512x1024 ![0, 3072] (main_arg0) slices_S512x8192_S512x1024_0_3072)
  shapeCasts_S512x1024_S128x4x1024) (Host.divf (broadcastInDim S128x4x1024 ![] bcast_S_S128x4x1024 (constant S_ .f32 0x3F800000#32)) (addf
  (broadcastInDim S128x4x1024 ![] bcast_S_S128x4x1024 (constant S_ .f32 0x3F800000#32)) (Host.exp (Host.negf (shapeCast _ (extractStridedSlice S512x1024
  ![0, 3072] (main_arg0) slices_S512x8192_S512x1024_0_3072) shapeCasts_S512x1024_S128x4x1024))))))
/-- The zeros that follow a sequence's rows. -/
def padOut {F : FTy → Type} [FloatOps F] (Y : (⟨S128x4x1024, .f32⟩ : BufTy).Contents (Elt F)) : (⟨S1024x1024, .f32⟩ : BufTy).Contents (Elt F) :=
  shapeCast _ (pad S128x8x1024 ![0, 0, 0] ![0, 4, 0] ![0, 0, 0] Y (sitofp .f32 (constantI S_ 32 0#32)) pads_S128x4x1024_S128x8x1024_000_040_000 h_S_) shapeCasts_S128x8x1024_S1024x1024

/-- An entry of it, from its row and its gate. -/
theorem afterNorm_at (X : S128x4x8x128.Idx → EReal) (b : Fin 128) (r : Fin 4) (hh : Fin 8) (e : Fin 128) :
    afterNorm (F := Ideal) X z gn (ix3 b r ⟨hh.val * 128 + e.val, by omega⟩)
      = normR (fun x => X (ix4 b r hh x)) (gn (ix2 0 e)) (z (ix2 ⟨b.val * 4 + r.val, by omega⟩ ⟨3072 + (hh.val * 128 + e.val), by omega⟩)) e := by
  unfold afterNorm
  pointwise []
  rfl
theorem padOut_at (Y : S128x4x1024.Idx → EReal) (b : Fin 128) (r : Fin 8) (e : Fin 1024) :
    padOut (F := Ideal) Y (ix2 ⟨8 * b.val + r.val, by omega⟩ e) = if h : r.val < 4 then Y (ix3 b ⟨r.val, h⟩ e) else 0 := by
  unfold padOut
  pointwise []
  have hz : (FloatOps.sitofp (F := Ideal) FTy.f32 0#32 : EReal) = 0 := by
    show ((((0#32 : BitVec 32).toInt : ℝ)) : EReal) = 0
    simp
  rw [hz]

/-- The reference's first result, entry by entry. -/
theorem ref_out (b : Fin 128) (hh : Fin 8) (r : Fin 8) (e : Fin 128) :
    R_main_v71 (F := Ideal) (refStates (F := Ideal) s0 z lb 1) z gn (ix2 ⟨8 * b.val + r.val, by omega⟩ ⟨128 * hh.val + e.val, by omega⟩)
      = if h : r.val < 4 then outRow z s0 lb gn b hh ⟨r.val, h⟩ e else 0 := by
  have hO := fun r e => ref_raw z s0 lb b hh r e
  generalize refStates (F := Ideal) s0 z lb 1 = s at hO ⊢
  have e2 : R_main_v71 (F := Ideal) s z gn = padOut (F := Ideal) (afterNorm (F := Ideal) (rowsRef s.main_v48_6) z gn) := rfl
  rw [e2, padOut_at]
  by_cases h : r.val < 4
  · rw [dif_pos h, dif_pos h]
    have e1 : (⟨128 * hh.val + e.val, by omega⟩ : Fin 1024) = ⟨hh.val * 128 + e.val, by omega⟩ := Fin.ext (by show 128 * hh.val + e.val = hh.val * 128 + e.val; omega)
    rw [e1, afterNorm_at]
    have e3 : (fun x => rowsRef s.main_v48_6 (ix4 b ⟨r.val, h⟩ hh x)) = rawRow z s0 lb b hh ⟨r.val, h⟩ :=
      funext fun x => (rowsRef_at _ b hh ⟨r.val, h⟩ x).trans (hO _ x)
    rw [e3]
    unfold outRow
    refine congrArg (fun y => normR (rawRow z s0 lb b hh ⟨r.val, h⟩) (gn (ix2 0 e)) y e) ?_
    exact congrArg z (congrArg₂ ix2 (Fin.ext (by show b.val * 4 + r.val = 4 * b.val + r.val; omega))
      (Fin.ext (by show 3072 + (hh.val * 128 + e.val) = 1024 * 3 + 128 * hh.val + e.val; omega)))
  · rw [dif_neg h, dif_neg h]

end

section
open Cert.Kernel6Ideal Cert.Kernel6Ideal.Gen
open Cert.Reference6Ideal.Step (R_main_v71)
variable (m : (ℓ : Loc nD τ sig) → Buf (Elt Ideal) ℓ)

/-- The kernel's two arrays are the reference's results. -/
theorem rows_eq (c : Dev nD) : (dats m 0 c).arrAt 7 cfg0.N
    = R_main_v71 (F := Ideal) (refStates (F := Ideal) (sOf m c) (zOf m c) (lbOf m c) 1) (zOf m c) (gnOf m c) := by
  funext i
  idx_vars i
  have e : ix2 i0 i1 = ix2 (⟨8 * (⟨i0.val / 8, by omega⟩ : Fin 128).val + (⟨i0.val % 8, by omega⟩ : Fin 8).val, by show 8 * (i0.val / 8) + i0.val % 8 < 1024; omega⟩ : Fin 1024)
      (⟨128 * (⟨i1.val / 128, by omega⟩ : Fin 8).val + (⟨i1.val % 128, by omega⟩ : Fin 128).val, by show 128 * (i1.val / 128) + i1.val % 128 < 1024; omega⟩ : Fin 1024) :=
    congrArg₂ ix2 (Fin.ext (by show i0.val = 8 * (i0.val / 8) + i0.val % 8; omega)) (Fin.ext (by show i1.val = 128 * (i1.val / 128) + i1.val % 128; omega))
  rw [e]
  exact (final_rows m c _ _ _ _).trans (ref_out (zOf m c) (sOf m c) (lbOf m c) (gnOf m c) _ _ _ _).symm
theorem states_eq (c : Dev nD) : (dats m 0 c).arrAt 8 cfg0.N = (refStates (F := Ideal) (sOf m c) (zOf m c) (lbOf m c) 1).main_v48_5 := by
  funext i
  idx_vars i
  exact (final_states m c _ _ _ _).trans (ref_state (zOf m c) (sOf m c) (lbOf m c) _ _ _ _).symm
end
end Cert.Step
end
-- ==== Proof.TailValue.lean ====
/-
  What the sample group's merge leaves in its two result arrays, entry by entry, in the terms of the prompt group's: all
  512 rows are one block, and every row has its own row of the modulation.
-/
module
public import proofs.«01_k».proof.Proof.Gen.Kernel7Ideal.Value
public import proofs.«01_k».proof.Proof.MergeValue
public import Idealize.ShloMosaic.Lib.Pipeline.ValueKit
public import Idealize.ShloMosaic.Lib.Pointwise
@[expose] public section
noncomputable section
namespace Cert.Tail
open Cert.Kernel7Ideal Cert.Kernel7Ideal.Gen
open Cert.Merge (meanOf devOf varOf normOf gated resid)
open Idealize.ShloMosaic Idealize.ShloMosaic.TcCoe Idealize.ShloMosaic.Tactic Idealize.SL.Sem
set_option maxRecDepth 16384

/-! ## What a step forms -/

variable (ga a gb b : Vec Ideal S512x1024 .f32) (w : Vec Ideal S1024x1024 .bf16) (x : Vec Ideal S512x1024 .f32)
  (g1 : Vec Ideal S512x1024 .f32)

/-- A row of the residual sum. -/
def rowPre (r : Fin 512) (j : Fin 1024) : EReal :=
  resid (x (ix2 r j)) (g1 (ix2 r j))
    (∑ k : Fin 1024, gated (ga (ix2 r k)) (a (ix2 r k)) (gb (ix2 r k)) (b (ix2 r k)) * w (ix2 k j))

theorem dev_at (r : Fin 512) (j : Fin 1024) : k0_pay3 ga a gb b w x g1 (ix2 r j) = devOf (rowPre ga a gb b w x g1 r) j := by
  unfold k0_pay3
  pointwise []
  rfl
theorem var_at (r : Fin 512) : k0_pay4 ga a gb b w x g1 (ix2 r 0)
    = varOf (rowPre ga a gb b w x g1 r) := by
  unfold k0_pay4
  pointwise [dev_at]
  rfl
theorem norm_at (g b' : Vec Ideal S1x1024 .f32) (r : Fin 512) (j : Fin 1024) :
    k0_pay1 g b' (k0_pay3 ga a gb b w x g1) (k0_pay4 ga a gb b w x g1) (Ideal.ofBits .f32 0x3727C5AC#32) (ix2 r j)
      = normOf (rowPre ga a gb b w x g1 r) (g (ix2 0 j)) (b' (ix2 0 j)) j := by
  unfold k0_pay1
  pointwise [dev_at, var_at]
  rfl
theorem next_at (g b' : Vec Ideal S1x1024 .f32) (sc sh : Vec Ideal S512x1024 .f32) (r : Fin 512) (j : Fin 1024) :
    k0_pay2 g b' (k0_pay3 ga a gb b w x g1) (k0_pay4 ga a gb b w x g1) (Ideal.ofBits .f32 0x3727C5AC#32) sc sh (ix2 r j)
      = normOf (rowPre ga a gb b w x g1 r) (g (ix2 0 j)) (b' (ix2 0 j)) j * (1 + sc (ix2 r j)) + sh (ix2 r j) := by
  unfold k0_pay2
  pointwise [norm_at, Ideal.ofBits_one_f32]

/-- What a load of a whole block reads is the block, and the second half of the gates' columns. -/
theorem zeros2 : (![0, 0] : Fin 2 → ℕ) = fun _ => 0 := funext fun a => match a with | ⟨0, _⟩ => rfl | ⟨1, _⟩ => rfl
theorem ld_rows (y : Vec Ideal S512x1024 .f32) : View.ld y r0_1 = y := View.ld_unit_zero zeros2 _ y
theorem ld_weight (y : Vec Ideal S1024x1024 .bf16) : View.ld y r0_3 = y := View.ld_unit_zero zeros2 _ y
theorem ld_row (y : Vec Ideal S1x1024 .f32) : View.ld y r0_4 = y := View.ld_unit_zero zeros2 _ y
theorem ld_low (y : Vec Ideal S512x2048 .f32) (r : Fin 512) (j : Fin 1024) :
    View.ld y r0_0 (ix2 r j) = y (ix2 r ⟨j.val, by omega⟩) :=
  congrArg y (by idx_ext <;> simp <;> omega)
theorem ld_high (y : Vec Ideal S512x2048 .f32) (r : Fin 512) (j : Fin 1024) :
    View.ld y r0_2 (ix2 r j) = y (ix2 r ⟨1024 + j.val, by omega⟩) :=
  congrArg y (by idx_ext <;> simp <;> omega)

/-- A row of the residual sum, from the blocks of a step. -/
def blockPre (x0 x1 : Vec Ideal S512x1024 .f32) (x2 : Vec Ideal S512x2048 .f32) (x3 : Vec Ideal S512x1024 .f32)
    (x4 : Vec Ideal S512x1024 .f32) (x7 : Vec Ideal S1024x1024 .bf16) (r : Fin 512) (j : Fin 1024) : EReal :=
  resid (x3 (ix2 r j)) (x4 (ix2 r j)) (∑ k : Fin 1024,
    gated (x2 (ix2 r ⟨k.val, by omega⟩)) (x0 (ix2 r k)) (x2 (ix2 r ⟨1024 + k.val, by omega⟩)) (x1 (ix2 r k)) * x7 (ix2 k j))

theorem rowPre_block (x0 x1 : Vec Ideal S512x1024 .f32) (x2 : Vec Ideal S512x2048 .f32) (x3 : Vec Ideal S512x1024 .f32)
    (x4 : Vec Ideal S512x1024 .f32) (x7 : Vec Ideal S1024x1024 .bf16) (r : Fin 512) :
    rowPre (View.ld x2 r0_0) x0 (View.ld x2 r0_2) x1 x7 x3 x4 r = blockPre x0 x1 x2 x3 x4 x7 r := by
  funext j
  refine congrArg (resid _ _) (Finset.sum_congr rfl fun k _ => ?_)
  show gated (View.ld x2 r0_0 (ix2 r k)) _ (View.ld x2 r0_2 (ix2 r k)) _ * _ = _
  rw [ld_low, ld_high]

section
variable (x0 x1 : Vec Ideal S512x1024 .f32) (x2 : Vec Ideal S512x2048 .f32) (x3 : Vec Ideal S512x1024 .f32)
  (x4 x5 x6 : Vec Ideal S512x1024 .f32) (x7 : Vec Ideal S1024x1024 .bf16) (x8 x9 : Vec Ideal S1x1024 .f32)

/-- The two blocks a step writes. -/
theorem out_norm (r : Fin 512) (j : Fin 1024) : out0_10 x0 x1 x2 x3 x4 x5 x6 x7 x8 x9 (ix2 r j)
    = normOf (blockPre x0 x1 x2 x3 x4 x7 r) (x8 (ix2 0 j)) (x9 (ix2 0 j)) j := by
  unfold out0_10 k0_pay5 k0_pay6
  rw [View.canon_unit_zero zeros2]
  refine (norm_at _ _ _ _ _ _ _ _ _ r j).trans ?_
  rw [ld_rows, ld_rows, ld_rows, ld_weight, ld_rows, ld_row, ld_row, rowPre_block]
theorem out_next (r : Fin 512) (j : Fin 1024) : out0_11 x0 x1 x2 x3 x4 x5 x6 x7 x8 x9 (ix2 r j)
    = normOf (blockPre x0 x1 x2 x3 x4 x7 r) (x8 (ix2 0 j)) (x9 (ix2 0 j)) j * (1 + x6 (ix2 r j)) + x5 (ix2 r j) := by
  unfold out0_11 k0_pay5 k0_pay6
  rw [View.canon_unit_zero zeros2]
  refine (next_at _ _ _ _ _ _ _ _ _ _ _ r j).trans ?_
  rw [ld_rows, ld_rows, ld_rows, ld_weight, ld_rows, ld_rows, ld_rows, ld_row, ld_row, rowPre_block]
end

/-! ## The blocks, in the arguments -/

variable (m : (ℓ : Loc nD τ sig) → Buf (Elt Ideal) ℓ)

/-- The arrays the call finds that the host prepares. -/
theorem found_mods (c : Dev nD) : V m c main_v1 = shapeCast S512x6144 (broadcastInDim S128x4x6144 ![0, 2] bcast_S128x6144_S128x4x6144_0_2 (m ((c : Thread nD τ).loc main_arg4)))
    shapeCasts_S128x4x6144_S512x6144 := by
  unfold V
  after_results <;> rfl
theorem found_rows (c : Dev nD) : V m c main_v2 = shapeCast S512x1024 (m ((c : Thread nD τ).loc main_arg3)) shapeCasts_S128x4x1024_S512x1024 := by
  unfold V
  after_results <;> rfl
theorem found_weight (c : Dev nD) : V m c main_v3 = truncf (F := Ideal) .bf16 (m ((c : Thread nD τ).loc main_arg5)) bitsLt_bf16_f32 := by
  unfold V
  after_results <;> rfl

/-- Which block every window shows at a step. -/
theorem idx : ∀ t : Fin cfg0.N, win0_0.index t = ![0, 0] ∧ win0_1.index t = ![0, 0] ∧ win0_2.index t = ![0, 3]
    ∧ win0_3.index t = ![0, 0] ∧ win0_4.index t = ![0, 2] ∧ win0_5.index t = ![0, 3]
    ∧ win0_6.index t = ![0, 4] ∧ win0_7.index t = ![0, 0] ∧ win0_8.index t = ![0, 0] ∧ win0_9.index t = ![0, 0]
    ∧ win0_10.index t = ![0, 0] ∧ win0_11.index t = ![0, 0] := by
  decide +kernel

/-- Where a block lies in its array. -/
theorem seen_0 (c : Dev nD) (t : Fin cfg0.N) : iblk m c 0 t = V m c main_arg0 := by
  generalize hv : V m c = v
  unfold iblk
  rw [hv]
  blk_ext! [idx t]
theorem seen_1 (c : Dev nD) (t : Fin cfg0.N) : iblk m c 1 t = V m c main_arg1 := by
  generalize hv : V m c = v
  unfold iblk
  rw [hv]
  blk_ext! [idx t]
theorem seen_2 (c : Dev nD) (t : Fin cfg0.N) (r : Fin 512) (d : Fin 2048) :
    iblk m c 2 t (ix2 r d) = V m c main_arg2 (ix2 r ⟨6144 + d.val, by omega⟩) := by
  generalize hv : V m c = v
  unfold iblk
  rw [hv]
  blk_ext [idx t]
theorem seen_3 (c : Dev nD) (t : Fin cfg0.N) : iblk m c 3 t = V m c main_v2 := by
  generalize hv : V m c = v
  unfold iblk
  rw [hv]
  blk_ext! [idx t]
theorem seen_4 (c : Dev nD) (t : Fin cfg0.N) (r : Fin 512) (d : Fin 1024) :
    iblk m c 4 t (ix2 r d) = V m c main_v1 (ix2 r ⟨2048 + d.val, by omega⟩) := by
  generalize hv : V m c = v
  unfold iblk
  rw [hv]
  blk_ext [idx t]
theorem seen_5 (c : Dev nD) (t : Fin cfg0.N) (r : Fin 512) (d : Fin 1024) :
    iblk m c 5 t (ix2 r d) = V m c main_v1 (ix2 r ⟨3072 + d.val, by omega⟩) := by
  generalize hv : V m c = v
  unfold iblk
  rw [hv]
  blk_ext [idx t]
theorem seen_6 (c : Dev nD) (t : Fin cfg0.N) (r : Fin 512) (d : Fin 1024) :
    iblk m c 6 t (ix2 r d) = V m c main_v1 (ix2 r ⟨4096 + d.val, by omega⟩) := by
  generalize hv : V m c = v
  unfold iblk
  rw [hv]
  blk_ext [idx t]
theorem seen_7 (c : Dev nD) (t : Fin cfg0.N) : iblk m c 7 t = V m c main_v3 := by
  generalize hv : V m c = v
  unfold iblk
  rw [hv]
  blk_ext! [idx t]
theorem seen_8 (c : Dev nD) (t : Fin cfg0.N) : iblk m c 8 t = V m c main_arg6 := by
  generalize hv : V m c = v
  unfold iblk
  rw [hv]
  blk_ext! [idx t]
theorem seen_9 (c : Dev nD) (t : Fin cfg0.N) : iblk m c 9 t = V m c main_arg7 := by
  generalize hv : V m c = v
  unfold iblk
  rw [hv]
  blk_ext! [idx t]

/-- The reshapes of `x` and of the modulation at an entry. -/
theorem rows_at (x : S128x4x1024.Idx → EReal) (b : Fin 128) (s : Fin 4) (d : Fin 1024) :
    shapeCast S512x1024 x shapeCasts_S128x4x1024_S512x1024 (ix2 ⟨4 * b.val + s.val, by omega⟩ d) = x (ix3 b s d) := by
  pointwise []
theorem mods_at (x : S128x6144.Idx → EReal) (b : Fin 128) (s : Fin 4) (d : Fin 6144) :
    shapeCast S512x6144 (broadcastInDim S128x4x6144 ![0, 2] bcast_S128x6144_S128x4x6144_0_2 x) shapeCasts_S128x4x6144_S512x6144
      (ix2 ⟨4 * b.val + s.val, by omega⟩ d) = x (ix2 b d) := by
  pointwise []

/-! ## Entries of the results -/

section
variable (oa ob : S512x1024.Idx → EReal) (z : S512x8192.Idx → EReal) (x : S128x4x1024.Idx → EReal)
  (md : S128x6144.Idx → EReal) (w : S1024x1024.Idx → EReal) (g b' : S1x1024.Idx → EReal)

/-- A row of the residual sum. -/
def preAt (b : Fin 128) (s : Fin 4) (j : Fin 1024) : EReal :=
  resid (x (ix3 b s j)) (md (ix2 b ⟨2048 + j.val, by omega⟩)) (∑ k : Fin 1024,
    gated (z (ix2 ⟨4 * b.val + s.val, by omega⟩ ⟨6144 + k.val, by omega⟩)) (oa (ix2 ⟨4 * b.val + s.val, by omega⟩ k))
      (z (ix2 ⟨4 * b.val + s.val, by omega⟩ ⟨7168 + k.val, by omega⟩)) (ob (ix2 ⟨4 * b.val + s.val, by omega⟩ k))
      * w (ix2 k j))
/-- An entry of the normalized rows, and of the rows made of them. -/
def normAt (b : Fin 128) (s : Fin 4) (j : Fin 1024) : EReal :=
  normOf (preAt oa ob z x md w b s) (g (ix2 0 j)) (b' (ix2 0 j)) j
def nextAt (b : Fin 128) (s : Fin 4) (j : Fin 1024) : EReal :=
  normAt oa ob z x md w g b' b s j * (1 + md (ix2 b ⟨4096 + j.val, by omega⟩)) + md (ix2 b ⟨3072 + j.val, by omega⟩)
end

/-- The arguments a device starts from. -/
abbrev oaOf (c : Dev nD) : S512x1024.Idx → EReal := m ((c : Thread nD τ).loc main_arg0)
abbrev obOf (c : Dev nD) : S512x1024.Idx → EReal := m ((c : Thread nD τ).loc main_arg1)
abbrev zOf (c : Dev nD) : S512x8192.Idx → EReal := m ((c : Thread nD τ).loc main_arg2)
abbrev xOf (c : Dev nD) : S128x4x1024.Idx → EReal := m ((c : Thread nD τ).loc main_arg3)
abbrev modOf (c : Dev nD) : S128x6144.Idx → EReal := m ((c : Thread nD τ).loc main_arg4)
abbrev wOf (c : Dev nD) : S1024x1024.Idx → EReal := m ((c : Thread nD τ).loc main_arg5)
abbrev gOf (c : Dev nD) : S1x1024.Idx → EReal := m ((c : Thread nD τ).loc main_arg6)
abbrev bOf (c : Dev nD) : S1x1024.Idx → EReal := m ((c : Thread nD τ).loc main_arg7)

/-- The one step, and the row that token `s` of sequence `b` is. -/
def step0 : Fin cfg0.N := ⟨0, lt_of_lt_of_eq (b := 1) (by decide) N_0.symm⟩
abbrev rowOf (b : Fin 128) (s : Fin 4) : Fin 512 := ⟨4 * b.val + s.val, by omega⟩

/-- The blocks of the step, in the arguments. -/
theorem arg_oa (c : Dev nD) (b : Fin 128) (s : Fin 4) (d : Fin 1024) :
    iblk m c 0 step0 (ix2 (rowOf b s) d) = oaOf m c (ix2 (rowOf b s) d) := by
  rw [seen_0, V_main_arg0]
theorem arg_ob (c : Dev nD) (b : Fin 128) (s : Fin 4) (d : Fin 1024) :
    iblk m c 1 step0 (ix2 (rowOf b s) d) = obOf m c (ix2 (rowOf b s) d) := by
  rw [seen_1, V_main_arg1]
theorem arg_z (c : Dev nD) (b : Fin 128) (s : Fin 4) (d : Fin 2048) :
    iblk m c 2 step0 (ix2 (rowOf b s) d) = zOf m c (ix2 (rowOf b s) ⟨6144 + d.val, by omega⟩) := by
  rw [seen_2, V_main_arg2]
theorem arg_x (c : Dev nD) (b : Fin 128) (s : Fin 4) (d : Fin 1024) :
    iblk m c 3 step0 (ix2 (rowOf b s) d) = xOf m c (ix3 b s d) := by
  rw [seen_3, found_rows]
  exact rows_at (xOf m c) b s d
theorem arg_g1 (c : Dev nD) (b : Fin 128) (s : Fin 4) (d : Fin 1024) :
    iblk m c 4 step0 (ix2 (rowOf b s) d) = modOf m c (ix2 b ⟨2048 + d.val, by omega⟩) := by
  rw [seen_4, found_mods]
  exact mods_at (modOf m c) b s _
theorem arg_sh (c : Dev nD) (b : Fin 128) (s : Fin 4) (d : Fin 1024) :
    iblk m c 5 step0 (ix2 (rowOf b s) d) = modOf m c (ix2 b ⟨3072 + d.val, by omega⟩) := by
  rw [seen_5, found_mods]
  exact mods_at (modOf m c) b s _
theorem arg_sc (c : Dev nD) (b : Fin 128) (s : Fin 4) (d : Fin 1024) :
    iblk m c 6 step0 (ix2 (rowOf b s) d) = modOf m c (ix2 b ⟨4096 + d.val, by omega⟩) := by
  rw [seen_6, found_mods]
  exact mods_at (modOf m c) b s _
theorem arg_w (c : Dev nD) (t : Fin cfg0.N) (k j : Fin 1024) : iblk m c 7 t (ix2 k j) = wOf m c (ix2 k j) := by
  rw [seen_7, found_weight]
  rfl

/-- The step's rows, in the arguments. -/
theorem block_pre (c : Dev nD) (b : Fin 128) (s : Fin 4) :
    blockPre (iblk m c 0 step0) (iblk m c 1 step0) (iblk m c 2 step0) (iblk m c 3 step0) (iblk m c 4 step0) (iblk m c 7 step0) (rowOf b s)
      = preAt (oaOf m c) (obOf m c) (zOf m c) (xOf m c) (modOf m c) (wOf m c) b s := by
  funext j
  unfold blockPre preAt
  rw [arg_x, arg_g1]
  refine congrArg (resid _ _) (Finset.sum_congr rfl fun k _ => ?_)
  rw [arg_oa, arg_ob, arg_z, arg_z, arg_w]
  refine congrArg (fun a => gated _ _ (zOf m c (ix2 _ a)) _ * _) (Fin.ext ?_)
  show 6144 + (1024 + k.val) = 7168 + k.val
  omega

/-- A written block is its whole array. -/
theorem blk_10 (c : Dev nD) (t : Fin cfg0.N) (r : Fin 512) (j : Fin 1024) :
    ((cfg0.win 10).blk t).view.read (Elt Ideal) ((dats m 0 c).arrAt 10 cfg0.N) (ix2 r j) = (dats m 0 c).arrAt 10 cfg0.N (ix2 r j) := by
  generalize (dats m 0 c).arrAt 10 cfg0.N = f
  blk_ext [idx t]
theorem blk_11 (c : Dev nD) (t : Fin cfg0.N) (r : Fin 512) (j : Fin 1024) :
    ((cfg0.win 11).blk t).view.read (Elt Ideal) ((dats m 0 c).arrAt 11 cfg0.N) (ix2 r j) = (dats m 0 c).arrAt 11 cfg0.N (ix2 r j) := by
  generalize (dats m 0 c).arrAt 11 cfg0.N = f
  blk_ext [idx t]

/-- The normalized rows at the end. -/
theorem final_norm (c : Dev nD) (b : Fin 128) (s : Fin 4) (j : Fin 1024) :
    (dats m 0 c).arrAt 10 cfg0.N (ix2 (rowOf b s) j)
      = normAt (oaOf m c) (obOf m c) (zOf m c) (xOf m c) (modOf m c) (wOf m c) (gOf m c) (bOf m c) b s j := by
  refine (blk_10 m c step0 (rowOf b s) j).symm.trans ?_
  rw [Value.blocks10 m c _ (flush0_10 _), Value.flushed10]
  refine (out_norm _ _ _ _ _ _ _ _ _ _ (rowOf b s) j).trans ?_
  rw [block_pre, seen_8, seen_9, V_main_arg6, V_main_arg7]
  rfl
/-- The rows made of them at the end. -/
theorem final_next (c : Dev nD) (b : Fin 128) (s : Fin 4) (j : Fin 1024) :
    (dats m 0 c).arrAt 11 cfg0.N (ix2 (rowOf b s) j)
      = nextAt (oaOf m c) (obOf m c) (zOf m c) (xOf m c) (modOf m c) (wOf m c) (gOf m c) (bOf m c) b s j := by
  refine (blk_11 m c step0 (rowOf b s) j).symm.trans ?_
  rw [Value.blocks11 m c _ (flush0_11 _), Value.flushed11]
  refine (out_next _ _ _ _ _ _ _ _ _ _ (rowOf b s) j).trans ?_
  rw [block_pre, seen_8, seen_9, V_main_arg6, V_main_arg7, arg_sc, arg_sh]
  rfl

end Cert.Tail
end
-- ==== Proof.TailRef.lean ====
/-
  The run of the reference's merge for the sample group, and its two results entry by entry.
-/
module
public import proofs.«01_k».proof.Proof.Gen.Reference7Ideal.Run
public import proofs.«01_k».proof.Proof.TailValue
public import Idealize.ShloMosaic.Lib.Pointwise
@[expose] public section
noncomputable section
namespace Cert.Tail
open Cert.Reference7Ideal Cert.Reference7Ideal.Gen
open Cert.Merge (meanOf devOf varOf normOf gated resid)
open Idealize.ShloMosaic Idealize.ShloMosaic.TcCoe Idealize.ShloMosaic.Tactic Idealize.SL.Sem
set_option maxRecDepth 16384

/-- The reference's sigmoid of a stretch of gates. -/
def refGate (z : FVec Ideal S512x1024 .f32) : FVec Ideal S128x4x1024 .f32 :=
  Host.divf (F := Ideal) (φ := .f32) (broadcastInDim S128x4x1024 ![] bcast_S_S128x4x1024 (constant (F := Ideal) S_ .f32 0x3F800000#32))
    (addf (broadcastInDim S128x4x1024 ![] bcast_S_S128x4x1024 (constant (F := Ideal) S_ .f32 0x3F800000#32))
      (Host.exp (Host.negf (shapeCast S128x4x1024 z shapeCasts_S512x1024_S128x4x1024))))
theorem refGate_at (z : FVec Ideal S512x1024 .f32) (b : Fin 128) (s : Fin 4) (d : Fin 1024) :
    refGate z (ix3 b s d) = Ideal.logistic (z (ix2 ⟨4 * b.val + s.val, by omega⟩ d)) := by
  unfold refGate
  pointwise []
  have e : (⟨b.val * 4 + s.val, by omega⟩ : Fin 512) = ⟨4 * b.val + s.val, by omega⟩ :=
    Fin.ext (by show b.val * 4 + s.val = 4 * b.val + s.val; omega)
  rw [e]
  rfl

/-- The gated sum of the branches. -/
def refGated (oa ob : S512x1024.Idx → EReal) (z : S512x8192.Idx → EReal) : FVec Ideal S128x4x1024 .f32 :=
  addf (F := Ideal) (φ := .f32)
    (mulf (F := Ideal) (φ := .f32) (refGate (extractStridedSlice S512x1024 ![0, 6144] z slices_S512x8192_S512x1024_0_6144))
      (shapeCast S128x4x1024 oa shapeCasts_S512x1024_S128x4x1024))
    (mulf (F := Ideal) (φ := .f32) (refGate (extractStridedSlice S512x1024 ![0, 7168] z slices_S512x8192_S512x1024_0_7168))
      (shapeCast S128x4x1024 ob shapeCasts_S512x1024_S128x4x1024))
theorem refGated_at (oa ob : S512x1024.Idx → EReal) (z : S512x8192.Idx → EReal) (b : Fin 128) (s : Fin 4) (d : Fin 1024) :
    refGated oa ob z (ix3 b s d) = gated (z (ix2 ⟨4 * b.val + s.val, by omega⟩ ⟨6144 + d.val, by omega⟩))
      (oa (ix2 ⟨4 * b.val + s.val, by omega⟩ d)) (z (ix2 ⟨4 * b.val + s.val, by omega⟩ ⟨7168 + d.val, by omega⟩))
      (ob (ix2 ⟨4 * b.val + s.val, by omega⟩ d)) := by
  unfold refGated
  pointwise [refGate_at]
  have e : (⟨b.val * 4 + s.val, by omega⟩ : Fin 512) = ⟨4 * b.val + s.val, by omega⟩ :=
    Fin.ext (by show b.val * 4 + s.val = 4 * b.val + s.val; omega)
  rw [e]
  rfl

/-- The residual sum. -/
def refPre (a : FVec Ideal S128x4x1024 .f32) (x : S128x4x1024.Idx → EReal) (md : S128x6144.Idx → EReal)
    (w : S1024x1024.Idx → EReal) : FVec Ideal S128x4x1024 .f32 :=
  addf (F := Ideal) (φ := .f32)
    (mulf (F := Ideal) (φ := .f32) (broadcastInDim S128x4x1024 ![] bcast_S_S128x4x1024 (constant (F := Ideal) S_ .f32 0x3F9837F0#32)) x)
    (mulf (F := Ideal) (φ := .f32) (broadcastInDim S128x4x1024 ![0, 1, 2] bcast_S128x1x1024_S128x4x1024_0_1_2
        (extractStridedSlice S128x1x1024 ![0, 0, 2048] (broadcastInDim S128x1x6144 ![0, 2] bcast_S128x6144_S128x1x6144_0_2 md) slices_S128x1x6144_S128x1x1024_0_0_2048))
      (Host.dotGeneral (F := Ideal) (φ₁ := .f32) (φ₂ := .f32) dot_S128x4x1024_S1024x1024_S128x4x1024_2_0_01_1_n_n none a w))
theorem refPre_at (a : FVec Ideal S128x4x1024 .f32) (x : S128x4x1024.Idx → EReal) (md : S128x6144.Idx → EReal)
    (w : S1024x1024.Idx → EReal) (b : Fin 128) (s : Fin 4) (j : Fin 1024) :
    refPre a x md w (ix3 b s j)
      = resid (x (ix3 b s j)) (md (ix2 b ⟨2048 + j.val, by omega⟩)) (∑ k : Fin 1024, a (ix3 b s k) * w (ix2 k j)) := by
  unfold refPre
  pointwise []
  rfl

/-- The deviation from the mean of a row, and the norm. -/
def refMean (p : FVec Ideal S128x4x1024 .f32) : FVec Ideal S128x4x1 .f32 :=
  Host.divf (F := Ideal) (φ := .f32) (broadcastInDim S128x4x1 ![0, 1] bcast_S128x4_S128x4x1_0_1
    (Host.reduceAdd (F := Ideal) (φ := .f32) p (constant (F := Ideal) S_ .f32 0x00000000#32) reducesTo_S128x4x1024_S128x4_d2 h_S_))
    (broadcastInDim S128x4x1 ![] bcast_S_S128x4x1 (constant (F := Ideal) S_ .f32 0x44800000#32))
theorem refMean_at (p : FVec Ideal S128x4x1024 .f32) (b : Fin 128) (s : Fin 4) :
    refMean p (ix3 b s 0) = meanOf fun j => p (ix3 b s j) := by
  unfold refMean
  pointwise []
  rfl
def refDev (p : FVec Ideal S128x4x1024 .f32) : FVec Ideal S128x4x1024 .f32 :=
  subf (F := Ideal) (φ := .f32) p (broadcastInDim S128x4x1024 ![0, 1, 2] bcast_S128x4x1_S128x4x1024_0_1_2 (refMean p))
theorem refDev_at (p : FVec Ideal S128x4x1024 .f32) (b : Fin 128) (s : Fin 4) (j : Fin 1024) :
    refDev p (ix3 b s j) = devOf (fun j => p (ix3 b s j)) j := by
  unfold refDev
  pointwise [refMean_at]
  rfl
def refNorm (p : FVec Ideal S128x4x1024 .f32) (g b' : S1x1024.Idx → EReal) : FVec Ideal S128x4x1024 .f32 :=
  addf (F := Ideal) (φ := .f32) (mulf (F := Ideal) (φ := .f32) (mulf (F := Ideal) (φ := .f32) (refDev p)
      (broadcastInDim S128x4x1024 ![0, 1, 2] bcast_S128x4x1_S128x4x1024_0_1_2
        (Host.rsqrt (addf (refMean (mulf (F := Ideal) (φ := .f32) (refDev p) (refDev p)))
          (broadcastInDim S128x4x1 ![] bcast_S_S128x4x1 (constant (F := Ideal) S_ .f32 0x3727C5AC#32))))))
      (broadcastInDim S128x4x1024 ![0, 1, 2] bcast_S1x1x1024_S128x4x1024_0_1_2
        (broadcastInDim S1x1x1024 ![2] bcast_S1024_S1x1x1024_2 (shapeCast S1024 g shapeCasts_S1x1024_S1024))))
    (broadcastInDim S128x4x1024 ![0, 1, 2] bcast_S1x1x1024_S128x4x1024_0_1_2
      (broadcastInDim S1x1x1024 ![2] bcast_S1024_S1x1x1024_2 (shapeCast S1024 b' shapeCasts_S1x1024_S1024)))
theorem refNorm_at (p : FVec Ideal S128x4x1024 .f32) (g b' : S1x1024.Idx → EReal) (b : Fin 128) (s : Fin 4) (j : Fin 1024) :
    refNorm p g b' (ix3 b s j) = normOf (fun j => p (ix3 b s j)) (g (ix2 0 j)) (b' (ix2 0 j)) j := by
  unfold refNorm
  pointwise [refMean_at, refDev_at]
  rfl

/-- The rows made of the normalized rows. -/
def refNext (n : FVec Ideal S128x4x1024 .f32) (md : S128x6144.Idx → EReal) : FVec Ideal S128x4x1024 .f32 :=
  addf (F := Ideal) (φ := .f32) (mulf (F := Ideal) (φ := .f32) n (broadcastInDim S128x4x1024 ![0, 1, 2] bcast_S128x1x1024_S128x4x1024_0_1_2
      (addf (broadcastInDim S128x1x1024 ![] bcast_S_S128x1x1024 (constant (F := Ideal) S_ .f32 0x3F800000#32))
        (extractStridedSlice S128x1x1024 ![0, 0, 4096] (broadcastInDim S128x1x6144 ![0, 2] bcast_S128x6144_S128x1x6144_0_2 md) slices_S128x1x6144_S128x1x1024_0_0_4096))))
    (broadcastInDim S128x4x1024 ![0, 1, 2] bcast_S128x1x1024_S128x4x1024_0_1_2
      (extractStridedSlice S128x1x1024 ![0, 0, 3072] (broadcastInDim S128x1x6144 ![0, 2] bcast_S128x6144_S128x1x6144_0_2 md) slices_S128x1x6144_S128x1x1024_0_0_3072))
theorem refNext_at (n : FVec Ideal S128x4x1024 .f32) (md : S128x6144.Idx → EReal) (b : Fin 128) (s : Fin 4) (k : Fin 1024) :
    refNext n md (ix3 b s k) = n (ix3 b s k) * (1 + md (ix2 b ⟨4096 + k.val, by omega⟩)) + md (ix2 b ⟨3072 + k.val, by omega⟩) := by
  unfold refNext
  pointwise [Ideal.ofBits_one_f32]

/-- Both results as rows. -/
def refRows (n : FVec Ideal S128x4x1024 .f32) : FVec Ideal S512x1024 .f32 :=
  shapeCast S512x1024 n shapeCasts_S128x4x1024_S512x1024
theorem refRows_at (n : FVec Ideal S128x4x1024 .f32) (b : Fin 128) (s : Fin 4) (d : Fin 1024) :
    refRows n (ix2 ⟨4 * b.val + s.val, by omega⟩ d) = n (ix3 b s d) := by
  unfold refRows
  pointwise []
def refHalf (n : FVec Ideal S512x1024 .f32) : FVec Ideal S512x1024 .bf16 := truncf .bf16 n bitsLt_bf16_f32

/-- The normalized rows before they are laid out as rows, in the arguments. -/
def refOut (oa ob : S512x1024.Idx → EReal) (z : S512x8192.Idx → EReal) (x : S128x4x1024.Idx → EReal)
    (md : S128x6144.Idx → EReal) (w : S1024x1024.Idx → EReal) (g b' : S1x1024.Idx → EReal) : FVec Ideal S128x4x1024 .f32 :=
  refNorm (refPre (refGated oa ob z) x md w) g b'
theorem refOut_at (oa ob : S512x1024.Idx → EReal) (z : S512x8192.Idx → EReal) (x : S128x4x1024.Idx → EReal)
    (md : S128x6144.Idx → EReal) (w : S1024x1024.Idx → EReal) (g b' : S1x1024.Idx → EReal) (b : Fin 128) (s : Fin 4) (j : Fin 1024) :
    refOut oa ob z x md w g b' (ix3 b s j) = normAt oa ob z x md w g b' b s j := by
  refine (refNorm_at _ g b' b s j).trans ?_
  refine congrArg (fun p => normOf p (g (ix2 0 j)) (b' (ix2 0 j)) j) (funext fun j => ?_)
  refine (refPre_at _ x md w b s j).trans (congrArg (resid _ _) (Finset.sum_congr rfl fun k _ => ?_))
  rw [refGated_at]

/-- The reference's run, its results by the names above. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66) = refRows (refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_v68) = refHalf (refRows (refNext (refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun r h c => ⟨(h c).1.trans (by
      unfold Value.res_main_v66 refRows refOut refNorm refDev refMean refPre refGated refGate; rfl), (h c).2.1.trans (by
      unfold Value.res_main_v68 refHalf refRows refNext refOut refNorm refDev refMean refPre refGated refGate; rfl), (h c).2.2⟩)
    (Cert.Reference7Ideal.Value.run m ρ)

/-- The reference's two results at an entry. -/
theorem ref_norm (oa ob : S512x1024.Idx → EReal) (z : S512x8192.Idx → EReal) (x : S128x4x1024.Idx → EReal)
    (md : S128x6144.Idx → EReal) (w : S1024x1024.Idx → EReal) (g b' : S1x1024.Idx → EReal) (b : Fin 128) (s : Fin 4) (j : Fin 1024) :
    refRows (refOut oa ob z x md w g b') (ix2 ⟨4 * b.val + s.val, by omega⟩ j) = normAt oa ob z x md w g b' b s j :=
  (refRows_at _ b s j).trans (refOut_at oa ob z x md w g b' b s j)
theorem ref_next (oa ob : S512x1024.Idx → EReal) (z : S512x8192.Idx → EReal) (x : S128x4x1024.Idx → EReal)
    (md : S128x6144.Idx → EReal) (w : S1024x1024.Idx → EReal) (g b' : S1x1024.Idx → EReal) (b : Fin 128) (s : Fin 4) (j : Fin 1024) :
    refHalf (refRows (refNext (refOut oa ob z x md w g b') md)) (ix2 ⟨4 * b.val + s.val, by omega⟩ j) = nextAt oa ob z x md w g b' b s j := by
  refine (show refHalf (refRows (refNext (refOut oa ob z x md w g b') md)) (ix2 ⟨4 * b.val + s.val, by omega⟩ j)
    = refRows (refNext (refOut oa ob z x md w g b') md) (ix2 ⟨4 * b.val + s.val, by omega⟩ j) from rfl).trans ?_
  refine (refRows_at _ b s j).trans ((refNext_at _ _ _ _ _).trans ?_)
  rw [refOut_at]
  rfl

/-- Every index of the results is one of those above. -/
theorem rows_all (i : S512x1024.Idx) : ∃ (b : Fin 128) (s : Fin 4) (j : Fin 1024),
    i = ix2 ⟨4 * b.val + s.val, by omega⟩ j := by
  have h : (i 0).val < 512 := (i 0).isLt
  refine ⟨⟨(i 0).val / 4, by omega⟩, ⟨(i 0).val % 4, by omega⟩, i 1, (eq_ix2 i).trans (congrArg (fun a => ix2 a (i 1)) (Fin.ext ?_))⟩
  show (i 0).val = 4 * ((i 0).val / 4) + (i 0).val % 4
  omega

end Cert.Tail

end
-- ==== Proof.RefOut.lean ====
/-
  The reference's first result: its heads' rows normed and gated.
-/
module
public import proofs.«01_k».proof.Proof.RefValue
@[expose] public section
noncomputable section
open Idealize.ShloMosaic Idealize.ShloMosaic.TcCoe Idealize.SL.Sem Cert.ReferenceIdeal.Gen Cert.ReferenceIdeal Cert.ReferenceIdeal.Step Idealize.ShloMosaic.Tactic
set_option maxRecDepth 16384
set_option maxHeartbeats 1000000
namespace Cert.Hgrn

variable (z : S65536x8192.Idx → EReal) (lb : S2x1024.Idx → EReal) (gn : S1x128.Idx → EReal)

/-- The recurrence's rows, one after the other. -/
def rowsRef (o : S128x16x8x32x128.Idx → EReal) : S16x4096x8x128.Idx → EReal :=
  shapeCast _ (transpose (α := EReal) S16x128x32x8x128 [1, 0, 3, 2, 4] o transposes_S128x16x8x32x128_S16x128x32x8x128_1_0_3_2_4) shapeCasts_S16x128x32x8x128_S16x4096x8x128

/-- Row `32 n + r` is row `r` of chunk `n`. -/
theorem rowsRef_at (o : S128x16x8x32x128.Idx → EReal) (b : Fin 16) (n : Fin 128) (hh : Fin 8) (r : Fin 32) (e : Fin 128) (t : Fin 4096)
    (ht : t.val = 32 * n.val + r.val) : rowsRef o (ix4 b t hh e) = o (ix5 n b hh r e) := by
  unfold rowsRef
  pointwise []
  refine congrArg o (congrArg₂ (fun n r => ix5 n b hh r e) (Fin.ext ?_) (Fin.ext ?_))
  · show t.val / 32 = n.val; omega
  · show t.val % 32 = r.val; omega

/-- The norm and the gate the reference applies to them. -/
def afterNorm {F : FTy → Type} [FloatOps F] (X : (⟨S16x4096x8x128, .f32⟩ : BufTy).Contents (Elt F)) (z : (⟨S65536x8192, .f32⟩ : BufTy).Contents (Elt F))
    (gn : (⟨S1x128, .f32⟩ : BufTy).Contents (Elt F)) : (⟨S65536x1024, .f32⟩ : BufTy).Contents (Elt F) :=
  shapeCast _ (mulf (shapeCast _ (mulf (mulf X (broadcastInDim S16x4096x8x128 ![0, 1, 2, 3] bcast_S16x4096x8x1_S16x4096x8x128_0_1_2_3
  (Host.rsqrt (addf (Host.divf (broadcastInDim S16x4096x8x1 ![0, 1, 2] bcast_S16x4096x8_S16x4096x8x1_0_1_2 (Host.reduceAdd (mulf X X)
  (constant S_ .f32 0x00000000#32) reducesTo_S16x4096x8x128_S16x4096x8_d3 h_S_)) (broadcastInDim S16x4096x8x1 ![] bcast_S_S16x4096x8x1
  (constant S_ .f32 0x43000000#32))) (broadcastInDim S16x4096x8x1 ![] bcast_S_S16x4096x8x1 (constant S_ .f32 0x358637BD#32))))))
  (broadcastInDim S16x4096x8x128 ![0, 1, 2, 3] bcast_S1x1x1x128_S16x4096x8x128_0_1_2_3 (broadcastInDim S1x1x1x128 ![3] bcast_S128_S1x1x1x128_3
  (shapeCast _ (gn) shapeCasts_S1x128_S128)))) shapeCasts_S16x4096x8x128_S16x4096x1024) (mulf (shapeCast _ (extractStridedSlice S65536x1024
  ![0, 3072] (z) slices_S65536x8192_S65536x1024_0_3072) shapeCasts_S65536x1024_S16x4096x1024) (Host.divf (broadcastInDim S16x4096x1024 ![]
  bcast_S_S16x4096x1024 (constant S_ .f32 0x3F800000#32)) (addf (broadcastInDim S16x4096x1024 ![] bcast_S_S16x4096x1024 (constant S_ .f32
  0x3F800000#32)) (Host.exp (Host.negf (shapeCast _ (extractStridedSlice S65536x1024 ![0, 3072] (z) slices_S65536x8192_S65536x1024_0_3072)
  shapeCasts_S65536x1024_S16x4096x1024))))))) shapeCasts_S16x4096x1024_S65536x1024

/-- An entry of it, from its row and its gate. -/
theorem afterNorm_at (X : S16x4096x8x128.Idx → EReal) (b : Fin 16) (t : Fin 4096) (hh : Fin 8) (e : Fin 128) :
    afterNorm (F := Ideal) X z gn (ix2 ⟨b.val * 4096 + t.val, by omega⟩ ⟨hh.val * 128 + e.val, by omega⟩)
      = normR (fun x => X (ix4 b t hh x)) (gn (ix2 0 e)) (z (ix2 ⟨b.val * 4096 + t.val, by omega⟩ ⟨3072 + (hh.val * 128 + e.val), by omega⟩)) e := by
  unfold afterNorm
  pointwise []
  rfl

/-- The reference's first result, entry by entry. -/
theorem ref_out (b : Fin 16) (n : Fin 128) (hh : Fin 8) (r : Fin 32) (e : Fin 128) :
    R_main_v71 (F := Ideal) (refStates (F := Ideal) z lb 128) z gn (place b n hh r e) = outRow z lb gn b n hh r e := by
  have hO := fun e => (held_at z lb 128 le_rfl).2.2.2.2 n b hh r e n.isLt
  generalize refStates (F := Ideal) z lb 128 = s at hO ⊢
  have e1 : place b n hh r e = ix2 ⟨b.val * 4096 + (⟨32 * n.val + r.val, by omega⟩ : Fin 4096).val, by omega⟩ ⟨hh.val * 128 + e.val, by omega⟩ :=
    congrArg₂ ix2 (Fin.ext (by show 4096 * b.val + 32 * n.val + r.val = b.val * 4096 + (32 * n.val + r.val); omega))
      (Fin.ext (by show 128 * hh.val + e.val = hh.val * 128 + e.val; omega))
  have e2 : R_main_v71 (F := Ideal) s z gn = afterNorm (F := Ideal) (rowsRef s.main_v49_6) z gn := rfl
  rw [e1, e2, afterNorm_at]
  have e3 : (fun x => rowsRef s.main_v49_6 (ix4 b ⟨32 * n.val + r.val, by omega⟩ hh x)) = rawRow z lb b n hh r :=
    funext fun x => (rowsRef_at _ b n hh r x _ rfl).trans (hO x)
  rw [e3]
  unfold outRow
  refine congrArg (fun y => normR (rawRow z lb b n hh r) (gn (ix2 0 e)) y e) ?_
  exact congrArg z (congrArg₂ ix2 (Fin.ext (by show b.val * 4096 + (32 * n.val + r.val) = 4096 * b.val + 32 * n.val + r.val; omega))
    (Fin.ext (by show 3072 + (hh.val * 128 + e.val) = 1024 * 3 + 128 * hh.val + e.val; omega)))
end Cert.Hgrn
end
-- ==== Proof.Bucket.lean ====
/-
  The bucket of a distance: the reference takes it from a logarithm, the kernel from a table of whole numbers. What the
  logarithm's whole part is, by comparing powers.
-/
module
public import Idealize.ShloMosaic.PureOps
public import Idealize.ShloMosaic.Lib.IdealHost
public import Mathlib.Analysis.Complex.Exponential
public import Mathlib.Analysis.SpecialFunctions.Log.Basic
@[expose] public section
noncomputable section
namespace Cert.Bias
open Idealize.ShloMosaic

/-- The divisor: the single-precision number next to log 8. -/
def eight : ℝ := 8721810 / 4194304
theorem eight_bits : Ideal.ofBits .f32 0x40051592#32 = ((eight : ℝ) : EReal) := by
  unfold eight
  simp [Ideal.ofBits, Ideal.ieee, -EReal.coe_mul]
  norm_num
theorem sixteen_bits : Ideal.ofBits .f32 0x41800000#32 = (((16 : ℝ)) : EReal) := by
  simp [Ideal.ofBits, Ideal.ieee, -EReal.coe_mul]
  norm_num

/-- The logarithm of two, from the exponential's first terms. -/
theorem two_gt : (0.6931471803 : ℝ) < Real.log 2 := by
  rw [Real.lt_log_iff_exp_lt (by norm_num)]
  have h := (abs_le.mp (Real.exp_bound (x := 0.6931471803) (by norm_num [abs_le]) (n := 13) (by norm_num))).2
  rw [abs_of_pos (by norm_num)] at h
  norm_num [Finset.sum_range_succ, Nat.factorial] at h ⊢
  linarith
theorem two_lt : Real.log 2 < (0.6931471808 : ℝ) := by
  rw [Real.log_lt_iff_lt_exp (by norm_num)]
  have h := (abs_le.mp (Real.exp_bound (x := 0.6931471808) (by norm_num [abs_le]) (n := 13) (by norm_num))).1
  rw [abs_of_pos (by norm_num)] at h
  norm_num [Finset.sum_range_succ, Nat.factorial] at h ⊢
  linarith

theorem eight_gt : 3 * Real.log 2 < eight := by
  have := two_lt
  unfold eight
  linarith
theorem eight_lt : eight < 3 * Real.log 2 + 1 / 100000000 := by
  have := two_gt
  unfold eight
  linarith

theorem log_eight (n : ℕ) : Real.log ((8 : ℝ) ^ n) = n * (3 * Real.log 2) := by
  rw [Real.log_pow, show (8 : ℝ) = 2 ^ 3 by norm_num, Real.log_pow]
  norm_num

/-- The whole part of the logarithm, from two comparisons of whole numbers. -/
theorem whole_part (r n : ℕ) (hr : 16 ≤ r) (hn : n ≤ 16) (lo : n = 0 ∨ 8 ^ n * 1001 * 16 ^ 16 ≤ r ^ 16 * 1000)
    (hi : r ^ 16 ≤ 8 ^ (n + 1) * 16 ^ 16) : ⌊Real.log (r / 16) / eight * 16⌋ = (n : ℤ) := by
  have h2 : (0 : ℝ) < Real.log 2 := Real.log_pos (by norm_num)
  have hc : (0 : ℝ) < eight := by linarith [eight_gt]
  have hr' : (16 : ℝ) ≤ r := by exact_mod_cast hr
  have hx : (0 : ℝ) < (r / 16 : ℝ) := by positivity
  have e : Real.log (r / 16) / eight * 16 = Real.log (((r : ℝ) / 16) ^ 16) / eight := by
    rw [Real.log_pow]
    push_cast
    ring
  rw [e, Int.floor_eq_iff]
  constructor
  · rw [le_div_iff₀ hc]
    rcases lo with rfl | lo
    · simp only [Nat.cast_zero, Int.cast_zero, zero_mul, Real.log_pow]
      have : 0 ≤ Real.log ((r : ℝ) / 16) := Real.log_nonneg (by rw [le_div_iff₀ (by norm_num)]; linarith)
      positivity
    · have lo' : (8 : ℝ) ^ n * (1001 / 1000) ≤ ((r : ℝ) / 16) ^ 16 := by
        have : (8 : ℝ) ^ n * 1001 * 16 ^ 16 ≤ (r : ℝ) ^ 16 * 1000 := by exact_mod_cast lo
        rw [div_pow, le_div_iff₀ (by positivity)]
        linarith
      have l1 := Real.log_le_log (by positivity) lo'
      rw [Real.log_mul (by positivity) (by norm_num), log_eight] at l1
      have l2 := Real.one_sub_inv_le_log_of_pos (x := 1001 / 1000) (by norm_num)
      have hn' : (n : ℝ) ≤ 16 := by exact_mod_cast hn
      have l3 := eight_lt
      have l4 : (n : ℝ) * eight ≤ n * (3 * Real.log 2 + 1 / 100000000) := mul_le_mul_of_nonneg_left l3.le (Nat.cast_nonneg n)
      push_cast
      norm_num at l2
      nlinarith
  · rw [div_lt_iff₀ hc]
    have hi' : ((r : ℝ) / 16) ^ 16 ≤ 8 ^ (n + 1) := by
      have : (r : ℝ) ^ 16 ≤ 8 ^ (n + 1) * 16 ^ 16 := by exact_mod_cast hi
      rw [div_pow, div_le_iff₀ (by positivity)]
      exact this
    have l1 := Real.log_le_log (by positivity) hi'
    rw [log_eight] at l1
    have l3 := eight_gt
    push_cast at l1 ⊢
    have : ((n : ℝ) + 1) * (3 * Real.log 2) < (n + 1) * eight := mul_lt_mul_of_pos_left l3 (by positivity)
    linarith

/-- The bucket of a distance, by thresholds. -/
def bucket (r : ℕ) : ℕ :=
  if r < 16 then r else 16 + ([19, 21, 24, 27, 31, 35, 40, 46, 52, 59, 67, 77, 87, 99, 113].countP fun x => decide (x ≤ r))
theorem bucket_lt : ∀ r : Fin 136, bucket r.val < 32 := by decide +kernel

/-- Past 16, the whole part the bucket comes from. -/
def steps (r : ℕ) : ℕ := if r ≤ 128 then bucket r - 16 else 16
theorem steps_ok : ∀ r : Fin 136, 16 ≤ r.val → steps r.val ≤ 16
    ∧ (steps r.val = 0 ∨ 8 ^ steps r.val * 1001 * 16 ^ 16 ≤ r.val ^ 16 * 1000) ∧ r.val ^ 16 ≤ 8 ^ (steps r.val + 1) * 16 ^ 16
    ∧ bucket r.val = min (16 + steps r.val) 31 := by
  decide +kernel

theorem trunc_of (v : ℝ) (n : ℕ) (hn : n ≤ 16) (h : ⌊v⌋ = (n : ℤ)) : Ideal.fptosi 32 ((v : ℝ) : EReal) = BitVec.ofNat 32 n := by
  have hv : 0 ≤ v := by
    have := Int.floor_le v
    rw [h] at this
    exact le_trans (by positivity) this
  unfold Ideal.fptosi
  rw [Ideal.toIntClamped_coe, if_pos hv, h]
  have : max (-((2 ^ (32 - 1) : ℕ) : ℤ)) (min (((2 ^ (32 - 1) : ℕ) : ℤ) - 1) (n : ℤ)) = (n : ℤ) := by
    norm_num
    omega
  rw [this]
  simp

/-- The reference's bucket of a word. -/
def refBucket (w : BitVec 32) : BitVec 32 :=
  Scalar.select (Scalar.cmpi .slt w 16#32) w
    (Scalar.minsi (16#32 + Ideal.fptosi 32 (Ideal.div (Ideal.log (Ideal.div (((Scalar.maxsi w 1#32).toInt : ℝ) : EReal)
      (Ideal.ofBits .f32 0x41800000#32))) (Ideal.ofBits .f32 0x40051592#32) * Ideal.ofBits .f32 0x41800000#32)) 31#32)

theorem small_words : ∀ r : Fin 136, r.val < 16 → ∀ x, Scalar.select (Scalar.cmpi .slt (BitVec.ofNat 32 r.val) 16#32) (BitVec.ofNat 32 r.val) x = BitVec.ofNat 32 r.val := by
  intro r h x
  have : Scalar.cmpi .slt (BitVec.ofNat 32 r.val) 16#32 = 1#1 := by
    revert h; revert r; decide +kernel
  rw [this]; rfl
theorem large_words : ∀ r : Fin 136, 16 ≤ r.val → Scalar.cmpi .slt (BitVec.ofNat 32 r.val) 16#32 = 0#1
    ∧ (Scalar.maxsi (BitVec.ofNat 32 r.val) 1#32).toInt = r.val
    ∧ Scalar.minsi (16#32 + BitVec.ofNat 32 (steps r.val)) 31#32 = BitVec.ofNat 32 (min (16 + steps r.val) 31) := by
  decide +kernel

theorem ratio_eq (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- It is the bucket. -/
theorem refBucket_eq (r : Fin 136) : refBucket (BitVec.ofNat 32 r.val) = BitVec.ofNat 32 (bucket r.val) := by
  unfold refBucket
  by_cases h : r.val < 16
  · rw [small_words r h, bucket, if_pos h]
  · have h : 16 ≤ r.val := not_lt.mp h
    obtain ⟨s0, s1, s2, s3⟩ := steps_ok r h
    obtain ⟨w0, w1, w2⟩ := large_words r h
    have hp : (0 : ℝ) < ((r.val : ℝ) / 16) := by
      have : (16 : ℝ) ≤ r.val := by exact_mod_cast h
      positivity
    have hc : eight ≠ 0 := by unfold eight; norm_num
    rw [w0, w1, sixteen_bits, eight_bits, Int.cast_natCast, ratio_eq _ _ (by norm_num)]
    rw [show Ideal.log (((r.val : ℝ) / 16 : ℝ) : EReal) = ((Real.log ((r.val : ℝ) / 16) : ℝ) : EReal) by
      unfold Ideal.log; exact if_neg (not_le.mpr hp)]
    rw [ratio_eq _ _ hc, ← EReal.coe_mul, trunc_of _ _ s0 (whole_part _ _ h s0 s1 s2), w2, s3]
    rfl

end Cert.Bias
end
-- ==== Proof.BiasValue.lean ====
/-
  What the steps of the bias call leave in its result, entry by entry: for a head, a kind of page, a row and a key, the
  table's word the key's bucket names, less the word of the last bucket, times the logarithm's factor.
-/
module
public import proofs.«01_k».proof.Proof.Gen.Kernel8Ideal.Value
public import proofs.«01_k».proof.Proof.Bucket
public import Idealize.ShloMosaic.Lib.Pipeline.ValueKit
public import Idealize.ShloMosaic.Lib.Pointwise
@[expose] public section
noncomputable section
namespace Cert.Bias
open Idealize.ShloMosaic Idealize.ShloMosaic.TcCoe Idealize.ShloMosaic.Tactic Idealize.SL.Sem
open Cert.Kernel8Ideal Cert.Kernel8Ideal.Gen
set_option maxRecDepth 16384

/-! ## A tile -/

theorem zeros3 : (![0, 0, 0] : Fin 3 → ℕ) = fun _ => 0 :=
  funext fun a => match a with | ⟨0, _⟩ => rfl | ⟨1, _⟩ => rfl | ⟨2, _⟩ => rfl
theorem zeros4 : (![0, 0, 0, 0] : Fin 4 → ℕ) = fun _ => 0 :=
  funext fun a => match a with | ⟨0, _⟩ => rfl | ⟨1, _⟩ => rfl | ⟨2, _⟩ => rfl | ⟨3, _⟩ => rfl
/-- The head a step works for, as the body computes it. -/
theorem head_word (i : grid0.Coords) : BitVec.toNat (Scalar.indexCast (BitVec.ofNat 32 (i 0).val)) = (i 0).val := by
  have h : ∀ a : Fin 8, BitVec.toNat (Scalar.indexCast (BitVec.ofNat 32 a.val)) = a.val := by decide +kernel
  exact h (i 0)
/-- A word of the table as the body loads it. -/
theorem word_at (x0 : Vec Ideal S32x8 .f32) (i : grid0.Coords) (n : ℕ) (hn : n < 32)
    (h : ∀ a, (![n, BitVec.toNat (Scalar.indexCast (BitVec.ofNat 32 (i 0).val))] : Fin 2 → ℕ) a + (![1, 1] : Fin 2 → ℕ) a ≤ S32x8.size a)
    (y : (Rect.unit (s := S32x8) ![n, BitVec.toNat (Scalar.indexCast (BitVec.ofNat 32 (i 0).val))] ![1, 1] h).shape.Idx) :
    View.ld x0 (Rect.unit ![n, BitVec.toNat (Scalar.indexCast (BitVec.ofNat 32 (i 0).val))] ![1, 1] h) y
      = x0 (ix2 ⟨n, hn⟩ (i 0)) := by
  refine congrArg x0 (funext fun a => Fin.ext ?_)
  have hw := head_word i
  match a with
  | ⟨0, _⟩ => show n + 1 * _ = n; simp
  | ⟨1, _⟩ =>
    show BitVec.toNat (Scalar.indexCast (BitVec.ofNat 32 (i 0).val)) + 1 * _ = (i 0).val
    exact (by simp : _ + 1 * _ = BitVec.toNat (Scalar.indexCast (BitVec.ofNat 32 (i 0).val))).trans hw

/-- A tile's entry: the word its bucket names, less the last, times the logarithm's factor. -/
theorem chain_at (W : Fin 32 → EReal) (v : Vec Ideal S1x8x128 .i32) (t : Fin 8) (o : Fin 128) (n : Fin 32)
    (h : v (ix3 0 t o) = BitVec.ofNat 32 n.val)
    {w0 w1 w2 w3 w4 w5 w6 w7 w8 w9 w10 w11 w12 w13 w14 w15 w16 w17 w18 w19 w20 w21 w22 w23 w24 w25 w26 w27 w28 w29 w30 w31 w32 : EReal}
    (h0 : w0 = W 0) (h1 : w1 = W 1) (h2 : w2 = W 2) (h3 : w3 = W 3) (h4 : w4 = W 4) (h5 : w5 = W 5) (h6 : w6 = W 6) (h7 : w7 = W 7) (h8 : w8 = W 8) (h9 : w9 = W 9) (h10 : w10 = W 10) (h11 : w11 = W 11) (h12 : w12 = W 12) (h13 : w13 = W 13) (h14 : w14 = W 14) (h15 : w15 = W 15) (h16 : w16 = W 16) (h17 : w17 = W 17) (h18 : w18 = W 18) (h19 : w19 = W 19) (h20 : w20 = W 20) (h21 : w21 = W 21) (h22 : w22 = W 22) (h23 : w23 = W 23) (h24 : w24 = W 24) (h25 : w25 = W 25) (h26 : w26 = W 26) (h27 : w27 = W 27) (h28 : w28 = W 28) (h29 : w29 = W 29) (h30 : w30 = W 30) (h31 : w31 = W 31) (h32 : w32 = W 31) :
    k0_pay1 (F := Ideal) (k0_pay2 (F := Ideal) v)
      (k0_pay10 (F := Ideal) (k0_pay2 (F := Ideal) v)
        (k0_pay8 (F := Ideal) (k0_pay2 (F := Ideal) v)
          (k0_pay5 (F := Ideal) (k0_pay2 (F := Ideal) v) (k0_pay3 (F := Ideal) v w0 w1 w2 w3 w4 w5) (k0_pay4 (F := Ideal) v)
            w6 w7 w8 w9 w10 w11 w12)
          (k0_pay6 (k0_pay2 (F := Ideal) v)) (k0_pay7 (F := Ideal) w13) w14 w15 w16 w17 w18 w19 w20)
        (k0_pay9 (k0_pay2 (F := Ideal) v)) w21 w22 w23 w24 w25 w26 w27)
      (k0_pay11 (k0_pay2 (F := Ideal) v)) (k0_pay12 (F := Ideal) w28) w29 w30 w31 w32 (ix4 0 0 t o)
      = (W n - W 31) * Ideal.ofBits .f32 0x3FB8AA3B#32 := by
  rw [h0, h1, h2, h3, h4, h5, h6, h7, h8, h9, h10, h11, h12, h13, h14, h15, h16, h17, h18, h19, h20, h21, h22, h23, h24, h25, h26, h27, h28, h29, h30, h31, h32]
  unfold k0_pay1 k0_pay10 k0_pay8 k0_pay5 k0_pay3 k0_pay4 k0_pay6 k0_pay7 k0_pay9 k0_pay11 k0_pay12 k0_pay2
  pointwise [h]
  refine congrArg (fun a => (a - W 31) * Ideal.ofBits .f32 0x3FB8AA3B#32) ?_
  clear h
  fin_cases n <;> rfl
/-- The tile a step writes. -/
theorem tile_at (c : Dev nD) (i : grid0.Coords) (arg2 : Memref sig .tc .smem S32x8 .f32) (harg2 : arg2.IsWhole)
    (arg3 : Memref sig .tc .vmem S1x8x128 .i32) (harg3 : arg3.IsWhole) (arg4 : Memref sig .tc .vmem S1x1x8x128 .f32) (harg4 : arg4.IsWhole)
    (x0 : Vec Ideal S32x8 .f32) (x1 : Vec Ideal S1x8x128 .i32) (t : Fin 8) (o : Fin 128) (n : Fin 32)
    (h : x1 (ix3 0 t o) = BitVec.ofNat 32 n.val) :
    out0_A_2 c i arg2 harg2 arg3 harg3 arg4 harg4 x0 x1 (ix4 0 0 t o)
      = (x0 (ix2 n (i 0)) - x0 (ix2 31 (i 0))) * Ideal.ofBits .f32 0x3FB8AA3B#32 := by
  unfold out0_A_2
  rw [View.read_writes_eq_canon _ _ _ (fun y => cover0_A_2 c i arg2 harg2 arg3 harg3 arg4 harg4 x0 x1 y)]
  unfold kernelRun0_A
  dsimp only
  rw [View.canon_unit_zero zeros4]
  sl_unfold_words
  simp only [View.readAt_eq_ld, harg2.read_unread, harg3.read_unread]
  have hx : View.ld x1 (Rect.unit ![0, 0, 0] ![1, 8, 128] inb_S1x8x128_S1x8x128_0_0_0) (ix3 0 t o) = BitVec.ofNat 32 n.val :=
    (congrFun (View.ld_unit_zero zeros3 inb_S1x8x128_S1x8x128_0_0_0 x1) (ix3 0 t o)).trans h
  exact chain_at (fun n => x0 (ix2 n (i 0))) _ t o n hx (word_at x0 i 0 (by decide) _ _) (word_at x0 i 1 (by decide) _ _) (word_at x0 i 2 (by decide) _ _) (word_at x0 i 3 (by decide) _ _) (word_at x0 i 4 (by decide) _ _) (word_at x0 i 5 (by decide) _ _) (word_at x0 i 6 (by decide) _ _) (word_at x0 i 7 (by decide) _ _) (word_at x0 i 8 (by decide) _ _) (word_at x0 i 9 (by decide) _ _) (word_at x0 i 10 (by decide) _ _) (word_at x0 i 11 (by decide) _ _) (word_at x0 i 12 (by decide) _ _) (word_at x0 i 13 (by decide) _ _) (word_at x0 i 14 (by decide) _ _) (word_at x0 i 15 (by decide) _ _) (word_at x0 i 16 (by decide) _ _) (word_at x0 i 17 (by decide) _ _) (word_at x0 i 18 (by decide) _ _) (word_at x0 i 19 (by decide) _ _) (word_at x0 i 20 (by decide) _ _) (word_at x0 i 21 (by decide) _ _) (word_at x0 i 22 (by decide) _ _) (word_at x0 i 23 (by decide) _ _) (word_at x0 i 24 (by decide) _ _) (word_at x0 i 25 (by decide) _ _) (word_at x0 i 26 (by decide) _ _) (word_at x0 i 27 (by decide) _ _) (word_at x0 i 28 (by decide) _ _) (word_at x0 i 29 (by decide) _ _) (word_at x0 i 30 (by decide) _ _) (word_at x0 i 31 (by decide) _ _) (word_at x0 i 31 (by decide) _ _)

/-! ## The buckets -/

/-- How far a key lies behind a row's position: in the page before, in the page itself. -/
def relOf (k : Fin 2) (t : Fin 8) (o : Fin 128) : ℕ := (if k.val = 0 then 128 + t.val else t.val) - o.val
theorem lit_at : ∀ (k : Fin 2) (t : Fin 8) (o : Fin 128),
    lit0t (1024 * k.val + 128 * t.val + o.val) = BitVec.ofNat 32 (bucket (relOf k t o)) := by
  decide +kernel
variable (m : (ℓ : Loc nD τ sig) → Buf (Elt Ideal) ℓ)
/-- The bucket table the host hands over: its entry at a kind, a row and a key is the bucket of their distance. -/
theorem found_buckets (c : Dev nD) : V m c main_c = fun i => lit0 (S2x8x128.rowMajor i) := by
  unfold V
  after_results <;> rfl
theorem bucket_at (c : Dev nD) (k : Fin 2) (t : Fin 8) (o : Fin 128) :
    V m c main_c (ix3 k t o) = BitVec.ofNat 32 (bucket (relOf k t o)) := by
  rw [found_buckets]
  show lit0t (S2x8x128.rowMajor (ix3 k t o)).val = _
  rw [Shape.rowMajor_val_three]
  refine Eq.trans (congrArg lit0t ?_) (lit_at k t o)
  simp
  omega

/-! ## The call's result -/

theorem hN (t : Fin cfg0.N) : t.val < 16 := lt_of_lt_of_eq t.isLt N_0
/-- Which block every window shows at a step. -/
theorem idx : ∀ t : Fin cfg0.N, win0_0.index t = ![0, 0] ∧ win0_1.index t = ![t.val % 2, 0, 0]
    ∧ win0_2.index t = ![t.val / 2, t.val % 2, 0, 0] ∧ ((grid0.coords t) 0).val = t.val / 2 := by
  decide +kernel
theorem seen_0 (c : Dev nD) (t : Fin cfg0.N) : iblk m c 0 t = V m c main_arg0 := by
  generalize hv : V m c = v
  unfold iblk
  rw [hv]
  blk_ext! [idx t]
theorem seen_1 (c : Dev nD) (t : Fin cfg0.N) (r : Fin 8) (o : Fin 128) :
    iblk m c 1 t (ix3 0 r o) = V m c main_c (ix3 ⟨t.val % 2, Nat.mod_lt _ (by decide)⟩ r o) := by
  generalize hv : V m c = v
  unfold iblk
  rw [hv]
  blk_ext [idx t]
theorem blk_2 (c : Dev nD) (t : Fin cfg0.N) (r : Fin 8) (o : Fin 128) :
    ((cfg0.win 2).blk t).view.read (Elt Ideal) ((dats m 0 c).arrAt 2 cfg0.N) (ix4 0 0 r o)
      = (dats m 0 c).arrAt 2 cfg0.N (ix4 ⟨t.val / 2, by have := hN t; omega⟩ ⟨t.val % 2, Nat.mod_lt _ (by decide)⟩ r o) := by
  generalize (dats m 0 c).arrAt 2 cfg0.N = f
  blk_ext [idx t]

/-- Every index of the result is a head, a kind, a row and a key. -/
theorem tiles_all (i : S8x2x8x128.Idx) : ∃ (h : Fin 8) (k : Fin 2) (t : Fin 8) (o : Fin 128), i = ix4 h k t o :=
  ⟨i 0, i 1, i 2, i 3, funext fun a => match a with | ⟨0, _⟩ => rfl | ⟨1, _⟩ => rfl | ⟨2, _⟩ => rfl | ⟨3, _⟩ => rfl⟩
/-- An entry of the bias tiles, from the table. -/
def biasOf (w : S32x8.Idx → EReal) (n : Fin 32) (h : Fin 8) : EReal :=
  (w (ix2 n h) - w (ix2 31 h)) * Ideal.ofBits .f32 0x3FB8AA3B#32
theorem rel_lt (k : Fin 2) (t : Fin 8) (o : Fin 128) : relOf k t o < 136 := by
  unfold relOf; have := t.isLt; split <;> omega
/-- The bucket of a kind, a row and a key. -/
def bucketAt (k : Fin 2) (t : Fin 8) (o : Fin 128) : Fin 32 := ⟨bucket (relOf k t o), bucket_lt ⟨relOf k t o, rel_lt k t o⟩⟩

/-- The step that makes a head's tile of a kind. -/
def stepOf (h : Fin 8) (k : Fin 2) : Fin cfg0.N := ⟨2 * h.val + k.val, lt_of_lt_of_eq (b := 16) (by omega) N_0.symm⟩

/-- The call's result at the end. -/
theorem final_bias (c : Dev nD) (h : Fin 8) (k : Fin 2) (r : Fin 8) (o : Fin 128) :
    (dats m 0 c).arrAt 2 cfg0.N (ix4 h k r o) = biasOf (m ((c : Thread nD τ).loc main_arg0)) (bucketAt k r o) h := by
  have hk : (⟨(stepOf h k).val % 2, Nat.mod_lt _ (by decide)⟩ : Fin 2) = k := Fin.ext (by show (2 * h.val + k.val) % 2 = k.val; omega)
  have hh : (stepOf h k).val / 2 = h.val := by show (2 * h.val + k.val) / 2 = h.val; omega
  have e : (dats m 0 c).arrAt 2 cfg0.N (ix4 h k r o) = (dats m 0 c).arrAt 2 cfg0.N
      (ix4 ⟨(stepOf h k).val / 2, by have := hN (stepOf h k); omega⟩ ⟨(stepOf h k).val % 2, Nat.mod_lt _ (by decide)⟩ r o) := by
    rw [hk]
    refine congrArg (fun a : Fin 8 => (dats m 0 c).arrAt 2 cfg0.N (ix4 a k r o)) (Fin.ext hh.symm)
  refine e.trans ((blk_2 m c (stepOf h k) r o).symm.trans ?_)
  rw [Value.blocks2 m c _ (flush0_2 _), Value.flushed2_A]
  refine (tile_at c (grid0.coords (stepOf h k)) _ _ _ _ _ _ (iblk m c 0 (stepOf h k)) (iblk m c 1 (stepOf h k)) r o (bucketAt k r o) ?_).trans ?_
  · rw [seen_1, bucket_at, hk]
    rfl
  · rw [seen_0, V_main_arg0]
    have hc : (grid0.coords (stepOf h k)) 0 = h := Fin.ext ((idx (stepOf h k)).2.2.2.trans hh)
    rw [hc]
    rfl
end Cert.Bias
end
-- ==== Proof.BiasRef.lean ====
/-
  What the reference's lookup of the biases computes, entry by entry.
-/
module
public import proofs.«01_k».proof.Proof.BiasValue
public import proofs.«01_k».proof.Proof.Gen.Reference8Ideal.Run
@[expose] public section
noncomputable section
namespace Cert.Bias
open Idealize.ShloMosaic Idealize.ShloMosaic.TcCoe Idealize.ShloMosaic.Tactic Idealize.SL.Sem
open Cert.Reference8Ideal Cert.Reference8Ideal.Gen
set_option maxRecDepth 16384

/-- The reference's distances, its buckets, the rows it looks up, and its result. -/
def refRel : IVec S2x8x128 32 :=
  concatenate S2x8x128 0 [⟨S1x8x128, (broadcastInDim S1x8x128 ![1, 2] bcast_S8x128_S1x8x128_1_2 (maxsi (subi (broadcastInDim S8x128 ![0, 1] bcast_S8x1_S8x128_0_1 (addi (broadcastInDim S8x1 ![] bcast_S_S8x1 (constantI S_ 32 128#32)) (broadcastInDim S8x1 ![0] bcast_S8_S8x1_0 (iotaInDim S8 32 0)))) (broadcastInDim S8x128 ![0, 1] bcast_S1x128_S8x128_0_1 (broadcastInDim S1x128 ![1] bcast_S128_S1x128_1 (iotaInDim S128 32 0)))) (broadcastInDim S8x128 ![] bcast_S_S8x128 (constantI S_ 32 0#32))))⟩, ⟨S1x8x128, (broadcastInDim S1x8x128 ![1, 2] bcast_S8x128_S1x8x128_1_2 (maxsi (subi (broadcastInDim S8x128 ![0, 1] bcast_S8x1_S8x128_0_1 (broadcastInDim S8x1 ![0] bcast_S8_S8x1_0 (iotaInDim S8 32 0))) (broadcastInDim S8x128 ![0, 1] bcast_S1x128_S8x128_0_1 (broadcastInDim S1x128 ![1] bcast_S128_S1x128_1 (iotaInDim S128 32 0)))) (broadcastInDim S8x128 ![] bcast_S_S8x128 (constantI S_ 32 0#32))))⟩] concatenates_S1x8x128_S1x8x128_S2x8x128_d0
def refBkt (rel : IVec S2x8x128 32) : IVec S2x8x128 32 :=
  select (cmpi .slt rel (broadcastInDim S2x8x128 ![] bcast_S_S2x8x128 (constantI S_ 32 16#32))) rel
    (minsi (addi (broadcastInDim S2x8x128 ![] bcast_S_S2x8x128 (constantI S_ 32 16#32))
      (fptosi (F := Ideal) 32 (mulf (Host.divf (Host.log (Host.divf (sitofp .f32 (maxsi rel (broadcastInDim S2x8x128 ![] bcast_S_S2x8x128 (constantI S_ 32 1#32))))
        (broadcastInDim S2x8x128 ![] bcast_S_S2x8x128 (constant S_ .f32 0x41800000#32))))
        (broadcastInDim S2x8x128 ![] bcast_S_S2x8x128 (constant S_ .f32 0x40051592#32)))
        (broadcastInDim S2x8x128 ![] bcast_S_S2x8x128 (constant S_ .f32 0x41800000#32)))))
      (broadcastInDim S2x8x128 ![] bcast_S_S2x8x128 (constantI S_ 32 31#32)))
def refRow (b : IVec S2x8x128 32) : IVec S2x8x128 32 :=
  select (cmpi .slt b (broadcastInDim S2x8x128 ![] bcast_S_S2x8x128 (constantI S_ 32 0#32)))
    (addi b (broadcastInDim S2x8x128 ![] bcast_S_S2x8x128 (constantI S_ 32 32#32))) b
def refTiles (w : FVec Ideal S32x8 .f32) (row : IVec S2x8x128 32) : FVec Ideal S8x2x8x128 .f32 :=
  transpose S8x2x8x128 [3, 0, 1, 2] (mulf (subf
      (Host.gather gather_S32x8_S2x8x128x1_S2x8x128x8_3_0_n_n_0_3_18 w (broadcastInDim S2x8x128x1 ![0, 1, 2] bcast_S2x8x128_S2x8x128x1_0_1_2 row))
      (broadcastInDim S2x8x128x8 ![0, 1, 2, 3] bcast_S1x1x1x8_S2x8x128x8_0_1_2_3 (broadcastInDim S1x1x1x8 ![3] bcast_S8_S1x1x1x8_3
        (shapeCast S8 (extractStridedSlice S1x8 ![31, 0] w slices_S32x8_S1x8_31_0) shapeCasts_S1x8_S8))))
    (broadcastInDim S2x8x128x8 ![] bcast_S_S2x8x128x8 (constant S_ .f32 0x3FB8AA3B#32))) transposes_S2x8x128x8_S8x2x8x128_3_0_1_2

/-- The reference's run, its result by the names above. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51) = refTiles (m ((c.tc : Thread nD τ).loc main_arg0)) (refRow (refBkt refRel))
      ∧ r.2.mem ((c.tc : Thread nD τ).loc main_arg0) = m ((c.tc : Thread nD τ).loc main_arg0) :=
  (θ_run _ _ _).mono (fun r h c => ⟨(h c).1.trans (by unfold Value.res_main_v51 refTiles refRow refBkt refRel; rfl), (h c).2⟩)
    (Cert.Reference8Ideal.Value.run m ρ)

theorem dist_words : ∀ (k : Fin 2) (t : Fin 8) (o : Fin 128),
    (if k.val < 1 then IntOp.maxsi (IntOp.subi (IntOp.addi (128#32) (BitVec.ofNat 32 t.val)) (BitVec.ofNat 32 o.val)) 0#32
      else IntOp.maxsi (IntOp.subi (BitVec.ofNat 32 t.val) (BitVec.ofNat 32 o.val)) 0#32) = BitVec.ofNat 32 (relOf k t o) := by
  decide +kernel
theorem refRel_at (k : Fin 2) (t : Fin 8) (o : Fin 128) : refRel (ix3 k t o) = BitVec.ofNat 32 (relOf k t o) := by
  unfold refRel
  pointwise []
  refine Eq.trans ?_ (dist_words k t o)
  by_cases h : k.val < 1
  · rw [dif_pos h, if_pos h]
  · rw [dif_neg h, if_neg h]
theorem refBkt_at (rel : IVec S2x8x128 32) (k : Fin 2) (t : Fin 8) (o : Fin 128) : refBkt rel (ix3 k t o) = refBucket (rel (ix3 k t o)) := by
  unfold refBkt refBucket
  pointwise []
  rfl
theorem refRow_at (b : IVec S2x8x128 32) (k : Fin 2) (t : Fin 8) (o : Fin 128) (n : Fin 32) (h : b (ix3 k t o) = BitVec.ofNat 32 n.val) :
    refRow b (ix3 k t o) = BitVec.ofNat 32 n.val := by
  unfold refRow
  pointwise [h]
  clear h
  revert n
  decide +kernel
/-- The lookup: a row of the table for every word, clamped into the table. -/
theorem take_at (w : FVec Ideal S32x8 .f32) (idx : IVec S2x8x128x1 32) (k : Fin 2) (t : Fin 8) (o : Fin 128) (h : Fin 8) :
    Host.gather gather_S32x8_S2x8x128x1_S2x8x128x8_3_0_n_n_0_3_18 w idx (ix4 k t o h)
      = w (ix2 ⟨min (idx (ix4 k t o 0)).toInt.toNat 31, by omega⟩ h) := by
  generalize hd : gather_S32x8_S2x8x128x1_S2x8x128x8_3_0_n_n_0_3_18 = d
  have ho : d.offsetDims = [3] := by rw [← hd]; rfl
  have hc : d.collapsedSliceDims = [0] := by rw [← hd]; rfl
  have hb : d.operandBatchingDims = [] := by rw [← hd]; rfl
  have hm : d.startIndexMap = [0] := by rw [← hd]; rfl
  have hv : d.indexVectorDim = 3 := by rw [← hd]; rfl
  have hs : d.sliceSizes = ![1, 8] := by rw [← hd]; rfl
  have hn : ∀ a, d.batchCoord (ix4 k t o h) a = 0 := fun a => d.batchCoord_eq_zero _ a (by rw [hb]; exact List.not_mem_nil)
  unfold Host.gather
  refine congrArg w (funext fun a => Fin.ext ?_)
  match a with
  | ⟨0, _⟩ =>
    show d.start (ix4 k t o h) idx 0 + d.batchCoord (ix4 k t o h) 0 + d.offCoord (ix4 k t o h) 0 = min (idx (ix4 k t o 0)).toInt.toNat 31
    have hk : (0 : Fin 2) ∉ d.sKept := by rw [GatherDims.mem_sKept, hc]; simp
    have hm0 : (0 : Fin 2) ∈ d.startIndexMap := by rw [hm]; exact List.mem_singleton.mpr rfl
    rw [hn, d.offCoord_eq_zero _ 0 hk]
    unfold GatherDims.start
    rw [dif_pos hm0]
    have e : ∀ c, d.siIdx (ix4 k t o h) c = ix4 k t o 0 := by
      intro c
      subst hd
      funext b
      match b with
      | ⟨0, _⟩ => rfl
      | ⟨1, _⟩ => rfl
      | ⟨2, _⟩ => rfl
      | ⟨3, _⟩ => exact Subsingleton.elim (α := Fin 1) _ _
    rw [e, hs]
    rfl
  | ⟨1, _⟩ =>
    show d.start (ix4 k t o h) idx 1 + d.batchCoord (ix4 k t o h) 1 + d.offCoord (ix4 k t o h) 1 = h.val
    have hk : (1 : Fin 2) ∈ d.sKept := by rw [GatherDims.mem_sKept, hc, hb]; simp
    have hm1 : (1 : Fin 2) ∉ d.startIndexMap := by rw [hm]; simp
    rw [hn]
    unfold GatherDims.start GatherDims.offCoord
    rw [dif_neg hm1, dif_pos hk]
    subst hd
    simp only [Nat.zero_add, Nat.add_zero]
    rfl
theorem tiles_at (w : FVec Ideal S32x8 .f32) (row : IVec S2x8x128 32) (h : Fin 8) (k : Fin 2) (t : Fin 8) (o : Fin 128)
    (n : Fin 32) (hn : row (ix3 k t o) = BitVec.ofNat 32 n.val) :
    refTiles w row (ix4 h k t o) = biasOf w n h := by
  unfold refTiles
  pointwise [take_at, hn]
  have e : ∀ n : Fin 32, min (BitVec.ofNat 32 n.val).toInt.toNat 31 = n.val := by decide +kernel
  unfold biasOf
  exact congrArg (fun a => (w (ix2 a h) - w (ix2 31 h)) * Ideal.ofBits .f32 0x3FB8AA3B#32) (Fin.ext (e n))

/-- The reference's result at an entry. -/
theorem ref_bias (w : FVec Ideal S32x8 .f32) (h : Fin 8) (k : Fin 2) (t : Fin 8) (o : Fin 128) :
    refTiles w (refRow (refBkt refRel)) (ix4 h k t o) = biasOf w (bucketAt k t o) h := by
  refine tiles_at w _ h k t o (bucketAt k t o) (refRow_at _ k t o (bucketAt k t o) ?_)
  rw [refBkt_at, refRel_at]
  exact refBucket_eq ⟨relOf k t o, rel_lt k t o⟩
end Cert.Bias
end
-- ==== Proof.lean ====
/-
  The claims about the program, from its run and from the entry-by-entry readings of both programs' results.
-/
module

public import proofs.«01_k».proof.Defs
public import proofs.«01_k».proof.Proof.Gen.Kernel
public import proofs.«01_k».proof.Proof.Gen.Kernel.Frame
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Points
public import proofs.«01_k».proof.Proof.ProjRef
public import proofs.«01_k».proof.Proof.MergeRef
public import proofs.«01_k».proof.Proof.AdaValue
public import proofs.«01_k».proof.Proof.SampleRef
public import proofs.«01_k».proof.Proof.StepOut
public import proofs.«01_k».proof.Proof.TailRef
public import proofs.«01_k».proof.Proof.RefOut
public import Idealize.ShloMosaic.Adequacy
public import Idealize.ShloMosaic.Init
public import Idealize.ShloMosaic.Lib.Quiescent
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.BiasValue
public import proofs.«01_k».proof.Proof.BiasRef

@[expose] public section

noncomputable section
set_option maxRecDepth 16384

namespace Cert.Proof

open Idealize.ShloMosaic Idealize.SL.Sem Cert.Hgrn Idealize.ShloMosaic.Tactic

/-- The reference runs and leaves its arguments as they were. -/
theorem hgrn_reference : quiescent_ReferenceIdeal := fun m g _ =>
  (θ_run _ _ _).mono (fun r h => ⟨fun c => (h c).2.2, sem_eq_zero_of_no_sems (by decide) r.2⟩) (ref_run m g)

/-- Kernel and reference give the same results. -/
theorem hgrn_equal : algebraic_KernelIdeal_ReferenceIdeal := fun m g m' g' _ heq => by
  refine ⟨fun c => Cert.KernelIdeal.Value.G7 m c, fun c => Cert.KernelIdeal.Value.G8 m c, Cert.KernelIdeal.Value.run m g,
    (θ_run _ _ _).mono (fun r h c => ⟨(h c).1.trans ?_, (h c).2.1.trans ?_, (h c).2.2⟩) (ref_run m' g')⟩
  · rw [(heq c).1, (heq c).2.1, (heq c).2.2]
    funext i
    obtain ⟨b, n, hh, r, e, rfl⟩ := place_all i
    exact (ref_out _ _ _ b n hh r e).trans (G7_at m c b n hh r e).symm
  · rw [(heq c).1, (heq c).2.1]
    funext i
    rw [eq_ix4 i]
    exact (ref_state _ _ _ _ _ _).trans (G8_at m c _ _ _ _).symm

/-- The projection's kernel as compiled and the same kernel over exact values have one text. -/
theorem proj_body {F : FTy → Type} [FloatOps F] : Cert.Kernel2.defs₀ (F := F) = Cert.Kernel2Ideal.defs₀ (F := F) := by
  refine congrArg (Defs.onTc (nD := Cert.Kernel2.nD) (τ := Cert.Kernel2.τ) (sig := Cert.Kernel2.sig) (Val := Elt F) (Λ := Cert.Kernel2.Λ₀)) ?_
  funext l x
  match l, x with
  | ⟨0, _⟩, (t, s) => rfl
  | ⟨_ + 1, h⟩, _ => exact absurd h (Nat.not_lt.2 (Nat.le_add_left _ _))
theorem proj_defs {F : FTy → Type} [FloatOps F] : Cert.Kernel2.defs (F := F) = Cert.Kernel2Ideal.defs (F := F) :=
  congrArg (Pipeline.defs (Cert.Kernel2.pcfgs (F := F))) proj_body

/-- So both run alike and leave their arguments as they were. -/
theorem proj_kernel : quiescent_Kernel2 := fun m g _ => by
  have h := Cert.Proj.kept (F := Bits) m g
  rw [← proj_defs] at h
  exact h
theorem proj_exact : quiescent_Kernel2Ideal := fun m g _ =>
  Cert.Proj.kept (F := Ideal) m g

/-- The projection's reference runs and leaves its arguments as they were. -/
theorem proj_reference : quiescent_Reference2Ideal := fun m g _ =>
  (θ_run _ _ _).mono (fun r h => ⟨fun c => (h c).2.2.2, sem_eq_zero_of_no_sems (by decide) r.2⟩) (Cert.Proj.ref_run m g)

/-- Kernel and reference of the projection give the same results. -/
theorem proj_equal : algebraic_Kernel2Ideal_Reference2Ideal := fun m g m' g' _ heq => by
  refine ⟨fun c => (Cert.Proj.held m 0 c).arrAt 4 Cert.Kernel2Ideal.cfg0.N,
    fun c => (Cert.Proj.held m 0 c).arrAt 5 Cert.Kernel2Ideal.cfg0.N,
    fun c => (Cert.Proj.held m 0 c).arrAt 6 Cert.Kernel2Ideal.cfg0.N,
    (θ_run _ _ _).mono (fun r h => h.1) (Cert.Proj.run m g),
    (θ_run _ _ _).mono (fun r h c => ⟨(h c).1.trans ?_, (h c).2.1.trans ?_, (h c).2.2.1.trans ?_, (h c).2.2.2⟩) (Cert.Proj.ref_run m' g')⟩
  all_goals rw [(heq c).1, (heq c).2.1, (heq c).2.2]; funext i
  · obtain ⟨b, s, j, rfl⟩ := Cert.Proj.rows_all i
    exact (Cert.Proj.ref_z _ _ _ b s j).trans (Cert.Proj.final_z m c b s j).symm
  · obtain ⟨b, s, g, d, rfl⟩ := Cert.Proj.heads_all i
    exact (Cert.Proj.ref_k _ _ _ b s g d).trans (Cert.Proj.final_k m c b s g d).symm
  · obtain ⟨b, s, g, d, rfl⟩ := Cert.Proj.heads_all i
    exact (Cert.Proj.ref_v _ _ _ b s g d).trans (Cert.Proj.final_v m c b s g d).symm

/-- The merge's reference runs and leaves its arguments as they were. -/
theorem merge_reference : quiescent_Reference3Ideal := fun m g _ =>
  (θ_run _ _ _).mono (fun r h => ⟨fun c => (h c).2.2, sem_eq_zero_of_no_sems (by decide) r.2⟩) (Cert.Merge.ref_run m g)

/-- Kernel and reference of the merge give the same results. -/
theorem merge_equal : algebraic_Kernel3Ideal_Reference3Ideal := fun m g m' g' _ heq => by
  refine ⟨fun c => (Cert.Kernel3Ideal.Gen.dats m 0 c).arrAt 10 Cert.Kernel3Ideal.cfg0.N,
    fun c => (Cert.Kernel3Ideal.Gen.dats m 0 c).arrAt 11 Cert.Kernel3Ideal.cfg0.N, Cert.Kernel3Ideal.Value.run_blocks m g,
    (θ_run _ _ _).mono (fun r h c => ⟨(h c).1.trans ?_, (h c).2.1.trans ?_, (h c).2.2⟩) (Cert.Merge.ref_run m' g')⟩
  all_goals
    obtain ⟨e0, e1, e2, e3, e4, e5, e6, e7⟩ := heq c
    rw [e0, e1, e2, e3, e4, e5, e6, e7]
    funext i
    obtain ⟨b, s, j, rfl⟩ := Cert.Merge.rows_all i
  · exact (Cert.Merge.ref_norm _ _ _ _ _ _ _ _ b s j).trans (Cert.Merge.final_norm m c b s j).symm
  · exact (Cert.Merge.ref_next _ _ _ _ _ _ _ _ b s j).trans (Cert.Merge.final_next m c b s j).symm

/-- The modulation's reference runs and leaves its arguments as they were. -/
theorem ada_reference : quiescent_Reference4Ideal := fun m g _ =>
  (θ_run _ _ _).mono (fun r h => ⟨fun c => (h c).2, sem_eq_zero_of_no_sems (by decide) r.2⟩) (Cert.Ada.ref_run m g)

/-- Kernel and reference of the modulation give the same results. -/
theorem ada_equal : algebraic_Kernel4Ideal_Reference4Ideal := fun m g m' g' _ heq => by
  refine ⟨fun c => (Cert.Kernel4Ideal.Gen.dats m 0 c).arrAt 3 Cert.Kernel4Ideal.cfg0.N, Cert.Kernel4Ideal.Value.run_blocks m g,
    (θ_run _ _ _).mono (fun r h c => ⟨(h c).1.trans ?_, (h c).2⟩) (Cert.Ada.ref_run m' g')⟩
  obtain ⟨e0, e1, e2, e3⟩ := heq c
  rw [e0, e1, e2, e3]
  funext i
  rw [eq_ix2 i]
  exact (Cert.Ada.ref_mod _ _ _ _ (i 0) (i 1)).trans (Cert.Ada.final_mod m c (i 0) (i 1)).symm

/-- The sample group's projection's kernel as compiled and the same kernel over exact values have one text. -/
theorem sample_body {F : FTy → Type} [FloatOps F] : Cert.Kernel5.defs₀ (F := F) = Cert.Kernel5Ideal.defs₀ (F := F) := by
  refine congrArg (Defs.onTc (nD := Cert.Kernel5.nD) (τ := Cert.Kernel5.τ) (sig := Cert.Kernel5.sig) (Val := Elt F) (Λ := Cert.Kernel5.Λ₀)) ?_
  funext l x
  match l, x with
  | ⟨0, _⟩, (t, s) => rfl
  | ⟨_ + 1, h⟩, _ => exact absurd h (Nat.not_lt.2 (Nat.le_add_left _ _))
theorem sample_defs {F : FTy → Type} [FloatOps F] : Cert.Kernel5.defs (F := F) = Cert.Kernel5Ideal.defs (F := F) :=
  congrArg (Pipeline.defs (Cert.Kernel5.pcfgs (F := F))) sample_body

/-- So both run alike and leave their arguments as they were. -/
theorem sample_kernel : quiescent_Kernel5 := fun m g _ => by
  have h := Cert.Sample.kept (F := Bits) m g
  rw [← sample_defs] at h
  exact h
theorem sample_exact : quiescent_Kernel5Ideal := fun m g _ =>
  Cert.Sample.kept (F := Ideal) m g

/-- The sample group's projection's reference runs and leaves its arguments as they were. -/
theorem sample_reference : quiescent_Reference5Ideal := fun m g _ =>
  (θ_run _ _ _).mono (fun r h => ⟨fun c => (h c).2.2.2, sem_eq_zero_of_no_sems (by decide) r.2⟩) (Cert.Sample.ref_run m g)

/-- Kernel and reference of the sample group's projection give the same results. -/
theorem sample_equal : algebraic_Kernel5Ideal_Reference5Ideal := fun m g m' g' _ heq => by
  refine ⟨fun c => (Cert.Sample.held m 0 c).arrAt 4 Cert.Kernel5Ideal.cfg0.N,
    fun c => (Cert.Sample.held m 0 c).arrAt 5 Cert.Kernel5Ideal.cfg0.N,
    fun c => (Cert.Sample.held m 0 c).arrAt 6 Cert.Kernel5Ideal.cfg0.N,
    (θ_run _ _ _).mono (fun r h => h.1) (Cert.Sample.run m g),
    (θ_run _ _ _).mono (fun r h c => ⟨(h c).1.trans ?_, (h c).2.1.trans ?_, (h c).2.2.1.trans ?_, (h c).2.2.2⟩) (Cert.Sample.ref_run m' g')⟩
  all_goals rw [(heq c).1, (heq c).2.1, (heq c).2.2]; funext i
  · obtain ⟨b, s, j, rfl⟩ := Cert.Sample.rows_all i
    exact (Cert.Sample.ref_z _ _ _ b s j).trans (Cert.Sample.final_z m c b s j).symm
  · obtain ⟨b, s, g, d, rfl⟩ := Cert.Sample.heads_all i
    exact (Cert.Sample.ref_k _ _ _ b s g d).trans (Cert.Sample.final_k m c b s g d).symm
  · obtain ⟨b, s, g, d, rfl⟩ := Cert.Sample.heads_all i
    exact (Cert.Sample.ref_v _ _ _ b s g d).trans (Cert.Sample.final_v m c b s g d).symm

/-- The sample group's recurrence: its reference runs and leaves its arguments as they were. -/
theorem step_reference : quiescent_Reference6Ideal := fun m g _ =>
  (θ_run _ _ _).mono (fun r h => ⟨fun c => (h c).2.2, sem_eq_zero_of_no_sems (by decide) r.2⟩) (Cert.Step.ref_run m g)

/-- Kernel and reference of the sample group's recurrence give the same results. -/
theorem step_equal : algebraic_Kernel6Ideal_Reference6Ideal := fun m g m' g' _ heq => by
  refine ⟨fun c => (Cert.Kernel6Ideal.Gen.dats m 0 c).arrAt 7 Cert.Kernel6Ideal.cfg0.N,
    fun c => (Cert.Kernel6Ideal.Gen.dats m 0 c).arrAt 8 Cert.Kernel6Ideal.cfg0.N, Cert.Kernel6Ideal.Value.run_blocks m g,
    (θ_run _ _ _).mono (fun r h c => ⟨(h c).1.trans ?_, (h c).2.1.trans ?_, (h c).2.2⟩) (Cert.Step.ref_run m' g')⟩
  all_goals
    obtain ⟨e0, e1, e2, e3⟩ := heq c
    rw [e0, e1, e2]
  · rw [e3]
    exact (Cert.Step.rows_eq m c).symm
  · exact (Cert.Step.states_eq m c).symm

/-- The sample group's merge: its reference runs and leaves its arguments as they were. -/
theorem tail_reference : quiescent_Reference7Ideal := fun m g _ =>
  (θ_run _ _ _).mono (fun r h => ⟨fun c => (h c).2.2, sem_eq_zero_of_no_sems (by decide) r.2⟩) (Cert.Tail.ref_run m g)

/-- Kernel and reference of the sample group's merge give the same results. -/
theorem tail_equal : algebraic_Kernel7Ideal_Reference7Ideal := fun m g m' g' _ heq => by
  refine ⟨fun c => (Cert.Kernel7Ideal.Gen.dats m 0 c).arrAt 10 Cert.Kernel7Ideal.cfg0.N,
    fun c => (Cert.Kernel7Ideal.Gen.dats m 0 c).arrAt 11 Cert.Kernel7Ideal.cfg0.N, Cert.Kernel7Ideal.Value.run_blocks m g,
    (θ_run _ _ _).mono (fun r h c => ⟨(h c).1.trans ?_, (h c).2.1.trans ?_, (h c).2.2⟩) (Cert.Tail.ref_run m' g')⟩
  all_goals
    obtain ⟨e0, e1, e2, e3, e4, e5, e6, e7⟩ := heq c
    rw [e0, e1, e2, e3, e4, e5, e6, e7]
    funext i
    obtain ⟨b, s, j, rfl⟩ := Cert.Tail.rows_all i
  · exact (Cert.Tail.ref_norm _ _ _ _ _ _ _ _ b s j).trans (Cert.Tail.final_norm m c b s j).symm
  · exact (Cert.Tail.ref_next _ _ _ _ _ _ _ _ b s j).trans (Cert.Tail.final_next m c b s j).symm

/-- The sample group's bias tiles: their reference runs and leaves its argument as it was. -/
theorem bias_reference : quiescent_Reference8Ideal := fun m g _ =>
  (θ_run _ _ _).mono (fun r h => ⟨fun c => (h c).2, sem_eq_zero_of_no_sems (by decide) r.2⟩) (Cert.Bias.ref_run m g)

/-- Kernel and reference of the sample group's bias tiles give the same result. -/
theorem bias_equal : algebraic_Kernel8Ideal_Reference8Ideal := fun m g m' g' _ heq => by
  refine ⟨fun c => (Cert.Kernel8Ideal.Gen.dats m 0 c).arrAt 2 Cert.Kernel8Ideal.cfg0.N, Cert.Kernel8Ideal.Value.run_blocks m g,
    (θ_run _ _ _).mono (fun r h c => ⟨(h c).1.trans ?_, (h c).2⟩) (Cert.Bias.ref_run m' g')⟩
  rw [heq c]
  funext i
  obtain ⟨h, k, t, o, rfl⟩ := Cert.Bias.tiles_all i
  exact (Cert.Bias.ref_bias _ h k t o).trans (Cert.Bias.final_bias m c h k t o).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  fun m g _ => Cert.Kernel.Gen.frame m g, fun m g _ => Cert.KernelIdeal.Gen.frame m g, hgrn_reference,
  proj_kernel, proj_exact, proj_reference,
  fun m g _ => Cert.Kernel3.Gen.frame m g, fun m g _ => Cert.Kernel3Ideal.Gen.frame m g, merge_reference,
  fun m g _ => Cert.Kernel4.Gen.frame m g, fun m g _ => Cert.Kernel4Ideal.Gen.frame m g, ada_reference,
  sample_kernel, sample_exact, sample_reference,
  fun m g _ => Cert.Kernel6.Gen.frame m g, fun m g _ => Cert.Kernel6Ideal.Gen.frame m g, step_reference,
  fun m g _ => Cert.Kernel7.Gen.frame m g, fun m g _ => Cert.Kernel7Ideal.Gen.frame m g, tail_reference,
  fun m g _ => Cert.Kernel8.Gen.frame m g, fun m g _ => Cert.Kernel8Ideal.Gen.frame m g, bias_reference,
  trivial, hgrn_equal, trivial, proj_equal, trivial, merge_equal,
  trivial, ada_equal, trivial, sample_equal, trivial, step_equal,
  trivial, tail_equal, trivial, bias_equal⟩

end Cert.Proof

end
